-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_in_finite [hPre_in_finite : Cert.Pre_in_finite.Facts] (m : (ℓ : Loc Cert.InIdeal.nD Cert.InIdeal.τ Cert.InIdeal.sig) → Buf (Elt Ideal) ℓ) : Prop :=
  ∀ c : Dev Cert.InIdeal.nD,
    (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))) = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InIdeal_pre_in_finite [hInIdeal : Cert.InIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg), Pre_InIdeal_in_finite m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4)
      ∧ r.2.mem ((c.tc : Thread Cert.Ada.nD Cert.Ada.τ).loc Cert.Ada.main_arg5) = m ((c.tc : Thread Cert.Ada.nD Cert.Ada.τ).loc Cert.Ada.main_arg5)
      ∧ r.2.mem ((c.tc : Thread Cert.Ada.nD Cert.Ada.τ).loc Cert.Ada.main_arg6) = m ((c.tc : Thread Cert.Ada.nD Cert.Ada.τ).loc Cert.Ada.main_arg6)
      ∧ r.2.mem ((c.tc : Thread Cert.Ada.nD Cert.Ada.τ).loc Cert.Ada.main_arg7) = m ((c.tc : Thread Cert.Ada.nD Cert.Ada.τ).loc Cert.Ada.main_arg7)
      ∧ r.2.mem ((c.tc : Thread Cert.Ada.nD Cert.Ada.τ).loc Cert.Ada.main_arg8) = m ((c.tc : Thread Cert.Ada.nD Cert.Ada.τ).loc Cert.Ada.main_arg8)
      ∧ r.2.mem ((c.tc : Thread Cert.Ada.nD Cert.Ada.τ).loc Cert.Ada.main_arg9) = m ((c.tc : Thread Cert.Ada.nD Cert.Ada.τ).loc Cert.Ada.main_arg9)
      ∧ r.2.mem ((c.tc : Thread Cert.Ada.nD Cert.Ada.τ).loc Cert.Ada.main_arg10) = m ((c.tc : Thread Cert.Ada.nD Cert.Ada.τ).loc Cert.Ada.main_arg10)
      ∧ r.2.mem ((c.tc : Thread Cert.Ada.nD Cert.Ada.τ).loc Cert.Ada.main_arg11) = m ((c.tc : Thread Cert.Ada.nD Cert.Ada.τ).loc Cert.Ada.main_arg11)
      ∧ r.2.mem ((c.tc : Thread Cert.Ada.nD Cert.Ada.τ).loc Cert.Ada.main_arg12) = m ((c.tc : Thread Cert.Ada.nD Cert.Ada.τ).loc Cert.Ada.main_arg12)
      ∧ r.2.mem ((c.tc : Thread Cert.Ada.nD Cert.Ada.τ).loc Cert.Ada.main_arg13) = m ((c.tc : Thread Cert.Ada.nD Cert.Ada.τ).loc Cert.Ada.main_arg13))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4)
      ∧ r.2.mem ((c.tc : Thread Cert.AdaIdeal.nD Cert.AdaIdeal.τ).loc Cert.AdaIdeal.main_arg5) = m ((c.tc : Thread Cert.AdaIdeal.nD Cert.AdaIdeal.τ).loc Cert.AdaIdeal.main_arg5)
      ∧ r.2.mem ((c.tc : Thread Cert.AdaIdeal.nD Cert.AdaIdeal.τ).loc Cert.AdaIdeal.main_arg6) = m ((c.tc : Thread Cert.AdaIdeal.nD Cert.AdaIdeal.τ).loc Cert.AdaIdeal.main_arg6)
      ∧ r.2.mem ((c.tc : Thread Cert.AdaIdeal.nD Cert.AdaIdeal.τ).loc Cert.AdaIdeal.main_arg7) = m ((c.tc : Thread Cert.AdaIdeal.nD Cert.AdaIdeal.τ).loc Cert.AdaIdeal.main_arg7)
      ∧ r.2.mem ((c.tc : Thread Cert.AdaIdeal.nD Cert.AdaIdeal.τ).loc Cert.AdaIdeal.main_arg8) = m ((c.tc : Thread Cert.AdaIdeal.nD Cert.AdaIdeal.τ).loc Cert.AdaIdeal.main_arg8)
      ∧ r.2.mem ((c.tc : Thread Cert.AdaIdeal.nD Cert.AdaIdeal.τ).loc Cert.AdaIdeal.main_arg9) = m ((c.tc : Thread Cert.AdaIdeal.nD Cert.AdaIdeal.τ).loc Cert.AdaIdeal.main_arg9)
      ∧ r.2.mem ((c.tc : Thread Cert.AdaIdeal.nD Cert.AdaIdeal.τ).loc Cert.AdaIdeal.main_arg10) = m ((c.tc : Thread Cert.AdaIdeal.nD Cert.AdaIdeal.τ).loc Cert.AdaIdeal.main_arg10)
      ∧ r.2.mem ((c.tc : Thread Cert.AdaIdeal.nD Cert.AdaIdeal.τ).loc Cert.AdaIdeal.main_arg11) = m ((c.tc : Thread Cert.AdaIdeal.nD Cert.AdaIdeal.τ).loc Cert.AdaIdeal.main_arg11)
      ∧ r.2.mem ((c.tc : Thread Cert.AdaIdeal.nD Cert.AdaIdeal.τ).loc Cert.AdaIdeal.main_arg12) = m ((c.tc : Thread Cert.AdaIdeal.nD Cert.AdaIdeal.τ).loc Cert.AdaIdeal.main_arg12)
      ∧ r.2.mem ((c.tc : Thread Cert.AdaIdeal.nD Cert.AdaIdeal.τ).loc Cert.AdaIdeal.main_arg13) = m ((c.tc : Thread Cert.AdaIdeal.nD Cert.AdaIdeal.τ).loc Cert.AdaIdeal.main_arg13))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4)
      ∧ r.2.mem ((c.tc : Thread Cert.AdaRefIdeal.nD Cert.AdaRefIdeal.τ).loc Cert.AdaRefIdeal.main_arg5) = m ((c.tc : Thread Cert.AdaRefIdeal.nD Cert.AdaRefIdeal.τ).loc Cert.AdaRefIdeal.main_arg5)
      ∧ r.2.mem ((c.tc : Thread Cert.AdaRefIdeal.nD Cert.AdaRefIdeal.τ).loc Cert.AdaRefIdeal.main_arg6) = m ((c.tc : Thread Cert.AdaRefIdeal.nD Cert.AdaRefIdeal.τ).loc Cert.AdaRefIdeal.main_arg6)
      ∧ r.2.mem ((c.tc : Thread Cert.AdaRefIdeal.nD Cert.AdaRefIdeal.τ).loc Cert.AdaRefIdeal.main_arg7) = m ((c.tc : Thread Cert.AdaRefIdeal.nD Cert.AdaRefIdeal.τ).loc Cert.AdaRefIdeal.main_arg7)
      ∧ r.2.mem ((c.tc : Thread Cert.AdaRefIdeal.nD Cert.AdaRefIdeal.τ).loc Cert.AdaRefIdeal.main_arg8) = m ((c.tc : Thread Cert.AdaRefIdeal.nD Cert.AdaRefIdeal.τ).loc Cert.AdaRefIdeal.main_arg8)
      ∧ r.2.mem ((c.tc : Thread Cert.AdaRefIdeal.nD Cert.AdaRefIdeal.τ).loc Cert.AdaRefIdeal.main_arg9) = m ((c.tc : Thread Cert.AdaRefIdeal.nD Cert.AdaRefIdeal.τ).loc Cert.AdaRefIdeal.main_arg9)
      ∧ r.2.mem ((c.tc : Thread Cert.AdaRefIdeal.nD Cert.AdaRefIdeal.τ).loc Cert.AdaRefIdeal.main_arg10) = m ((c.tc : Thread Cert.AdaRefIdeal.nD Cert.AdaRefIdeal.τ).loc Cert.AdaRefIdeal.main_arg10)
      ∧ r.2.mem ((c.tc : Thread Cert.AdaRefIdeal.nD Cert.AdaRefIdeal.τ).loc Cert.AdaRefIdeal.main_arg11) = m ((c.tc : Thread Cert.AdaRefIdeal.nD Cert.AdaRefIdeal.τ).loc Cert.AdaRefIdeal.main_arg11)
      ∧ r.2.mem ((c.tc : Thread Cert.AdaRefIdeal.nD Cert.AdaRefIdeal.τ).loc Cert.AdaRefIdeal.main_arg12) = m ((c.tc : Thread Cert.AdaRefIdeal.nD Cert.AdaRefIdeal.τ).loc Cert.AdaRefIdeal.main_arg12)
      ∧ r.2.mem ((c.tc : Thread Cert.AdaRefIdeal.nD Cert.AdaRefIdeal.τ).loc Cert.AdaRefIdeal.main_arg13) = m ((c.tc : Thread Cert.AdaRefIdeal.nD Cert.AdaRefIdeal.τ).loc Cert.AdaRefIdeal.main_arg13))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2)
      ∧ r.2.mem ((c.tc : Thread Cert.FwdIn.nD Cert.FwdIn.τ).loc Cert.FwdIn.main_arg3) = m ((c.tc : Thread Cert.FwdIn.nD Cert.FwdIn.τ).loc Cert.FwdIn.main_arg3))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
      ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1)
      ∧ r.2.mem ((c.tc : Thread Cert.FwdInRefIdeal.nD Cert.FwdInRefIdeal.τ).loc Cert.FwdInRefIdeal.main_arg2) = m ((c.tc : Thread Cert.FwdInRefIdeal.nD Cert.FwdInRefIdeal.τ).loc Cert.FwdInRefIdeal.main_arg2)
      ∧ r.2.mem ((c.tc : Thread Cert.FwdInRefIdeal.nD Cert.FwdInRefIdeal.τ).loc Cert.FwdInRefIdeal.main_arg3) = m ((c.tc : Thread Cert.FwdInRefIdeal.nD Cert.FwdInRefIdeal.τ).loc Cert.FwdInRefIdeal.main_arg3))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def preserves_Mix_MixIdeal : Prop :=
  True

def algebraic_MixIdeal_MixRefIdeal_on_mix_written_pre_mix_finite [hMixIdeal : Cert.MixIdeal.Facts] [hMixRefIdeal : Cert.MixRefIdeal.Facts] [hPre_mix_finite : Cert.Pre_mix_finite.Facts] [hOn_mix_written : Cert.On_mix_written.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v54_0)) (v1 : (c : Dev Cert.MixIdeal.nD) → Buf (Elt Ideal) ((c.tc : Thread Cert.MixIdeal.nD Cert.MixIdeal.τ).loc Cert.MixIdeal.main_v54_1)) (v2 : (c : Dev Cert.MixIdeal.nD) → Buf (Elt Ideal) ((c.tc : Thread Cert.MixIdeal.nD Cert.MixIdeal.τ).loc Cert.MixIdeal.main_v54_2)) (v3 : (c : Dev Cert.MixIdeal.nD) → Buf (Elt Ideal) ((c.tc : Thread Cert.MixIdeal.nD Cert.MixIdeal.τ).loc Cert.MixIdeal.main_v54_3)) (v4 : (c : Dev Cert.MixIdeal.nD) → Buf (Elt Ideal) ((c.tc : Thread Cert.MixIdeal.nD Cert.MixIdeal.τ).loc Cert.MixIdeal.main_v54_4)) (v5 : (c : Dev Cert.MixIdeal.nD) → Buf (Elt Ideal) ((c.tc : Thread Cert.MixIdeal.nD Cert.MixIdeal.τ).loc Cert.MixIdeal.main_v54_5)) (v6 : (c : Dev Cert.MixIdeal.nD) → Buf (Elt Ideal) ((c.tc : Thread Cert.MixIdeal.nD Cert.MixIdeal.τ).loc Cert.MixIdeal.main_v54_6)) (v7 : (c : Dev Cert.MixIdeal.nD) → Buf (Elt Ideal) ((c.tc : Thread Cert.MixIdeal.nD Cert.MixIdeal.τ).loc Cert.MixIdeal.main_v54_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          (∀ i : (⟨2, ![8192, 1024]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).1 i = 1#1 → r.2.mem ((c.tc : Thread Cert.MixIdeal.nD Cert.MixIdeal.τ).loc Cert.MixIdeal.main_v54_0) i = v0 c i)
          ∧ (∀ i : (⟨2, ![8192, 1024]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.1 i = 1#1 → r.2.mem ((c.tc : Thread Cert.MixIdeal.nD Cert.MixIdeal.τ).loc Cert.MixIdeal.main_v54_1) i = v1 c i)
          ∧ (∀ i : (⟨2, ![8192, 3584]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.1 i = 1#1 → r.2.mem ((c.tc : Thread Cert.MixIdeal.nD Cert.MixIdeal.τ).loc Cert.MixIdeal.main_v54_2) i = v2 c i)
          ∧ (∀ i : (⟨2, ![8192, 1024]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.1 i = 1#1 → r.2.mem ((c.tc : Thread Cert.MixIdeal.nD Cert.MixIdeal.τ).loc Cert.MixIdeal.main_v54_3) i = v3 c i)
          ∧ (∀ i : (⟨2, ![8192, 512]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.1 i = 1#1 → r.2.mem ((c.tc : Thread Cert.MixIdeal.nD Cert.MixIdeal.τ).loc Cert.MixIdeal.main_v54_4) i = v4 c i)
          ∧ (∀ i : (⟨2, ![1, 512]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.1 i = 1#1 → r.2.mem ((c.tc : Thread Cert.MixIdeal.nD Cert.MixIdeal.τ).loc Cert.MixIdeal.main_v54_5) i = v5 c i)
          ∧ (∀ i : (⟨2, ![1, 512]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.2.1 i = 1#1 → r.2.mem ((c.tc : Thread Cert.MixIdeal.nD Cert.MixIdeal.τ).loc Cert.MixIdeal.main_v54_6) i = v6 c i)
          ∧ (∀ i : (⟨2, ![1, 512]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.2.2 i = 1#1 → r.2.mem ((c.tc : Thread Cert.MixIdeal.nD Cert.MixIdeal.τ).loc Cert.MixIdeal.main_v54_7) i = v7 c i)
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          (∀ i : (⟨2, ![8192, 1024]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).1 i = 1#1 → r.2.mem ((c.tc : Thread Cert.MixRefIdeal.nD Cert.MixRefIdeal.τ).loc Cert.MixRefIdeal.main_v111) i = v0 c i)
          ∧ (∀ i : (⟨2, ![8192, 1024]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.1 i = 1#1 → r.2.mem ((c.tc : Thread Cert.MixRefIdeal.nD Cert.MixRefIdeal.τ).loc Cert.MixRefIdeal.main_v113) i = v1 c i)
          ∧ (∀ i : (⟨2, ![8192, 3584]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.1 i = 1#1 → r.2.mem ((c.tc : Thread Cert.MixRefIdeal.nD Cert.MixRefIdeal.τ).loc Cert.MixRefIdeal.main_v114) i = v2 c i)
          ∧ (∀ i : (⟨2, ![8192, 1024]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.1 i = 1#1 → r.2.mem ((c.tc : Thread Cert.MixRefIdeal.nD Cert.MixRefIdeal.τ).loc Cert.MixRefIdeal.main_v115) i = v3 c i)
          ∧ (∀ i : (⟨2, ![8192, 512]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.1 i = 1#1 → r.2.mem ((c.tc : Thread Cert.MixRefIdeal.nD Cert.MixRefIdeal.τ).loc Cert.MixRefIdeal.main_v116) i = v4 c i)
          ∧ (∀ i : (⟨2, ![1, 512]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.1 i = 1#1 → r.2.mem ((c.tc : Thread Cert.MixRefIdeal.nD Cert.MixRefIdeal.τ).loc Cert.MixRefIdeal.main_v99) i = v5 c i)
          ∧ (∀ i : (⟨2, ![1, 512]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.2.1 i = 1#1 → r.2.mem ((c.tc : Thread Cert.MixRefIdeal.nD Cert.MixRefIdeal.τ).loc Cert.MixRefIdeal.main_v98) i = v6 c i)
          ∧ (∀ i : (⟨2, ![1, 512]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2.2.2.2.2.2 i = 1#1 → r.2.mem ((c.tc : Thread Cert.MixRefIdeal.nD Cert.MixRefIdeal.τ).loc Cert.MixRefIdeal.main_v103) i = v7 c i)
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Attn_AttnIdeal : Prop :=
  IdealRules.named_const.Statement Cert.AttnIdeal.κ "scale2" .f32 0x3E16C740#32 (((3424635 / 33554432) * (Real.log 2)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v12_0)) (v1 : (c : Dev Cert.AttnIdeal.nD) → Buf (Elt Ideal) ((c.tc : Thread Cert.AttnIdeal.nD Cert.AttnIdeal.τ).loc Cert.AttnIdeal.main_v12_1)) (v2 : (c : Dev Cert.AttnIdeal.nD) → Buf (Elt Ideal) ((c.tc : Thread Cert.AttnIdeal.nD Cert.AttnIdeal.τ).loc Cert.AttnIdeal.main_v12_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v12_0) = v0 c
          ∧ r.2.mem ((c.tc : Thread Cert.AttnIdeal.nD Cert.AttnIdeal.τ).loc Cert.AttnIdeal.main_v12_1) = v1 c
          ∧ r.2.mem ((c.tc : Thread Cert.AttnIdeal.nD Cert.AttnIdeal.τ).loc Cert.AttnIdeal.main_v12_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v66) = v0 c
          ∧ r.2.mem ((c.tc : Thread Cert.AttnRefIdeal.nD Cert.AttnRefIdeal.τ).loc Cert.AttnRefIdeal.main_v68) = v1 c
          ∧ r.2.mem ((c.tc : Thread Cert.AttnRefIdeal.nD Cert.AttnRefIdeal.τ).loc Cert.AttnRefIdeal.main_v71) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_AttnFwd_AttnFwdIdeal : Prop :=
  IdealRules.named_const.Statement Cert.AttnFwdIdeal.κ "scale2" .f32 0x3E16C740#32 (((3424635 / 33554432) * (Real.log 2)⁻¹ : ℝ) : EReal)

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v9)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v9) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v27) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_In_InIdeal : Prop :=
  True

def algebraic_InIdeal_InRefIdeal_pre_in_finite [hInIdeal : Cert.InIdeal.Facts] [hInRefIdeal : Cert.InRefIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_in_finite m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v33_0)) (v1 : (c : Dev Cert.InIdeal.nD) → Buf (Elt Ideal) ((c.tc : Thread Cert.InIdeal.nD Cert.InIdeal.τ).loc Cert.InIdeal.main_v33_1)) (v2 : (c : Dev Cert.InIdeal.nD) → Buf (Elt Ideal) ((c.tc : Thread Cert.InIdeal.nD Cert.InIdeal.τ).loc Cert.InIdeal.main_v33_2)) (v3 : (c : Dev Cert.InIdeal.nD) → Buf (Elt Ideal) ((c.tc : Thread Cert.InIdeal.nD Cert.InIdeal.τ).loc Cert.InIdeal.main_v33_3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v33_0) = v0 c
          ∧ r.2.mem ((c.tc : Thread Cert.InIdeal.nD Cert.InIdeal.τ).loc Cert.InIdeal.main_v33_1) = v1 c
          ∧ r.2.mem ((c.tc : Thread Cert.InIdeal.nD Cert.InIdeal.τ).loc Cert.InIdeal.main_v33_2) = v2 c
          ∧ r.2.mem ((c.tc : Thread Cert.InIdeal.nD Cert.InIdeal.τ).loc Cert.InIdeal.main_v33_3) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v62) = v0 c
          ∧ r.2.mem ((c.tc : Thread Cert.InRefIdeal.nD Cert.InRefIdeal.τ).loc Cert.InRefIdeal.main_v36) = v1 c
          ∧ r.2.mem ((c.tc : Thread Cert.InRefIdeal.nD Cert.InRefIdeal.τ).loc Cert.InRefIdeal.main_v39) = v2 c
          ∧ r.2.mem ((c.tc : Thread Cert.InRefIdeal.nD Cert.InRefIdeal.τ).loc Cert.InRefIdeal.main_v61) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v9_0)) (v1 : (c : Dev Cert.LossIdeal.nD) → Buf (Elt Ideal) ((c.tc : Thread Cert.LossIdeal.nD Cert.LossIdeal.τ).loc Cert.LossIdeal.main_v9_1)) (v2 : (c : Dev Cert.LossIdeal.nD) → Buf (Elt Ideal) ((c.tc : Thread Cert.LossIdeal.nD Cert.LossIdeal.τ).loc Cert.LossIdeal.main_v9_2)) (v3 : (c : Dev Cert.LossIdeal.nD) → Buf (Elt Ideal) ((c.tc : Thread Cert.LossIdeal.nD Cert.LossIdeal.τ).loc Cert.LossIdeal.main_v9_3)) (v4 : (c : Dev Cert.LossIdeal.nD) → Buf (Elt Ideal) ((c.tc : Thread Cert.LossIdeal.nD Cert.LossIdeal.τ).loc Cert.LossIdeal.main_v9_4)) (v5 : (c : Dev Cert.LossIdeal.nD) → Buf (Elt Ideal) ((c.tc : Thread Cert.LossIdeal.nD Cert.LossIdeal.τ).loc Cert.LossIdeal.main_v9_5)) (v6 : (c : Dev Cert.LossIdeal.nD) → Buf (Elt Ideal) ((c.tc : Thread Cert.LossIdeal.nD Cert.LossIdeal.τ).loc Cert.LossIdeal.main_v9_6)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v9_0) = v0 c
          ∧ r.2.mem ((c.tc : Thread Cert.LossIdeal.nD Cert.LossIdeal.τ).loc Cert.LossIdeal.main_v9_1) = v1 c
          ∧ r.2.mem ((c.tc : Thread Cert.LossIdeal.nD Cert.LossIdeal.τ).loc Cert.LossIdeal.main_v9_2) = v2 c
          ∧ r.2.mem ((c.tc : Thread Cert.LossIdeal.nD Cert.LossIdeal.τ).loc Cert.LossIdeal.main_v9_3) = v3 c
          ∧ r.2.mem ((c.tc : Thread Cert.LossIdeal.nD Cert.LossIdeal.τ).loc Cert.LossIdeal.main_v9_4) = v4 c
          ∧ r.2.mem ((c.tc : Thread Cert.LossIdeal.nD Cert.LossIdeal.τ).loc Cert.LossIdeal.main_v9_5) = v5 c
          ∧ r.2.mem ((c.tc : Thread Cert.LossIdeal.nD Cert.LossIdeal.τ).loc Cert.LossIdeal.main_v9_6) = v6 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v57) = v0 c
          ∧ r.2.mem ((c.tc : Thread Cert.LossRefIdeal.nD Cert.LossRefIdeal.τ).loc Cert.LossRefIdeal.main_v58) = v1 c
          ∧ r.2.mem ((c.tc : Thread Cert.LossRefIdeal.nD Cert.LossRefIdeal.τ).loc Cert.LossRefIdeal.main_v60) = v2 c
          ∧ r.2.mem ((c.tc : Thread Cert.LossRefIdeal.nD Cert.LossRefIdeal.τ).loc Cert.LossRefIdeal.main_v61) = v3 c
          ∧ r.2.mem ((c.tc : Thread Cert.LossRefIdeal.nD Cert.LossRefIdeal.τ).loc Cert.LossRefIdeal.main_v63) = v4 c
          ∧ r.2.mem ((c.tc : Thread Cert.LossRefIdeal.nD Cert.LossRefIdeal.τ).loc Cert.LossRefIdeal.main_v55) = v5 c
          ∧ r.2.mem ((c.tc : Thread Cert.LossRefIdeal.nD Cert.LossRefIdeal.τ).loc Cert.LossRefIdeal.main_v64) = v6 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v47_0)) (v1 : (c : Dev Cert.FfnIdeal.nD) → Buf (Elt Ideal) ((c.tc : Thread Cert.FfnIdeal.nD Cert.FfnIdeal.τ).loc Cert.FfnIdeal.main_v47_1)) (v2 : (c : Dev Cert.FfnIdeal.nD) → Buf (Elt Ideal) ((c.tc : Thread Cert.FfnIdeal.nD Cert.FfnIdeal.τ).loc Cert.FfnIdeal.main_v47_2)) (v3 : (c : Dev Cert.FfnIdeal.nD) → Buf (Elt Ideal) ((c.tc : Thread Cert.FfnIdeal.nD Cert.FfnIdeal.τ).loc Cert.FfnIdeal.main_v47_3)) (v4 : (c : Dev Cert.FfnIdeal.nD) → Buf (Elt Ideal) ((c.tc : Thread Cert.FfnIdeal.nD Cert.FfnIdeal.τ).loc Cert.FfnIdeal.main_v47_4)) (v5 : (c : Dev Cert.FfnIdeal.nD) → Buf (Elt Ideal) ((c.tc : Thread Cert.FfnIdeal.nD Cert.FfnIdeal.τ).loc Cert.FfnIdeal.main_v47_5)) (v6 : (c : Dev Cert.FfnIdeal.nD) → Buf (Elt Ideal) ((c.tc : Thread Cert.FfnIdeal.nD Cert.FfnIdeal.τ).loc Cert.FfnIdeal.main_v47_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v47_0) = v0 c
          ∧ r.2.mem ((c.tc : Thread Cert.FfnIdeal.nD Cert.FfnIdeal.τ).loc Cert.FfnIdeal.main_v47_1) = v1 c
          ∧ r.2.mem ((c.tc : Thread Cert.FfnIdeal.nD Cert.FfnIdeal.τ).loc Cert.FfnIdeal.main_v47_2) = v2 c
          ∧ r.2.mem ((c.tc : Thread Cert.FfnIdeal.nD Cert.FfnIdeal.τ).loc Cert.FfnIdeal.main_v47_3) = v3 c
          ∧ r.2.mem ((c.tc : Thread Cert.FfnIdeal.nD Cert.FfnIdeal.τ).loc Cert.FfnIdeal.main_v47_4) = v4 c
          ∧ r.2.mem ((c.tc : Thread Cert.FfnIdeal.nD Cert.FfnIdeal.τ).loc Cert.FfnIdeal.main_v47_5) = v5 c
          ∧ r.2.mem ((c.tc : Thread Cert.FfnIdeal.nD Cert.FfnIdeal.τ).loc Cert.FfnIdeal.main_v47_6) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v91) = v0 c
          ∧ r.2.mem ((c.tc : Thread Cert.FfnRefIdeal.nD Cert.FfnRefIdeal.τ).loc Cert.FfnRefIdeal.main_v92) = v1 c
          ∧ r.2.mem ((c.tc : Thread Cert.FfnRefIdeal.nD Cert.FfnRefIdeal.τ).loc Cert.FfnRefIdeal.main_v94) = v2 c
          ∧ r.2.mem ((c.tc : Thread Cert.FfnRefIdeal.nD Cert.FfnRefIdeal.τ).loc Cert.FfnRefIdeal.main_v59) = v3 c
          ∧ r.2.mem ((c.tc : Thread Cert.FfnRefIdeal.nD Cert.FfnRefIdeal.τ).loc Cert.FfnRefIdeal.main_v62) = v4 c
          ∧ r.2.mem ((c.tc : Thread Cert.FfnRefIdeal.nD Cert.FfnRefIdeal.τ).loc Cert.FfnRefIdeal.main_v89) = v5 c
          ∧ r.2.mem ((c.tc : Thread Cert.FfnRefIdeal.nD Cert.FfnRefIdeal.τ).loc Cert.FfnRefIdeal.main_v83) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)
      ∧ m' ((c.tc : Thread Cert.AdaRefIdeal.nD Cert.AdaRefIdeal.τ).loc Cert.AdaRefIdeal.main_arg5) = m ((c.tc : Thread Cert.AdaIdeal.nD Cert.AdaIdeal.τ).loc Cert.AdaIdeal.main_arg5)
      ∧ m' ((c.tc : Thread Cert.AdaRefIdeal.nD Cert.AdaRefIdeal.τ).loc Cert.AdaRefIdeal.main_arg6) = m ((c.tc : Thread Cert.AdaIdeal.nD Cert.AdaIdeal.τ).loc Cert.AdaIdeal.main_arg6)
      ∧ m' ((c.tc : Thread Cert.AdaRefIdeal.nD Cert.AdaRefIdeal.τ).loc Cert.AdaRefIdeal.main_arg7) = m ((c.tc : Thread Cert.AdaIdeal.nD Cert.AdaIdeal.τ).loc Cert.AdaIdeal.main_arg7)
      ∧ m' ((c.tc : Thread Cert.AdaRefIdeal.nD Cert.AdaRefIdeal.τ).loc Cert.AdaRefIdeal.main_arg8) = m ((c.tc : Thread Cert.AdaIdeal.nD Cert.AdaIdeal.τ).loc Cert.AdaIdeal.main_arg8)
      ∧ m' ((c.tc : Thread Cert.AdaRefIdeal.nD Cert.AdaRefIdeal.τ).loc Cert.AdaRefIdeal.main_arg9) = m ((c.tc : Thread Cert.AdaIdeal.nD Cert.AdaIdeal.τ).loc Cert.AdaIdeal.main_arg9)
      ∧ m' ((c.tc : Thread Cert.AdaRefIdeal.nD Cert.AdaRefIdeal.τ).loc Cert.AdaRefIdeal.main_arg10) = m ((c.tc : Thread Cert.AdaIdeal.nD Cert.AdaIdeal.τ).loc Cert.AdaIdeal.main_arg10)
      ∧ m' ((c.tc : Thread Cert.AdaRefIdeal.nD Cert.AdaRefIdeal.τ).loc Cert.AdaRefIdeal.main_arg11) = m ((c.tc : Thread Cert.AdaIdeal.nD Cert.AdaIdeal.τ).loc Cert.AdaIdeal.main_arg11)
      ∧ m' ((c.tc : Thread Cert.AdaRefIdeal.nD Cert.AdaRefIdeal.τ).loc Cert.AdaRefIdeal.main_arg12) = m ((c.tc : Thread Cert.AdaIdeal.nD Cert.AdaIdeal.τ).loc Cert.AdaIdeal.main_arg12)
      ∧ m' ((c.tc : Thread Cert.AdaRefIdeal.nD Cert.AdaRefIdeal.τ).loc Cert.AdaRefIdeal.main_arg13) = m ((c.tc : Thread Cert.AdaIdeal.nD Cert.AdaIdeal.τ).loc Cert.AdaIdeal.main_arg13)) →
    ∃ (v0 : (c : Dev Cert.AdaIdeal.nD) → Buf (Elt Ideal) ((c.tc : Thread Cert.AdaIdeal.nD Cert.AdaIdeal.τ).loc Cert.AdaIdeal.main_v0_0)) (v1 : (c : Dev Cert.AdaIdeal.nD) → Buf (Elt Ideal) ((c.tc : Thread Cert.AdaIdeal.nD Cert.AdaIdeal.τ).loc Cert.AdaIdeal.main_v0_1)) (v2 : (c : Dev Cert.AdaIdeal.nD) → Buf (Elt Ideal) ((c.tc : Thread Cert.AdaIdeal.nD Cert.AdaIdeal.τ).loc Cert.AdaIdeal.main_v0_2)) (v3 : (c : Dev Cert.AdaIdeal.nD) → Buf (Elt Ideal) ((c.tc : Thread Cert.AdaIdeal.nD Cert.AdaIdeal.τ).loc Cert.AdaIdeal.main_v0_3)) (v4 : (c : Dev Cert.AdaIdeal.nD) → Buf (Elt Ideal) ((c.tc : Thread Cert.AdaIdeal.nD Cert.AdaIdeal.τ).loc Cert.AdaIdeal.main_v0_4)) (v5 : (c : Dev Cert.AdaIdeal.nD) → Buf (Elt Ideal) ((c.tc : Thread Cert.AdaIdeal.nD Cert.AdaIdeal.τ).loc Cert.AdaIdeal.main_v0_5)) (v6 : (c : Dev Cert.AdaIdeal.nD) → Buf (Elt Ideal) ((c.tc : Thread Cert.AdaIdeal.nD Cert.AdaIdeal.τ).loc Cert.AdaIdeal.main_v0_6)) (v7 : (c : Dev Cert.AdaIdeal.nD) → Buf (Elt Ideal) ((c.tc : Thread Cert.AdaIdeal.nD Cert.AdaIdeal.τ).loc Cert.AdaIdeal.main_v0_7)) (v8 : (c : Dev Cert.AdaIdeal.nD) → Buf (Elt Ideal) ((c.tc : Thread Cert.AdaIdeal.nD Cert.AdaIdeal.τ).loc Cert.AdaIdeal.main_v0_8)) (v9 : (c : Dev Cert.AdaIdeal.nD) → Buf (Elt Ideal) ((c.tc : Thread Cert.AdaIdeal.nD Cert.AdaIdeal.τ).loc Cert.AdaIdeal.main_v0_9)) (v10 : (c : Dev Cert.AdaIdeal.nD) → Buf (Elt Ideal) ((c.tc : Thread Cert.AdaIdeal.nD Cert.AdaIdeal.τ).loc Cert.AdaIdeal.main_v0_10)) (v11 : (c : Dev Cert.AdaIdeal.nD) → Buf (Elt Ideal) ((c.tc : Thread Cert.AdaIdeal.nD Cert.AdaIdeal.τ).loc Cert.AdaIdeal.main_v0_11)) (v12 : (c : Dev Cert.AdaIdeal.nD) → Buf (Elt Ideal) ((c.tc : Thread Cert.AdaIdeal.nD Cert.AdaIdeal.τ).loc Cert.AdaIdeal.main_v0_12)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0_0) = v0 c
          ∧ r.2.mem ((c.tc : Thread Cert.AdaIdeal.nD Cert.AdaIdeal.τ).loc Cert.AdaIdeal.main_v0_1) = v1 c
          ∧ r.2.mem ((c.tc : Thread Cert.AdaIdeal.nD Cert.AdaIdeal.τ).loc Cert.AdaIdeal.main_v0_2) = v2 c
          ∧ r.2.mem ((c.tc : Thread Cert.AdaIdeal.nD Cert.AdaIdeal.τ).loc Cert.AdaIdeal.main_v0_3) = v3 c
          ∧ r.2.mem ((c.tc : Thread Cert.AdaIdeal.nD Cert.AdaIdeal.τ).loc Cert.AdaIdeal.main_v0_4) = v4 c
          ∧ r.2.mem ((c.tc : Thread Cert.AdaIdeal.nD Cert.AdaIdeal.τ).loc Cert.AdaIdeal.main_v0_5) = v5 c
          ∧ r.2.mem ((c.tc : Thread Cert.AdaIdeal.nD Cert.AdaIdeal.τ).loc Cert.AdaIdeal.main_v0_6) = v6 c
          ∧ r.2.mem ((c.tc : Thread Cert.AdaIdeal.nD Cert.AdaIdeal.τ).loc Cert.AdaIdeal.main_v0_7) = v7 c
          ∧ r.2.mem ((c.tc : Thread Cert.AdaIdeal.nD Cert.AdaIdeal.τ).loc Cert.AdaIdeal.main_v0_8) = v8 c
          ∧ r.2.mem ((c.tc : Thread Cert.AdaIdeal.nD Cert.AdaIdeal.τ).loc Cert.AdaIdeal.main_v0_9) = v9 c
          ∧ r.2.mem ((c.tc : Thread Cert.AdaIdeal.nD Cert.AdaIdeal.τ).loc Cert.AdaIdeal.main_v0_10) = v10 c
          ∧ r.2.mem ((c.tc : Thread Cert.AdaIdeal.nD Cert.AdaIdeal.τ).loc Cert.AdaIdeal.main_v0_11) = v11 c
          ∧ r.2.mem ((c.tc : Thread Cert.AdaIdeal.nD Cert.AdaIdeal.τ).loc Cert.AdaIdeal.main_v0_12) = v12 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4)
          ∧ r.2.mem ((c.tc : Thread Cert.AdaIdeal.nD Cert.AdaIdeal.τ).loc Cert.AdaIdeal.main_arg5) = m ((c.tc : Thread Cert.AdaIdeal.nD Cert.AdaIdeal.τ).loc Cert.AdaIdeal.main_arg5)
          ∧ r.2.mem ((c.tc : Thread Cert.AdaIdeal.nD Cert.AdaIdeal.τ).loc Cert.AdaIdeal.main_arg6) = m ((c.tc : Thread Cert.AdaIdeal.nD Cert.AdaIdeal.τ).loc Cert.AdaIdeal.main_arg6)
          ∧ r.2.mem ((c.tc : Thread Cert.AdaIdeal.nD Cert.AdaIdeal.τ).loc Cert.AdaIdeal.main_arg7) = m ((c.tc : Thread Cert.AdaIdeal.nD Cert.AdaIdeal.τ).loc Cert.AdaIdeal.main_arg7)
          ∧ r.2.mem ((c.tc : Thread Cert.AdaIdeal.nD Cert.AdaIdeal.τ).loc Cert.AdaIdeal.main_arg8) = m ((c.tc : Thread Cert.AdaIdeal.nD Cert.AdaIdeal.τ).loc Cert.AdaIdeal.main_arg8)
          ∧ r.2.mem ((c.tc : Thread Cert.AdaIdeal.nD Cert.AdaIdeal.τ).loc Cert.AdaIdeal.main_arg9) = m ((c.tc : Thread Cert.AdaIdeal.nD Cert.AdaIdeal.τ).loc Cert.AdaIdeal.main_arg9)
          ∧ r.2.mem ((c.tc : Thread Cert.AdaIdeal.nD Cert.AdaIdeal.τ).loc Cert.AdaIdeal.main_arg10) = m ((c.tc : Thread Cert.AdaIdeal.nD Cert.AdaIdeal.τ).loc Cert.AdaIdeal.main_arg10)
          ∧ r.2.mem ((c.tc : Thread Cert.AdaIdeal.nD Cert.AdaIdeal.τ).loc Cert.AdaIdeal.main_arg11) = m ((c.tc : Thread Cert.AdaIdeal.nD Cert.AdaIdeal.τ).loc Cert.AdaIdeal.main_arg11)
          ∧ r.2.mem ((c.tc : Thread Cert.AdaIdeal.nD Cert.AdaIdeal.τ).loc Cert.AdaIdeal.main_arg12) = m ((c.tc : Thread Cert.AdaIdeal.nD Cert.AdaIdeal.τ).loc Cert.AdaIdeal.main_arg12)
          ∧ r.2.mem ((c.tc : Thread Cert.AdaIdeal.nD Cert.AdaIdeal.τ).loc Cert.AdaIdeal.main_arg13) = m ((c.tc : Thread Cert.AdaIdeal.nD Cert.AdaIdeal.τ).loc Cert.AdaIdeal.main_arg13))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v7) = v0 c
          ∧ r.2.mem ((c.tc : Thread Cert.AdaRefIdeal.nD Cert.AdaRefIdeal.τ).loc Cert.AdaRefIdeal.main_v15) = v1 c
          ∧ r.2.mem ((c.tc : Thread Cert.AdaRefIdeal.nD Cert.AdaRefIdeal.τ).loc Cert.AdaRefIdeal.main_v16) = v2 c
          ∧ r.2.mem ((c.tc : Thread Cert.AdaRefIdeal.nD Cert.AdaRefIdeal.τ).loc Cert.AdaRefIdeal.main_v17) = v3 c
          ∧ r.2.mem ((c.tc : Thread Cert.AdaRefIdeal.nD Cert.AdaRefIdeal.τ).loc Cert.AdaRefIdeal.main_v18) = v4 c
          ∧ r.2.mem ((c.tc : Thread Cert.AdaRefIdeal.nD Cert.AdaRefIdeal.τ).loc Cert.AdaRefIdeal.main_v19) = v5 c
          ∧ r.2.mem ((c.tc : Thread Cert.AdaRefIdeal.nD Cert.AdaRefIdeal.τ).loc Cert.AdaRefIdeal.main_v20) = v6 c
          ∧ r.2.mem ((c.tc : Thread Cert.AdaRefIdeal.nD Cert.AdaRefIdeal.τ).loc Cert.AdaRefIdeal.main_v21) = v7 c
          ∧ r.2.mem ((c.tc : Thread Cert.AdaRefIdeal.nD Cert.AdaRefIdeal.τ).loc Cert.AdaRefIdeal.main_v22) = v8 c
          ∧ r.2.mem ((c.tc : Thread Cert.AdaRefIdeal.nD Cert.AdaRefIdeal.τ).loc Cert.AdaRefIdeal.main_v23) = v9 c
          ∧ r.2.mem ((c.tc : Thread Cert.AdaRefIdeal.nD Cert.AdaRefIdeal.τ).loc Cert.AdaRefIdeal.main_v24) = v10 c
          ∧ r.2.mem ((c.tc : Thread Cert.AdaRefIdeal.nD Cert.AdaRefIdeal.τ).loc Cert.AdaRefIdeal.main_v25) = v11 c
          ∧ r.2.mem ((c.tc : Thread Cert.AdaRefIdeal.nD Cert.AdaRefIdeal.τ).loc Cert.AdaRefIdeal.main_v26) = v12 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4)
          ∧ r.2.mem ((c.tc : Thread Cert.AdaRefIdeal.nD Cert.AdaRefIdeal.τ).loc Cert.AdaRefIdeal.main_arg5) = m' ((c.tc : Thread Cert.AdaRefIdeal.nD Cert.AdaRefIdeal.τ).loc Cert.AdaRefIdeal.main_arg5)
          ∧ r.2.mem ((c.tc : Thread Cert.AdaRefIdeal.nD Cert.AdaRefIdeal.τ).loc Cert.AdaRefIdeal.main_arg6) = m' ((c.tc : Thread Cert.AdaRefIdeal.nD Cert.AdaRefIdeal.τ).loc Cert.AdaRefIdeal.main_arg6)
          ∧ r.2.mem ((c.tc : Thread Cert.AdaRefIdeal.nD Cert.AdaRefIdeal.τ).loc Cert.AdaRefIdeal.main_arg7) = m' ((c.tc : Thread Cert.AdaRefIdeal.nD Cert.AdaRefIdeal.τ).loc Cert.AdaRefIdeal.main_arg7)
          ∧ r.2.mem ((c.tc : Thread Cert.AdaRefIdeal.nD Cert.AdaRefIdeal.τ).loc Cert.AdaRefIdeal.main_arg8) = m' ((c.tc : Thread Cert.AdaRefIdeal.nD Cert.AdaRefIdeal.τ).loc Cert.AdaRefIdeal.main_arg8)
          ∧ r.2.mem ((c.tc : Thread Cert.AdaRefIdeal.nD Cert.AdaRefIdeal.τ).loc Cert.AdaRefIdeal.main_arg9) = m' ((c.tc : Thread Cert.AdaRefIdeal.nD Cert.AdaRefIdeal.τ).loc Cert.AdaRefIdeal.main_arg9)
          ∧ r.2.mem ((c.tc : Thread Cert.AdaRefIdeal.nD Cert.AdaRefIdeal.τ).loc Cert.AdaRefIdeal.main_arg10) = m' ((c.tc : Thread Cert.AdaRefIdeal.nD Cert.AdaRefIdeal.τ).loc Cert.AdaRefIdeal.main_arg10)
          ∧ r.2.mem ((c.tc : Thread Cert.AdaRefIdeal.nD Cert.AdaRefIdeal.τ).loc Cert.AdaRefIdeal.main_arg11) = m' ((c.tc : Thread Cert.AdaRefIdeal.nD Cert.AdaRefIdeal.τ).loc Cert.AdaRefIdeal.main_arg11)
          ∧ r.2.mem ((c.tc : Thread Cert.AdaRefIdeal.nD Cert.AdaRefIdeal.τ).loc Cert.AdaRefIdeal.main_arg12) = m' ((c.tc : Thread Cert.AdaRefIdeal.nD Cert.AdaRefIdeal.τ).loc Cert.AdaRefIdeal.main_arg12)
          ∧ r.2.mem ((c.tc : Thread Cert.AdaRefIdeal.nD Cert.AdaRefIdeal.τ).loc Cert.AdaRefIdeal.main_arg13) = m' ((c.tc : Thread Cert.AdaRefIdeal.nD Cert.AdaRefIdeal.τ).loc Cert.AdaRefIdeal.main_arg13))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)
      ∧ m' ((c.tc : Thread Cert.FwdInRefIdeal.nD Cert.FwdInRefIdeal.τ).loc Cert.FwdInRefIdeal.main_arg2) = m ((c.tc : Thread Cert.FwdInIdeal.nD Cert.FwdInIdeal.τ).loc Cert.FwdInIdeal.main_arg2)
      ∧ m' ((c.tc : Thread Cert.FwdInRefIdeal.nD Cert.FwdInRefIdeal.τ).loc Cert.FwdInRefIdeal.main_arg3) = m ((c.tc : Thread Cert.FwdInIdeal.nD Cert.FwdInIdeal.τ).loc Cert.FwdInIdeal.main_arg3)) →
    ∃ (v0 : (c : Dev Cert.FwdInIdeal.nD) → Buf (Elt Ideal) ((c.tc : Thread Cert.FwdInIdeal.nD Cert.FwdInIdeal.τ).loc Cert.FwdInIdeal.main_v23_0)) (v1 : (c : Dev Cert.FwdInIdeal.nD) → Buf (Elt Ideal) ((c.tc : Thread Cert.FwdInIdeal.nD Cert.FwdInIdeal.τ).loc Cert.FwdInIdeal.main_v23_1)) (v2 : (c : Dev Cert.FwdInIdeal.nD) → Buf (Elt Ideal) ((c.tc : Thread Cert.FwdInIdeal.nD Cert.FwdInIdeal.τ).loc Cert.FwdInIdeal.main_v23_2)) (v3 : (c : Dev Cert.FwdInIdeal.nD) → Buf (Elt Ideal) ((c.tc : Thread Cert.FwdInIdeal.nD Cert.FwdInIdeal.τ).loc Cert.FwdInIdeal.main_v23_3)) (v4 : (c : Dev Cert.FwdInIdeal.nD) → Buf (Elt Ideal) ((c.tc : Thread Cert.FwdInIdeal.nD Cert.FwdInIdeal.τ).loc Cert.FwdInIdeal.main_v23_4)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v23_0) = v0 c
          ∧ r.2.mem ((c.tc : Thread Cert.FwdInIdeal.nD Cert.FwdInIdeal.τ).loc Cert.FwdInIdeal.main_v23_1) = v1 c
          ∧ r.2.mem ((c.tc : Thread Cert.FwdInIdeal.nD Cert.FwdInIdeal.τ).loc Cert.FwdInIdeal.main_v23_2) = v2 c
          ∧ r.2.mem ((c.tc : Thread Cert.FwdInIdeal.nD Cert.FwdInIdeal.τ).loc Cert.FwdInIdeal.main_v23_3) = v3 c
          ∧ r.2.mem ((c.tc : Thread Cert.FwdInIdeal.nD Cert.FwdInIdeal.τ).loc Cert.FwdInIdeal.main_v23_4) = v4 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
          ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v45) = v0 c
          ∧ r.2.mem ((c.tc : Thread Cert.FwdInRefIdeal.nD Cert.FwdInRefIdeal.τ).loc Cert.FwdInRefIdeal.main_v46) = v1 c
          ∧ r.2.mem ((c.tc : Thread Cert.FwdInRefIdeal.nD Cert.FwdInRefIdeal.τ).loc Cert.FwdInRefIdeal.main_v47) = v2 c
          ∧ r.2.mem ((c.tc : Thread Cert.FwdInRefIdeal.nD Cert.FwdInRefIdeal.τ).loc Cert.FwdInRefIdeal.main_v49) = v3 c
          ∧ r.2.mem ((c.tc : Thread Cert.FwdInRefIdeal.nD Cert.FwdInRefIdeal.τ).loc Cert.FwdInRefIdeal.main_v50) = v4 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1)
          ∧ r.2.mem ((c.tc : Thread Cert.FwdInRefIdeal.nD Cert.FwdInRefIdeal.τ).loc Cert.FwdInRefIdeal.main_arg2) = m' ((c.tc : Thread Cert.FwdInRefIdeal.nD Cert.FwdInRefIdeal.τ).loc Cert.FwdInRefIdeal.main_arg2)
          ∧ r.2.mem ((c.tc : Thread Cert.FwdInRefIdeal.nD Cert.FwdInRefIdeal.τ).loc Cert.FwdInRefIdeal.main_arg3) = m' ((c.tc : Thread Cert.FwdInRefIdeal.nD Cert.FwdInRefIdeal.τ).loc Cert.FwdInRefIdeal.main_arg3))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v0)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v0) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v3) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v52_2)) (v1 : (c : Dev Cert.PrepIdeal.nD) → Buf (Elt Ideal) ((c.tc : Thread Cert.PrepIdeal.nD Cert.PrepIdeal.τ).loc Cert.PrepIdeal.main_v52_3)) (v2 : (c : Dev Cert.PrepIdeal.nD) → Buf (Elt Ideal) ((c.tc : Thread Cert.PrepIdeal.nD Cert.PrepIdeal.τ).loc Cert.PrepIdeal.main_v52_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v52_2) = v0 c
          ∧ r.2.mem ((c.tc : Thread Cert.PrepIdeal.nD Cert.PrepIdeal.τ).loc Cert.PrepIdeal.main_v52_3) = v1 c
          ∧ r.2.mem ((c.tc : Thread Cert.PrepIdeal.nD Cert.PrepIdeal.τ).loc Cert.PrepIdeal.main_v52_4) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v34) = v0 c
          ∧ r.2.mem ((c.tc : Thread Cert.PrepRefIdeal.nD Cert.PrepRefIdeal.τ).loc Cert.PrepRefIdeal.main_v36) = v1 c
          ∧ r.2.mem ((c.tc : Thread Cert.PrepRefIdeal.nD Cert.PrepRefIdeal.τ).loc Cert.PrepRefIdeal.main_v38) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def Claim : Prop :=
  ∃ (hMix : Cert.Mix.Facts) (hMixIdeal : Cert.MixIdeal.Facts) (hMixRefIdeal : Cert.MixRefIdeal.Facts) (hAttn : Cert.Attn.Facts) (hAttnIdeal : Cert.AttnIdeal.Facts) (hAttnRefIdeal : Cert.AttnRefIdeal.Facts) (hAttnFwd : Cert.AttnFwd.Facts) (hAttnFwdIdeal : Cert.AttnFwdIdeal.Facts) (hAttnFwdRefIdeal : Cert.AttnFwdRefIdeal.Facts) (hIn : Cert.In.Facts) (hInIdeal : Cert.InIdeal.Facts) (hInRefIdeal : Cert.InRefIdeal.Facts) (hLoss : Cert.Loss.Facts) (hLossIdeal : Cert.LossIdeal.Facts) (hLossRefIdeal : Cert.LossRefIdeal.Facts) (hFfn : Cert.Ffn.Facts) (hFfnIdeal : Cert.FfnIdeal.Facts) (hFfnRefIdeal : Cert.FfnRefIdeal.Facts) (hAda : Cert.Ada.Facts) (hAdaIdeal : Cert.AdaIdeal.Facts) (hAdaRefIdeal : Cert.AdaRefIdeal.Facts) (hFwdIn : Cert.FwdIn.Facts) (hFwdInIdeal : Cert.FwdInIdeal.Facts) (hFwdInRefIdeal : Cert.FwdInRefIdeal.Facts) (hAdaMod : Cert.AdaMod.Facts) (hAdaModIdeal : Cert.AdaModIdeal.Facts) (hAdaModRefIdeal : Cert.AdaModRefIdeal.Facts) (hPrep : Cert.Prep.Facts) (hPrepIdeal : Cert.PrepIdeal.Facts) (hPrepRefIdeal : Cert.PrepRefIdeal.Facts) (hPre_mix_finite : Cert.Pre_mix_finite.Facts) (hPre_attn_finite : Cert.Pre_attn_finite.Facts) (hPre_attn_fwd_finite : Cert.Pre_attn_fwd_finite.Facts) (hPre_in_finite : Cert.Pre_in_finite.Facts) (hPre_ffn_finite : Cert.Pre_ffn_finite.Facts) (hOn_mix_written : Cert.On_mix_written.Facts),
    quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_In (hIn := hIn)
    ∧ quiescent_InIdeal (hInIdeal := hInIdeal)
    ∧ quiescent_InIdeal_pre_in_finite (hInIdeal := hInIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_Loss (hLoss := hLoss)
    ∧ quiescent_LossIdeal (hLossIdeal := hLossIdeal)
    ∧ quiescent_LossRefIdeal (hLossRefIdeal := hLossRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Ada (hAda := hAda)
    ∧ quiescent_AdaIdeal (hAdaIdeal := hAdaIdeal)
    ∧ quiescent_AdaRefIdeal (hAdaRefIdeal := hAdaRefIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_Prep (hPrep := hPrep)
    ∧ quiescent_PrepIdeal (hPrepIdeal := hPrepIdeal)
    ∧ quiescent_PrepRefIdeal (hPrepRefIdeal := hPrepRefIdeal)
    ∧ preserves_Mix_MixIdeal
    ∧ algebraic_MixIdeal_MixRefIdeal_on_mix_written_pre_mix_finite (hMixIdeal := hMixIdeal) (hMixRefIdeal := hMixRefIdeal) (hPre_mix_finite := hPre_mix_finite) (hOn_mix_written := hOn_mix_written)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_In_InIdeal
    ∧ algebraic_InIdeal_InRefIdeal_pre_in_finite (hInIdeal := hInIdeal) (hInRefIdeal := hInRefIdeal) (hPre_in_finite := hPre_in_finite)
    ∧ preserves_Loss_LossIdeal
    ∧ algebraic_LossIdeal_LossRefIdeal (hLossIdeal := hLossIdeal) (hLossRefIdeal := hLossRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Ada_AdaIdeal
    ∧ algebraic_AdaIdeal_AdaRefIdeal (hAdaIdeal := hAdaIdeal) (hAdaRefIdeal := hAdaRefIdeal)
    ∧ preserves_FwdIn_FwdInIdeal
    ∧ algebraic_FwdInIdeal_FwdInRefIdeal (hFwdInIdeal := hFwdInIdeal) (hFwdInRefIdeal := hFwdInRefIdeal)
    ∧ preserves_AdaMod_AdaModIdeal
    ∧ algebraic_AdaModIdeal_AdaModRefIdeal (hAdaModIdeal := hAdaModIdeal) (hAdaModRefIdeal := hAdaModRefIdeal)
    ∧ preserves_Prep_PrepIdeal
    ∧ algebraic_PrepIdeal_PrepRefIdeal (hPrepIdeal := hPrepIdeal) (hPrepRefIdeal := hPrepRefIdeal)
-- ==== On_mix_written.lean ====
abbrev S4x2048x512 : Shape := ⟨3, ![4, 2048, 512]⟩
abbrev S4x2048x2048 : Shape := ⟨3, ![4, 2048, 2048]⟩
abbrev S1x512x1024 : Shape := ⟨3, ![1, 512, 1024]⟩
abbrev S1x512 : Shape := ⟨2, ![1, 512]⟩
abbrev S1x1024x1024 : Shape := ⟨3, ![1, 1024, 1024]⟩
abbrev S4x2048x1024 : Shape := ⟨3, ![4, 2048, 1024]⟩
abbrev S8192x1024 : Shape := ⟨2, ![8192, 1024]⟩
abbrev S_ : Shape := ⟨0, ![]⟩
abbrev S8192x3584 : Shape := ⟨2, ![8192, 3584]⟩
abbrev S8192x512 : Shape := ⟨2, ![8192, 512]⟩

class Facts : Prop where
  bcast_S_S8192x1024 : S_.BroadcastsInDim S8192x1024 (![] : Fin 0 → Fin S8192x1024.rank)
  bcast_S_S8192x3584 : S_.BroadcastsInDim S8192x3584 (![] : Fin 0 → Fin S8192x3584.rank)
  bcast_S_S8192x512 : S_.BroadcastsInDim S8192x512 (![] : Fin 0 → Fin S8192x512.rank)
  bcast_S_S1x512 : S_.BroadcastsInDim S1x512 (![] : Fin 0 → Fin S1x512.rank)

variable [Facts]

def fn_part1 {F : FTy → Type} [FloatOps F] (main_v2 : IVec S8192x1024 1) (main_v5 : IVec S8192x1024 1) (main_v8 : IVec S8192x3584 1) (main_v11 : IVec S8192x1024 1) (main_v14 : IVec S8192x512 1) (main_v17 : IVec S1x512 1) : IVec S8192x1024 1 × IVec S8192x1024 1 × IVec S8192x3584 1 × IVec S8192x1024 1 × IVec S8192x512 1 × IVec S1x512 1 × IVec S1x512 1 × IVec S1x512 1 :=
  let main_v18 : IVec S1x512 32 := iotaInDim S1x512 32 0
  let main_c_5 : IVec S_ 32 := constantI S_ 32 0#32
  let main_v19 : IVec S1x512 32 := broadcastInDim S1x512 ![] bcast_S_S1x512 main_c_5
  let main_v20 : IVec S1x512 1 := cmpi .sge main_v18 main_v19
  let main_v21 : IVec S1x512 32 := iotaInDim S1x512 32 0
  let main_c_6 : IVec S_ 32 := constantI S_ 32 0#32
  let main_v22 : IVec S1x512 32 := broadcastInDim S1x512 ![] bcast_S_S1x512 main_c_6
  let main_v23 : IVec S1x512 1 := cmpi .sge main_v21 main_v22
  (main_v2, main_v5, main_v8, main_v11, main_v14, main_v17, main_v20, main_v23)

def fn {F : FTy → Type} [FloatOps F] (main_arg0 : FVec F S4x2048x512 .f32) (main_arg1 : FVec F S4x2048x512 .f32) (main_arg2 : FVec F S4x2048x2048 .f32) (main_arg3 : FVec F S1x512x1024 .f32) (main_arg4 : FVec F S1x512 .f32) (main_arg5 : FVec F S1x512 .f32) (main_arg6 : FVec F S1x512 .f32) (main_arg7 : FVec F S1x512x1024 .f32) (main_arg8 : FVec F S1x1024x1024 .f32) (main_arg9 : FVec F S4x2048x1024 .f32) : IVec S8192x1024 1 × IVec S8192x1024 1 × IVec S8192x3584 1 × IVec S8192x1024 1 × IVec S8192x512 1 × IVec S1x512 1 × IVec S1x512 1 × IVec S1x512 1 :=
  let main_v0 : IVec S8192x1024 32 := iotaInDim S8192x1024 32 0
  let main_c : IVec S_ 32 := constantI S_ 32 0#32
  let main_v1 : IVec S8192x1024 32 := broadcastInDim S8192x1024 ![] bcast_S_S8192x1024 main_c
  let main_v2 : IVec S8192x1024 1 := cmpi .sge main_v0 main_v1
  let main_v3 : IVec S8192x1024 32 := iotaInDim S8192x1024 32 0
  let main_c_0 : IVec S_ 32 := constantI S_ 32 0#32
  let main_v4 : IVec S8192x1024 32 := broadcastInDim S8192x1024 ![] bcast_S_S8192x1024 main_c_0
  let main_v5 : IVec S8192x1024 1 := cmpi .sge main_v3 main_v4
  let main_v6 : IVec S8192x3584 32 := iotaInDim S8192x3584 32 1
  let main_c_1 : IVec S_ 32 := constantI S_ 32 2048#32
  let main_v7 : IVec S8192x3584 32 := broadcastInDim S8192x3584 ![] bcast_S_S8192x3584 main_c_1
  let main_v8 : IVec S8192x3584 1 := cmpi .slt main_v6 main_v7
  let main_v9 : IVec S8192x1024 32 := iotaInDim S8192x1024 32 0
  let main_c_2 : IVec S_ 32 := constantI S_ 32 0#32
  let main_v10 : IVec S8192x1024 32 := broadcastInDim S8192x1024 ![] bcast_S_S8192x1024 main_c_2
  let main_v11 : IVec S8192x1024 1 := cmpi .sge main_v9 main_v10
  let main_v12 : IVec S8192x512 32 := iotaInDim S8192x512 32 0
  let main_c_3 : IVec S_ 32 := constantI S_ 32 0#32
  let main_v13 : IVec S8192x512 32 := broadcastInDim S8192x512 ![] bcast_S_S8192x512 main_c_3
  let main_v14 : IVec S8192x512 1 := cmpi .sge main_v12 main_v13
  let main_v15 : IVec S1x512 32 := iotaInDim S1x512 32 0
  let main_c_4 : IVec S_ 32 := constantI S_ 32 0#32
  let main_v16 : IVec S1x512 32 := broadcastInDim S1x512 ![] bcast_S_S1x512 main_c_4
  let main_v17 : IVec S1x512 1 := cmpi .sge main_v15 main_v16
  fn_part1 (F := F) main_v2 main_v5 main_v8 main_v11 main_v14 main_v17
-- ==== Pre_attn_finite.lean ====
abbrev S4x2048x8x96 : Shape := ⟨4, ![4, 2048, 8, 96]⟩
abbrev S4x2048x8x64 : Shape := ⟨4, ![4, 2048, 8, 64]⟩
abbrev S_ : Shape := ⟨0, ![]⟩

class Facts : Prop where
  bcast_S_S4x2048x8x96 : S_.BroadcastsInDim S4x2048x8x96 (![] : Fin 0 → Fin S4x2048x8x96.rank)
  reducesTo_S4x2048x8x96_S_d0_1_2_3 : S4x2048x8x96.ReducesTo [0, 1, 2, 3] S_
  h_S_ : 0 < S_.numel
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_

variable [Facts]

def fn_part1 {F : FTy → Type} [FloatOps F] (main_v13 : IVec S_ 1) (main_v16 : IVec S4x2048x8x64 1) : IVec S_ 1 :=
  let main_c_5 : IVec S_ 1 := constantI S_ 1 1#1
  let main_v17 : IVec S_ 1 := (fun x v => Host.reduce IntOp.andi x v reducesTo_S4x2048x8x64_S_d0_1_2_3 h_S_) main_v16 main_c_5
  let main_v18 : IVec S_ 1 := andi main_v13 main_v17
  main_v18

def fn {F : FTy → Type} [FloatOps F] (main_arg0 : FVec F S4x2048x8x96 .f32) (main_arg1 : FVec F S4x2048x8x96 .f32) (main_arg2 : FVec F S4x2048x8x64 .f32) (main_arg3 : FVec F S4x2048x8x64 .f32) : IVec S_ 1 :=
  let main_v0 : FVec F S4x2048x8x96 .f32 := Host.absf main_arg0
  let main_cst : FVec F S_ .f32 := constant S_ .f32 0x7F800000#32
  let main_v1 : FVec F S4x2048x8x96 .f32 := broadcastInDim S4x2048x8x96 ![] bcast_S_S4x2048x8x96 main_cst
  let main_v2 : IVec S4x2048x8x96 1 := cmpf .olt main_v0 main_v1
  let main_c : IVec S_ 1 := constantI S_ 1 1#1
  let main_v3 : IVec S_ 1 := (fun x v => Host.reduce IntOp.andi x v reducesTo_S4x2048x8x96_S_d0_1_2_3 h_S_) main_v2 main_c
  let main_v4 : FVec F S4x2048x8x96 .f32 := Host.absf main_arg1
  let main_cst_0 : FVec F S_ .f32 := constant S_ .f32 0x7F800000#32
  let main_v5 : FVec F S4x2048x8x96 .f32 := broadcastInDim S4x2048x8x96 ![] bcast_S_S4x2048x8x96 main_cst_0
  let main_v6 : IVec S4x2048x8x96 1 := cmpf .olt main_v4 main_v5
  let main_c_1 : IVec S_ 1 := constantI S_ 1 1#1
  let main_v7 : IVec S_ 1 := (fun x v => Host.reduce IntOp.andi x v reducesTo_S4x2048x8x96_S_d0_1_2_3 h_S_) main_v6 main_c_1
  let main_v8 : IVec S_ 1 := andi main_v3 main_v7
  let main_v9 : FVec F S4x2048x8x64 .f32 := Host.absf main_arg2
  let main_cst_2 : FVec F S_ .f32 := constant S_ .f32 0x7F800000#32
  let main_v10 : FVec F S4x2048x8x64 .f32 := broadcastInDim S4x2048x8x64 ![] bcast_S_S4x2048x8x64 main_cst_2
  let main_v11 : IVec S4x2048x8x64 1 := cmpf .olt main_v9 main_v10
  let main_c_3 : IVec S_ 1 := constantI S_ 1 1#1
  let main_v12 : IVec S_ 1 := (fun x v => Host.reduce IntOp.andi x v reducesTo_S4x2048x8x64_S_d0_1_2_3 h_S_) main_v11 main_c_3
  let main_v13 : IVec S_ 1 := andi main_v8 main_v12
  let main_v14 : FVec F S4x2048x8x64 .f32 := Host.absf main_arg3
  let main_cst_4 : FVec F S_ .f32 := constant S_ .f32 0x7F800000#32
  let main_v15 : FVec F S4x2048x8x64 .f32 := broadcastInDim S4x2048x8x64 ![] bcast_S_S4x2048x8x64 main_cst_4
  let main_v16 : IVec S4x2048x8x64 1 := cmpf .olt main_v14 main_v15
  fn_part1 (F := F) main_v13 main_v16
-- ==== Pre_attn_fwd_finite.lean ====
abbrev S4x2048x8x96 : Shape := ⟨4, ![4, 2048, 8, 96]⟩
abbrev S4x2048x8x64 : Shape := ⟨4, ![4, 2048, 8, 64]⟩
abbrev S_ : Shape := ⟨0, ![]⟩

class Facts : Prop where
  bcast_S_S4x2048x8x96 : S_.BroadcastsInDim S4x2048x8x96 (![] : Fin 0 → Fin S4x2048x8x96.rank)
  reducesTo_S4x2048x8x96_S_d0_1_2_3 : S4x2048x8x96.ReducesTo [0, 1, 2, 3] S_
  h_S_ : 0 < S_.numel
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_

variable [Facts]

def fn {F : FTy → Type} [FloatOps F] (main_arg0 : FVec F S4x2048x8x96 .f32) (main_arg1 : FVec F S4x2048x8x96 .f32) (main_arg2 : FVec F S4x2048x8x64 .f32) : IVec S_ 1 :=
  let main_v0 : FVec F S4x2048x8x96 .f32 := Host.absf main_arg0
  let main_cst : FVec F S_ .f32 := constant S_ .f32 0x7F800000#32
  let main_v1 : FVec F S4x2048x8x96 .f32 := broadcastInDim S4x2048x8x96 ![] bcast_S_S4x2048x8x96 main_cst
  let main_v2 : IVec S4x2048x8x96 1 := cmpf .olt main_v0 main_v1
  let main_c : IVec S_ 1 := constantI S_ 1 1#1
  let main_v3 : IVec S_ 1 := (fun x v => Host.reduce IntOp.andi x v reducesTo_S4x2048x8x96_S_d0_1_2_3 h_S_) main_v2 main_c
  let main_v4 : FVec F S4x2048x8x96 .f32 := Host.absf main_arg1
  let main_cst_0 : FVec F S_ .f32 := constant S_ .f32 0x7F800000#32
  let main_v5 : FVec F S4x2048x8x96 .f32 := broadcastInDim S4x2048x8x96 ![] bcast_S_S4x2048x8x96 main_cst_0
  let main_v6 : IVec S4x2048x8x96 1 := cmpf .olt main_v4 main_v5
  let main_c_1 : IVec S_ 1 := constantI S_ 1 1#1
  let main_v7 : IVec S_ 1 := (fun x v => Host.reduce IntOp.andi x v reducesTo_S4x2048x8x96_S_d0_1_2_3 h_S_) main_v6 main_c_1
  let main_v8 : IVec S_ 1 := andi main_v3 main_v7
  let main_v9 : FVec F S4x2048x8x64 .f32 := Host.absf main_arg2
  let main_cst_2 : FVec F S_ .f32 := constant S_ .f32 0x7F800000#32
  let main_v10 : FVec F S4x2048x8x64 .f32 := broadcastInDim S4x2048x8x64 ![] bcast_S_S4x2048x8x64 main_cst_2
  let main_v11 : IVec S4x2048x8x64 1 := cmpf .olt main_v9 main_v10
  let main_c_3 : IVec S_ 1 := constantI S_ 1 1#1
  let main_v12 : IVec S_ 1 := (fun x v => Host.reduce IntOp.andi x v reducesTo_S4x2048x8x64_S_d0_1_2_3 h_S_) main_v11 main_c_3
  let main_v13 : IVec S_ 1 := andi main_v8 main_v12
  main_v13
-- ==== Pre_ffn_finite.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x6144 : S_.BroadcastsInDim S4x6144 (![] : Fin 0 → Fin S4x6144.rank)
  reducesTo_S4x6144_S_d0_1 : S4x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg4 : FVec F S1x1024x4096 .f32) (main_arg5 : FVec F S1x4096x1024 .f32) (main_arg6 : FVec F S4x2048x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x4096 .f32 := Host.absf main_arg4
  let main_cst_6 : FVec F S_ .f32 := constant S_ .f32 0x7F800000#32
  let main_v20 : FVec F S1x1024x4096 .f32 := broadcastInDim S1x1024x4096 ![] bcast_S_S1x1024x4096 main_cst_6
  let main_v21 : IVec S1x1024x4096 1 := cmpf .olt main_v19 main_v20
  let main_c_7 : IVec S_ 1 := constantI S_ 1 1#1
  let main_v22 : IVec S_ 1 := (fun x v => Host.reduce IntOp.andi x v reducesTo_S1x1024x4096_S_d0_1_2 h_S_) main_v21 main_c_7
  let main_v23 : IVec S_ 1 := andi main_v18 main_v22
  let main_v24 : FVec F S1x4096x1024 .f32 := Host.absf main_arg5
  let main_cst_8 : FVec F S_ .f32 := constant S_ .f32 0x7F800000#32
  let main_v25 : FVec F S1x4096x1024 .f32 := broadcastInDim S1x4096x1024 ![] bcast_S_S1x4096x1024 main_cst_8
  let main_v26 : IVec S1x4096x1024 1 := cmpf .olt main_v24 main_v25
  let main_c_9 : IVec S_ 1 := constantI S_ 1 1#1
  let main_v27 : IVec S_ 1 := (fun x v => Host.reduce IntOp.andi x v reducesTo_S1x4096x1024_S_d0_1_2 h_S_) main_v26 main_c_9
  let main_v28 : IVec S_ 1 := andi main_v23 main_v27
  let main_v29 : FVec F S4x2048x1024 .f32 := Host.absf main_arg6
  let main_cst_10 : FVec F S_ .f32 := constant S_ .f32 0x7F800000#32
  let main_v30 : FVec F S4x2048x1024 .f32 := broadcastInDim S4x2048x1024 ![] bcast_S_S4x2048x1024 main_cst_10
  let main_v31 : IVec S4x2048x1024 1 := cmpf .olt main_v29 main_v30
  let main_c_11 : IVec S_ 1 := constantI S_ 1 1#1
  let main_v32 : IVec S_ 1 := (fun x v => Host.reduce IntOp.andi x v reducesTo_S4x2048x1024_S_d0_1_2 h_S_) main_v31 main_c_11
  let main_v33 : IVec S_ 1 := andi main_v28 main_v32
  main_v33

def fn {F : FTy → Type} [FloatOps F] (main_arg0 : FVec F S4x2048x1024 .f32) (main_arg1 : FVec F S4x2048x1024 .f32) (main_arg2 : FVec F S4x6144 .f32) (main_arg3 : FVec F S1x1024 .f32) (main_arg4 : FVec F S1x1024x4096 .f32) (main_arg5 : FVec F S1x4096x1024 .f32) (main_arg6 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x6144 .f32 := Host.absf main_arg2
  let main_cst_2 : FVec F S_ .f32 := constant S_ .f32 0x7F800000#32
  let main_v10 : FVec F S4x6144 .f32 := broadcastInDim S4x6144 ![] bcast_S_S4x6144 main_cst_2
  let main_v11 : IVec S4x6144 1 := cmpf .olt main_v9 main_v10
  let main_c_3 : IVec S_ 1 := constantI S_ 1 1#1
  let main_v12 : IVec S_ 1 := (fun x v => Host.reduce IntOp.andi x v reducesTo_S4x6144_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_in_finite.lean ====
abbrev S4x2048x1024 : Shape := ⟨3, ![4, 2048, 1024]⟩
abbrev S4x6144 : Shape := ⟨2, ![4, 6144]⟩
abbrev S1x1024 : Shape := ⟨2, ![1, 1024]⟩
abbrev S1x1024x3488 : Shape := ⟨3, ![1, 1024, 3488]⟩
abbrev S4x2048x3488 : Shape := ⟨3, ![4, 2048, 3488]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x6144 : S_.BroadcastsInDim S4x6144 (![] : Fin 0 → Fin S4x6144.rank)
  reducesTo_S4x6144_S_d0_1 : S4x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x3488 : S_.BroadcastsInDim S1x1024x3488 (![] : Fin 0 → Fin S1x1024x3488.rank)
  reducesTo_S1x1024x3488_S_d0_1_2 : S1x1024x3488.ReducesTo [0, 1, 2] S_
  bcast_S_S4x2048x3488 : S_.BroadcastsInDim S4x2048x3488 (![] : Fin 0 → Fin S4x2048x3488.rank)
  reducesTo_S4x2048x3488_S_d0_1_2 : S4x2048x3488.ReducesTo [0, 1, 2] S_

variable [Facts]

def fn_part1 {F : FTy → Type} [FloatOps F] (main_arg4 : FVec F S4x2048x3488 .f32) (main_v13 : IVec S_ 1) (main_v16 : IVec S1x1024x3488 1) : IVec S_ 1 :=
  let main_c_5 : IVec S_ 1 := constantI S_ 1 1#1
  let main_v17 : IVec S_ 1 := (fun x v => Host.reduce IntOp.andi x v reducesTo_S1x1024x3488_S_d0_1_2 h_S_) main_v16 main_c_5
  let main_v18 : IVec S_ 1 := andi main_v13 main_v17
  let main_v19 : FVec F S4x2048x3488 .f32 := Host.absf main_arg4
  let main_cst_6 : FVec F S_ .f32 := constant S_ .f32 0x7F800000#32
  let main_v20 : FVec F S4x2048x3488 .f32 := broadcastInDim S4x2048x3488 ![] bcast_S_S4x2048x3488 main_cst_6
  let main_v21 : IVec S4x2048x3488 1 := cmpf .olt main_v19 main_v20
  let main_c_7 : IVec S_ 1 := constantI S_ 1 1#1
  let main_v22 : IVec S_ 1 := (fun x v => Host.reduce IntOp.andi x v reducesTo_S4x2048x3488_S_d0_1_2 h_S_) main_v21 main_c_7
  let main_v23 : IVec S_ 1 := andi main_v18 main_v22
  main_v23

def fn {F : FTy → Type} [FloatOps F] (main_arg0 : FVec F S4x2048x1024 .f32) (main_arg1 : FVec F S4x6144 .f32) (main_arg2 : FVec F S1x1024 .f32) (main_arg3 : FVec F S1x1024x3488 .f32) (main_arg4 : FVec F S4x2048x3488 .f32) (main_arg5 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x6144 .f32 := Host.absf main_arg1
  let main_cst_0 : FVec F S_ .f32 := constant S_ .f32 0x7F800000#32
  let main_v5 : FVec F S4x6144 .f32 := broadcastInDim S4x6144 ![] bcast_S_S4x6144 main_cst_0
  let main_v6 : IVec S4x6144 1 := cmpf .olt main_v4 main_v5
  let main_c_1 : IVec S_ 1 := constantI S_ 1 1#1
  let main_v7 : IVec S_ 1 := (fun x v => Host.reduce IntOp.andi x v reducesTo_S4x6144_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x3488 .f32 := Host.absf main_arg3
  let main_cst_4 : FVec F S_ .f32 := constant S_ .f32 0x7F800000#32
  let main_v15 : FVec F S1x1024x3488 .f32 := broadcastInDim S1x1024x3488 ![] bcast_S_S1x1024x3488 main_cst_4
  let main_v16 : IVec S1x1024x3488 1 := cmpf .olt main_v14 main_v15
  fn_part1 (F := F) main_arg4 main_v13 main_v16
-- ==== Pre_mix_finite.lean ====
abbrev S4x2048x512 : Shape := ⟨3, ![4, 2048, 512]⟩
abbrev S4x2048x2048 : Shape := ⟨3, ![4, 2048, 2048]⟩
abbrev S1x512x1024 : Shape := ⟨3, ![1, 512, 1024]⟩
abbrev S1x512 : Shape := ⟨2, ![1, 512]⟩
abbrev S1x1024x1024 : Shape := ⟨3, ![1, 1024, 1024]⟩
abbrev S4x2048x1024 : Shape := ⟨3, ![4, 2048, 1024]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part1 {F : FTy → Type} [FloatOps F] (main_arg7 : FVec F S1x512x1024 .f32) (main_arg8 : FVec F S1x1024x1024 .f32) (main_arg9 : FVec F S4x2048x1024 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x512x1024 .f32 := Host.absf main_arg7
  let main_cst_6 : FVec F S_ .f32 := constant S_ .f32 0x7F800000#32
  let main_v20 : FVec F S1x512x1024 .f32 := broadcastInDim S1x512x1024 ![] bcast_S_S1x512x1024 main_cst_6
  let main_v21 : IVec S1x512x1024 1 := cmpf .olt main_v19 main_v20
  let main_c_7 : IVec S_ 1 := constantI S_ 1 1#1
  let main_v22 : IVec S_ 1 := (fun x v => Host.reduce IntOp.andi x v reducesTo_S1x512x1024_S_d0_1_2 h_S_) main_v21 main_c_7
  let main_v23 : IVec S_ 1 := andi main_v18 main_v22
  let main_v24 : FVec F S1x1024x1024 .f32 := Host.absf main_arg8
  let main_cst_8 : FVec F S_ .f32 := constant S_ .f32 0x7F800000#32
  let main_v25 : FVec F S1x1024x1024 .f32 := broadcastInDim S1x1024x1024 ![] bcast_S_S1x1024x1024 main_cst_8
  let main_v26 : IVec S1x1024x1024 1 := cmpf .olt main_v24 main_v25
  let main_c_9 : IVec S_ 1 := constantI S_ 1 1#1
  let main_v27 : IVec S_ 1 := (fun x v => Host.reduce IntOp.andi x v reducesTo_S1x1024x1024_S_d0_1_2 h_S_) main_v26 main_c_9
  let main_v28 : IVec S_ 1 := andi main_v23 main_v27
  let main_v29 : FVec F S4x2048x1024 .f32 := Host.absf main_arg9
  let main_cst_10 : FVec F S_ .f32 := constant S_ .f32 0x7F800000#32
  let main_v30 : FVec F S4x2048x1024 .f32 := broadcastInDim S4x2048x1024 ![] bcast_S_S4x2048x1024 main_cst_10
  let main_v31 : IVec S4x2048x1024 1 := cmpf .olt main_v29 main_v30
  let main_c_11 : IVec S_ 1 := constantI S_ 1 1#1
  let main_v32 : IVec S_ 1 := (fun x v => Host.reduce IntOp.andi x v reducesTo_S4x2048x1024_S_d0_1_2 h_S_) main_v31 main_c_11
  let main_v33 : IVec S_ 1 := andi main_v28 main_v32
  main_v33

def fn {F : FTy → Type} [FloatOps F] (main_arg0 : FVec F S4x2048x512 .f32) (main_arg1 : FVec F S4x2048x512 .f32) (main_arg2 : FVec F S4x2048x2048 .f32) (main_arg3 : FVec F S1x512x1024 .f32) (main_arg4 : FVec F S1x512 .f32) (main_arg5 : FVec F S1x512 .f32) (main_arg6 : FVec F S1x512 .f32) (main_arg7 : FVec F S1x512x1024 .f32) (main_arg8 : FVec F S1x1024x1024 .f32) (main_arg9 : FVec F S4x2048x1024 .f32) : IVec S_ 1 :=
  let main_v0 : FVec F S4x2048x512 .f32 := Host.absf main_arg1
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S1x512 .f32 := Host.absf main_arg4
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1x512 .f32 := Host.absf main_arg5
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := Host.absf main_arg6
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg7 main_arg8 main_arg9 main_v13 main_v16
-- ==== Mix.lean ====
abbrev S4x2048x512 : Shape := ⟨3, ![4, 2048, 512]⟩
abbrev S4x2048x2048 : Shape := ⟨3, ![4, 2048, 2048]⟩
abbrev S1x512x1024 : Shape := ⟨3, ![1, 512, 1024]⟩
abbrev S1x512 : Shape := ⟨2, ![1, 512]⟩
abbrev S1x1024x1024 : Shape := ⟨3, ![1, 1024, 1024]⟩
abbrev S4x2048x1024 : Shape := ⟨3, ![4, 2048, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩
abbrev S512 : Shape := ⟨1, ![512]⟩
abbrev S1x1x512 : Shape := ⟨3, ![1, 1, 512]⟩
abbrev S4x2048 : Shape := ⟨2, ![4, 2048]⟩
abbrev S4x2048x1 : Shape := ⟨3, ![4, 2048, 1]⟩
abbrev S8192x1024 : Shape := ⟨2, ![8192, 1024]⟩
abbrev S8192x2048 : Shape := ⟨2, ![8192, 2048]⟩
abbrev S8192x512 : Shape := ⟨2, ![8192, 512]⟩
abbrev S8192x3584 : Shape := ⟨2, ![8192, 3584]⟩
abbrev S512x2048 : Shape := ⟨2, ![512, 2048]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 87
  | .vmem => 28
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x2048, .f32⟩
  | .hbm, ⟨3, _⟩ => ⟨S1x512x1024, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512x1024, .f32⟩
  | .hbm, ⟨8, _⟩ => ⟨S1x1024x1024, .f32⟩
  | .hbm, ⟨9, _⟩ => ⟨S4x2048x1024, .f32⟩
  | .hbm, ⟨10, _⟩ => ⟨S512x1024, .f32⟩
  | .hbm, ⟨11, _⟩ => ⟨S8x64x1024, .f32⟩
  | .hbm, ⟨12, _⟩ => ⟨S_, .i32⟩
  | .hbm, ⟨13, _⟩ => ⟨S_, .f32⟩
  | .hbm, ⟨14, _⟩ => ⟨S8x128x1024, .f32⟩
  | .hbm, ⟨15, _⟩ => ⟨S1024x1024, .f32⟩
  | .hbm, ⟨16, _⟩ => ⟨S512x1024, .f32⟩
  | .hbm, ⟨17, _⟩ => ⟨S4x2048x1024, .f32⟩
  | .hbm, ⟨18, _⟩ => ⟨S512, .f32⟩
  | .hbm, ⟨19, _⟩ => ⟨S1x1x512, .f32⟩
  | .hbm, ⟨20, _⟩ => ⟨S4x2048x512, .f32⟩
  | .hbm, ⟨21, _⟩ => ⟨S4x2048x512, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x512, .f32⟩
  | .hbm, ⟨31, _⟩ => ⟨S4x2048x512, .f32⟩
  | .hbm, ⟨32, _⟩ => ⟨S4x2048x512, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x512, .f32⟩
  | .hbm, ⟨40, _⟩ => ⟨S4x2048x512, .f32⟩
  | .hbm, ⟨41, _⟩ => ⟨S_, .f32⟩
  | .hbm, ⟨42, _⟩ => ⟨S4x2048x1, .f32⟩
  | .hbm, ⟨43, _⟩ => ⟨S4x2048x1, .f32⟩
  | .hbm, ⟨44, _⟩ => ⟨S4x2048x1, .f32⟩
  | .hbm, ⟨45, _⟩ => ⟨S4x2048x512, .f32⟩
  | .hbm, ⟨46, _⟩ => ⟨S4x2048x512, .f32⟩
  | .hbm, ⟨47, _⟩ => ⟨S1x1x512, .f32⟩
  | .hbm, ⟨48, _⟩ => ⟨S4x2048x512, .f32⟩
  | .hbm, ⟨49, _⟩ => ⟨S4x2048x512, .f32⟩
  | .hbm, ⟨50, _⟩ => ⟨S1x1x512, .f32⟩
  | .hbm, ⟨51, _⟩ => ⟨S4x2048x512, .f32⟩
  | .hbm, ⟨52, _⟩ => ⟨S4x2048x512, .f32⟩
  | .hbm, ⟨53, _⟩ => ⟨S4x2048x512, .f32⟩
  | .hbm, ⟨54, _⟩ => ⟨S4x2048x512, .f32⟩
  | .hbm, ⟨55, _⟩ => ⟨S_, .f32⟩
  | .hbm, ⟨56, _⟩ => ⟨S4x2048x512, .f32⟩
  | .hbm, ⟨57, _⟩ => ⟨S4x2048x512, .f32⟩
  | .hbm, ⟨58, _⟩ => ⟨S_, .f32⟩
  | .hbm, ⟨59, _⟩ => ⟨S4x2048x512, .f32⟩
  | .hbm, ⟨60, _⟩ => ⟨S4x2048x512, .f32⟩
  | .hbm, ⟨61, _⟩ => ⟨S4x2048x512, .f32⟩
  | .hbm, ⟨62, _⟩ => ⟨S512x1024, .f32⟩
  | .hbm, ⟨63, _⟩ => ⟨S4x2048x1024, .f32⟩
  | .hbm, ⟨64, _⟩ => ⟨S512, .f32⟩
  | .hbm, ⟨65, _⟩ => ⟨S1x1x512, .f32⟩
  | .hbm, ⟨66, _⟩ => ⟨S4x2048x512, .f32⟩
  | .hbm, ⟨67, _⟩ => ⟨S4x2048x512, .f32⟩
  | .hbm, ⟨68, _⟩ => ⟨S8192x1024, .f32⟩
  | .hbm, ⟨69, _⟩ => ⟨S8192x1024, .bf16⟩
  | .hbm, ⟨70, _⟩ => ⟨S8192x2048, .f32⟩
  | .hbm, ⟨71, _⟩ => ⟨S8192x1024, .f32⟩
  | .hbm, ⟨72, _⟩ => ⟨S8192x1024, .f32⟩
  | .hbm, ⟨73, _⟩ => ⟨S8192x512, .f32⟩
  | .hbm, ⟨74, _⟩ => ⟨S1024x1024, .f32⟩
  | .hbm, ⟨75, _⟩ => ⟨S1024x1024, .bf16⟩
  | .hbm, ⟨76, _⟩ => ⟨S1024x1024, .bf16⟩
  | .hbm, ⟨77, _⟩ => ⟨S512x1024, .f32⟩
  | .hbm, ⟨78, _⟩ => ⟨S512x1024, .bf16⟩
  | .hbm, ⟨79, _⟩ => ⟨S8192x1024, .bf16⟩
  | .hbm, ⟨80, _⟩ => ⟨S8192x1024, .bf16⟩
  | .hbm, ⟨81, _⟩ => ⟨S8192x3584, .bf16⟩
  | .hbm, ⟨82, _⟩ => ⟨S8192x1024, .bf16⟩
  | .hbm, ⟨83, _⟩ => ⟨S8192x512, .f32⟩
  | .hbm, ⟨84, _⟩ => ⟨S1x512, .f32⟩
  | .hbm, ⟨85, _⟩ => ⟨S1x512, .f32⟩
  | .hbm, ⟨86, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S512x2048, .f32⟩
  | .local _ .vmem, ⟨3, _⟩ => ⟨S512x2048, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | .local _ .vmem, ⟨20, _⟩ => ⟨S512x2048, .bf16⟩
  | .local _ .vmem, ⟨21, _⟩ => ⟨S512x1024, .bf16⟩
  | .local _ .vmem, ⟨22, _⟩ => ⟨S512x1024, .bf16⟩
  | .local _ .vmem, ⟨23, _⟩ => ⟨S512x512, .f32⟩
  | .local _ .vmem, ⟨24, _⟩ => ⟨S512x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54_0 : Ref sig .tc := ⟨.hbm, 79, rfl⟩
abbrev main_v54_1 : Ref sig .tc := ⟨.hbm, 80, rfl⟩
abbrev main_v54_2 : Ref sig .tc := ⟨.hbm, 81, rfl⟩
abbrev main_v54_3 : Ref sig .tc := ⟨.hbm, 82, rfl⟩
abbrev main_v54_4 : Ref sig .tc := ⟨.hbm, 83, rfl⟩
abbrev main_v54_5 : Ref sig .tc := ⟨.hbm, 84, rfl⟩
abbrev main_v54_6 : Ref sig .tc := ⟨.hbm, 85, rfl⟩
abbrev main_v54_7 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v211 : BitVec 1 := Scalar.cmpi .eq arg0 c0_i32
  let v212 : BitVec 32 := Scalar.extui v211
  let c0_i32_107 : BitVec 32 := 0#32
  let v213 : BitVec 1 := Scalar.cmpi .ne v212 c0_i32_107
  v213

def k0_cond2 (i : grid0.Coords) : BitVec 1 :=
  let arg0 : BitVec 32 := BitVec.ofNat 32 (i 0).val
  let c0_i32 : BitVec 32 := 0#32
  let v211 : BitVec 1 := Scalar.cmpi .eq arg0 c0_i32
  let v_true : BitVec 1 := 1#1
  let v214 : BitVec 1 := Scalar.xori v211 v_true
  let v215 : BitVec 32 := Scalar.extui v214
  let c0_i32_108 : BitVec 32 := 0#32
  let v216 : BitVec 1 := Scalar.cmpi .ne v215 c0_i32_108
  v216

def k0_cond3 (i : grid0.Coords) : BitVec 1 :=
  let arg0 : BitVec 32 := BitVec.ofNat 32 (i 0).val
  let c0_i32_109 : BitVec 32 := 0#32
  let v217 : BitVec 1 := Scalar.cmpi .eq arg0 c0_i32_109
  let v218 : BitVec 32 := Scalar.extui v217
  let c0_i32_110 : BitVec 32 := 0#32
  let v219 : BitVec 1 := Scalar.cmpi .ne v218 c0_i32_110
  v219

def k0_cond4 (i : grid0.Coords) : BitVec 1 :=
  let arg0 : BitVec 32 := BitVec.ofNat 32 (i 0).val
  let c0_i32_109 : BitVec 32 := 0#32
  let v217 : BitVec 1 := Scalar.cmpi .eq arg0 c0_i32_109
  let true_111 : BitVec 1 := 1#1
  let v220 : BitVec 1 := Scalar.xori v217 true_111
  let v221 : BitVec 32 := Scalar.extui v220
  let c0_i32_112 : BitVec 32 := 0#32
  let v222 : BitVec 1 := Scalar.cmpi .ne v221 c0_i32_112
  v222

def k0_cond5 (i : grid0.Coords) : BitVec 1 :=
  let arg0 : BitVec 32 := BitVec.ofNat 32 (i 0).val
  let c0_i32_113 : BitVec 32 := 0#32
  let v223 : BitVec 1 := Scalar.cmpi .eq arg0 c0_i32_113
  let v224 : BitVec 32 := Scalar.extui v223
  let c0_i32_114 : BitVec 32 := 0#32
  let v225 : BitVec 1 := Scalar.cmpi .ne v224 c0_i32_114
  v225

def k0_cond6 (i : grid0.Coords) : BitVec 1 :=
  let arg0 : BitVec 32 := BitVec.ofNat 32 (i 0).val
  let c0_i32_113 : BitVec 32 := 0#32
  let v223 : BitVec 1 := Scalar.cmpi .eq arg0 c0_i32_113
  let true_115 : BitVec 1 := 1#1
  let v226 : BitVec 1 := Scalar.xori v223 true_115
  let v227 : BitVec 32 := Scalar.extui v226
  let c0_i32_116 : BitVec 32 := 0#32
  let v228 : BitVec 1 := Scalar.cmpi .ne v227 c0_i32_116
  v228

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixRefIdeal.lean ====
abbrev S4x2048x512 : Shape := ⟨3, ![4, 2048, 512]⟩
abbrev S4x2048x2048 : Shape := ⟨3, ![4, 2048, 2048]⟩
abbrev S1x512x1024 : Shape := ⟨3, ![1, 512, 1024]⟩
abbrev S1x512 : Shape := ⟨2, ![1, 512]⟩
abbrev S1x1024x1024 : Shape := ⟨3, ![1, 1024, 1024]⟩
abbrev S4x2048x1024 : Shape := ⟨3, ![4, 2048, 1024]⟩
abbrev S512x1024 : Shape := ⟨2, ![512, 1024]⟩
abbrev S512 : Shape := ⟨1, ![512]⟩
abbrev S1x1x512 : Shape := ⟨3, ![1, 1, 512]⟩
abbrev S_ : Shape := ⟨0, ![]⟩
abbrev S4x2048 : Shape := ⟨2, ![4, 2048]⟩
abbrev S4x2048x1 : Shape := ⟨3, ![4, 2048, 1]⟩
abbrev S1024x1024 : Shape := ⟨2, ![1024, 1024]⟩
abbrev S8192x8x64 : Shape := ⟨3, ![8192, 8, 64]⟩
abbrev S8192x8x128 : Shape := ⟨3, ![8192, 8, 128]⟩
abbrev S8192x1024 : Shape := ⟨2, ![8192, 1024]⟩
abbrev S8192x2048 : Shape := ⟨2, ![8192, 2048]⟩
abbrev S8192x3584 : Shape := ⟨2, ![8192, 3584]⟩
abbrev S8192x512 : Shape := ⟨2, ![8192, 512]⟩

abbrev nBuf : Space → Nat
  | .hbm => 169
  | .vmem => 0
  | .smem => 0
  | _ => 0

abbrev hbmTy0_0 (i : Nat) : BufTy := match i % 128 with
  | 0 => ⟨S4x2048x512, .f32⟩
  | 1 => ⟨S4x2048x512, .f32⟩
  | 2 => ⟨S4x2048x2048, .f32⟩
  | 3 => ⟨S1x512x1024, .f32⟩
  | 4 => ⟨S1x512, .f32⟩
  | 5 => ⟨S1x512, .f32⟩
  | 6 => ⟨S1x512, .f32⟩
  | 7 => ⟨S1x512x1024, .f32⟩
  | 8 => ⟨S1x1024x1024, .f32⟩
  | 9 => ⟨S4x2048x1024, .f32⟩
  | 10 => ⟨S512x1024, .f32⟩
  | 11 => ⟨S4x2048x1024, .f32⟩
  | 12 => ⟨S512, .f32⟩
  | 13 => ⟨S1x1x512, .f32⟩
  | 14 => ⟨S4x2048x512, .f32⟩
  | 15 => ⟨S4x2048x512, .f32⟩
  | 16 => ⟨S512, .f32⟩
  | 17 => ⟨S512, .f32⟩
  | 18 => ⟨S_, .f32⟩
  | 19 => ⟨S4x2048, .f32⟩
  | 20 => ⟨S4x2048x1, .f32⟩
  | 21 => ⟨S_, .f32⟩
  | 22 => ⟨S4x2048x1, .f32⟩
  | 23 => ⟨S4x2048x1, .f32⟩
  | 24 => ⟨S4x2048x512, .f32⟩
  | 25 => ⟨S4x2048x512, .f32⟩
  | 26 => ⟨S4x2048x512, .f32⟩
  | 27 => ⟨S_, .f32⟩
  | 28 => ⟨S4x2048x512, .f32⟩
  | 29 => ⟨S4x2048x512, .f32⟩
  | 30 => ⟨S_, .f32⟩
  | 31 => ⟨S4x2048, .f32⟩
  | 32 => ⟨S4x2048x1, .f32⟩
  | 33 => ⟨S_, .f32⟩
  | 34 => ⟨S4x2048x1, .f32⟩
  | 35 => ⟨S4x2048x1, .f32⟩
  | 36 => ⟨S4x2048x512, .f32⟩
  | 37 => ⟨S4x2048x512, .f32⟩
  | 38 => ⟨S_, .f32⟩
  | 39 => ⟨S4x2048x1, .f32⟩
  | 40 => ⟨S4x2048x1, .f32⟩
  | 41 => ⟨S4x2048x1, .f32⟩
  | 42 => ⟨S4x2048x1, .f32⟩
  | 43 => ⟨S_, .f32⟩
  | 44 => ⟨S4x2048x1, .f32⟩
  | 45 => ⟨S4x2048x1, .f32⟩
  | 46 => ⟨S4x2048x512, .f32⟩
  | 47 => ⟨S4x2048x512, .f32⟩
  | 48 => ⟨S1x1x512, .f32⟩
  | 49 => ⟨S4x2048x512, .f32⟩
  | 50 => ⟨S4x2048x512, .f32⟩
  | 51 => ⟨S1x1x512, .f32⟩
  | 52 => ⟨S4x2048x512, .f32⟩
  | 53 => ⟨S4x2048x512, .f32⟩
  | 54 => ⟨S4x2048x512, .f32⟩
  | 55 => ⟨S4x2048x512, .f32⟩
  | 56 => ⟨S_, .f32⟩
  | 57 => ⟨S4x2048x512, .f32⟩
  | 58 => ⟨S4x2048x512, .f32⟩
  | 59 => ⟨S_, .f32⟩
  | 60 => ⟨S4x2048x512, .f32⟩
  | 61 => ⟨S4x2048x512, .f32⟩
  | 62 => ⟨S_, .f32⟩
  | 63 => ⟨S4x2048x512, .f32⟩
  | 64 => ⟨S4x2048x512, .f32⟩
  | 65 => ⟨S4x2048x512, .f32⟩
  | 66 => ⟨S4x2048x512, .f32⟩
  | 67 => ⟨S512x1024, .f32⟩
  | 68 => ⟨S4x2048x1024, .f32⟩
  | 69 => ⟨S4x2048x2048, .f32⟩
  | 70 => ⟨S4x2048x2048, .f32⟩
  | 71 => ⟨S_, .f32⟩
  | 72 => ⟨S4x2048x2048, .f32⟩
  | 73 => ⟨S4x2048x2048, .f32⟩
  | 74 => ⟨S_, .f32⟩
  | 75 => ⟨S4x2048x2048, .f32⟩
  | 76 => ⟨S4x2048x2048, .f32⟩
  | 77 => ⟨S_, .f32⟩
  | 78 => ⟨S4x2048x2048, .f32⟩
  | 79 => ⟨S4x2048x2048, .f32⟩
  | 80 => ⟨S4x2048x2048, .f32⟩
  | 81 => ⟨S4x2048x1024, .f32⟩
  | 82 => ⟨S4x2048x1024, .f32⟩
  | 83 => ⟨S4x2048x1024, .f32⟩
  | 84 => ⟨S4x2048x1024, .f32⟩
  | 85 => ⟨S4x2048x1024, .f32⟩
  | 86 => ⟨S1024x1024, .f32⟩
  | 87 => ⟨S4x2048x1024, .f32⟩
  | 88 => ⟨S4x2048x1024, .f32⟩
  | 89 => ⟨S4x2048x1024, .f32⟩
  | 90 => ⟨S4x2048x1024, .f32⟩
  | 91 => ⟨S4x2048x1024, .f32⟩
  | 92 => ⟨S4x2048x1024, .f32⟩
  | 93 => ⟨S4x2048x2048, .f32⟩
  | 94 => ⟨S4x2048x2048, .f32⟩
  | 95 => ⟨S4x2048x512, .f32⟩
  | 96 => ⟨S4x2048x512, .f32⟩
  | 97 => ⟨S4x2048x512, .f32⟩
  | 98 => ⟨S4x2048x512, .f32⟩
  | 99 => ⟨S4x2048x512, .f32⟩
  | 100 => ⟨S_, .f32⟩
  | 101 => ⟨S512, .f32⟩
  | 102 => ⟨S1x1x512, .f32⟩
  | 103 => ⟨S_, .f32⟩
  | 104 => ⟨S512, .f32⟩
  | 105 => ⟨S4x2048x512, .f32⟩
  | 106 => ⟨S_, .f32⟩
  | 107 => ⟨S512, .f32⟩
  | 108 => ⟨S1x1x512, .f32⟩
  | 109 => ⟨S4x2048x512, .f32⟩
  | 110 => ⟨S4x2048x512, .f32⟩
  | 111 => ⟨S_, .f32⟩
  | 112 => ⟨S512, .f32⟩
  | 113 => ⟨S4x2048x512, .f32⟩
  | 114 => ⟨S_, .f32⟩
  | 115 => ⟨S4x2048, .f32⟩
  | 116 => ⟨S4x2048x1, .f32⟩
  | 117 => ⟨S4x2048x512, .f32⟩
  | 118 => ⟨S4x2048x512, .f32⟩
  | 119 => ⟨S4x2048x1, .f32⟩
  | 120 => ⟨S4x2048x512, .f32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S_, .f32⟩
  | _ => ⟨S4x2048x512, .f32⟩

abbrev hbmTy0_1 (i : Nat) : BufTy := match i % 128 with
  | 0 => ⟨S4x2048, .f32⟩
  | 1 => ⟨S4x2048x512, .f32⟩
  | 2 => ⟨S4x2048x512, .f32⟩
  | 3 => ⟨S4x2048x512, .f32⟩
  | 4 => ⟨S_, .f32⟩
  | 5 => ⟨S4x2048, .f32⟩
  | 6 => ⟨S4x2048x1, .f32⟩
  | 7 => ⟨S4x2048x512, .f32⟩
  | 8 => ⟨S4x2048x1, .f32⟩
  | 9 => ⟨S_, .f32⟩
  | 10 => ⟨S4x2048x1, .f32⟩
  | 11 => ⟨S4x2048x1, .f32⟩
  | 12 => ⟨S_, .f32⟩
  | 13 => ⟨S4x2048, .f32⟩
  | 14 => ⟨S4x2048x512, .f32⟩
  | 15 => ⟨S4x2048x512, .f32⟩
  | 16 => ⟨S1x512, .f32⟩
  | 17 => ⟨S1x512, .f32⟩
  | 18 => ⟨S_, .f32⟩
  | 19 => ⟨S512, .f32⟩
  | 20 => ⟨S1x1x512, .f32⟩
  | 21 => ⟨S_, .f32⟩
  | 22 => ⟨S512, .f32⟩
  | 23 => ⟨S1x512, .f32⟩
  | 24 => ⟨S4x2048x512, .f32⟩
  | 25 => ⟨S8192x8x64, .f32⟩
  | 26 => ⟨S_, .i32⟩
  | 27 => ⟨S_, .f32⟩
  | 28 => ⟨S8192x8x128, .f32⟩
  | 29 => ⟨S8192x1024, .f32⟩
  | 30 => ⟨S8192x2048, .f32⟩
  | 31 => ⟨S_, .i32⟩
  | 32 => ⟨S_, .f32⟩
  | 33 => ⟨S8192x3584, .f32⟩
  | 34 => ⟨S8192x1024, .f32⟩
  | 35 => ⟨S8192x1024, .bf16⟩
  | 36 => ⟨S8192x1024, .f32⟩
  | 37 => ⟨S8192x1024, .bf16⟩
  | 38 => ⟨S8192x3584, .bf16⟩
  | 39 => ⟨S8192x1024, .bf16⟩
  | 40 => ⟨S8192x512, .f32⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v37_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v37_1 : Ref sig .tc := ⟨.hbm, 65, rfl⟩
abbrev main_v37_0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_6 : Ref sig .tc := ⟨.hbm, 71, rfl⟩
abbrev main_v42 : Ref sig .tc := ⟨.hbm, 72, rfl⟩
abbrev main_v43 : Ref sig .tc := ⟨.hbm, 73, rfl⟩
abbrev main_cst_7 : Ref sig .tc := ⟨.hbm, 74, rfl⟩
abbrev main_v44 : Ref sig .tc := ⟨.hbm, 75, rfl⟩
abbrev main_v45 : Ref sig .tc := ⟨.hbm, 76, rfl⟩
abbrev main_cst_8 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v64 : Ref sig .tc := ⟨.hbm, 99, rfl⟩
abbrev main_cst_9 : Ref sig .tc := ⟨.hbm, 100, rfl⟩
abbrev main_v65 : Ref sig .tc := ⟨.hbm, 101, rfl⟩
abbrev main_v66 : Ref sig .tc := ⟨.hbm, 102, rfl⟩
abbrev main_cst_10 : Ref sig .tc := ⟨.hbm, 103, rfl⟩
abbrev main_v67 : Ref sig .tc := ⟨.hbm, 104, rfl⟩
abbrev main_v68 : Ref sig .tc := ⟨.hbm, 105, rfl⟩
abbrev main_cst_11 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_12 : Ref sig .tc := ⟨.hbm, 111, rfl⟩
abbrev main_v73 : Ref sig .tc := ⟨.hbm, 112, rfl⟩
abbrev main_v74 : Ref sig .tc := ⟨.hbm, 113, rfl⟩
abbrev main_cst_13 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_14 : Ref sig .tc := ⟨.hbm, 121, rfl⟩
abbrev main_v81 : Ref sig .tc := ⟨.hbm, 122, rfl⟩
abbrev main_v82 : Ref sig .tc := ⟨.hbm, 123, rfl⟩
abbrev main_cst_15 : Ref sig .tc := ⟨.hbm, 124, rfl⟩
abbrev main_v83 : Ref sig .tc := ⟨.hbm, 125, rfl⟩
abbrev main_v84 : Ref sig .tc := ⟨.hbm, 126, rfl⟩
abbrev main_cst_16 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_17 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_18 : Ref sig .tc := ⟨.hbm, 137, rfl⟩
abbrev main_v93 : Ref sig .tc := ⟨.hbm, 138, rfl⟩
abbrev main_v94 : Ref sig .tc := ⟨.hbm, 139, rfl⟩
abbrev main_cst_19 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_20 : Ref sig .tc := ⟨.hbm, 146, rfl⟩
abbrev main_v100 : Ref sig .tc := ⟨.hbm, 147, rfl⟩
abbrev main_v101 : Ref sig .tc := ⟨.hbm, 148, rfl⟩
abbrev main_cst_21 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_c : Ref sig .tc := ⟨.hbm, 154, rfl⟩
abbrev main_call2_v0 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_c_22 : Ref sig .tc := ⟨.hbm, 159, rfl⟩
abbrev main_call3_v0 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩

abbrev nD : Nat := 1
abbrev τ : Topo := Topo.v7x

variable {F : FTy → Type} [FloatOps F]
-- ==== Attn.lean ====
abbrev S4x2048x8x96 : Shape := ⟨4, ![4, 2048, 8, 96]⟩
abbrev S4x2048x8x64 : Shape := ⟨4, ![4, 2048, 8, 64]⟩
abbrev S_ : Shape := ⟨0, ![]⟩
abbrev S4x2048x8x128 : Shape := ⟨4, ![4, 2048, 8, 128]⟩
abbrev S8192x1024 : Shape := ⟨2, ![8192, 1024]⟩
abbrev S2048x128 : Shape := ⟨2, ![2048, 128]⟩
abbrev S256x1 : Shape := ⟨2, ![256, 1]⟩
abbrev S1x256 : Shape := ⟨2, ![1, 256]⟩
abbrev S256x256 : Shape := ⟨2, ![256, 256]⟩
abbrev S256x128 : Shape := ⟨2, ![256, 128]⟩
abbrev S512x128 : Shape := ⟨2, ![512, 128]⟩
abbrev S256x512 : Shape := ⟨2, ![256, 512]⟩
abbrev S256 : Shape := ⟨1, ![256]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩

abbrev nBuf : Space → Nat
  | .hbm => 27
  | .vmem => 16
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S4x2048x8x64, .f32⟩
  | .hbm, ⟨4, _⟩ => ⟨S_, .i32⟩
  | .hbm, ⟨5, _⟩ => ⟨S_, .f32⟩
  | .hbm, ⟨6, _⟩ => ⟨S4x2048x8x128, .f32⟩
  | .hbm, ⟨7, _⟩ => ⟨S8192x1024, .f32⟩
  | .hbm, ⟨8, _⟩ => ⟨S8192x1024, .bf16⟩
  | .hbm, ⟨9, _⟩ => ⟨S_, .i32⟩
  | .hbm, ⟨10, _⟩ => ⟨S_, .f32⟩
  | .hbm, ⟨11, _⟩ => ⟨S4x2048x8x128, .f32⟩
  | .hbm, ⟨12, _⟩ => ⟨S8192x1024, .f32⟩
  | .hbm, ⟨13, _⟩ => ⟨S8192x1024, .bf16⟩
  | .hbm, ⟨14, _⟩ => ⟨S_, .i32⟩
  | .hbm, ⟨15, _⟩ => ⟨S_, .f32⟩
  | .hbm, ⟨16, _⟩ => ⟨S4x2048x8x128, .f32⟩
  | .hbm, ⟨17, _⟩ => ⟨S8192x1024, .f32⟩
  | .hbm, ⟨18, _⟩ => ⟨S8192x1024, .bf16⟩
  | .hbm, ⟨19, _⟩ => ⟨S_, .i32⟩
  | .hbm, ⟨20, _⟩ => ⟨S_, .f32⟩
  | .hbm, ⟨21, _⟩ => ⟨S4x2048x8x128, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S8192x1024, .f32⟩
  | .hbm, ⟨26, _⟩ => ⟨S8192x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .f32⟩
  | .local _ .vmem, ⟨15, _⟩ => ⟨S2048x128, .f32⟩
  | _, _ => ⟨S4x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "scale2" => some (((3424635 / 33554432) * (Real.log 2)⁻¹ : ℝ) : EReal)
  | _ => none
-- ==== AttnRefIdeal.lean ====
abbrev S4x2048x8x96 : Shape := ⟨4, ![4, 2048, 8, 96]⟩
abbrev S4x2048x8x64 : Shape := ⟨4, ![4, 2048, 8, 64]⟩
abbrev S2048 : Shape := ⟨1, ![2048]⟩
abbrev S_ : Shape := ⟨0, ![]⟩
abbrev S4x8x2048x2048 : Shape := ⟨4, ![4, 8, 2048, 2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x8x2048x96 : Shape := ⟨4, ![4, 8, 2048, 96]⟩
abbrev S4x2048x8x128 : Shape := ⟨4, ![4, 2048, 8, 128]⟩
abbrev S8192x1024 : Shape := ⟨2, ![8192, 1024]⟩

abbrev nBuf : Space → Nat
  | .hbm => 121
  | .vmem => 0
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S4x2048x8x64, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S4x8x2048x2048, .f32⟩
  | .hbm, ⟨24, _⟩ => ⟨S_, .f32⟩
  | .hbm, ⟨25, _⟩ => ⟨S4x8x2048x2048, .f32⟩
  | .hbm, ⟨26, _⟩ => ⟨S4x8x2048x2048, .f32⟩
  | .hbm, ⟨27, _⟩ => ⟨S2048x1, .i32⟩
  | .hbm, ⟨28, _⟩ => ⟨S1x2048, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S1x1x2048x2048, .i1⟩
  | .hbm, ⟨33, _⟩ => ⟨S_, .f32⟩
  | .hbm, ⟨34, _⟩ => ⟨S_, .f32⟩
  | .hbm, ⟨35, _⟩ => ⟨S4x8x2048x2048, .i1⟩
  | .hbm, ⟨36, _⟩ => ⟨S4x8x2048x2048, .f32⟩
  | .hbm, ⟨37, _⟩ => ⟨S4x8x2048x2048, .f32⟩
  | .hbm, ⟨38, _⟩ => ⟨S_, .f32⟩
  | .hbm, ⟨39, _⟩ => ⟨S4x8x2048x2048, .f32⟩
  | .hbm, ⟨40, _⟩ => ⟨S_, .f32⟩
  | .hbm, ⟨41, _⟩ => ⟨S4x8x2048, .f32⟩
  | .hbm, ⟨42, _⟩ => ⟨S4x8x2048x1, .f32⟩
  | .hbm, ⟨43, _⟩ => ⟨S4x8x2048x2048, .f32⟩
  | .hbm, ⟨44, _⟩ => ⟨S4x8x2048x2048, .i1⟩
  | .hbm, ⟨45, _⟩ => ⟨S4x8x2048x2048, .f32⟩
  | .hbm, ⟨46, _⟩ => ⟨S_, .f32⟩
  | .hbm, ⟨47, _⟩ => ⟨S4x8x2048, .f32⟩
  | .hbm, ⟨48, _⟩ => ⟨S_, .f32⟩
  | .hbm, ⟨49, _⟩ => ⟨S4x8x2048, .f32⟩
  | .hbm, ⟨50, _⟩ => ⟨S4x8x2048, .f32⟩
  | .hbm, ⟨51, _⟩ => ⟨S_, .f32⟩
  | .hbm, ⟨52, _⟩ => ⟨S4x8x2048, .f32⟩
  | .hbm, ⟨53, _⟩ => ⟨S4x8x2048, .i1⟩
  | .hbm, ⟨54, _⟩ => ⟨S_, .f32⟩
  | .hbm, ⟨55, _⟩ => ⟨S4x8x2048, .f32⟩
  | .hbm, ⟨56, _⟩ => ⟨S4x8x2048, .i1⟩
  | .hbm, ⟨57, _⟩ => ⟨S_, .f32⟩
  | .hbm, ⟨58, _⟩ => ⟨S4x8x2048, .f32⟩
  | .hbm, ⟨59, _⟩ => ⟨S_, .f32⟩
  | .hbm, ⟨60, _⟩ => ⟨S4x8x2048, .f32⟩
  | .hbm, ⟨61, _⟩ => ⟨S_, .f32⟩
  | .hbm, ⟨62, _⟩ => ⟨S4x8x2048, .f32⟩
  | .hbm, ⟨63, _⟩ => ⟨S4x8x2048, .f32⟩
  | .hbm, ⟨64, _⟩ => ⟨S4x8x2048, .f32⟩
  | .hbm, ⟨65, _⟩ => ⟨S4x8x2048x1, .f32⟩
  | .hbm, ⟨66, _⟩ => ⟨S4x8x2048x2048, .f32⟩
  | .hbm, ⟨67, _⟩ => ⟨S4x8x2048x2048, .f32⟩
  | .hbm, ⟨68, _⟩ => ⟨S4x8x2048x2048, .f32⟩
  | .hbm, ⟨69, _⟩ => ⟨S_, .f32⟩
  | .hbm, ⟨70, _⟩ => ⟨S4x8x2048, .f32⟩
  | .hbm, ⟨71, _⟩ => ⟨S4x8x2048x1, .f32⟩
  | .hbm, ⟨72, _⟩ => ⟨S4x8x2048x2048, .f32⟩
  | .hbm, ⟨73, _⟩ => ⟨S4x8x2048x2048, .f32⟩
  | .hbm, ⟨74, _⟩ => ⟨S4x8x2048x1, .f32⟩
  | .hbm, ⟨75, _⟩ => ⟨S_, .f32⟩
  | .hbm, ⟨76, _⟩ => ⟨S4x8x2048x1, .f32⟩
  | .hbm, ⟨77, _⟩ => ⟨S4x8x2048x1, .f32⟩
  | .hbm, ⟨78, _⟩ => ⟨S4x8x64x2048, .f32⟩
  | .hbm, ⟨79, _⟩ => ⟨S4x2048x8x64, .f32⟩
  | .hbm, ⟨80, _⟩ => ⟨S4x8x64x2048, .f32⟩
  | .hbm, ⟨81, _⟩ => ⟨S4x8x2048x2048, .f32⟩
  | .hbm, ⟨82, _⟩ => ⟨S4x8x64x2048, .f32⟩
  | .hbm, ⟨83, _⟩ => ⟨S4x2048x8x64, .f32⟩
  | .hbm, ⟨84, _⟩ => ⟨S4x8x2048x2048, .f32⟩
  | .hbm, ⟨85, _⟩ => ⟨S4x8x2048x2048, .f32⟩
  | .hbm, ⟨86, _⟩ => ⟨S4x8x2048x2048, .f32⟩
  | .hbm, ⟨87, _⟩ => ⟨S_, .f32⟩
  | .hbm, ⟨88, _⟩ => ⟨S4x8x2048, .f32⟩
  | .hbm, ⟨89, _⟩ => ⟨S4x8x2048x1, .f32⟩
  | .hbm, ⟨90, _⟩ => ⟨S4x8x2048x1, .f32⟩
  | .hbm, ⟨91, _⟩ => ⟨S4x8x2048x2048, .f32⟩
  | .hbm, ⟨92, _⟩ => ⟨S4x8x2048x2048, .f32⟩
  | .hbm, ⟨93, _⟩ => ⟨S_, .f32⟩
  | .hbm, ⟨94, _⟩ => ⟨S4x8x2048, .f32⟩
  | .hbm, ⟨95, _⟩ => ⟨S4x8x2048x2048, .f32⟩
  | .hbm, ⟨96, _⟩ => ⟨S4x8x2048x2048, .f32⟩
  | .hbm, ⟨97, _⟩ => ⟨S4x8x2048x2048, .f32⟩
  | .hbm, ⟨98, _⟩ => ⟨S_, .f32⟩
  | .hbm, ⟨99, _⟩ => ⟨S4x8x2048x2048, .f32⟩
  | .hbm, ⟨100, _⟩ => ⟨S4x8x2048x2048, .f32⟩
  | .hbm, ⟨101, _⟩ => ⟨S_, .f32⟩
  | .hbm, ⟨102, _⟩ => ⟨S4x8x2048x2048, .f32⟩
  | .hbm, ⟨103, _⟩ => ⟨S4x8x2048x2048, .f32⟩
  | .hbm, ⟨104, _⟩ => ⟨S4x8x2048x96, .f32⟩
  | .hbm, ⟨105, _⟩ => ⟨S4x2048x8x96, .f32⟩
  | .hbm, ⟨106, _⟩ => ⟨S4x8x2048x96, .f32⟩
  | .hbm, ⟨107, _⟩ => ⟨S4x2048x8x96, .f32⟩
  | .hbm, ⟨108, _⟩ => ⟨S_, .i32⟩
  | .hbm, ⟨109, _⟩ => ⟨S_, .f32⟩
  | .hbm, ⟨110, _⟩ => ⟨S4x2048x8x128, .f32⟩
  | .hbm, ⟨111, _⟩ => ⟨S8192x1024, .f32⟩
  | .hbm, ⟨112, _⟩ => ⟨S_, .i32⟩
  | .hbm, ⟨113, _⟩ => ⟨S_, .f32⟩
  | .hbm, ⟨114, _⟩ => ⟨S4x2048x8x128, .f32⟩
  | .hbm, ⟨115, _⟩ => ⟨S8192x1024, .f32⟩
  | .hbm, ⟨116, _⟩ => ⟨S_, .i32⟩
  | .hbm, ⟨117, _⟩ => ⟨S_, .f32⟩
  | .hbm, ⟨118, _⟩ => ⟨S4x2048x8x128, .f32⟩
  | .hbm, ⟨119, _⟩ => ⟨S8192x1024, .f32⟩
  | .hbm, ⟨120, _⟩ => ⟨S8192x1024, .bf16⟩
  | _, _ => ⟨S4x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_call1_v0 : Ref sig .tc := ⟨.hbm, 34, rfl⟩
abbrev main_v11_1 : Ref sig .tc := ⟨.hbm, 35, rfl⟩
abbrev main_call1_v2 : Ref sig .tc := ⟨.hbm, 36, rfl⟩
abbrev main_v11_0 : Ref sig .tc := ⟨.hbm, 37, rfl⟩
abbrev main_call1_cst : Ref sig .tc := ⟨.hbm, 38, rfl⟩
abbrev main_v11_2 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_cst_8 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_call2_cst : Ref sig .tc := ⟨.hbm, 98, rfl⟩
abbrev main_call2_v0 : Ref sig .tc := ⟨.hbm, 99, rfl⟩
abbrev main_v58 : Ref sig .tc := ⟨.hbm, 100, rfl⟩
abbrev main_cst_13 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c_14 : Ref sig .tc := ⟨.hbm, 108, rfl⟩
abbrev main_call3_v0 : Ref sig .tc := ⟨.hbm, 109, rfl⟩
abbrev main_v65 : Ref sig .tc := ⟨.hbm, 110, rfl⟩
abbrev main_v66 : Ref sig .tc := ⟨.hbm, 111, rfl⟩
abbrev main_c_15 : Ref sig .tc := ⟨.hbm, 112, rfl⟩
abbrev main_call4_v0 : Ref sig .tc := ⟨.hbm, 113, rfl⟩
abbrev main_v67 : Ref sig .tc := ⟨.hbm, 114, rfl⟩
abbrev main_v68 : Ref sig .tc := ⟨.hbm, 115, rfl⟩
abbrev main_c_16 : Ref sig .tc := ⟨.hbm, 116, rfl⟩
abbrev main_call5_v0 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩

abbrev nD : Nat := 1
abbrev τ : Topo := Topo.v7x

variable {F : FTy → Type} [FloatOps F]
-- ==== AttnFwd.lean ====
abbrev S4x2048x8x96 : Shape := ⟨4, ![4, 2048, 8, 96]⟩
abbrev S4x2048x8x64 : Shape := ⟨4, ![4, 2048, 8, 64]⟩
abbrev S_ : Shape := ⟨0, ![]⟩
abbrev S4x2048x8x128 : Shape := ⟨4, ![4, 2048, 8, 128]⟩
abbrev S8192x1024 : Shape := ⟨2, ![8192, 1024]⟩
abbrev S2048x128 : Shape := ⟨2, ![2048, 128]⟩
abbrev S256x1 : Shape := ⟨2, ![256, 1]⟩
abbrev S1x256 : Shape := ⟨2, ![1, 256]⟩
abbrev S256x256 : Shape := ⟨2, ![256, 256]⟩
abbrev S256x128 : Shape := ⟨2, ![256, 128]⟩
abbrev S512x128 : Shape := ⟨2, ![512, 128]⟩
abbrev S256x512 : Shape := ⟨2, ![256, 512]⟩
abbrev S256 : Shape := ⟨1, ![256]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩

abbrev nBuf : Space → Nat
  | .hbm => 19
  | .vmem => 8
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S_, .i32⟩
  | .hbm, ⟨4, _⟩ => ⟨S_, .f32⟩
  | .hbm, ⟨5, _⟩ => ⟨S4x2048x8x128, .f32⟩
  | .hbm, ⟨6, _⟩ => ⟨S8192x1024, .f32⟩
  | .hbm, ⟨7, _⟩ => ⟨S8192x1024, .bf16⟩
  | .hbm, ⟨8, _⟩ => ⟨S_, .i32⟩
  | .hbm, ⟨9, _⟩ => ⟨S_, .f32⟩
  | .hbm, ⟨10, _⟩ => ⟨S4x2048x8x128, .f32⟩
  | .hbm, ⟨11, _⟩ => ⟨S8192x1024, .f32⟩
  | .hbm, ⟨12, _⟩ => ⟨S8192x1024, .bf16⟩
  | .hbm, ⟨13, _⟩ => ⟨S_, .i32⟩
  | .hbm, ⟨14, _⟩ => ⟨S_, .f32⟩
  | .hbm, ⟨15, _⟩ => ⟨S4x2048x8x128, .f32⟩
  | .hbm, ⟨16, _⟩ => ⟨S8192x1024, .f32⟩
  | .hbm, ⟨17, _⟩ => ⟨S8192x1024, .bf16⟩
  | .hbm, ⟨18, _⟩ => ⟨S8192x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | _, _ => ⟨S4x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnFwdIdeal.lean ====
variable {F : FTy → Type} [FloatOps F] [Named F]
def κ : String → Option EReal := fun
  | "scale2" => some (((3424635 / 33554432) * (Real.log 2)⁻¹ : ℝ) : EReal)
  | _ => none
-- ==== AttnFwdRefIdeal.lean ====
abbrev S4x2048x8x96 : Shape := ⟨4, ![4, 2048, 8, 96]⟩
abbrev S4x2048x8x64 : Shape := ⟨4, ![4, 2048, 8, 64]⟩
abbrev S2048 : Shape := ⟨1, ![2048]⟩
abbrev S_ : Shape := ⟨0, ![]⟩
abbrev S4x8x2048x2048 : Shape := ⟨4, ![4, 8, 2048, 2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8x128 : Shape := ⟨4, ![4, 2048, 8, 128]⟩
abbrev S8192x1024 : Shape := ⟨2, ![8192, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S2048, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S4x8x2048x2048, .f32⟩
  | .hbm, ⟨23, _⟩ => ⟨S_, .f32⟩
  | .hbm, ⟨24, _⟩ => ⟨S4x8x2048x2048, .f32⟩
  | .hbm, ⟨25, _⟩ => ⟨S4x8x2048x2048, .f32⟩
  | .hbm, ⟨26, _⟩ => ⟨S2048x1, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S1x1x2048x2048, .i1⟩
  | .hbm, ⟨32, _⟩ => ⟨S_, .f32⟩
  | .hbm, ⟨33, _⟩ => ⟨S_, .f32⟩
  | .hbm, ⟨34, _⟩ => ⟨S4x8x2048x2048, .i1⟩
  | .hbm, ⟨35, _⟩ => ⟨S4x8x2048x2048, .f32⟩
  | .hbm, ⟨36, _⟩ => ⟨S4x8x2048x2048, .f32⟩
  | .hbm, ⟨37, _⟩ => ⟨S_, .f32⟩
  | .hbm, ⟨38, _⟩ => ⟨S4x8x2048, .f32⟩
  | .hbm, ⟨39, _⟩ => ⟨S_, .f32⟩
  | .hbm, ⟨40, _⟩ => ⟨S4x8x2048, .f32⟩
  | .hbm, ⟨41, _⟩ => ⟨S4x8x2048, .f32⟩
  | .hbm, ⟨42, _⟩ => ⟨S4x8x2048x1, .f32⟩
  | .hbm, ⟨43, _⟩ => ⟨S4x8x2048x2048, .f32⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S4x8x2048, .f32⟩
  | .hbm, ⟨48, _⟩ => ⟨S4x8x2048x1, .f32⟩
  | .hbm, ⟨49, _⟩ => ⟨S4x8x2048x2048, .f32⟩
  | .hbm, ⟨50, _⟩ => ⟨S4x8x2048x2048, .f32⟩
  | .hbm, ⟨51, _⟩ => ⟨S4x8x64x2048, .f32⟩
  | .hbm, ⟨52, _⟩ => ⟨S4x2048x8x64, .f32⟩
  | .hbm, ⟨53, _⟩ => ⟨S_, .i32⟩
  | .hbm, ⟨54, _⟩ => ⟨S_, .f32⟩
  | .hbm, ⟨55, _⟩ => ⟨S4x2048x8x128, .f32⟩
  | .hbm, ⟨56, _⟩ => ⟨S8192x1024, .f32⟩
  | .hbm, ⟨57, _⟩ => ⟨S8192x1024, .bf16⟩
  | _, _ => ⟨S4x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_call2_v0 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== In.lean ====
abbrev S4x2048x1024 : Shape := ⟨3, ![4, 2048, 1024]⟩
abbrev S4x6144 : Shape := ⟨2, ![4, 6144]⟩
abbrev S1x1024 : Shape := ⟨2, ![1, 1024]⟩
abbrev S1x1024x3488 : Shape := ⟨3, ![1, 1024, 3488]⟩
abbrev S4x2048x3488 : Shape := ⟨3, ![4, 2048, 3488]⟩
abbrev S1024x3488 : Shape := ⟨2, ![1024, 3488]⟩
abbrev S1024x4x872 : Shape := ⟨3, ![1024, 4, 872]⟩
abbrev S4x1024x872 : Shape := ⟨3, ![4, 1024, 872]⟩
abbrev S1x1024x304 : Shape := ⟨3, ![1, 1024, 304]⟩
abbrev S1024x304 : Shape := ⟨2, ![1024, 304]⟩
abbrev S1x1024x872 : Shape := ⟨3, ![1, 1024, 872]⟩
abbrev S1024x872 : Shape := ⟨2, ![1024, 872]⟩
abbrev S1x1024x456 : Shape := ⟨3, ![1, 1024, 456]⟩
abbrev S1024x456 : Shape := ⟨2, ![1024, 456]⟩
abbrev S1x1024x568 : Shape := ⟨3, ![1, 1024, 568]⟩
abbrev S1024x568 : Shape := ⟨2, ![1024, 568]⟩
abbrev S1x1024x384 : Shape := ⟨3, ![1, 1024, 384]⟩
abbrev S1024x384 : Shape := ⟨2, ![1024, 384]⟩
abbrev S_ : Shape := ⟨0, ![]⟩
abbrev S1024x64 : Shape := ⟨2, ![1024, 64]⟩
abbrev S1x1024x32 : Shape := ⟨3, ![1, 1024, 32]⟩
abbrev S1024x32 : Shape := ⟨2, ![1024, 32]⟩
abbrev S1024x3584 : Shape := ⟨2, ![1024, 3584]⟩
abbrev S4x2048x2048 : Shape := ⟨3, ![4, 2048, 2048]⟩
abbrev S4x2048x384 : Shape := ⟨3, ![4, 2048, 384]⟩
abbrev S4x2048x64 : Shape := ⟨3, ![4, 2048, 64]⟩
abbrev S4x2048x32 : Shape := ⟨3, ![4, 2048, 32]⟩
abbrev S4x2048x3584 : Shape := ⟨3, ![4, 2048, 3584]⟩
abbrev S8192x3584 : Shape := ⟨2, ![8192, 3584]⟩
abbrev S8192x1024 : Shape := ⟨2, ![8192, 1024]⟩
abbrev S4x6x1024 : Shape := ⟨3, ![4, 6, 1024]⟩
abbrev S4x1x1024 : Shape := ⟨3, ![4, 1, 1024]⟩
abbrev S512x3584 : Shape := ⟨2, ![512, 3584]⟩
abbrev S512x1024 : Shape := ⟨2, ![512, 1024]⟩
abbrev S1x6x1024 : Shape := ⟨3, ![1, 6, 1024]⟩
abbrev S1x1x1024 : Shape := ⟨3, ![1, 1, 1024]⟩
abbrev S256x3584 : Shape := ⟨2, ![256, 3584]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 47
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S1x1024x3488, .f32⟩
  | .hbm, ⟨4, _⟩ => ⟨S4x2048x3488, .f32⟩
  | .hbm, ⟨5, _⟩ => ⟨S4x2048x1024, .f32⟩
  | .hbm, ⟨6, _⟩ => ⟨S1024x3488, .f32⟩
  | .hbm, ⟨7, _⟩ => ⟨S1024x3488, .bf16⟩
  | .hbm, ⟨8, _⟩ => ⟨S1024x4x872, .bf16⟩
  | .hbm, ⟨9, _⟩ => ⟨S4x1024x872, .bf16⟩
  | .hbm, ⟨10, _⟩ => ⟨S1x1024x304, .bf16⟩
  | .hbm, ⟨11, _⟩ => ⟨S1024x304, .bf16⟩
  | .hbm, ⟨12, _⟩ => ⟨S1x1024x872, .bf16⟩
  | .hbm, ⟨13, _⟩ => ⟨S1024x872, .bf16⟩
  | .hbm, ⟨14, _⟩ => ⟨S1x1024x872, .bf16⟩
  | .hbm, ⟨15, _⟩ => ⟨S1024x872, .bf16⟩
  | .hbm, ⟨16, _⟩ => ⟨S1x1024x456, .bf16⟩
  | .hbm, ⟨17, _⟩ => ⟨S1024x456, .bf16⟩
  | .hbm, ⟨18, _⟩ => ⟨S1x1024x568, .bf16⟩
  | .hbm, ⟨19, _⟩ => ⟨S1024x568, .bf16⟩
  | .hbm, ⟨20, _⟩ => ⟨S1x1024x384, .bf16⟩
  | .hbm, ⟨21, _⟩ => ⟨S1024x384, .bf16⟩
  | .hbm, ⟨22, _⟩ => ⟨S_, .bf16⟩
  | .hbm, ⟨23, _⟩ => ⟨S1024x64, .bf16⟩
  | .hbm, ⟨24, _⟩ => ⟨S1x1024x32, .bf16⟩
  | .hbm, ⟨25, _⟩ => ⟨S1024x32, .bf16⟩
  | .hbm, ⟨26, _⟩ => ⟨S_, .bf16⟩
  | .hbm, ⟨27, _⟩ => ⟨S1024x32, .bf16⟩
  | .hbm, ⟨28, _⟩ => ⟨S1024x3584, .bf16⟩
  | .hbm, ⟨29, _⟩ => ⟨S4x2048x2048, .f32⟩
  | .hbm, ⟨30, _⟩ => ⟨S4x2048x1024, .f32⟩
  | .hbm, ⟨31, _⟩ => ⟨S4x2048x384, .f32⟩
  | .hbm, ⟨32, _⟩ => ⟨S_, .f32⟩
  | .hbm, ⟨33, _⟩ => ⟨S4x2048x64, .f32⟩
  | .hbm, ⟨34, _⟩ => ⟨S4x2048x32, .f32⟩
  | .hbm, ⟨35, _⟩ => ⟨S_, .f32⟩
  | .hbm, ⟨36, _⟩ => ⟨S4x2048x32, .f32⟩
  | .hbm, ⟨37, _⟩ => ⟨S4x2048x3584, .f32⟩
  | .hbm, ⟨38, _⟩ => ⟨S8192x3584, .f32⟩
  | .hbm, ⟨39, _⟩ => ⟨S8192x3584, .bf16⟩
  | .hbm, ⟨40, _⟩ => ⟨S8192x1024, .f32⟩
  | .hbm, ⟨41, _⟩ => ⟨S8192x1024, .f32⟩
  | .hbm, ⟨42, _⟩ => ⟨S4x6x1024, .f32⟩
  | .hbm, ⟨43, _⟩ => ⟨S8192x1024, .f32⟩
  | .hbm, ⟨44, _⟩ => ⟨S4x1x1024, .f32⟩
  | .hbm, ⟨45, _⟩ => ⟨S4x1x1024, .f32⟩
  | .hbm, ⟨46, _⟩ => ⟨S1x1024, .f32⟩
  | .local _ .vmem, ⟨0, _⟩ => ⟨S512x3584, .bf16⟩
  | .local _ .vmem, ⟨1, _⟩ => ⟨S512x3584, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x6x1024, .f32⟩
  | .local _ .vmem, ⟨8, _⟩ => ⟨S1x6x1024, .f32⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | .local _ .vmem, ⟨16, _⟩ => ⟨S1024x3584, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33_0 : Ref sig .tc := ⟨.hbm, 43, rfl⟩
abbrev main_v33_1 : Ref sig .tc := ⟨.hbm, 44, rfl⟩
abbrev main_v33_2 : Ref sig .tc := ⟨.hbm, 45, rfl⟩
abbrev main_v33_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v118 : BitVec 32 := Scalar.extui v13
  let c0_i32_47 : BitVec 32 := 0#32
  let v119 : BitVec 1 := Scalar.cmpi .ne v118 c0_i32_47
  v119

def k0_cond3 (i : grid0.Coords) : BitVec 1 :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v_true : BitVec 1 := 1#1
  let v120 : BitVec 1 := Scalar.xori v13 v_true
  let v121 : BitVec 32 := Scalar.extui v120
  let c0_i32_48 : BitVec 32 := 0#32
  let v122 : BitVec 1 := Scalar.cmpi .ne v121 c0_i32_48
  v122

def k0_cond4 (i : grid0.Coords) : BitVec 1 :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v123 : BitVec 32 := Scalar.extui v13
  let c0_i32_49 : BitVec 32 := 0#32
  let v124 : BitVec 1 := Scalar.cmpi .ne v123 c0_i32_49
  v124

def k0_cond5 (i : grid0.Coords) : BitVec 1 :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let true_50 : BitVec 1 := 1#1
  let v125 : BitVec 1 := Scalar.xori v13 true_50
  let v126 : BitVec 32 := Scalar.extui v125
  let c0_i32_51 : BitVec 32 := 0#32
  let v127 : BitVec 1 := Scalar.cmpi .ne v126 c0_i32_51
  v127

def k0_cond6 (i : grid0.Coords) : BitVec 1 :=
  let arg0 : BitVec 32 := BitVec.ofNat 32 (i 0).val
  let c0_i32_52 : BitVec 32 := 0#32
  let v128 : BitVec 1 := Scalar.cmpi .eq arg0 c0_i32_52
  let v129 : BitVec 32 := Scalar.extui v128
  let c0_i32_53 : BitVec 32 := 0#32
  let v130 : BitVec 1 := Scalar.cmpi .ne v129 c0_i32_53
  v130

def k0_cond7 (i : grid0.Coords) : BitVec 1 :=
  let arg0 : BitVec 32 := BitVec.ofNat 32 (i 0).val
  let c0_i32_52 : BitVec 32 := 0#32
  let v128 : BitVec 1 := Scalar.cmpi .eq arg0 c0_i32_52
  let true_54 : BitVec 1 := 1#1
  let v131 : BitVec 1 := Scalar.xori v128 true_54
  let v132 : BitVec 32 := Scalar.extui v131
  let c0_i32_55 : BitVec 32 := 0#32
  let v133 : BitVec 1 := Scalar.cmpi .ne v132 c0_i32_55
  v133

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InRefIdeal.lean ====
abbrev S4x2048x1024 : Shape := ⟨3, ![4, 2048, 1024]⟩
abbrev S4x6144 : Shape := ⟨2, ![4, 6144]⟩
abbrev S1x1024 : Shape := ⟨2, ![1, 1024]⟩
abbrev S1x1024x3488 : Shape := ⟨3, ![1, 1024, 3488]⟩
abbrev S4x2048x3488 : Shape := ⟨3, ![4, 2048, 3488]⟩
abbrev S4x1x6144 : Shape := ⟨3, ![4, 1, 6144]⟩
abbrev S4x1x1024 : Shape := ⟨3, ![4, 1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x3488 : Shape := ⟨2, ![1024, 3488]⟩
abbrev S4x1024 : Shape := ⟨2, ![4, 1024]⟩
abbrev S8192x1024 : Shape := ⟨2, ![8192, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S1x1024x3488, .f32⟩
  | .hbm, ⟨4, _⟩ => ⟨S4x2048x3488, .f32⟩
  | .hbm, ⟨5, _⟩ => ⟨S4x2048x1024, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x1x1024, .f32⟩
  | .hbm, ⟨39, _⟩ => ⟨S4x1x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S1024x3488, .f32⟩
  | .hbm, ⟨45, _⟩ => ⟨S4x2048x3488, .f32⟩
  | .hbm, ⟨46, _⟩ => ⟨S4x2048x1024, .f32⟩
  | .hbm, ⟨47, _⟩ => ⟨S_, .f32⟩
  | .hbm, ⟨48, _⟩ => ⟨S4x1024, .f32⟩
  | .hbm, ⟨49, _⟩ => ⟨S4x1x1024, .f32⟩
  | .hbm, ⟨50, _⟩ => ⟨S4x2048x1024, .f32⟩
  | .hbm, ⟨51, _⟩ => ⟨S_, .f32⟩
  | .hbm, ⟨52, _⟩ => ⟨S4x1024, .f32⟩
  | .hbm, ⟨53, _⟩ => ⟨S4x1x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S1024, .f32⟩
  | .hbm, ⟨64, _⟩ => ⟨S4x2048x1024, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S4x2048x1, .f32⟩
  | .hbm, ⟨72, _⟩ => ⟨S_, .f32⟩
  | .hbm, ⟨73, _⟩ => ⟨S4x2048x1, .f32⟩
  | .hbm, ⟨74, _⟩ => ⟨S4x2048x1, .f32⟩
  | .hbm, ⟨75, _⟩ => ⟨S_, .f32⟩
  | .hbm, ⟨76, _⟩ => ⟨S4x2048, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S1x1024, .f32⟩
  | .hbm, ⟨81, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Loss.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8192x1024 : Shape := ⟨2, ![8192, 1024]⟩
abbrev S4x6x1024 : Shape := ⟨3, ![4, 6, 1024]⟩
abbrev S4096x1024 : Shape := ⟨2, ![4096, 1024]⟩
abbrev S8192x4096 : Shape := ⟨2, ![8192, 4096]⟩
abbrev S4x1x1024 : Shape := ⟨3, ![4, 1, 1024]⟩
abbrev S8x128 : Shape := ⟨2, ![8, 128]⟩
abbrev S256x1024 : Shape := ⟨2, ![256, 1024]⟩
abbrev S1x6x1024 : Shape := ⟨3, ![1, 6, 1024]⟩
abbrev S256x4096 : Shape := ⟨2, ![256, 4096]⟩
abbrev S1x1x1024 : Shape := ⟨3, ![1, 1, 1024]⟩
abbrev S_ : Shape := ⟨0, ![]⟩
abbrev S1024x1024 : Shape := ⟨2, ![1024, 1024]⟩
abbrev S1x1024x1024 : Shape := ⟨3, ![1, 1024, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 22
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x6144, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S1024x4096, .f32⟩
  | .hbm, ⟨7, _⟩ => ⟨S1024x4096, .bf16⟩
  | .hbm, ⟨8, _⟩ => ⟨S1024x4x1024, .bf16⟩
  | .hbm, ⟨9, _⟩ => ⟨S4x1024x1024, .bf16⟩
  | .hbm, ⟨10, _⟩ => ⟨S8192x1024, .f32⟩
  | .hbm, ⟨11, _⟩ => ⟨S8192x1024, .f32⟩
  | .hbm, ⟨12, _⟩ => ⟨S4x6x1024, .f32⟩
  | .hbm, ⟨13, _⟩ => ⟨S4096x1024, .f32⟩
  | .hbm, ⟨14, _⟩ => ⟨S4096x1024, .bf16⟩
  | .hbm, ⟨15, _⟩ => ⟨S8192x1024, .bf16⟩
  | .hbm, ⟨16, _⟩ => ⟨S8192x4096, .f32⟩
  | .hbm, ⟨17, _⟩ => ⟨S8192x4096, .bf16⟩
  | .hbm, ⟨18, _⟩ => ⟨S8192x1024, .f32⟩
  | .hbm, ⟨19, _⟩ => ⟨S8192x1024, .bf16⟩
  | .hbm, ⟨20, _⟩ => ⟨S4x1x1024, .f32⟩
  | .hbm, ⟨21, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x6x1024, .f32⟩
  | .local _ .vmem, ⟨6, _⟩ => ⟨S1x6x1024, .f32⟩
  | .local _ .vmem, ⟨7, _⟩ => ⟨S256x1024, .bf16⟩
  | .local _ .vmem, ⟨8, _⟩ => ⟨S256x1024, .bf16⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1x1024, .f32⟩
  | .local _ .vmem, ⟨18, _⟩ => ⟨S1x1x1024, .f32⟩
  | .local _ .vmem, ⟨19, _⟩ => ⟨S8x128, .f32⟩
  | .local _ .vmem, ⟨20, _⟩ => ⟨S1024x4096, .bf16⟩
  | .local _ .vmem, ⟨21, _⟩ => ⟨S4096x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev main_v9_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![32], ![false]⟩

def k0_cond4 (i : grid0.Coords) : BitVec 1 :=
  let arg0 : BitVec 32 := BitVec.ofNat 32 (i 0).val
  let c8_i32 : BitVec 32 := 8#32
  let c0_i32_42 : BitVec 32 := 0#32
  let v75 : BitVec 1 := Scalar.cmpi .eq c8_i32 c0_i32_42
  let c1_i32_43 : BitVec 32 := 1#32
  let v76 : BitVec 32 := Scalar.select v75 c1_i32_43 c8_i32
  let v77 : BitVec 32 := Scalar.remsi arg0 v76
  let c0_i32_45 : BitVec 32 := 0#32
  let v79 : BitVec 1 := Scalar.cmpi .slt v77 c0_i32_45
  let c0_i32_46 : BitVec 32 := 0#32
  let v80 : BitVec 1 := Scalar.cmpi .slt v76 c0_i32_46
  let v81 : BitVec 1 := Scalar.xori v79 v80
  let c0_i32_44 : BitVec 32 := 0#32
  let v78 : BitVec 1 := Scalar.cmpi .ne v77 c0_i32_44
  let v82 : BitVec 1 := Scalar.andi v81 v78
  let v83 : BitVec 32 := Scalar.addi v77 v76
  let v84 : BitVec 32 := Scalar.select v82 v83 v77
  let c0_i32_47 : BitVec 32 := 0#32
  let v85 : BitVec 1 := Scalar.cmpi .eq v84 c0_i32_47
  let v86 : BitVec 32 := Scalar.extui v85
  let c0_i32_48 : BitVec 32 := 0#32
  let v87 : BitVec 1 := Scalar.cmpi .ne v86 c0_i32_48
  v87

def k0_cond5 (i : grid0.Coords) : BitVec 1 :=
  let arg0 : BitVec 32 := BitVec.ofNat 32 (i 0).val
  let c8_i32 : BitVec 32 := 8#32
  let c0_i32_42 : BitVec 32 := 0#32
  let v75 : BitVec 1 := Scalar.cmpi .eq c8_i32 c0_i32_42
  let c1_i32_43 : BitVec 32 := 1#32
  let v76 : BitVec 32 := Scalar.select v75 c1_i32_43 c8_i32
  let v77 : BitVec 32 := Scalar.remsi arg0 v76
  let c0_i32_45 : BitVec 32 := 0#32
  let v79 : BitVec 1 := Scalar.cmpi .slt v77 c0_i32_45
  let c0_i32_46 : BitVec 32 := 0#32
  let v80 : BitVec 1 := Scalar.cmpi .slt v76 c0_i32_46
  let v81 : BitVec 1 := Scalar.xori v79 v80
  let c0_i32_44 : BitVec 32 := 0#32
  let v78 : BitVec 1 := Scalar.cmpi .ne v77 c0_i32_44
  let v82 : BitVec 1 := Scalar.andi v81 v78
  let v83 : BitVec 32 := Scalar.addi v77 v76
  let v84 : BitVec 32 := Scalar.select v82 v83 v77
  let c0_i32_47 : BitVec 32 := 0#32
  let v85 : BitVec 1 := Scalar.cmpi .eq v84 c0_i32_47
  let true_49 : BitVec 1 := 1#1
  let v88 : BitVec 1 := Scalar.xori v85 true_49
  let v89 : BitVec 32 := Scalar.extui v88
  let c0_i32_50 : BitVec 32 := 0#32
  let v90 : BitVec 1 := Scalar.cmpi .ne v89 c0_i32_50
  v90

def k0_cond2 (i : grid0.Coords) : BitVec 1 :=
  let arg0 : BitVec 32 := BitVec.ofNat 32 (i 0).val
  let c0_i32_33 : BitVec 32 := 0#32
  let v59 : BitVec 1 := Scalar.cmpi .eq arg0 c0_i32_33
  let v60 : BitVec 32 := Scalar.extui v59
  let c0_i32_34 : BitVec 32 := 0#32
  let v61 : BitVec 1 := Scalar.cmpi .ne v60 c0_i32_34
  v61

def k0_cond3 (i : grid0.Coords) : BitVec 1 :=
  let arg0 : BitVec 32 := BitVec.ofNat 32 (i 0).val
  let c0_i32_33 : BitVec 32 := 0#32
  let v59 : BitVec 1 := Scalar.cmpi .eq arg0 c0_i32_33
  let v_true : BitVec 1 := 1#1
  let v62 : BitVec 1 := Scalar.xori v59 v_true
  let v63 : BitVec 32 := Scalar.extui v62
  let c0_i32_35 : BitVec 32 := 0#32
  let v64 : BitVec 1 := Scalar.cmpi .ne v63 c0_i32_35
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossRefIdeal.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S4x1x6144 : Shape := ⟨3, ![4, 1, 6144]⟩
abbrev S4x1x1024 : Shape := ⟨3, ![4, 1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x4096 : Shape := ⟨2, ![1024, 4096]⟩
abbrev S4x2048x4096 : Shape := ⟨3, ![4, 2048, 4096]⟩
abbrev S4096x1024 : Shape := ⟨2, ![4096, 1024]⟩
abbrev S4x1024 : Shape := ⟨2, ![4, 1024]⟩
abbrev S8192x1024 : Shape := ⟨2, ![8192, 1024]⟩
abbrev S8192x4096 : Shape := ⟨2, ![8192, 4096]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x6144, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S1024, .f32⟩
  | .hbm, ⟨14, _⟩ => ⟨S4x2048x1024, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S1024x4096, .f32⟩
  | .hbm, ⟨38, _⟩ => ⟨S4x2048x4096, .f32⟩
  | .hbm, ⟨39, _⟩ => ⟨S_, .f32⟩
  | .hbm, ⟨40, _⟩ => ⟨S4x2048x4096, .f32⟩
  | .hbm, ⟨41, _⟩ => ⟨S4x2048x4096, .f32⟩
  | .hbm, ⟨42, _⟩ => ⟨S4x2048x4096, .f32⟩
  | .hbm, ⟨43, _⟩ => ⟨S4096x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S4x2048, .f32⟩
  | .hbm, ⟨55, _⟩ => ⟨S_, .f32⟩
  | .hbm, ⟨56, _⟩ => ⟨S4x2048, .f32⟩
  | .hbm, ⟨57, _⟩ => ⟨S4x2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4x2048, .f32⟩
  | .hbm, ⟨66, _⟩ => ⟨S_, .f32⟩
  | .hbm, ⟨67, _⟩ => ⟨S4x2048, .f32⟩
  | .hbm, ⟨68, _⟩ => ⟨S4x2048, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S_, .f32⟩
  | .hbm, ⟨75, _⟩ => ⟨S4x1024, .f32⟩
  | .hbm, ⟨76, _⟩ => ⟨S4x1x1024, .f32⟩
  | .hbm, ⟨77, _⟩ => ⟨S8192x1024, .f32⟩
  | .hbm, ⟨78, _⟩ => ⟨S8192x1024, .bf16⟩
  | .hbm, ⟨79, _⟩ => ⟨S8192x4096, .f32⟩
  | .hbm, ⟨80, _⟩ => ⟨S8192x4096, .f32⟩
  | .hbm, ⟨81, _⟩ => ⟨S8192x4096, .bf16⟩
  | .hbm, ⟨82, _⟩ => ⟨S8192x1024, .f32⟩
  | .hbm, ⟨83, _⟩ => ⟨S8192x1024, .f32⟩
  | .hbm, ⟨84, _⟩ => ⟨S8192x1024, .bf16⟩
  | .hbm, ⟨85, _⟩ => ⟨S8x128, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Ffn.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S4x1x6144 : Shape := ⟨3, ![4, 1, 6144]⟩
abbrev S4x1x1024 : Shape := ⟨3, ![4, 1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S8192x1024 : Shape := ⟨2, ![8192, 1024]⟩
abbrev S8192x4096 : Shape := ⟨2, ![8192, 4096]⟩
abbrev S4x6x1024 : Shape := ⟨3, ![4, 6, 1024]⟩
abbrev S256x1024 : Shape := ⟨2, ![256, 1024]⟩
abbrev S256x4096 : Shape := ⟨2, ![256, 4096]⟩
abbrev S1x6x1024 : Shape := ⟨3, ![1, 6, 1024]⟩
abbrev S1024x1024 : Shape := ⟨2, ![1024, 1024]⟩
abbrev S1x1024x1024 : Shape := ⟨3, ![1, 1024, 1024]⟩
abbrev S256 : Shape := ⟨1, ![256]⟩
abbrev S256x1 : Shape := ⟨2, ![256, 1]⟩

abbrev nBuf : Space → Nat
  | .hbm => 65
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x6144, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S4x2048x1024, .f32⟩
  | .hbm, ⟨7, _⟩ => ⟨S1024x4096, .f32⟩
  | .hbm, ⟨8, _⟩ => ⟨S1024x4096, .bf16⟩
  | .hbm, ⟨9, _⟩ => ⟨S1024x4x1024, .bf16⟩
  | .hbm, ⟨10, _⟩ => ⟨S4x1024x1024, .bf16⟩
  | .hbm, ⟨11, _⟩ => ⟨S4096x1024, .f32⟩
  | .hbm, ⟨12, _⟩ => ⟨S4096x1024, .bf16⟩
  | .hbm, ⟨13, _⟩ => ⟨S4x1x6144, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S1024, .f32⟩
  | .hbm, ⟨24, _⟩ => ⟨S4x2048x1024, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x1, .f32⟩
  | .hbm, ⟨35, _⟩ => ⟨S4x2048x1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x1x1024, .f32⟩
  | .hbm, ⟨42, _⟩ => ⟨S4x1x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S1024x4096, .f32⟩
  | .hbm, ⟨48, _⟩ => ⟨S4x2048x4096, .f32⟩
  | .hbm, ⟨49, _⟩ => ⟨S4x2048x1024, .f32⟩
  | .hbm, ⟨50, _⟩ => ⟨S4x2048x1024, .f32⟩
  | .hbm, ⟨51, _⟩ => ⟨S8192x1024, .f32⟩
  | .hbm, ⟨52, _⟩ => ⟨S8192x1024, .bf16⟩
  | .hbm, ⟨53, _⟩ => ⟨S8192x4096, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S4x6x1024, .f32⟩
  | .hbm, ⟨58, _⟩ => ⟨S8192x4096, .bf16⟩
  | .hbm, ⟨59, _⟩ => ⟨S8192x1024, .f32⟩
  | .hbm, ⟨60, _⟩ => ⟨S8192x1024, .bf16⟩
  | .hbm, ⟨61, _⟩ => ⟨S4x1x1024, .f32⟩
  | .hbm, ⟨62, _⟩ => ⟨S4x1x1024, .f32⟩
  | .hbm, ⟨63, _⟩ => ⟨S4x1x1024, .f32⟩
  | .hbm, ⟨64, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x4096, .f32⟩
  | .local _ .vmem, ⟨3, _⟩ => ⟨S256x4096, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x6x1024, .f32⟩
  | .local _ .vmem, ⟨12, _⟩ => ⟨S1x6x1024, .f32⟩
  | .local _ .vmem, ⟨13, _⟩ => ⟨S256x4096, .bf16⟩
  | .local _ .vmem, ⟨14, _⟩ => ⟨S256x4096, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1024, .f32⟩
  | .local _ .vmem, ⟨26, _⟩ => ⟨S4096x1024, .bf16⟩
  | .local _ .vmem, ⟨27, _⟩ => ⟨S1024x4096, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47_0 : Ref sig .tc := ⟨.hbm, 58, rfl⟩
abbrev main_v47_1 : Ref sig .tc := ⟨.hbm, 59, rfl⟩
abbrev main_v47_2 : Ref sig .tc := ⟨.hbm, 60, rfl⟩
abbrev main_v47_3 : Ref sig .tc := ⟨.hbm, 61, rfl⟩
abbrev main_v47_4 : Ref sig .tc := ⟨.hbm, 62, rfl⟩
abbrev main_v47_5 : Ref sig .tc := ⟨.hbm, 63, rfl⟩
abbrev main_v47_6 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c8_i32 : BitVec 32 := 8#32
  let c0_i32_2 : BitVec 32 := 0#32
  let v3 : BitVec 1 := Scalar.cmpi .eq c8_i32 c0_i32_2
  let c1_i32_3 : BitVec 32 := 1#32
  let v4 : BitVec 32 := Scalar.select v3 c1_i32_3 c8_i32
  let v5 : BitVec 32 := Scalar.remsi arg0 v4
  let c0_i32_5 : BitVec 32 := 0#32
  let v7 : BitVec 1 := Scalar.cmpi .slt v5 c0_i32_5
  let c0_i32_6 : BitVec 32 := 0#32
  let v8 : BitVec 1 := Scalar.cmpi .slt v4 c0_i32_6
  let v9 : BitVec 1 := Scalar.xori v7 v8
  let c0_i32_4 : BitVec 32 := 0#32
  let v6 : BitVec 1 := Scalar.cmpi .ne v5 c0_i32_4
  let v10 : BitVec 1 := Scalar.andi v9 v6
  let v11 : BitVec 32 := Scalar.addi v5 v4
  let v12 : BitVec 32 := Scalar.select v10 v11 v5
  let c0_i32_7 : BitVec 32 := 0#32
  let v13 : BitVec 1 := Scalar.cmpi .eq v12 c0_i32_7
  let v48 : BitVec 32 := Scalar.extui v13
  let c0_i32_31 : BitVec 32 := 0#32
  let v49 : BitVec 1 := Scalar.cmpi .ne v48 c0_i32_31
  v49

def k0_cond3 (i : grid0.Coords) : BitVec 1 :=
  let arg0 : BitVec 32 := BitVec.ofNat 32 (i 0).val
  let c8_i32 : BitVec 32 := 8#32
  let c0_i32_2 : BitVec 32 := 0#32
  let v3 : BitVec 1 := Scalar.cmpi .eq c8_i32 c0_i32_2
  let c1_i32_3 : BitVec 32 := 1#32
  let v4 : BitVec 32 := Scalar.select v3 c1_i32_3 c8_i32
  let v5 : BitVec 32 := Scalar.remsi arg0 v4
  let c0_i32_5 : BitVec 32 := 0#32
  let v7 : BitVec 1 := Scalar.cmpi .slt v5 c0_i32_5
  let c0_i32_6 : BitVec 32 := 0#32
  let v8 : BitVec 1 := Scalar.cmpi .slt v4 c0_i32_6
  let v9 : BitVec 1 := Scalar.xori v7 v8
  let c0_i32_4 : BitVec 32 := 0#32
  let v6 : BitVec 1 := Scalar.cmpi .ne v5 c0_i32_4
  let v10 : BitVec 1 := Scalar.andi v9 v6
  let v11 : BitVec 32 := Scalar.addi v5 v4
  let v12 : BitVec 32 := Scalar.select v10 v11 v5
  let c0_i32_7 : BitVec 32 := 0#32
  let v13 : BitVec 1 := Scalar.cmpi .eq v12 c0_i32_7
  let v_true : BitVec 1 := 1#1
  let v50 : BitVec 1 := Scalar.xori v13 v_true
  let v51 : BitVec 32 := Scalar.extui v50
  let c0_i32_32 : BitVec 32 := 0#32
  let v52 : BitVec 1 := Scalar.cmpi .ne v51 c0_i32_32
  v52

def k0_cond4 (i : grid0.Coords) : BitVec 1 :=
  let arg0 : BitVec 32 := BitVec.ofNat 32 (i 0).val
  let c8_i32 : BitVec 32 := 8#32
  let c0_i32_2 : BitVec 32 := 0#32
  let v3 : BitVec 1 := Scalar.cmpi .eq c8_i32 c0_i32_2
  let c1_i32_3 : BitVec 32 := 1#32
  let v4 : BitVec 32 := Scalar.select v3 c1_i32_3 c8_i32
  let v5 : BitVec 32 := Scalar.remsi arg0 v4
  let c0_i32_5 : BitVec 32 := 0#32
  let v7 : BitVec 1 := Scalar.cmpi .slt v5 c0_i32_5
  let c0_i32_6 : BitVec 32 := 0#32
  let v8 : BitVec 1 := Scalar.cmpi .slt v4 c0_i32_6
  let v9 : BitVec 1 := Scalar.xori v7 v8
  let c0_i32_4 : BitVec 32 := 0#32
  let v6 : BitVec 1 := Scalar.cmpi .ne v5 c0_i32_4
  let v10 : BitVec 1 := Scalar.andi v9 v6
  let v11 : BitVec 32 := Scalar.addi v5 v4
  let v12 : BitVec 32 := Scalar.select v10 v11 v5
  let c0_i32_7 : BitVec 32 := 0#32
  let v13 : BitVec 1 := Scalar.cmpi .eq v12 c0_i32_7
  let v58 : BitVec 32 := Scalar.extui v13
  let c0_i32_34 : BitVec 32 := 0#32
  let v59 : BitVec 1 := Scalar.cmpi .ne v58 c0_i32_34
  v59

def k0_cond5 (i : grid0.Coords) : BitVec 1 :=
  let arg0 : BitVec 32 := BitVec.ofNat 32 (i 0).val
  let c8_i32 : BitVec 32 := 8#32
  let c0_i32_2 : BitVec 32 := 0#32
  let v3 : BitVec 1 := Scalar.cmpi .eq c8_i32 c0_i32_2
  let c1_i32_3 : BitVec 32 := 1#32
  let v4 : BitVec 32 := Scalar.select v3 c1_i32_3 c8_i32
  let v5 : BitVec 32 := Scalar.remsi arg0 v4
  let c0_i32_5 : BitVec 32 := 0#32
  let v7 : BitVec 1 := Scalar.cmpi .slt v5 c0_i32_5
  let c0_i32_6 : BitVec 32 := 0#32
  let v8 : BitVec 1 := Scalar.cmpi .slt v4 c0_i32_6
  let v9 : BitVec 1 := Scalar.xori v7 v8
  let c0_i32_4 : BitVec 32 := 0#32
  let v6 : BitVec 1 := Scalar.cmpi .ne v5 c0_i32_4
  let v10 : BitVec 1 := Scalar.andi v9 v6
  let v11 : BitVec 32 := Scalar.addi v5 v4
  let v12 : BitVec 32 := Scalar.select v10 v11 v5
  let c0_i32_7 : BitVec 32 := 0#32
  let v13 : BitVec 1 := Scalar.cmpi .eq v12 c0_i32_7
  let true_35 : BitVec 1 := 1#1
  let v60 : BitVec 1 := Scalar.xori v13 true_35
  let v61 : BitVec 32 := Scalar.extui v60
  let c0_i32_36 : BitVec 32 := 0#32
  let v62 : BitVec 1 := Scalar.cmpi .ne v61 c0_i32_36
  v62

def k0_cond8 (i : grid0.Coords) : BitVec 1 :=
  let arg0 : BitVec 32 := BitVec.ofNat 32 (i 0).val
  let c8_i32 : BitVec 32 := 8#32
  let c0_i32_2 : BitVec 32 := 0#32
  let v3 : BitVec 1 := Scalar.cmpi .eq c8_i32 c0_i32_2
  let c1_i32_3 : BitVec 32 := 1#32
  let v4 : BitVec 32 := Scalar.select v3 c1_i32_3 c8_i32
  let v5 : BitVec 32 := Scalar.remsi arg0 v4
  let c0_i32_5 : BitVec 32 := 0#32
  let v7 : BitVec 1 := Scalar.cmpi .slt v5 c0_i32_5
  let c0_i32_6 : BitVec 32 := 0#32
  let v8 : BitVec 1 := Scalar.cmpi .slt v4 c0_i32_6
  let v9 : BitVec 1 := Scalar.xori v7 v8
  let c0_i32_4 : BitVec 32 := 0#32
  let v6 : BitVec 1 := Scalar.cmpi .ne v5 c0_i32_4
  let v10 : BitVec 1 := Scalar.andi v9 v6
  let v11 : BitVec 32 := Scalar.addi v5 v4
  let v12 : BitVec 32 := Scalar.select v10 v11 v5
  let c0_i32_7 : BitVec 32 := 0#32
  let v13 : BitVec 1 := Scalar.cmpi .eq v12 c0_i32_7
  let v97 : BitVec 32 := Scalar.extui v13
  let c0_i32_51 : BitVec 32 := 0#32
  let v98 : BitVec 1 := Scalar.cmpi .ne v97 c0_i32_51
  v98

def k0_cond9 (i : grid0.Coords) : BitVec 1 :=
  let arg0 : BitVec 32 := BitVec.ofNat 32 (i 0).val
  let c8_i32 : BitVec 32 := 8#32
  let c0_i32_2 : BitVec 32 := 0#32
  let v3 : BitVec 1 := Scalar.cmpi .eq c8_i32 c0_i32_2
  let c1_i32_3 : BitVec 32 := 1#32
  let v4 : BitVec 32 := Scalar.select v3 c1_i32_3 c8_i32
  let v5 : BitVec 32 := Scalar.remsi arg0 v4
  let c0_i32_5 : BitVec 32 := 0#32
  let v7 : BitVec 1 := Scalar.cmpi .slt v5 c0_i32_5
  let c0_i32_6 : BitVec 32 := 0#32
  let v8 : BitVec 1 := Scalar.cmpi .slt v4 c0_i32_6
  let v9 : BitVec 1 := Scalar.xori v7 v8
  let c0_i32_4 : BitVec 32 := 0#32
  let v6 : BitVec 1 := Scalar.cmpi .ne v5 c0_i32_4
  let v10 : BitVec 1 := Scalar.andi v9 v6
  let v11 : BitVec 32 := Scalar.addi v5 v4
  let v12 : BitVec 32 := Scalar.select v10 v11 v5
  let c0_i32_7 : BitVec 32 := 0#32
  let v13 : BitVec 1 := Scalar.cmpi .eq v12 c0_i32_7
  let true_52 : BitVec 1 := 1#1
  let v99 : BitVec 1 := Scalar.xori v13 true_52
  let v100 : BitVec 32 := Scalar.extui v99
  let c0_i32_53 : BitVec 32 := 0#32
  let v101 : BitVec 1 := Scalar.cmpi .ne v100 c0_i32_53
  v101

def k0_cond6 (i : grid0.Coords) : BitVec 1 :=
  let arg0 : BitVec 32 := BitVec.ofNat 32 (i 0).val
  let c0_i32_38 : BitVec 32 := 0#32
  let v68 : BitVec 1 := Scalar.cmpi .eq arg0 c0_i32_38
  let v69 : BitVec 32 := Scalar.extui v68
  let c0_i32_39 : BitVec 32 := 0#32
  let v70 : BitVec 1 := Scalar.cmpi .ne v69 c0_i32_39
  v70

def k0_cond7 (i : grid0.Coords) : BitVec 1 :=
  let arg0 : BitVec 32 := BitVec.ofNat 32 (i 0).val
  let c0_i32_38 : BitVec 32 := 0#32
  let v68 : BitVec 1 := Scalar.cmpi .eq arg0 c0_i32_38
  let true_40 : BitVec 1 := 1#1
  let v71 : BitVec 1 := Scalar.xori v68 true_40
  let v72 : BitVec 32 := Scalar.extui v71
  let c0_i32_41 : BitVec 32 := 0#32
  let v73 : BitVec 1 := Scalar.cmpi .ne v72 c0_i32_41
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnRefIdeal.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S4x1x6144 : Shape := ⟨3, ![4, 1, 6144]⟩
abbrev S4x1x1024 : Shape := ⟨3, ![4, 1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x4096 : Shape := ⟨2, ![1024, 4096]⟩
abbrev S4x2048x4096 : Shape := ⟨3, ![4, 2048, 4096]⟩
abbrev S4096x1024 : Shape := ⟨2, ![4096, 1024]⟩
abbrev S4x1024 : Shape := ⟨2, ![4, 1024]⟩
abbrev S8192x4096 : Shape := ⟨2, ![8192, 4096]⟩
abbrev S8192x1024 : Shape := ⟨2, ![8192, 1024]⟩

abbrev nBuf : Space → Nat
  | .hbm => 122
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x6144, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S4x2048x1024, .f32⟩
  | .hbm, ⟨7, _⟩ => ⟨S4x1x6144, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1024, .f32⟩
  | .hbm, ⟨37, _⟩ => ⟨S4x2048x1024, .f32⟩
  | .hbm, ⟨38, _⟩ => ⟨S1x1x1024, .f32⟩
  | .hbm, ⟨39, _⟩ => ⟨S4x2048x1024, .f32⟩
  | .hbm, ⟨40, _⟩ => ⟨S4x2048x1024, .f32⟩
  | .hbm, ⟨41, _⟩ => ⟨S_, .f32⟩
  | .hbm, ⟨42, _⟩ => ⟨S4x1x1024, .f32⟩
  | .hbm, ⟨43, _⟩ => ⟨S4x1x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S1024x4096, .f32⟩
  | .hbm, ⟨49, _⟩ => ⟨S4x2048x4096, .f32⟩
  | .hbm, ⟨50, _⟩ => ⟨S_, .f32⟩
  | .hbm, ⟨51, _⟩ => ⟨S4x2048x4096, .f32⟩
  | .hbm, ⟨52, _⟩ => ⟨S4x2048x4096, .f32⟩
  | .hbm, ⟨53, _⟩ => ⟨S_, .f32⟩
  | .hbm, ⟨54, _⟩ => ⟨S4x2048x4096, .f32⟩
  | .hbm, ⟨55, _⟩ => ⟨S4x2048x4096, .i1⟩
  | .hbm, ⟨56, _⟩ => ⟨S_, .f32⟩
  | .hbm, ⟨57, _⟩ => ⟨S4x2048x4096, .f32⟩
  | .hbm, ⟨58, _⟩ => ⟨S4x2048x4096, .f32⟩
  | .hbm, ⟨59, _⟩ => ⟨S_, .f32⟩
  | .hbm, ⟨60, _⟩ => ⟨S4x2048x4096, .f32⟩
  | .hbm, ⟨61, _⟩ => ⟨S4x2048x4096, .f32⟩
  | .hbm, ⟨62, _⟩ => ⟨S4096x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S4x2048x4096, .f32⟩
  | .hbm, ⟨72, _⟩ => ⟨S4x2048x4096, .f32⟩
  | .hbm, ⟨73, _⟩ => ⟨S_, .f32⟩
  | .hbm, ⟨74, _⟩ => ⟨S4x2048x4096, .f32⟩
  | .hbm, ⟨75, _⟩ => ⟨S4x2048x4096, .f32⟩
  | .hbm, ⟨76, _⟩ => ⟨S4x2048x1024, .f32⟩
  | .hbm, ⟨77, _⟩ => ⟨S_, .f32⟩
  | .hbm, ⟨78, _⟩ => ⟨S4x1024, .f32⟩
  | .hbm, ⟨79, _⟩ => ⟨S4x1x1024, .f32⟩
  | .hbm, ⟨80, _⟩ => ⟨S4x2048x1024, .f32⟩
  | .hbm, ⟨81, _⟩ => ⟨S_, .f32⟩
  | .hbm, ⟨82, _⟩ => ⟨S4x1024, .f32⟩
  | .hbm, ⟨83, _⟩ => ⟨S4x1x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S_, .f32⟩
  | .hbm, ⟨88, _⟩ => ⟨S1024, .f32⟩
  | .hbm, ⟨89, _⟩ => ⟨S1x1x1024, .f32⟩
  | .hbm, ⟨90, _⟩ => ⟨S4x2048x1024, .f32⟩
  | .hbm, ⟨91, _⟩ => ⟨S4x2048x1024, .f32⟩
  | .hbm, ⟨92, _⟩ => ⟨S_, .f32⟩
  | .hbm, ⟨93, _⟩ => ⟨S1024, .f32⟩
  | .hbm, ⟨94, _⟩ => ⟨S4x2048x1024, .f32⟩
  | .hbm, ⟨95, _⟩ => ⟨S_, .f32⟩
  | .hbm, ⟨96, _⟩ => ⟨S4x2048, .f32⟩
  | .hbm, ⟨97, _⟩ => ⟨S4x2048x1, .f32⟩
  | .hbm, ⟨98, _⟩ => ⟨S4x2048x1024, .f32⟩
  | .hbm, ⟨99, _⟩ => ⟨S4x2048x1024, .f32⟩
  | .hbm, ⟨100, _⟩ => ⟨S4x2048x1, .f32⟩
  | .hbm, ⟨101, _⟩ => ⟨S_, .f32⟩
  | .hbm, ⟨102, _⟩ => ⟨S4x2048x1, .f32⟩
  | .hbm, ⟨103, _⟩ => ⟨S4x2048x1, .f32⟩
  | .hbm, ⟨104, _⟩ => ⟨S_, .f32⟩
  | .hbm, ⟨105, _⟩ => ⟨S4x2048, .f32⟩
  | .hbm, ⟨106, _⟩ => ⟨S4x2048x1024, .f32⟩
  | .hbm, ⟨107, _⟩ => ⟨S4x2048x1024, .f32⟩
  | .hbm, ⟨108, _⟩ => ⟨S4x2048x1024, .f32⟩
  | .hbm, ⟨109, _⟩ => ⟨S1x1024, .f32⟩
  | .hbm, ⟨110, _⟩ => ⟨S4x2048x1024, .f32⟩
  | .hbm, ⟨111, _⟩ => ⟨S4x2048x1024, .f32⟩
  | .hbm, ⟨112, _⟩ => ⟨S4x2048x1024, .f32⟩
  | .hbm, ⟨113, _⟩ => ⟨S4x2048x1024, .f32⟩
  | .hbm, ⟨114, _⟩ => ⟨S_, .f32⟩
  | .hbm, ⟨115, _⟩ => ⟨S4x1024, .f32⟩
  | .hbm, ⟨116, _⟩ => ⟨S4x1x1024, .f32⟩
  | .hbm, ⟨117, _⟩ => ⟨S8192x4096, .f32⟩
  | .hbm, ⟨118, _⟩ => ⟨S8192x4096, .bf16⟩
  | .hbm, ⟨119, _⟩ => ⟨S8192x1024, .f32⟩
  | .hbm, ⟨120, _⟩ => ⟨S8192x1024, .f32⟩
  | .hbm, ⟨121, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_cst : Ref sig .tc := ⟨.hbm, 50, rfl⟩
abbrev main_call0_v0 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_16 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩

abbrev nD : Nat := 1
abbrev τ : Topo := Topo.v7x

variable {F : FTy → Type} [FloatOps F]
-- ==== Ada.lean ====
abbrev S32x1024 : Shape := ⟨2, ![32, 1024]⟩
abbrev S32x6144 : Shape := ⟨2, ![32, 6144]⟩
abbrev S32x1536 : Shape := ⟨2, ![32, 1536]⟩
abbrev S8x32x512 : Shape := ⟨3, ![8, 32, 512]⟩
abbrev S8x8x128 : Shape := ⟨3, ![8, 8, 128]⟩
abbrev S8x1x1024 : Shape := ⟨3, ![8, 1, 1024]⟩
abbrev S8x1x256 : Shape := ⟨3, ![8, 1, 256]⟩
abbrev S8x1x128 : Shape := ⟨3, ![8, 1, 128]⟩
abbrev S8x1x96 : Shape := ⟨3, ![8, 1, 96]⟩
abbrev S8x1x512 : Shape := ⟨3, ![8, 1, 512]⟩
abbrev S1024x1536 : Shape := ⟨2, ![1024, 1536]⟩
abbrev S1x6144 : Shape := ⟨2, ![1, 6144]⟩
abbrev S32x512 : Shape := ⟨2, ![32, 512]⟩
abbrev S8x128 : Shape := ⟨2, ![8, 128]⟩
abbrev S1x1024 : Shape := ⟨2, ![1, 1024]⟩
abbrev S1x256 : Shape := ⟨2, ![1, 256]⟩
abbrev S1x128 : Shape := ⟨2, ![1, 128]⟩
abbrev S1x96 : Shape := ⟨2, ![1, 96]⟩
abbrev S1x512 : Shape := ⟨2, ![1, 512]⟩
abbrev S6144 : Shape := ⟨1, ![6144]⟩
abbrev S1x32x512 : Shape := ⟨3, ![1, 32, 512]⟩
abbrev S1x8x128 : Shape := ⟨3, ![1, 8, 128]⟩
abbrev S1x1x1024 : Shape := ⟨3, ![1, 1, 1024]⟩
abbrev S1x1x256 : Shape := ⟨3, ![1, 1, 256]⟩
abbrev S1x1x128 : Shape := ⟨3, ![1, 1, 128]⟩
abbrev S1x1x96 : Shape := ⟨3, ![1, 1, 96]⟩
abbrev S1x1x512 : Shape := ⟨3, ![1, 1, 512]⟩

abbrev nBuf : Space → Nat
  | .hbm => 27
  | .vmem => 27
  | .smem => 0
  | _ => 0

abbrev bufTy : (tb : Table) → Fin (tcTables nBuf tb) → BufTy
  | .hbm, ⟨0, _⟩ => ⟨S32x1024, .f32⟩
  | .hbm, ⟨1, _⟩ => ⟨S32x6144, .f32⟩
  | .hbm, ⟨2, _⟩ => ⟨S32x1536, .f32⟩
  | .hbm, ⟨3, _⟩ => ⟨S8x32x512, .f32⟩
  | .hbm, ⟨4, _⟩ => ⟨S8x8x128, .f32⟩
  | .hbm, ⟨5, _⟩ => ⟨S8x1x1024, .f32⟩
  | .hbm, ⟨6, _⟩ => ⟨S8x1x256, .f32⟩
  | .hbm, ⟨7, _⟩ => ⟨S8x1x128, .f32⟩
  | .hbm, ⟨8, _⟩ => ⟨S8x1x96, .f32⟩
  | .hbm, ⟨9, _⟩ => ⟨S8x1x96, .f32⟩
  | .hbm, ⟨10, _⟩ => ⟨S8x1x512, .f32⟩
  | .hbm, ⟨11, _⟩ => ⟨S8x1x512, .f32⟩
  | .hbm, ⟨12, _⟩ => ⟨S8x1x512, .f32⟩
  | .hbm, ⟨13, _⟩ => ⟨S8x1x1024, .f32⟩
  | .hbm, ⟨14, _⟩ => ⟨S1024x1536, .f32⟩
  | .hbm, ⟨15, _⟩ => ⟨S1x6144, .f32⟩
  | .hbm, ⟨16, _⟩ => ⟨S32x512, .f32⟩
  | .hbm, ⟨17, _⟩ => ⟨S8x128, .f32⟩
  | .hbm, ⟨18, _⟩ => ⟨S1x1024, .f32⟩
  | .hbm, ⟨19, _⟩ => ⟨S1x256, .f32⟩
  | .hbm, ⟨20, _⟩ => ⟨S1x128, .f32⟩
  | .hbm, ⟨21, _⟩ => ⟨S1x96, .f32⟩
  | .hbm, ⟨22, _⟩ => ⟨S1x96, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x1024, .f32⟩
  | .local _ .vmem, ⟨0, _⟩ => ⟨S32x1024, .f32⟩
  | .local _ .vmem, ⟨1, _⟩ => ⟨S32x6144, .f32⟩
  | .local _ .vmem, ⟨2, _⟩ => ⟨S32x1536, .f32⟩
  | .local _ .vmem, ⟨3, _⟩ => ⟨S8x32x512, .f32⟩
  | .local _ .vmem, ⟨4, _⟩ => ⟨S8x8x128, .f32⟩
  | .local _ .vmem, ⟨5, _⟩ => ⟨S8x1x1024, .f32⟩
  | .local _ .vmem, ⟨6, _⟩ => ⟨S8x1x256, .f32⟩
  | .local _ .vmem, ⟨7, _⟩ => ⟨S8x1x128, .f32⟩
  | .local _ .vmem, ⟨8, _⟩ => ⟨S8x1x96, .f32⟩
  | .local _ .vmem, ⟨9, _⟩ => ⟨S8x1x96, .f32⟩
  | .local _ .vmem, ⟨10, _⟩ => ⟨S8x1x512, .f32⟩
  | .local _ .vmem, ⟨11, _⟩ => ⟨S8x1x512, .f32⟩
  | .local _ .vmem, ⟨12, _⟩ => ⟨S8x1x512, .f32⟩
  | .local _ .vmem, ⟨13, _⟩ => ⟨S8x1x1024, .f32⟩
  | .local _ .vmem, ⟨14, _⟩ => ⟨S1024x1536, .f32⟩
  | .local _ .vmem, ⟨15, _⟩ => ⟨S1x6144, .f32⟩
  | .local _ .vmem, ⟨16, _⟩ => ⟨S32x512, .f32⟩
  | .local _ .vmem, ⟨17, _⟩ => ⟨S8x128, .f32⟩
  | .local _ .vmem, ⟨18, _⟩ => ⟨S1x1024, .f32⟩
  | .local _ .vmem, ⟨19, _⟩ => ⟨S1x256, .f32⟩
  | .local _ .vmem, ⟨20, _⟩ => ⟨S1x128, .f32⟩
  | .local _ .vmem, ⟨21, _⟩ => ⟨S1x96, .f32⟩
  | .local _ .vmem, ⟨22, _⟩ => ⟨S1x96, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x6144 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x96 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x96 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== AdaRefIdeal.lean ====
abbrev S32x1024 : Shape := ⟨2, ![32, 1024]⟩
abbrev S32x6144 : Shape := ⟨2, ![32, 6144]⟩
abbrev S32x1536 : Shape := ⟨2, ![32, 1536]⟩
abbrev S8x32x512 : Shape := ⟨3, ![8, 32, 512]⟩
abbrev S8x8x128 : Shape := ⟨3, ![8, 8, 128]⟩
abbrev S8x1x1024 : Shape := ⟨3, ![8, 1, 1024]⟩
abbrev S8x1x256 : Shape := ⟨3, ![8, 1, 256]⟩
abbrev S8x1x128 : Shape := ⟨3, ![8, 1, 128]⟩
abbrev S8x1x96 : Shape := ⟨3, ![8, 1, 96]⟩
abbrev S8x1x512 : Shape := ⟨3, ![8, 1, 512]⟩
abbrev S_ : Shape := ⟨0, ![]⟩
abbrev S1024x1536 : Shape := ⟨2, ![1024, 1536]⟩
abbrev S1x1536 : Shape := ⟨2, ![1, 1536]⟩
abbrev S1536x1024 : Shape := ⟨2, ![1536, 1024]⟩
abbrev S1x6144 : Shape := ⟨2, ![1, 6144]⟩
abbrev S1024x6144 : Shape := ⟨2, ![1024, 6144]⟩
abbrev S6144 : Shape := ⟨1, ![6144]⟩
abbrev S32x512 : Shape := ⟨2, ![32, 512]⟩
abbrev S8x128 : Shape := ⟨2, ![8, 128]⟩
abbrev S1x1024 : Shape := ⟨2, ![1, 1024]⟩
abbrev S1x256 : Shape := ⟨2, ![1, 256]⟩
abbrev S1x128 : Shape := ⟨2, ![1, 128]⟩
abbrev S1x96 : Shape := ⟨2, ![1, 96]⟩
abbrev S1x512 : Shape := ⟨2, ![1, 512]⟩

abbrev nBuf : Space → Nat
  | .hbm => 73
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x6144, .f32⟩
  | .hbm, ⟨2, _⟩ => ⟨S32x1536, .f32⟩
  | .hbm, ⟨3, _⟩ => ⟨S8x32x512, .f32⟩
  | .hbm, ⟨4, _⟩ => ⟨S8x8x128, .f32⟩
  | .hbm, ⟨5, _⟩ => ⟨S8x1x1024, .f32⟩
  | .hbm, ⟨6, _⟩ => ⟨S8x1x256, .f32⟩
  | .hbm, ⟨7, _⟩ => ⟨S8x1x128, .f32⟩
  | .hbm, ⟨8, _⟩ => ⟨S8x1x96, .f32⟩
  | .hbm, ⟨9, _⟩ => ⟨S8x1x96, .f32⟩
  | .hbm, ⟨10, _⟩ => ⟨S8x1x512, .f32⟩
  | .hbm, ⟨11, _⟩ => ⟨S8x1x512, .f32⟩
  | .hbm, ⟨12, _⟩ => ⟨S8x1x512, .f32⟩
  | .hbm, ⟨13, _⟩ => ⟨S8x1x1024, .f32⟩
  | .hbm, ⟨14, _⟩ => ⟨S_, .f32⟩
  | .hbm, ⟨15, _⟩ => ⟨S1024x1536, .f32⟩
  | .hbm, ⟨16, _⟩ => ⟨S_, .f32⟩
  | .hbm, ⟨17, _⟩ => ⟨S1x1536, .f32⟩
  | .hbm, ⟨18, _⟩ => ⟨S32x1024, .f32⟩
  | .hbm, ⟨19, _⟩ => ⟨S32x1024, .f32⟩
  | .hbm, ⟨20, _⟩ => ⟨S_, .f32⟩
  | .hbm, ⟨21, _⟩ => ⟨S32x1024, .f32⟩
  | .hbm, ⟨22, _⟩ => ⟨S32x1024, .f32⟩
  | .hbm, ⟨23, _⟩ => ⟨S_, .f32⟩
  | .hbm, ⟨24, _⟩ => ⟨S32x1024, .f32⟩
  | .hbm, ⟨25, _⟩ => ⟨S32x1024, .f32⟩
  | .hbm, ⟨26, _⟩ => ⟨S32x1024, .f32⟩
  | .hbm, ⟨27, _⟩ => ⟨S32x1536, .f32⟩
  | .hbm, ⟨28, _⟩ => ⟨S32x1536, .f32⟩
  | .hbm, ⟨29, _⟩ => ⟨S32x1536, .f32⟩
  | .hbm, ⟨30, _⟩ => ⟨S1536x1024, .f32⟩
  | .hbm, ⟨31, _⟩ => ⟨S1024x1536, .f32⟩
  | .hbm, ⟨32, _⟩ => ⟨S_, .f32⟩
  | .hbm, ⟨33, _⟩ => ⟨S1x6144, .f32⟩
  | .hbm, ⟨34, _⟩ => ⟨S_, .f32⟩
  | .hbm, ⟨35, _⟩ => ⟨S1024x6144, .f32⟩
  | .hbm, ⟨36, _⟩ => ⟨S32x1024, .f32⟩
  | .hbm, ⟨37, _⟩ => ⟨S32x1024, .f32⟩
  | .hbm, ⟨38, _⟩ => ⟨S_, .f32⟩
  | .hbm, ⟨39, _⟩ => ⟨S32x1024, .f32⟩
  | .hbm, ⟨40, _⟩ => ⟨S32x1024, .f32⟩
  | .hbm, ⟨41, _⟩ => ⟨S_, .f32⟩
  | .hbm, ⟨42, _⟩ => ⟨S32x1024, .f32⟩
  | .hbm, ⟨43, _⟩ => ⟨S32x1024, .f32⟩
  | .hbm, ⟨44, _⟩ => ⟨S32x1024, .f32⟩
  | .hbm, ⟨45, _⟩ => ⟨S32x6144, .f32⟩
  | .hbm, ⟨46, _⟩ => ⟨S32x6144, .f32⟩
  | .hbm, ⟨47, _⟩ => ⟨S32x6144, .f32⟩
  | .hbm, ⟨48, _⟩ => ⟨S_, .f32⟩
  | .hbm, ⟨49, _⟩ => ⟨S6144, .f32⟩
  | .hbm, ⟨50, _⟩ => ⟨S1x6144, .f32⟩
  | .hbm, ⟨51, _⟩ => ⟨S_, .f32⟩
  | .hbm, ⟨52, _⟩ => ⟨S32x512, .f32⟩
  | .hbm, ⟨53, _⟩ => ⟨S_, .f32⟩
  | .hbm, ⟨54, _⟩ => ⟨S8x128, .f32⟩
  | .hbm, ⟨55, _⟩ => ⟨S_, .f32⟩
  | .hbm, ⟨56, _⟩ => ⟨S1x1024, .f32⟩
  | .hbm, ⟨57, _⟩ => ⟨S_, .f32⟩
  | .hbm, ⟨58, _⟩ => ⟨S1x256, .f32⟩
  | .hbm, ⟨59, _⟩ => ⟨S_, .f32⟩
  | .hbm, ⟨60, _⟩ => ⟨S1x128, .f32⟩
  | .hbm, ⟨61, _⟩ => ⟨S_, .f32⟩
  | .hbm, ⟨62, _⟩ => ⟨S1x96, .f32⟩
  | .hbm, ⟨63, _⟩ => ⟨S_, .f32⟩
  | .hbm, ⟨64, _⟩ => ⟨S1x96, .f32⟩
  | .hbm, ⟨65, _⟩ => ⟨S_, .f32⟩
  | .hbm, ⟨66, _⟩ => ⟨S1x512, .f32⟩
  | .hbm, ⟨67, _⟩ => ⟨S_, .f32⟩
  | .hbm, ⟨68, _⟩ => ⟨S1x512, .f32⟩
  | .hbm, ⟨69, _⟩ => ⟨S_, .f32⟩
  | .hbm, ⟨70, _⟩ => ⟨S1x512, .f32⟩
  | .hbm, ⟨71, _⟩ => ⟨S_, .f32⟩
  | .hbm, ⟨72, _⟩ => ⟨S1x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_cst_2 : Ref sig .tc := ⟨.hbm, 34, rfl⟩
abbrev main_v9 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_3 : Ref sig .tc := ⟨.hbm, 48, rfl⟩
abbrev main_v14 : Ref sig .tc := ⟨.hbm, 49, rfl⟩
abbrev main_v15 : Ref sig .tc := ⟨.hbm, 50, rfl⟩
abbrev main_cst_4 : Ref sig .tc := ⟨.hbm, 51, rfl⟩
abbrev main_v16 : Ref sig .tc := ⟨.hbm, 52, rfl⟩
abbrev main_cst_5 : Ref sig .tc := ⟨.hbm, 53, rfl⟩
abbrev main_v17 : Ref sig .tc := ⟨.hbm, 54, rfl⟩
abbrev main_cst_6 : Ref sig .tc := ⟨.hbm, 55, rfl⟩
abbrev main_v18 : Ref sig .tc := ⟨.hbm, 56, rfl⟩
abbrev main_cst_7 : Ref sig .tc := ⟨.hbm, 57, rfl⟩
abbrev main_v19 : Ref sig .tc := ⟨.hbm, 58, rfl⟩
abbrev main_cst_8 : Ref sig .tc := ⟨.hbm, 59, rfl⟩
abbrev main_v20 : Ref sig .tc := ⟨.hbm, 60, rfl⟩
abbrev main_cst_9 : Ref sig .tc := ⟨.hbm, 61, rfl⟩
abbrev main_v21 : Ref sig .tc := ⟨.hbm, 62, rfl⟩
abbrev main_cst_10 : Ref sig .tc := ⟨.hbm, 63, rfl⟩
abbrev main_v22 : Ref sig .tc := ⟨.hbm, 64, rfl⟩
abbrev main_cst_11 : Ref sig .tc := ⟨.hbm, 65, rfl⟩
abbrev main_v23 : Ref sig .tc := ⟨.hbm, 66, rfl⟩
abbrev main_cst_12 : Ref sig .tc := ⟨.hbm, 67, rfl⟩
abbrev main_v24 : Ref sig .tc := ⟨.hbm, 68, rfl⟩
abbrev main_cst_13 : Ref sig .tc := ⟨.hbm, 69, rfl⟩
abbrev main_v25 : Ref sig .tc := ⟨.hbm, 70, rfl⟩
abbrev main_cst_14 : Ref sig .tc := ⟨.hbm, 71, rfl⟩
abbrev main_v26 : Ref sig .tc := ⟨.hbm, 72, rfl⟩

abbrev nD : Nat := 1
abbrev τ : Topo := Topo.v7x

variable {F : FTy → Type} [FloatOps F]
-- ==== FwdIn.lean ====
abbrev S4x2048x1024 : Shape := ⟨3, ![4, 2048, 1024]⟩
abbrev S4x6144 : Shape := ⟨2, ![4, 6144]⟩
abbrev S1x1024 : Shape := ⟨2, ![1, 1024]⟩
abbrev S1x1024x3488 : Shape := ⟨3, ![1, 1024, 3488]⟩
abbrev S1024x3488 : Shape := ⟨2, ![1024, 3488]⟩
abbrev S1024x4x872 : Shape := ⟨3, ![1024, 4, 872]⟩
abbrev S4x1024x872 : Shape := ⟨3, ![4, 1024, 872]⟩
abbrev S1x1024x304 : Shape := ⟨3, ![1, 1024, 304]⟩
abbrev S1024x304 : Shape := ⟨2, ![1024, 304]⟩
abbrev S1x1024x872 : Shape := ⟨3, ![1, 1024, 872]⟩
abbrev S1024x872 : Shape := ⟨2, ![1024, 872]⟩
abbrev S1x1024x456 : Shape := ⟨3, ![1, 1024, 456]⟩
abbrev S1024x456 : Shape := ⟨2, ![1024, 456]⟩
abbrev S1x1024x568 : Shape := ⟨3, ![1, 1024, 568]⟩
abbrev S1024x568 : Shape := ⟨2, ![1024, 568]⟩
abbrev S1x1024x384 : Shape := ⟨3, ![1, 1024, 384]⟩
abbrev S1024x384 : Shape := ⟨2, ![1024, 384]⟩
abbrev S_ : Shape := ⟨0, ![]⟩
abbrev S1024x64 : Shape := ⟨2, ![1024, 64]⟩
abbrev S1x1024x32 : Shape := ⟨3, ![1, 1024, 32]⟩
abbrev S1024x32 : Shape := ⟨2, ![1024, 32]⟩
abbrev S1024x3584 : Shape := ⟨2, ![1024, 3584]⟩
abbrev S8192x1024 : Shape := ⟨2, ![8192, 1024]⟩
abbrev S4x6x1024 : Shape := ⟨3, ![4, 6, 1024]⟩
abbrev S8192x512 : Shape := ⟨2, ![8192, 512]⟩
abbrev S8192x2048 : Shape := ⟨2, ![8192, 2048]⟩
abbrev S256x1024 : Shape := ⟨2, ![256, 1024]⟩
abbrev S1x6x1024 : Shape := ⟨3, ![1, 6, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x1x1024 : Shape := ⟨3, ![1, 1, 1024]⟩
abbrev S256x3584 : Shape := ⟨2, ![256, 3584]⟩

abbrev nBuf : Space → Nat
  | .hbm => 34
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S1x1024x3488, .f32⟩
  | .hbm, ⟨4, _⟩ => ⟨S1024x3488, .f32⟩
  | .hbm, ⟨5, _⟩ => ⟨S1024x3488, .bf16⟩
  | .hbm, ⟨6, _⟩ => ⟨S1024x4x872, .bf16⟩
  | .hbm, ⟨7, _⟩ => ⟨S4x1024x872, .bf16⟩
  | .hbm, ⟨8, _⟩ => ⟨S1x1024x304, .bf16⟩
  | .hbm, ⟨9, _⟩ => ⟨S1024x304, .bf16⟩
  | .hbm, ⟨10, _⟩ => ⟨S1x1024x872, .bf16⟩
  | .hbm, ⟨11, _⟩ => ⟨S1024x872, .bf16⟩
  | .hbm, ⟨12, _⟩ => ⟨S1x1024x872, .bf16⟩
  | .hbm, ⟨13, _⟩ => ⟨S1024x872, .bf16⟩
  | .hbm, ⟨14, _⟩ => ⟨S1x1024x456, .bf16⟩
  | .hbm, ⟨15, _⟩ => ⟨S1024x456, .bf16⟩
  | .hbm, ⟨16, _⟩ => ⟨S1x1024x568, .bf16⟩
  | .hbm, ⟨17, _⟩ => ⟨S1024x568, .bf16⟩
  | .hbm, ⟨18, _⟩ => ⟨S1x1024x384, .bf16⟩
  | .hbm, ⟨19, _⟩ => ⟨S1024x384, .bf16⟩
  | .hbm, ⟨20, _⟩ => ⟨S_, .bf16⟩
  | .hbm, ⟨21, _⟩ => ⟨S1024x64, .bf16⟩
  | .hbm, ⟨22, _⟩ => ⟨S1x1024x32, .bf16⟩
  | .hbm, ⟨23, _⟩ => ⟨S1024x32, .bf16⟩
  | .hbm, ⟨24, _⟩ => ⟨S_, .bf16⟩
  | .hbm, ⟨25, _⟩ => ⟨S1024x32, .bf16⟩
  | .hbm, ⟨26, _⟩ => ⟨S1024x3584, .bf16⟩
  | .hbm, ⟨27, _⟩ => ⟨S8192x1024, .f32⟩
  | .hbm, ⟨28, _⟩ => ⟨S4x6x1024, .f32⟩
  | .hbm, ⟨29, _⟩ => ⟨S8192x1024, .bf16⟩
  | .hbm, ⟨30, _⟩ => ⟨S8192x512, .f32⟩
  | .hbm, ⟨31, _⟩ => ⟨S8192x1024, .f32⟩
  | .hbm, ⟨32, _⟩ => ⟨S8192x2048, .f32⟩
  | .hbm, ⟨33, _⟩ => ⟨S8192x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S256x1024, .bf16⟩
  | .local _ .vmem, ⟨6, _⟩ => ⟨S256x1024, .bf16⟩
  | .local _ .vmem, ⟨7, _⟩ => ⟨S256x512, .f32⟩
  | .local _ .vmem, ⟨8, _⟩ => ⟨S256x512, .f32⟩
  | .local _ .vmem, ⟨9, _⟩ => ⟨S256x1024, .f32⟩
  | .local _ .vmem, ⟨10, _⟩ => ⟨S256x1024, .f32⟩
  | .local _ .vmem, ⟨11, _⟩ => ⟨S256x2048, .f32⟩
  | .local _ .vmem, ⟨12, _⟩ => ⟨S256x2048, .f32⟩
  | .local _ .vmem, ⟨13, _⟩ => ⟨S256x512, .f32⟩
  | .local _ .vmem, ⟨14, _⟩ => ⟨S256x512, .f32⟩
  | .local _ .vmem, ⟨15, _⟩ => ⟨S1024x3584, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev main_v23_2 : Ref sig .tc := ⟨.hbm, 31, rfl⟩
abbrev main_v23_3 : Ref sig .tc := ⟨.hbm, 32, rfl⟩
abbrev main_v23_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FwdInRefIdeal.lean ====
abbrev S4x2048x1024 : Shape := ⟨3, ![4, 2048, 1024]⟩
abbrev S4x6144 : Shape := ⟨2, ![4, 6144]⟩
abbrev S1x1024 : Shape := ⟨2, ![1, 1024]⟩
abbrev S1x1024x3488 : Shape := ⟨3, ![1, 1024, 3488]⟩
abbrev S4x1x6144 : Shape := ⟨3, ![4, 1, 6144]⟩
abbrev S4x1x1024 : Shape := ⟨3, ![4, 1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x3488 : Shape := ⟨2, ![1024, 3488]⟩
abbrev S4x2048x3488 : Shape := ⟨3, ![4, 2048, 3488]⟩
abbrev S4x2048x512 : Shape := ⟨3, ![4, 2048, 512]⟩
abbrev S4x2048x384 : Shape := ⟨3, ![4, 2048, 384]⟩
abbrev S4x2048x64 : Shape := ⟨3, ![4, 2048, 64]⟩
abbrev S4x2048x32 : Shape := ⟨3, ![4, 2048, 32]⟩
abbrev S8192x1024 : Shape := ⟨2, ![8192, 1024]⟩
abbrev S8192x512 : Shape := ⟨2, ![8192, 512]⟩
abbrev S4x2048x2048 : Shape := ⟨3, ![4, 2048, 2048]⟩
abbrev S8192x2048 : Shape := ⟨2, ![8192, 2048]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S1x1024x3488, .f32⟩
  | .hbm, ⟨4, _⟩ => ⟨S4x1x6144, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S1024, .f32⟩
  | .hbm, ⟨12, _⟩ => ⟨S4x2048x1024, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S1024x3488, .f32⟩
  | .hbm, ⟨36, _⟩ => ⟨S4x2048x3488, .f32⟩
  | .hbm, ⟨37, _⟩ => ⟨S4x2048x1024, .f32⟩
  | .hbm, ⟨38, _⟩ => ⟨S4x2048x512, .f32⟩
  | .hbm, ⟨39, _⟩ => ⟨S4x2048x512, .f32⟩
  | .hbm, ⟨40, _⟩ => ⟨S4x2048x512, .f32⟩
  | .hbm, ⟨41, _⟩ => ⟨S4x2048x512, .f32⟩
  | .hbm, ⟨42, _⟩ => ⟨S_, .f32⟩
  | .hbm, ⟨43, _⟩ => ⟨S4x2048x512, .f32⟩
  | .hbm, ⟨44, _⟩ => ⟨S4x2048x512, .f32⟩
  | .hbm, ⟨45, _⟩ => ⟨S_, .f32⟩
  | .hbm, ⟨46, _⟩ => ⟨S4x2048x512, .f32⟩
  | .hbm, ⟨47, _⟩ => ⟨S4x2048x512, .f32⟩
  | .hbm, ⟨48, _⟩ => ⟨S4x2048x512, .f32⟩
  | .hbm, ⟨49, _⟩ => ⟨S4x2048x384, .f32⟩
  | .hbm, ⟨50, _⟩ => ⟨S_, .f32⟩
  | .hbm, ⟨51, _⟩ => ⟨S4x2048x64, .f32⟩
  | .hbm, ⟨52, _⟩ => ⟨S4x2048x32, .f32⟩
  | .hbm, ⟨53, _⟩ => ⟨S_, .f32⟩
  | .hbm, ⟨54, _⟩ => ⟨S4x2048x32, .f32⟩
  | .hbm, ⟨55, _⟩ => ⟨S4x2048x512, .f32⟩
  | .hbm, ⟨56, _⟩ => ⟨S4x2048x1024, .bf16⟩
  | .hbm, ⟨57, _⟩ => ⟨S8192x1024, .bf16⟩
  | .hbm, ⟨58, _⟩ => ⟨S8192x512, .f32⟩
  | .hbm, ⟨59, _⟩ => ⟨S8192x1024, .f32⟩
  | .hbm, ⟨60, _⟩ => ⟨S4x2048x2048, .f32⟩
  | .hbm, ⟨61, _⟩ => ⟨S8192x2048, .f32⟩
  | .hbm, ⟨62, _⟩ => ⟨S8192x512, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== AdaMod.lean ====
abbrev S32x1024 : Shape := ⟨2, ![32, 1024]⟩
abbrev S1024x1536 : Shape := ⟨2, ![1024, 1536]⟩
abbrev S1x1536 : Shape := ⟨2, ![1, 1536]⟩
abbrev S32x1536 : Shape := ⟨2, ![32, 1536]⟩

abbrev nBuf : Space → Nat
  | .hbm => 4
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S1024x1536, .f32⟩
  | .hbm, ⟨2, _⟩ => ⟨S1x1536, .f32⟩
  | .hbm, ⟨3, _⟩ => ⟨S32x1536, .f32⟩
  | .local _ .vmem, ⟨0, _⟩ => ⟨S32x1024, .f32⟩
  | .local _ .vmem, ⟨1, _⟩ => ⟨S1024x1536, .f32⟩
  | .local _ .vmem, ⟨2, _⟩ => ⟨S1x1536, .f32⟩
  | .local _ .vmem, ⟨3, _⟩ => ⟨S32x1536, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaModRefIdeal.lean ====
abbrev S32x1024 : Shape := ⟨2, ![32, 1024]⟩
abbrev S1024x1536 : Shape := ⟨2, ![1024, 1536]⟩
abbrev S1x1536 : Shape := ⟨2, ![1, 1536]⟩
abbrev S_ : Shape := ⟨0, ![]⟩
abbrev S32x1536 : Shape := ⟨2, ![32, 1536]⟩

abbrev nBuf : Space → Nat
  | .hbm => 15
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x1536, .f32⟩
  | .hbm, ⟨2, _⟩ => ⟨S1x1536, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1536, .f32⟩
  | .hbm, ⟨13, _⟩ => ⟨S32x1536, .f32⟩
  | .hbm, ⟨14, _⟩ => ⟨S32x1536, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Prep.lean ====
abbrev S4x2048x256 : Shape := ⟨3, ![4, 2048, 256]⟩
abbrev S4x2048x128 : Shape := ⟨3, ![4, 2048, 128]⟩
abbrev S4x2048x32 : Shape := ⟨3, ![4, 2048, 32]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x96 : Shape := ⟨2, ![1, 96]⟩
abbrev S128x1024 : Shape := ⟨2, ![128, 1024]⟩
abbrev S128x8x128 : Shape := ⟨3, ![128, 8, 128]⟩
abbrev S128x8x64 : Shape := ⟨3, ![128, 8, 64]⟩
abbrev S128x512 : Shape := ⟨2, ![128, 512]⟩
abbrev S_ : Shape := ⟨0, ![]⟩
abbrev S256x768 : Shape := ⟨2, ![256, 768]⟩
abbrev S256x8x96 : Shape := ⟨3, ![256, 8, 96]⟩
abbrev S256x8x128 : Shape := ⟨3, ![256, 8, 128]⟩
abbrev S256x1024 : Shape := ⟨2, ![256, 1024]⟩
abbrev S4x2048x64 : Shape := ⟨3, ![4, 2048, 64]⟩
abbrev S4x2048x512 : Shape := ⟨3, ![4, 2048, 512]⟩
abbrev S8192x512 : Shape := ⟨2, ![8192, 512]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S2048x80 : Shape := ⟨2, ![2048, 80]⟩
abbrev S2048x48 : Shape := ⟨2, ![2048, 48]⟩
abbrev S8192x1024 : Shape := ⟨2, ![8192, 1024]⟩
abbrev S8192x256 : Shape := ⟨2, ![8192, 256]⟩
abbrev S8192x128 : Shape := ⟨2, ![8192, 128]⟩
abbrev S512x512 : Shape := ⟨2, ![512, 512]⟩
abbrev S512x128 : Shape := ⟨2, ![512, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 88
  | .vmem => 25
  | .smem => 0
  | _ => 0

abbrev bufTy : (tb : Table) → Fin (tcTables nBuf tb) → BufTy
  | .hbm, ⟨0, _⟩ => ⟨S4x2048x256, .f32⟩
  | .hbm, ⟨1, _⟩ => ⟨S4x2048x128, .f32⟩
  | .hbm, ⟨2, _⟩ => ⟨S4x2048x32, .f32⟩
  | .hbm, ⟨3, _⟩ => ⟨S1x256, .f32⟩
  | .hbm, ⟨4, _⟩ => ⟨S1x256x768, .f32⟩
  | .hbm, ⟨5, _⟩ => ⟨S1x128, .f32⟩
  | .hbm, ⟨6, _⟩ => ⟨S1x128x1024, .f32⟩
  | .hbm, ⟨7, _⟩ => ⟨S1x96, .f32⟩
  | .hbm, ⟨8, _⟩ => ⟨S1x96, .f32⟩
  | .hbm, ⟨9, _⟩ => ⟨S128x1024, .f32⟩
  | .hbm, ⟨10, _⟩ => ⟨S128x1024, .bf16⟩
  | .hbm, ⟨11, _⟩ => ⟨S128x8x128, .bf16⟩
  | .hbm, ⟨12, _⟩ => ⟨S128x8x64, .bf16⟩
  | .hbm, ⟨13, _⟩ => ⟨S128x512, .bf16⟩
  | .hbm, ⟨14, _⟩ => ⟨S128x8x64, .bf16⟩
  | .hbm, ⟨15, _⟩ => ⟨S_, .i32⟩
  | .hbm, ⟨16, _⟩ => ⟨S_, .bf16⟩
  | .hbm, ⟨17, _⟩ => ⟨S128x8x128, .bf16⟩
  | .hbm, ⟨18, _⟩ => ⟨S128x1024, .bf16⟩
  | .hbm, ⟨19, _⟩ => ⟨S128x8x64, .bf16⟩
  | .hbm, ⟨20, _⟩ => ⟨S128x512, .bf16⟩
  | .hbm, ⟨21, _⟩ => ⟨S128x8x64, .bf16⟩
  | .hbm, ⟨22, _⟩ => ⟨S_, .i32⟩
  | .hbm, ⟨23, _⟩ => ⟨S_, .bf16⟩
  | .hbm, ⟨24, _⟩ => ⟨S128x8x128, .bf16⟩
  | .hbm, ⟨25, _⟩ => ⟨S128x1024, .bf16⟩
  | .hbm, ⟨26, _⟩ => ⟨S256x768, .f32⟩
  | .hbm, ⟨27, _⟩ => ⟨S256x768, .bf16⟩
  | .hbm, ⟨28, _⟩ => ⟨S256x8x96, .bf16⟩
  | .hbm, ⟨29, _⟩ => ⟨S_, .i32⟩
  | .hbm, ⟨30, _⟩ => ⟨S_, .bf16⟩
  | .hbm, ⟨31, _⟩ => ⟨S256x8x128, .bf16⟩
  | .hbm, ⟨32, _⟩ => ⟨S256x1024, .bf16⟩
  | .hbm, ⟨33, _⟩ => ⟨S_, .f32⟩
  | .hbm, ⟨34, _⟩ => ⟨S4x2048x64, .f32⟩
  | .hbm, ⟨35, _⟩ => ⟨S_, .f32⟩
  | .hbm, ⟨36, _⟩ => ⟨S4x2048x32, .f32⟩
  | .hbm, ⟨37, _⟩ => ⟨S4x2048x512, .f32⟩
  | .hbm, ⟨38, _⟩ => ⟨S8192x512, .f32⟩
  | .hbm, ⟨39, _⟩ => ⟨S_, .i32⟩
  | .hbm, ⟨40, _⟩ => ⟨S_, .f32⟩
  | .hbm, ⟨41, _⟩ => ⟨S1x128, .f32⟩
  | .hbm, ⟨42, _⟩ => ⟨S_, .i32⟩
  | .hbm, ⟨43, _⟩ => ⟨S_, .f32⟩
  | .hbm, ⟨44, _⟩ => ⟨S1x128, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S2048, .f32⟩
  | .hbm, ⟨60, _⟩ => ⟨S2048x1, .f32⟩
  | .hbm, ⟨61, _⟩ => ⟨S1x16, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S_, .f32⟩
  | .hbm, ⟨68, _⟩ => ⟨S2048x64, .f32⟩
  | .hbm, ⟨69, _⟩ => ⟨S_, .f32⟩
  | .hbm, ⟨70, _⟩ => ⟨S2048x32, .f32⟩
  | .hbm, ⟨71, _⟩ => ⟨S2048x128, .f32⟩
  | .hbm, ⟨72, _⟩ => ⟨S_, .f32⟩
  | .hbm, ⟨73, _⟩ => ⟨S2048x80, .f32⟩
  | .hbm, ⟨74, _⟩ => ⟨S_, .f32⟩
  | .hbm, ⟨75, _⟩ => ⟨S2048x32, .f32⟩
  | .hbm, ⟨76, _⟩ => ⟨S2048x128, .f32⟩
  | .hbm, ⟨77, _⟩ => ⟨S_, .f32⟩
  | .hbm, ⟨78, _⟩ => ⟨S2048x64, .f32⟩
  | .hbm, ⟨79, _⟩ => ⟨S2048x16, .f32⟩
  | .hbm, ⟨80, _⟩ => ⟨S_, .f32⟩
  | .hbm, ⟨81, _⟩ => ⟨S2048x48, .f32⟩
  | .hbm, ⟨82, _⟩ => ⟨S2048x128, .f32⟩
  | .hbm, ⟨83, _⟩ => ⟨S8192x1024, .bf16⟩
  | .hbm, ⟨84, _⟩ => ⟨S8192x1024, .bf16⟩
  | .hbm, ⟨85, _⟩ => ⟨S8192x1024, .bf16⟩
  | .hbm, ⟨86, _⟩ => ⟨S8192x256, .bf16⟩
  | .hbm, ⟨87, _⟩ => ⟨S8192x128, .bf16⟩
  | .local _ .vmem, ⟨0, _⟩ => ⟨S512x512, .f32⟩
  | .local _ .vmem, ⟨1, _⟩ => ⟨S512x512, .f32⟩
  | .local _ .vmem, ⟨2, _⟩ => ⟨S1x256, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S256x1024, .bf16⟩
  | .local _ .vmem, ⟨13, _⟩ => ⟨S128x1024, .bf16⟩
  | .local _ .vmem, ⟨14, _⟩ => ⟨S128x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x256, .bf16⟩
  | .local _ .vmem, ⟨22, _⟩ => ⟨S512x256, .bf16⟩
  | .local _ .vmem, ⟨23, _⟩ => ⟨S512x128, .bf16⟩
  | .local _ .vmem, ⟨24, _⟩ => ⟨S512x128, .bf16⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_call2_v0 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_call3_v0 : Ref sig .tc := ⟨.hbm, 40, rfl⟩
abbrev main_v22 : Ref sig .tc := ⟨.hbm, 41, rfl⟩
abbrev main_c_4 : Ref sig .tc := ⟨.hbm, 42, rfl⟩
abbrev main_call4_v0 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_cst_13 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_v51 : Ref sig .tc := ⟨.hbm, 82, rfl⟩
abbrev main_v52_0 : Ref sig .tc := ⟨.hbm, 83, rfl⟩
abbrev main_v52_1 : Ref sig .tc := ⟨.hbm, 84, rfl⟩
abbrev main_v52_2 : Ref sig .tc := ⟨.hbm, 85, rfl⟩
abbrev main_v52_3 : Ref sig .tc := ⟨.hbm, 86, rfl⟩
abbrev main_v52_4 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PrepRefIdeal.lean ====
abbrev S4x2048x256 : Shape := ⟨3, ![4, 2048, 256]⟩
abbrev S4x2048x128 : Shape := ⟨3, ![4, 2048, 128]⟩
abbrev S4x2048x32 : Shape := ⟨3, ![4, 2048, 32]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x96 : Shape := ⟨2, ![1, 96]⟩
abbrev S256 : Shape := ⟨1, ![256]⟩
abbrev S_ : Shape := ⟨0, ![]⟩
abbrev S4x2048 : Shape := ⟨2, ![4, 2048]⟩
abbrev S4x2048x1 : Shape := ⟨3, ![4, 2048, 1]⟩
abbrev S1x1x256 : Shape := ⟨3, ![1, 1, 256]⟩
abbrev S128 : Shape := ⟨1, ![128]⟩
abbrev S1x1x128 : Shape := ⟨3, ![1, 1, 128]⟩
abbrev S128x1024 : Shape := ⟨2, ![128, 1024]⟩
abbrev S4x2048x1024 : Shape := ⟨3, ![4, 2048, 1024]⟩
abbrev S4x2048x8x128 : Shape := ⟨4, ![4, 2048, 8, 128]⟩
abbrev S4x2048x8x64 : Shape := ⟨4, ![4, 2048, 8, 64]⟩
abbrev S8192x1024 : Shape := ⟨2, ![8192, 1024]⟩
abbrev S8192x256 : Shape := ⟨2, ![8192, 256]⟩
abbrev S8192x128 : Shape := ⟨2, ![8192, 128]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S4x2048x128, .f32⟩
  | .hbm, ⟨2, _⟩ => ⟨S4x2048x32, .f32⟩
  | .hbm, ⟨3, _⟩ => ⟨S1x256, .f32⟩
  | .hbm, ⟨4, _⟩ => ⟨S1x256x768, .f32⟩
  | .hbm, ⟨5, _⟩ => ⟨S1x128, .f32⟩
  | .hbm, ⟨6, _⟩ => ⟨S1x128x1024, .f32⟩
  | .hbm, ⟨7, _⟩ => ⟨S1x96, .f32⟩
  | .hbm, ⟨8, _⟩ => ⟨S1x96, .f32⟩
  | .hbm, ⟨9, _⟩ => ⟨S256, .f32⟩
  | .hbm, ⟨10, _⟩ => ⟨S4x2048x256, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x256, .f32⟩
  | .hbm, ⟨22, _⟩ => ⟨S4x2048x256, .f32⟩
  | .hbm, ⟨23, _⟩ => ⟨S1x1x256, .f32⟩
  | .hbm, ⟨24, _⟩ => ⟨S4x2048x256, .f32⟩
  | .hbm, ⟨25, _⟩ => ⟨S4x2048x256, .f32⟩
  | .hbm, ⟨26, _⟩ => ⟨S128, .f32⟩
  | .hbm, ⟨27, _⟩ => ⟨S4x2048x128, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x128, .f32⟩
  | .hbm, ⟨39, _⟩ => ⟨S4x2048x128, .f32⟩
  | .hbm, ⟨40, _⟩ => ⟨S1x1x128, .f32⟩
  | .hbm, ⟨41, _⟩ => ⟨S4x2048x128, .f32⟩
  | .hbm, ⟨42, _⟩ => ⟨S4x2048x128, .f32⟩
  | .hbm, ⟨43, _⟩ => ⟨S128x1024, .f32⟩
  | .hbm, ⟨44, _⟩ => ⟨S4x2048x1024, .f32⟩
  | .hbm, ⟨45, _⟩ => ⟨S4x2048x8x128, .f32⟩
  | .hbm, ⟨46, _⟩ => ⟨S4x2048x8x64, .f32⟩
  | .hbm, ⟨47, _⟩ => ⟨S_, .i32⟩
  | .hbm, ⟨48, _⟩ => ⟨S_, .f32⟩
  | .hbm, ⟨49, _⟩ => ⟨S4x2048x8x128, .f32⟩
  | .hbm, ⟨50, _⟩ => ⟨S8192x1024, .f32⟩
  | .hbm, ⟨51, _⟩ => ⟨S8192x1024, .bf16⟩
  | .hbm, ⟨52, _⟩ => ⟨S8192x256, .f32⟩
  | .hbm, ⟨53, _⟩ => ⟨S8192x256, .bf16⟩
  | .hbm, ⟨54, _⟩ => ⟨S8192x128, .f32⟩
  | .hbm, ⟨55, _⟩ => ⟨S8192x128, .bf16⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proof.RealRow.lean ====
/- Extended reals that are real numbers: the closure properties the gradients' identities need. -/
module
public import Idealize.ShloMosaic.PureOps.Ideal
public import Idealize.ShloMosaic.Lib.Pointwise
@[expose] public section
noncomputable section
open Idealize.ShloMosaic

namespace Cert.RealRow

/-- A finite sum of real numbers, read in the extended reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- `x` is a real number. -/
def IsReal (x : EReal) : Prop := ∃ r : ℝ, x = r

theorem isReal_coe (r : ℝ) : IsReal r := ⟨r, rfl⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.neg {x : EReal} : IsReal x → IsReal (-x) := by
  rintro ⟨a, rfl⟩; exact ⟨-a, (EReal.coe_neg a).symm⟩
theorem IsReal.sum {ι : Type*} (s : Finset ι) {f : ι → EReal} (h : ∀ i, IsReal (f i)) : IsReal (∑ i ∈ s, f i) := by
  choose F hF using h
  exact ⟨∑ i ∈ s, F i, by rw [← sum_coe]; exact Finset.sum_congr rfl fun i _ => hF i⟩
/-- A row of real numbers is the reading of a row of `ℝ`. -/
theorem lift {ι : Type*} {f : ι → EReal} (h : ∀ i, IsReal (f i)) : ∃ F : ι → ℝ, f = fun i => (F i : EReal) := by
  choose F hF using h
  exact ⟨F, funext hF⟩
/-- The logistic function is real at every extended real. -/
theorem isReal_logistic (x : EReal) : IsReal (Ideal.logistic x) := by
  induction x using EReal.rec with
  | bot => exact ⟨0, by simp⟩
  | top => exact ⟨1, by simp⟩
  | coe r => exact ⟨_, Ideal.logistic_coe (r := r)⟩
/-- What the finiteness test accepts is a real number. -/
theorem isReal_of_abs_lt {x : EReal} (h : max x (-x) < ⊤) : IsReal x := by
  induction x using EReal.rec with
  | bot => simp at h
  | top => simp at h
  | coe r => exact ⟨r, rfl⟩

/-- The square of a reciprocal root, times what is under the root. -/
theorem rsqrt_sq {w : ℝ} (hw : 0 < w) : (Real.sqrt w)⁻¹ * (Real.sqrt w)⁻¹ * w = 1 := by
  have hs := Real.mul_self_sqrt hw.le
  have hp := (Real.sqrt_pos.mpr hw).ne'
  rw [← mul_inv, hs, inv_mul_cancel₀ hw.ne']

/-- The width of a normalised row of the convolution branch, and the norms' small constant. -/
def w512 : EReal := Ideal.ofBits FTy.f32 0x44000000#32
def eps : EReal := Ideal.ofBits FTy.f32 0x358637BD#32
theorem w512_eq : w512 = ((512 : ℝ) : EReal) := by
  simp [w512, Ideal.ofBits, Ideal.ieee, -EReal.coe_mul]; norm_num
theorem eps_pos : ∃ e : ℝ, 0 < e ∧ eps = (e : EReal) := by
  refine ⟨8796093 / 8796093022208, by norm_num, ?_⟩
  simp [eps, Ideal.ofBits, Ideal.ieee, -EReal.coe_mul]; norm_num
theorem two_eq : Ideal.ofBits FTy.f32 0x40000000#32 = ((2 : ℝ) : EReal) := by
  simp [Ideal.ofBits, Ideal.ieee, -EReal.coe_mul]; norm_num
theorem minus_half_eq : Ideal.ofBits FTy.f32 0xBF000000#32 = ((-(1 / 2) : ℝ) : EReal) := by
  simp [Ideal.ofBits, Ideal.ieee, -EReal.coe_mul]; norm_num

end Cert.RealRow
end
-- ==== Proof.NormSwish.lean ====
/- One row of the convolution branch: the layer norm, the swish after it, and their gradients, once in
   the kernel's form and once in the form the derivative of the forward lines takes. -/
module
public import proofs.«01_k».proof.Proof.RealRow
public import Mathlib.Tactic.FieldSimp
public import Mathlib.Tactic.LinearCombination
@[expose] public section
noncomputable section
open Idealize.ShloMosaic

namespace Cert.NormSwish
open Cert.RealRow

variable (u g b d : Fin 512 → EReal)

/-- The row's mean, the centred row, the reciprocal deviation, the normalised row, and the swish's argument. -/
def mean : EReal := Ideal.div (∑ k, u k) w512
def cen (j : Fin 512) : EReal := u j - mean u
def dev : EReal := Ideal.div (∑ k, cen u k * cen u k) w512 + eps
def rstd : EReal := Ideal.rsqrt (dev u)
def nrm (j : Fin 512) : EReal := cen u j * rstd u
def aff (j : Fin 512) : EReal := nrm u j * g j + b j
def swg (j : Fin 512) : EReal := Ideal.logistic (aff u g b j)

/-- The kernel's gradient at the swish's argument and at the row. -/
def dl (j : Fin 512) : EReal := d j * (swg u g b j * (1 + aff u g b j * (1 - swg u g b j)))
def dn (j : Fin 512) : EReal := dl u g b d j * g j
def du (j : Fin 512) : EReal :=
  rstd u * (dn u g b d j - Ideal.div (∑ k, dn u g b d k) w512
    - nrm u j * Ideal.div (∑ k, dn u g b d k * nrm u k) w512)

/-- The reference's gradient at the swish's argument. -/
def dlR (j : Fin 512) : EReal :=
  d j * swg u g b j + aff u g b j * d j * (swg u g b j * (1 - swg u g b j))
def dnR (j : Fin 512) : EReal := dlR u g b d j * g j
/-- The reference's part that passes through the deviation, and its part that does not. -/
def viaDev : EReal :=
  Ideal.div ((∑ k, cen u k * dnR u g b d k) * (Ideal.ofBits FTy.f32 0xBF000000#32 * Ideal.div (rstd u) (dev u))) w512
def direct (j : Fin 512) : EReal := dnR u g b d j * rstd u
def sq (j : Fin 512) : EReal := viaDev u g b d * (Ideal.ofBits FTy.f32 0x40000000#32 * cen u j)
def duR (j : Fin 512) : EReal :=
  direct u g b d j + sq u g b d j
    + Ideal.div ((∑ k, -direct u g b d k) + (∑ k, -sq u g b d k)) w512

section real
variable (U G B D : Fin 512 → ℝ)
abbrev lifted (F : Fin 512 → ℝ) : Fin 512 → EReal := fun k => (F k : EReal)

theorem div512 (x : ℝ) : Ideal.div (x : EReal) w512 = ((x / 512 : ℝ) : EReal) := by
  rw [w512_eq, Ideal.div_coe (by norm_num), ← EReal.coe_mul]; congr 1; ring

def meanR : ℝ := (∑ k, U k) / 512
theorem mean_eq : mean (lifted U) = (meanR U : EReal) := by
  rw [mean, sum_coe, div512]; rfl
def cenR (j : Fin 512) : ℝ := U j - meanR U
theorem cen_eq (j : Fin 512) : cen (lifted U) j = (cenR U j : EReal) := by
  rw [cen, mean_eq, ← EReal.coe_sub]; rfl
theorem sum_cenR : ∑ k, cenR U k = 0 := by
  simp only [cenR, Finset.sum_sub_distrib, Finset.sum_const, Finset.card_univ, Fintype.card_fin, meanR, nsmul_eq_mul]
  push_cast; ring
/-- The deviation is a positive real, and its reciprocal root's square is its reciprocal. -/
theorem dev_real : ∃ w r : ℝ, 0 < w ∧ r * r * w = 1 ∧ dev (lifted U) = (w : EReal) ∧ rstd (lifted U) = (r : EReal) := by
  obtain ⟨e, he, hE⟩ := eps_pos
  have hv : 0 ≤ (∑ k, cenR U k * cenR U k) / 512 :=
    div_nonneg (Finset.sum_nonneg fun k _ => mul_self_nonneg _) (by norm_num)
  have hw : 0 < (∑ k, cenR U k * cenR U k) / 512 + e := by linarith
  have hd : dev (lifted U) = (((∑ k, cenR U k * cenR U k) / 512 + e : ℝ) : EReal) := by
    simp only [dev, cen_eq, ← EReal.coe_mul]
    rw [sum_coe, div512, hE, ← EReal.coe_add]
  refine ⟨_, (Real.sqrt ((∑ k, cenR U k * cenR U k) / 512 + e))⁻¹, hw, ?_, hd, ?_⟩
  · exact rsqrt_sq hw
  · rw [rstd, hd, Ideal.rsqrt_coe, if_neg (not_lt.mpr hw.le), if_neg hw.ne']
end real

theorem real_dl (hu : ∀ k, IsReal (u k)) (hg : ∀ k, IsReal (g k)) (hb : ∀ k, IsReal (b k)) (hd : ∀ k, IsReal (d k))
    (j : Fin 512) : dl u g b d j = dlR u g b d j ∧ IsReal (dl u g b d j) := by
  obtain ⟨U, rfl⟩ := lift hu
  obtain ⟨w, r, hw, hr, hD, hR⟩ := dev_real U
  obtain ⟨gj, hgj⟩ := hg j
  obtain ⟨bj, hbj⟩ := hb j
  obtain ⟨dj, hdj⟩ := hd j
  obtain ⟨s, hs⟩ := isReal_logistic (aff (lifted U) g b j)
  have ha : aff (lifted U) g b j = ((cenR U j * r * gj + bj : ℝ) : EReal) := by
    rw [aff, nrm, cen_eq, hR, hgj, hbj]; push_cast; rfl
  have h1 : (1 : EReal) = ((1 : ℝ) : EReal) := rfl
  have hk : dl (lifted U) g b d j = ((dj * (s * (1 + (cenR U j * r * gj + bj) * (1 - s))) : ℝ) : EReal) := by
    rw [dl, swg, hs, ha, hdj]; push_cast; rfl
  refine ⟨?_, _, hk⟩
  rw [hk, dlR, swg, hs, ha, hdj, h1, ← EReal.coe_sub, ← EReal.coe_mul, ← EReal.coe_mul, ← EReal.coe_mul, ← EReal.coe_mul,
    ← EReal.coe_add]
  congr 1; ring

/-- The two gradients of the row agree where the row, the norm's scale and shift, and the cotangent are real. -/
theorem du_eq (hu : ∀ k, IsReal (u k)) (hg : ∀ k, IsReal (g k)) (hb : ∀ k, IsReal (b k)) (hd : ∀ k, IsReal (d k))
    (j : Fin 512) : du u g b d j = duR u g b d j := by
  have hdl := fun k => (real_dl u g b d hu hg hb hd k)
  obtain ⟨N, hN⟩ := lift fun k => (hdl k).2.mul (hg k)
  have hdn : ∀ k, dn u g b d k = (N k : EReal) := fun k => congrFun hN k
  have hdnR : ∀ k, dnR u g b d k = (N k : EReal) := fun k => by rw [dnR, ← (hdl k).1]; exact hdn k
  obtain ⟨U, rfl⟩ := lift hu
  obtain ⟨w, r, hw, hr, hD, hR⟩ := dev_real U
  have hK : du (lifted U) g b d j
      = ((r * (N j - (∑ k, N k) / 512 - cenR U j * r * ((∑ k, N k * (cenR U k * r)) / 512)) : ℝ) : EReal) := by
    simp only [du, nrm, cen_eq, hdn, hR, ← EReal.coe_mul, sum_coe, div512, ← EReal.coe_sub]
  have hV : viaDev (lifted U) g b d = (((∑ k, cenR U k * N k) * (-(1 / 2) * (r * (1 / w))) / 512 : ℝ) : EReal) := by
    simp only [viaDev, cen_eq, hdnR, hR, hD, minus_half_eq, Ideal.div_coe hw.ne', ← EReal.coe_mul, sum_coe, div512]
  have hQ : duR (lifted U) g b d j
      = ((N j * r + ((∑ k, cenR U k * N k) * (-(1 / 2) * (r * (1 / w))) / 512) * (2 * cenR U j)
          + ((∑ k, -(N k * r)) + (∑ k, -(((∑ k, cenR U k * N k) * (-(1 / 2) * (r * (1 / w))) / 512) * (2 * cenR U k)))) / 512 : ℝ)
          : EReal) := by
    simp only [duR, direct, sq, hV, cen_eq, hdnR, hR, two_eq, ← EReal.coe_mul, ← EReal.coe_neg, sum_coe, ← EReal.coe_add,
      div512]
  rw [hK, hQ]
  congr 1
  have e1 : (∑ k, N k * (cenR U k * r)) = (∑ k, cenR U k * N k) * r := by
    rw [Finset.sum_mul]; exact Finset.sum_congr rfl fun k _ => by ring
  have e2 : (∑ k, -(N k * r)) = -((∑ k, N k) * r) := by
    rw [Finset.sum_neg_distrib, Finset.sum_mul]
  have e3 : ∀ c : ℝ, (∑ k, -(c * (2 * cenR U k))) = 0 := fun c => by
    rw [Finset.sum_neg_distrib, ← Finset.mul_sum, ← Finset.mul_sum, sum_cenR]; ring
  rw [e1, e2, e3]
  have hrw : 1 / w = r * r := by field_simp; linarith
  rw [hrw]; ring

end Cert.NormSwish
end
-- ==== Proof.MixSpec.lean ====
/- The gated merge's gradients at one position of the batch, as functions of the program's arguments: what
   both the kernel and the derivative of the forward lines are compared with. -/
module
public import proofs.«01_k».proof.Proof.NormSwish
public import Idealize.ShloMosaic.Lib.Pointwise
@[expose] public section
noncomputable section
open Idealize.ShloMosaic

namespace Cert.MixSpec
open Cert.NormSwish

/-- The shapes of the arguments. -/
abbrev Seq (n : ℕ) : Type := FVec Ideal ⟨3, ![4, 2048, n]⟩ .f32
abbrev Row (n : ℕ) : Type := FVec Ideal ⟨2, ![1, n]⟩ .f32
abbrev Mat (a b : ℕ) : Type := FVec Ideal ⟨3, ![1, a, b]⟩ .f32

variable (attn conv : Seq 512) (zg : Seq 2048) (wo : Mat 512 1024) (cb lg lb : Row 512) (wp : Mat 512 1024)
  (wout : Mat 1024 1024) (dm : Seq 1024) (b : Fin 4) (s : Fin 2048)

/-- The cotangent of the merged branches, and the two gates. -/
def dmp (j : Fin 1024) : EReal := ∑ k : Fin 1024, dm (ix3 b s k) * wout (ix3 0 j k)
def ga (j : Fin 1024) : EReal := Ideal.logistic (zg (ix3 b s ⟨j.val, by omega⟩))
def gb (j : Fin 1024) : EReal := Ideal.logistic (zg (ix3 b s ⟨1024 + j.val, by omega⟩))
def dya (j : Fin 1024) : EReal := dmp wout dm b s j * ga zg b s j
def dyb (j : Fin 1024) : EReal := dmp wout dm b s j * gb zg b s j
/-- The convolution branch: its row, the norm's scale and shift, the branch's value. -/
def u1 (k : Fin 512) : EReal := conv (ix3 b s k) + cb (ix2 0 k)
def row (x : Row 512) (k : Fin 512) : EReal := x (ix2 0 k)
def ya (j : Fin 1024) : EReal := ∑ k : Fin 512, attn (ix3 b s k) * wo (ix3 0 k j)
def yb (j : Fin 1024) : EReal :=
  ∑ k : Fin 512, (aff (u1 conv cb b s) (row lg) (row lb) k * swg (u1 conv cb b s) (row lg) (row lb) k) * wp (ix3 0 k j)
/-- The gates' gradients, one half of the columns each. -/
def dza (j : Fin 1024) : EReal := (dmp wout dm b s j * ya attn wo b s j) * (ga zg b s j * (1 - ga zg b s j))
def dzb (j : Fin 1024) : EReal :=
  (dmp wout dm b s j * yb conv cb lg lb wp b s j) * (gb zg b s j * (1 - gb zg b s j))
/-- The gates' gradients by column; past them the padding's zero. -/
def dz (j : ℕ) : EReal :=
  if h : j < 1024 then dza attn zg wo wout dm b s ⟨j, h⟩
  else if h : j < 2048 then dzb conv zg cb lg lb wp wout dm b s ⟨j - 1024, by omega⟩ else 0
/-- The attention's cotangent, each head's 64 columns padded to 128 lanes by zeros. -/
def wpad (j : Fin 1024) (k : Fin 1024) : EReal :=
  if h : j.val % 128 < 64 then wo (ix3 0 ⟨j.val / 128 * 64 + j.val % 128, by omega⟩ k) else 0
def dout (j : Fin 1024) : EReal := ∑ k : Fin 1024, dya zg wout dm b s k * wpad wo j k
/-- The cotangent of the branch's swish. -/
def du3 (j : Fin 512) : EReal := ∑ k : Fin 1024, dyb zg wout dm b s k * wp (ix3 0 j k)

end Cert.MixSpec
end
-- ==== Proof.MixKernel.lean ====
/- What the kernel's call leaves in its eight results, as the functions of the arguments in MixSpec. -/
module
public import proofs.«01_k».proof.Proof.Gen.MixIdeal.Value
public import proofs.«01_k».proof.Proof.MixSpec
public import Idealize.ShloMosaic.Lib.Pipeline.ValueKit
public import Idealize.ShloMosaic.Lib.Claim
public import Idealize.ShloMosaic.Lib.KernelVsHost
@[expose] public section
set_option maxRecDepth 16384
noncomputable section
open Idealize.ShloMosaic Idealize.ShloMosaic.TcCoe Idealize.SL.Sem
open Idealize.ShloMosaic.Pipeline (Dat)

namespace Cert.MixIdeal.MixValue
open Cert.MixIdeal Cert.MixIdeal.Gen Cert.MixSpec Cert.NormSwish

variable (m : (ℓ : Loc nD τ sig) → Buf (Elt Ideal) ℓ) (c : Dev nD)

/-- The arguments. -/
abbrev X0 : Seq 512 := m (c, Proc.tc.devRef main_arg0)
abbrev X1 : Seq 512 := m (c, Proc.tc.devRef main_arg1)
abbrev X2 : Seq 2048 := m (c, Proc.tc.devRef main_arg2)
abbrev X3 : Mat 512 1024 := m (c, Proc.tc.devRef main_arg3)
abbrev X4 : Row 512 := m (c, Proc.tc.devRef main_arg4)
abbrev X5 : Row 512 := m (c, Proc.tc.devRef main_arg5)
abbrev X6 : Row 512 := m (c, Proc.tc.devRef main_arg6)
abbrev X7 : Mat 512 1024 := m (c, Proc.tc.devRef main_arg7)
abbrev X8 : Mat 1024 1024 := m (c, Proc.tc.devRef main_arg8)
abbrev X9 : Seq 1024 := m (c, Proc.tc.devRef main_arg9)

/-- The batch and the position of a row of the flattened arrays. -/
def bi (r : Fin 8192) : Fin 4 := ⟨r.val / 2048, by omega⟩
def si (r : Fin 8192) : Fin 2048 := ⟨r.val % 2048, by omega⟩
/-- The row of the arrays that row `p` of block `t` is. -/
def rowOf (t : Fin cfg0.N) (p : Fin 512) : Fin 8192 :=
  ⟨512 * t.val + p.val, by have := t.isLt; have : cfg0.N = 16 := N_0; omega⟩

/-- The blocks the windows take. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0]
    ∧ win0_14.index t = ![t.val, 0] :=
  (by decide +kernel : ∀ t : Fin grid0.N, _)

theorem caseB {t : Fin cfg0.N} (h : ¬ t.val % 16 = 0) : 1 ≤ t.val := by omega
theorem caseA {t : Fin cfg0.N} (h : t.val % 16 = 0) : ¬1 ≤ t.val := by
  have := t.isLt; have : cfg0.N = 16 := N_0; omega

set_option maxHeartbeats 2000000 in
/-- The operands when the call starts: the host's lines, read at an index. -/
theorem operands (r : Fin 8192) (q : Fin 1024) (p k : Fin 512) (j : Fin 1024) (z : Fin 2048) :
    V m c main_v44 (ix2 r j) = X9 m c (ix3 (bi r) (si r) j)
    ∧ V m c main_v45 (ix2 r z) = X2 m c (ix3 (bi r) (si r) z)
    ∧ V m c main_v46 (ix2 r j) = ya (X0 m c) (X3 m c) (bi r) (si r) j
    ∧ V m c main_v47 (ix2 r j) = yb (X1 m c) (X4 m c) (X5 m c) (X6 m c) (X7 m c) (bi r) (si r) j
    ∧ V m c main_v48 (ix2 r k) = u1 (X1 m c) (X4 m c) (bi r) (si r) k
    ∧ V m c main_v50 (ix2 q j) = X8 m c (ix3 0 q j)
    ∧ V m c main_v51 (ix2 q j) = wpad (X3 m c) q j
    ∧ V m c main_v53 (ix2 p j) = X7 m c (ix3 0 p j) := by
  refine ⟨?_, ?_, ?_, ?_, ?_, ?_, ?_, ?_⟩ <;>
  (simp only [V, hostOps0, hostOps0_1, hostOps0_2, hostOps0_3, hostOps0_4, List.flatten_cons, List.flatten_nil,
      List.append_nil, List.cons_append, List.nil_append, StableHlo.TRef.binary, StableHlo.TRef.unary,
      StableHlo.TRef.nullary, StableHlo.TRef.toBuf, StableHlo.TRef.ofBuf, cast_eq]
   after_results_simp
   pointwise
   try simp only [ya, yb, u1, row, aff, swg, nrm, cen, rstd, dev, mean, RealRow.w512, RealRow.eps, Ideal.logistic, bi, si]
   try with_reducible rfl)
  unfold wpad
  have hq : q.val / 128 < 8 := by omega
  by_cases h : q.val % 128 < 64
  · rw [dif_pos ⟨hq, h⟩, dif_pos h]
  · rw [dif_neg (fun e => h e.2), dif_neg h]
    exact sitofp_zero (φ := FTy.f32)

/-- The operands' blocks, read at an index. -/
theorem b0 (t : Fin cfg0.N) (p : Fin 512) (k : Fin 1024) :
    iblk m c 0 t (ix2 p k) = X9 m c (ix3 (bi (rowOf t p)) (si (rowOf t p)) k) := by
  rw [← (operands m c (rowOf t p) 0 0 0 k 0).1]; unfold rowOf; blk_point [iblk, V, idx t]
theorem b1 (t : Fin cfg0.N) (p : Fin 512) (k : Fin 2048) :
    iblk m c 1 t (ix2 p k) = X2 m c (ix3 (bi (rowOf t p)) (si (rowOf t p)) k) := by
  rw [← (operands m c (rowOf t p) 0 0 0 0 k).2.1]; unfold rowOf; blk_point [iblk, V, idx t]
theorem b2 (t : Fin cfg0.N) (p : Fin 512) (k : Fin 1024) :
    iblk m c 2 t (ix2 p k) = ya (X0 m c) (X3 m c) (bi (rowOf t p)) (si (rowOf t p)) k := by
  rw [← (operands m c (rowOf t p) 0 0 0 k 0).2.2.1]; unfold rowOf; blk_point [iblk, V, idx t]
theorem b3 (t : Fin cfg0.N) (p : Fin 512) (k : Fin 1024) :
    iblk m c 3 t (ix2 p k)
      = yb (X1 m c) (X4 m c) (X5 m c) (X6 m c) (X7 m c) (bi (rowOf t p)) (si (rowOf t p)) k := by
  rw [← (operands m c (rowOf t p) 0 0 0 k 0).2.2.2.1]; unfold rowOf; blk_point [iblk, V, idx t]
theorem b4 (t : Fin cfg0.N) (p : Fin 512) (k : Fin 512) :
    iblk m c 4 t (ix2 p k) = u1 (X1 m c) (X4 m c) (bi (rowOf t p)) (si (rowOf t p)) k := by
  rw [← (operands m c (rowOf t p) 0 0 k 0 0).2.2.2.2.1]; unfold rowOf; blk_point [iblk, V, idx t]
theorem b5 (t : Fin cfg0.N) (k : Fin 512) : iblk m c 5 t (ix2 0 k) = row (X5 m c) k := by
  unfold row; blk_point [iblk, V, idx t]
theorem b6 (t : Fin cfg0.N) (k : Fin 512) : iblk m c 6 t (ix2 0 k) = row (X6 m c) k := by
  unfold row; blk_point [iblk, V, idx t]
theorem b7 (t : Fin cfg0.N) (q k : Fin 1024) : iblk m c 7 t (ix2 q k) = X8 m c (ix3 0 q k) := by
  rw [← (operands m c 0 q 0 0 k 0).2.2.2.2.2.1]; blk_point [iblk, V, idx t]
theorem b8 (t : Fin cfg0.N) (q k : Fin 1024) : iblk m c 8 t (ix2 q k) = wpad (X3 m c) q k := by
  rw [← (operands m c 0 q 0 0 k 0).2.2.2.2.2.2.1]; blk_point [iblk, V, idx t]
theorem b9 (t : Fin cfg0.N) (q : Fin 512) (k : Fin 1024) : iblk m c 9 t (ix2 q k) = X7 m c (ix3 0 q k) := by
  rw [← (operands m c 0 0 q 0 k 0).2.2.2.2.2.2.2]; blk_point [iblk, V, idx t]

end Cert.MixIdeal.MixValue
end
-- ==== Proof.MixBand.lean ====
/- One band of 256 rows of the kernel's block: what its row of the norm's and the swish's gradient is. -/
module
public import proofs.«01_k».proof.Proof.Gen.MixIdeal.Value
public import proofs.«01_k».proof.Proof.MixSpec
public import Idealize.ShloMosaic.Lib.Pipeline.ValueKit
@[expose] public section
set_option maxRecDepth 16384
noncomputable section
open Idealize.ShloMosaic Idealize.ShloMosaic.TcCoe Idealize.SL.Sem

namespace Cert.MixIdeal.MixValue
open Cert.MixIdeal Cert.MixIdeal.Gen Cert.MixSpec Cert.NormSwish Cert.RealRow

/-- A row of a band, and the one row of a parameter. -/
def rowf {a : ℕ} (x : FVec Ideal ⟨2, ![a, 512]⟩ .f32) (p : Fin a) (k : Fin 512) : EReal := x (ix2 p k)

variable (u d : FVec Ideal S256x512 .f32) (lg lb : FVec Ideal S1x512 .f32) (p : Fin 256) (q : Fin 512)

theorem cen22 : k0_pay22 (F := Ideal) u (ix2 p q) = cen (rowf u p) q := by
  pointwise [k0_pay22, cen, mean, rowf, w512]
theorem cen31 : k0_pay31 (F := Ideal) u (ix2 p q) = cen (rowf u p) q := by
  pointwise [k0_pay31, cen, mean, rowf, w512]
theorem rstd24 : k0_pay24 (F := Ideal) (k0_pay23 u) (ix2 p 0) = rstd (rowf u p) := by
  pointwise [k0_pay24, k0_pay23, rstd, dev, w512, eps]; simp only [cen22]
theorem rstd32 : k0_pay32 (F := Ideal) u (ix2 p 0) = rstd (rowf u p) := by
  pointwise [k0_pay32, rstd, dev, w512, eps]; simp only [cen31]
theorem nrm25 : k0_pay25 (F := Ideal) (k0_pay22 u) (k0_pay23 u) (ix2 p q) = nrm (rowf u p) q := by
  pointwise [k0_pay25, nrm]; simp only [cen22, rstd24]
theorem nrm33 : k0_pay33 (F := Ideal) u (ix2 p q) = nrm (rowf u p) q := by
  pointwise [k0_pay33, nrm]; simp only [cen31, rstd32]
theorem dl26 : k0_pay26 (F := Ideal) d (k0_pay22 u) (k0_pay23 u) lg lb (ix2 p q)
    = dl (rowf u p) (rowf lg 0) (rowf lb 0) (rowf d p) q := by
  pointwise [k0_pay26, dl, swg, aff]; simp only [nrm25]; rfl
theorem dl34 : k0_pay34 (F := Ideal) d u lg lb (ix2 p q) = dl (rowf u p) (rowf lg 0) (rowf lb 0) (rowf d p) q := by
  pointwise [k0_pay34, dl, swg, aff]; simp only [nrm33]; rfl
theorem du27 : k0_pay27 (F := Ideal) d (k0_pay22 u) (k0_pay23 u) lg lb lg (ix2 p q)
    = du (rowf u p) (rowf lg 0) (rowf lb 0) (rowf d p) q := by
  pointwise [k0_pay27, du, dn, w512]; simp only [nrm25, dl26, rstd24]; rfl
theorem dn35 : k0_pay35 (F := Ideal) d u lg lb lg (ix2 p q) = dn (rowf u p) (rowf lg 0) (rowf lb 0) (rowf d p) q := by
  pointwise [k0_pay35, dn]; simp only [dl34]; rfl
theorem du37 : k0_pay37 (F := Ideal) (k0_pay32 u) (k0_pay33 u) (k0_pay35 d u lg lb lg) (k0_pay36 d u lg lb lg) (ix2 p q)
    = du (rowf u p) (rowf lg 0) (rowf lb 0) (rowf d p) q := by
  pointwise [k0_pay37, k0_pay36, du, w512]; simp only [nrm33, dn35, rstd32]

/-- The swish's cotangent at a row of either band: the merge's cotangent, gated, times the branch's weights. -/
def du3f (v0 : FVec Ideal S256x1024 .bf16) (v2 : FVec Ideal S1024x1024 .bf16) (v13 : FVec Ideal S256x1024 .f32)
    (v75 : FVec Ideal S512x1024 .bf16) (p : Fin 256) (q : Fin 512) : EReal :=
  ∑ k : Fin 1024, ((∑ j : Fin 1024, v0 (ix2 p j) * v2 (ix2 k j)) * Ideal.logistic (v13 (ix2 p k))) * v75 (ix2 q k)
theorem d18 (v0 : FVec Ideal S256x1024 .bf16) (v2 : FVec Ideal S1024x1024 .bf16) (v13 : FVec Ideal S256x1024 .f32)
    (v75 : FVec Ideal S512x1024 .bf16) :
    rowf (k0_pay18 (F := Ideal) (k0_pay7 v0 v2 v13) v75) p = du3f v0 v2 v13 v75 p := by
  funext q; unfold rowf du3f; pointwise [k0_pay18, k0_pay7, k0_pay2, k0_pay5]
theorem d20 (v0 : FVec Ideal S256x1024 .bf16) (v2 : FVec Ideal S1024x1024 .bf16) (v13 : FVec Ideal S256x1024 .f32)
    (v75 : FVec Ideal S512x1024 .bf16) :
    rowf (k0_pay20 (F := Ideal) (k0_pay13 (k0_pay3 v0 v2) v13) v75) p = du3f v0 v2 v13 v75 p := by
  funext q; unfold rowf du3f; pointwise [k0_pay20, k0_pay13, k0_pay11, k0_pay3]

end Cert.MixIdeal.MixValue
end
-- ==== Proof.MixOut.lean ====
/- The arrays the call's results are left as: the functions of the arguments in MixSpec, one theorem for each. -/
module
public import proofs.«01_k».proof.Proof.MixKernel
public import proofs.«01_k».proof.Proof.MixBand
@[expose] public section
set_option maxRecDepth 16384
noncomputable section
open Idealize.ShloMosaic Idealize.ShloMosaic.TcCoe Idealize.SL.Sem
open Idealize.ShloMosaic.Pipeline (Dat)
namespace Cert.MixIdeal.MixValue
open Cert.MixIdeal Cert.MixIdeal.Gen Cert.MixSpec Cert.NormSwish
variable (m : (ℓ : Loc nD τ sig) → Buf (Elt Ideal) ℓ) (c : Dev nD)

/-- The convolution branch's row and the cotangent of its swish, at row `r` of the flattened arrays. -/
def uRow (r : Fin 8192) : Fin 512 → EReal := u1 (X1 m c) (X4 m c) (bi r) (si r)
def dRow (r : Fin 8192) : Fin 512 → EReal := du3 (X2 m c) (X7 m c) (X8 m c) (X9 m c) (bi r) (si r)
/-- The two bands' rows of block `t`. -/
def low (t : Fin cfg0.N) (p : Fin 256) : Fin 8192 := rowOf t ⟨p.val, by omega⟩
def high (t : Fin cfg0.N) (p : Fin 256) : Fin 8192 := rowOf t ⟨256 + p.val, by omega⟩

theorem u_low (t : Fin cfg0.N) (p : Fin 256) :
    rowf (View.ld (iblk m c 4 t) (Rect.unit ![0, 0] ![256, 512] inb_S512x512_S256x512_0_0)) p = uRow m c (low t p) := by
  funext k; unfold rowf uRow low; rw [← b4]; pointwise
theorem u_high (t : Fin cfg0.N) (p : Fin 256) :
    rowf (View.ld (iblk m c 4 t) (Rect.unit ![256, 0] ![256, 512] inb_S512x512_S256x512_256_0)) p = uRow m c (high t p) := by
  funext k; unfold rowf uRow high; rw [← b4]; pointwise
theorem g_row (t : Fin cfg0.N) : rowf (iblk m c 5 t) 0 = row (X5 m c) := funext fun k => b5 m c t k
theorem b_row (t : Fin cfg0.N) : rowf (iblk m c 6 t) 0 = row (X6 m c) := funext fun k => b6 m c t k
theorem d_low (t : Fin cfg0.N) (p : Fin 256) :
    du3f (View.ld (Val := Elt Ideal) (S := S512x1024) (e' := .bf16) (iblk m c 0 t) (Rect.unit ![0, 0] ![256, 1024] inb_S512x1024_S256x1024_0_0)) (iblk m c 7 t)
        (View.ld (iblk m c 1 t) (Rect.unit ![0, 1024] ![256, 1024] inb_S512x2048_S256x1024_0_1024)) (iblk m c 9 t) p
      = dRow m c (low t p) := by
  funext k; unfold du3f dRow low
  pointwise [du3, dyb, dmp, gb]
  simp only [b0, b1, b7, b9]
theorem d_high (t : Fin cfg0.N) (p : Fin 256) :
    du3f (View.ld (Val := Elt Ideal) (S := S512x1024) (e' := .bf16) (iblk m c 0 t) (Rect.unit ![256, 0] ![256, 1024] inb_S512x1024_S256x1024_256_0)) (iblk m c 7 t)
        (View.ld (iblk m c 1 t) (Rect.unit ![256, 1024] ![256, 1024] inb_S512x2048_S256x1024_256_1024)) (iblk m c 9 t) p
      = dRow m c (high t p) := by
  funext k; unfold du3f dRow high
  pointwise [du3, dyb, dmp, gb]
  simp only [b0, b1, b7, b9]

/-- A sum down the two bands is a sum over the block's rows. -/
theorem bands (t : Fin cfg0.N) (f : Fin 8192 → EReal) :
    (∑ p : Fin 256, f (low t p)) + (∑ p : Fin 256, f (high t p)) = ∑ p : Fin 512, f (rowOf t p) :=
  (Fin.sum_univ_add (a := 256) (b := 256) fun p => f (rowOf t p)).symm

/-- Where the block of a result's window lies in the result. -/
theorem emb10 (t : Fin cfg0.N) (y : ((cfg0.win 10).xblock (cfg0.grid.coords t)).Idx) (p : Fin 512) (q : Fin 1024)
    (h0 : (y 0).val = p.val) (h1 : (y 1).val = q.val) :
    (((View.whole main_v54_0).slice (win0_10.rect t)).emb y 0) = rowOf t p
      ∧ (((View.whole main_v54_0).slice (win0_10.rect t)).emb y 1) = q := by
  constructor <;> (apply Fin.ext; simp [rowOf, View.slice, idx t, Pipeline.WinKind.off]; omega)

set_option maxHeartbeats 1000000 in
theorem arr10 : (dats m 0 c).arrAt 10 cfg0.N
    = fun z => dya (X2 m c) (X8 m c) (X9 m c) (bi (z 0)) (si (z 0)) (z 1) := by
  refine (dats m 0 c).arrAt_eq_of_covers 10 _ (by decide +kernel) fun t hf y => ?_
  blk_simp
  rw [after0_10]
  by_cases h : t.val % 16 = 0
  on_goal 1 => rw [outsAt0_A m c t h (caseA h) h (caseA h) h (caseA h)]; frame_out
  on_goal 2 => rw [outsAt0_B m c t h (caseB h) h (caseB h) h (caseB h)]; frame_out
  all_goals canon_tiles x h
  all_goals obtain ⟨p, q, rfl⟩ : ∃ p q, x = ix2 p q := ⟨x 0, x 1, ValueIdx.eq_ix2 x⟩
  all_goals pointwise [k0_pay6,k0_pay2,k0_pay4,k0_pay12,k0_pay10,k0_pay3,dya,dmp,ga]
  all_goals simp only [b0,b1,b7]
  all_goals first
    | rw [(emb10 t y ⟨256 + p.val, by omega⟩ q h0 h1).1, (emb10 t y ⟨256 + p.val, by omega⟩ q h0 h1).2]
    | rw [(emb10 t y ⟨p.val, by omega⟩ q h0 h1).1, (emb10 t y ⟨p.val, by omega⟩ q h0 h1).2]

theorem emb11 (t : Fin cfg0.N) (y : ((cfg0.win 11).xblock (cfg0.grid.coords t)).Idx) (p : Fin 512) (q : Fin 1024)
    (h0 : (y 0).val = p.val) (h1 : (y 1).val = q.val) :
    (((View.whole main_v54_1).slice (win0_11.rect t)).emb y 0) = rowOf t p
      ∧ (((View.whole main_v54_1).slice (win0_11.rect t)).emb y 1) = q := by
  constructor <;> (apply Fin.ext; simp [rowOf, View.slice, idx t, Pipeline.WinKind.off]; omega)

set_option maxHeartbeats 2000000 in
theorem arr11 : (dats m 0 c).arrAt 11 cfg0.N
    = fun z => dyb (X2 m c) (X8 m c) (X9 m c) (bi (z 0)) (si (z 0)) (z 1) := by
  refine (dats m 0 c).arrAt_eq_of_covers 11 _ (by decide +kernel) fun t hf y => ?_
  blk_simp
  rw [after0_11]
  by_cases h : t.val % 16 = 0
  on_goal 1 => rw [outsAt0_A m c t h (caseA h) h (caseA h) h (caseA h)]; frame_out
  on_goal 2 => rw [outsAt0_B m c t h (caseB h) h (caseB h) h (caseB h)]; frame_out
  all_goals canon_tiles x h
  all_goals obtain ⟨p, q, rfl⟩ : ∃ p q, x = ix2 p q := ⟨x 0, x 1, ValueIdx.eq_ix2 x⟩
  all_goals pointwise [k0_pay2, k0_pay3, k0_pay4, k0_pay5, k0_pay7, k0_pay8, k0_pay9, k0_pay10, k0_pay11, k0_pay12, k0_pay13, k0_pay14, k0_pay15, k0_pay16, k0_pay17, k0_pay19, dyb, dmp, gb]
  all_goals simp only [b0,b1,b7]
  all_goals first
    | rw [(emb11 t y ⟨256 + p.val, by omega⟩ q h0 h1).1, (emb11 t y ⟨256 + p.val, by omega⟩ q h0 h1).2]
    | rw [(emb11 t y ⟨p.val, by omega⟩ q h0 h1).1, (emb11 t y ⟨p.val, by omega⟩ q h0 h1).2]

theorem emb12 (t : Fin cfg0.N) (y : ((cfg0.win 12).xblock (cfg0.grid.coords t)).Idx) (p : Fin 512) (q : Fin 3584)
    (h0 : (y 0).val = p.val) (h1 : (y 1).val = q.val) :
    (((View.whole main_v54_2).slice (win0_12.rect t)).emb y 0) = rowOf t p
      ∧ (((View.whole main_v54_2).slice (win0_12.rect t)).emb y 1) = q := by
  have e := (idx t).2.2.2.2.2.2.2.2.2.2.2.2.1
  constructor <;> apply Fin.ext
  · refine (Pipeline.Window.rect_emb_val win0_12 t y 0 rfl).trans ?_
    rw [e]
    show t.val * 512 + (y 0).val = 512 * t.val + p.val
    omega
  · refine (Pipeline.Window.rect_emb_val win0_12 t y 1 rfl).trans ?_
    rw [e]
    show 0 * _ + (y 1).val = q.val
    omega

theorem covers12 : (cfg0.win 12).CoversWhere (fun β => β 1 = 0) := by decide +kernel

/-- The gates' gradients at row `r`. -/
def zRow (r : Fin 8192) : ℕ → EReal :=
  dz (X0 m c) (X1 m c) (X2 m c) (X3 m c) (X4 m c) (X5 m c) (X6 m c) (X7 m c) (X8 m c) (X9 m c) (bi r) (si r)
theorem zRow_a (r : Fin 8192) (q : Fin 1024) :
    zRow m c r q.val = dza (X0 m c) (X2 m c) (X3 m c) (X8 m c) (X9 m c) (bi r) (si r) q := dif_pos q.isLt
theorem zRow_b (r : Fin 8192) (q : Fin 1024) :
    zRow m c r (1024 + q.val)
      = dzb (X1 m c) (X2 m c) (X4 m c) (X5 m c) (X6 m c) (X7 m c) (X8 m c) (X9 m c) (bi r) (si r) q := by
  have e : (⟨1024 + q.val - 1024, by omega⟩ : Fin 1024) = q := Fin.ext (Nat.add_sub_cancel_left ..)
  unfold zRow dz
  rw [dif_neg (by omega), dif_pos (by omega), e]

theorem point12 (t : Fin cfg0.N) (y : S512x2048.Idx) :
    (outsAt0 m c t.val t.isLt).2.2.1 y = zRow m c (rowOf t (y 0)) (y 1).val := by
  by_cases h : t.val % 16 = 0
  on_goal 1 => rw [outsAt0_A m c t h (caseA h) h (caseA h) h (caseA h)]; frame_out
  on_goal 2 => rw [outsAt0_B m c t h (caseB h) h (caseB h) h (caseB h)]; frame_out
  all_goals canon_tiles x h
  all_goals obtain ⟨p, q, rfl⟩ : ∃ p q, x = ix2 p q := ⟨x 0, x 1, ValueIdx.eq_ix2 x⟩
  all_goals first
    | rw [show y 0 = ((⟨256 + p.val, by omega⟩ : Fin 512)) from Fin.ext h0, show (y 1).val = 1024 + q.val from h1, zRow_b]
    | rw [show y 0 = ((⟨256 + p.val, by omega⟩ : Fin 512)) from Fin.ext h0, show (y 1).val = q.val from h1, zRow_a]
    | rw [show y 0 = ((⟨p.val, by omega⟩ : Fin 512)) from Fin.ext h0, show (y 1).val = 1024 + q.val from h1, zRow_b]
    | rw [show y 0 = ((⟨p.val, by omega⟩ : Fin 512)) from Fin.ext h0, show (y 1).val = q.val from h1, zRow_a]
  all_goals pointwise [k0_pay2, k0_pay3, k0_pay4, k0_pay5, k0_pay8, k0_pay9, k0_pay10, k0_pay11, k0_pay14, k0_pay15,
    k0_pay16, dza, dzb, dmp, ga, gb]
  all_goals simp only [b0, b1, b2, b3, b7]

theorem arr12 (z : S8192x3584.Idx) (hz : (z 1).val < 2048) :
    (dats m 0 c).arrAt 12 cfg0.N z = zRow m c (z 0) (z 1).val := by
  refine ((dats m 0 c).arrAt_apply_of_coversWhere 12 (fun z => zRow m c (z 0) (z 1).val) (P := fun z => (z 1).val < 2048)
    (fun β => β 1 = 0) covers12 (fun t hf y => ?_)
    (fun j => by blk_simp [Pipeline.Window.cell_apply]; omega) z).trans (if_pos hz)
  rw [after0_12]
  have e := emb12 t y ((cfg0.win 12).xinj (cfg0.grid.coords t) y 0)
    ⟨((cfg0.win 12).xinj (cfg0.grid.coords t) y 1).val, lt_trans ((cfg0.win 12).xinj (cfg0.grid.coords t) y 1).isLt (by decide)⟩
    rfl rfl
  refine (point12 m c t ((cfg0.win 12).xinj (cfg0.grid.coords t) y)).trans ?_
  have e1 := congrArg Fin.val e.2
  exact (congrArg₂ (zRow m c) e.1 e1).symm

theorem emb13 (t : Fin cfg0.N) (y : ((cfg0.win 13).xblock (cfg0.grid.coords t)).Idx) (p : Fin 512) (q : Fin 1024)
    (h0 : (y 0).val = p.val) (h1 : (y 1).val = q.val) :
    (((View.whole main_v54_3).slice (win0_13.rect t)).emb y 0) = rowOf t p
      ∧ (((View.whole main_v54_3).slice (win0_13.rect t)).emb y 1) = q := by
  constructor <;> (apply Fin.ext; simp [rowOf, View.slice, idx t, Pipeline.WinKind.off]; omega)

set_option maxHeartbeats 2000000 in
theorem arr13 : (dats m 0 c).arrAt 13 cfg0.N
    = fun z => dout (X2 m c) (X3 m c) (X8 m c) (X9 m c) (bi (z 0)) (si (z 0)) (z 1) := by
  refine (dats m 0 c).arrAt_eq_of_covers 13 _ (by decide +kernel) fun t hf y => ?_
  blk_simp
  rw [after0_13]
  by_cases h : t.val % 16 = 0
  on_goal 1 => rw [outsAt0_A m c t h (caseA h) h (caseA h) h (caseA h)]; frame_out
  on_goal 2 => rw [outsAt0_B m c t h (caseB h) h (caseB h) h (caseB h)]; frame_out
  all_goals canon_tiles x h
  all_goals obtain ⟨p, q, rfl⟩ : ∃ p q, x = ix2 p q := ⟨x 0, x 1, ValueIdx.eq_ix2 x⟩
  all_goals pointwise [k0_pay2, k0_pay3, k0_pay4, k0_pay5, k0_pay6, k0_pay7, k0_pay8, k0_pay9, k0_pay10, k0_pay11, k0_pay12, k0_pay13, k0_pay14, k0_pay15, k0_pay16, k0_pay17, k0_pay19, dout, dya, dmp, ga]
  all_goals simp only [b0,b1,b7,b8]
  all_goals first
    | rw [(emb13 t y ⟨256 + p.val, by omega⟩ q h0 h1).1, (emb13 t y ⟨256 + p.val, by omega⟩ q h0 h1).2]
    | rw [(emb13 t y ⟨p.val, by omega⟩ q h0 h1).1, (emb13 t y ⟨p.val, by omega⟩ q h0 h1).2]

theorem emb14 (t : Fin cfg0.N) (y : ((cfg0.win 14).xblock (cfg0.grid.coords t)).Idx) (p : Fin 512) (q : Fin 512)
    (h0 : (y 0).val = p.val) (h1 : (y 1).val = q.val) :
    (((View.whole main_v54_4).slice (win0_14.rect t)).emb y 0) = rowOf t p
      ∧ (((View.whole main_v54_4).slice (win0_14.rect t)).emb y 1) = q := by
  constructor <;> (apply Fin.ext; simp [rowOf, View.slice, idx t, Pipeline.WinKind.off]; omega)

set_option maxHeartbeats 1000000 in
theorem arr14 : (dats m 0 c).arrAt 14 cfg0.N
    = fun z => du (uRow m c (z 0)) (row (X5 m c)) (row (X6 m c)) (dRow m c (z 0)) (z 1) := by
  refine (dats m 0 c).arrAt_eq_of_covers 14 _ (by decide +kernel) fun t hf y => ?_
  blk_simp
  rw [after0_14]
  by_cases h : t.val % 16 = 0
  on_goal 1 => rw [outsAt0_A m c t h (caseA h) h (caseA h) h (caseA h)]; frame_out
  on_goal 2 => rw [outsAt0_B m c t h (caseB h) h (caseB h) h (caseB h)]; frame_out
  all_goals canon_tiles x h
  all_goals obtain ⟨p, q, rfl⟩ : ∃ p q, x = ix2 p q := ⟨x 0, x 1, ValueIdx.eq_ix2 x⟩
  all_goals simp only [du27, du37, u_low, u_high, g_row, b_row, d18, d20]
  all_goals first
    | rw [(emb14 t y ⟨256 + p.val, by omega⟩ q h0 h1).1, (emb14 t y ⟨256 + p.val, by omega⟩ q h0 h1).2]
      exact congrArg (fun D => du _ _ _ D q) (d_high m c t p)
    | rw [(emb14 t y ⟨p.val, by omega⟩ q h0 h1).1, (emb14 t y ⟨p.val, by omega⟩ q h0 h1).2]
      exact congrArg (fun D => du _ _ _ D q) (d_low m c t p)

/-- The scale's, the shift's and the bias' gradients: one block's part. -/
def part15 (t : Fin cfg0.N) (i : S1x512.Idx) : EReal :=
  ∑ p : Fin 512, dl (uRow m c (rowOf t p)) (row (X5 m c)) (row (X6 m c)) (dRow m c (rowOf t p)) (i 1)
    * nrm (uRow m c (rowOf t p)) (i 1)
def part16 (t : Fin cfg0.N) (i : S1x512.Idx) : EReal :=
  ∑ p : Fin 512, dl (uRow m c (rowOf t p)) (row (X5 m c)) (row (X6 m c)) (dRow m c (rowOf t p)) (i 1)
def part17 (t : Fin cfg0.N) (i : S1x512.Idx) : EReal :=
  ∑ p : Fin 512, du (uRow m c (rowOf t p)) (row (X5 m c)) (row (X6 m c)) (dRow m c (rowOf t p)) (i 1)

theorem step15A (t : Fin cfg0.N) (h : t.val % 16 = 0) (i : S1x512.Idx) :
    (outsAt0 m c t.val t.isLt).2.2.2.2.2.1 i
      = 0 + part15 m c t i := by
  rw [outsAt0_A m c t h (caseA h) h (caseA h) h (caseA h)]; frame_out
  obtain ⟨p, q, rfl⟩ : ∃ p q, i = ix2 p q := ⟨i 0, i 1, ValueIdx.eq_ix2 i⟩
  pointwise [k0_pay41, k0_pay38, k0_pay28, k0_pay21]
  simp only [dl26, dl34, nrm25, nrm33, u_low, u_high, g_row, b_row, d18, d20]
  first | rw [zero_add] | skip
  exact (congrArg₂ (· + ·) (Finset.sum_congr rfl fun x _ => congrArg (fun D => dl _ _ _ D q * nrm _ q) (d_low m c t x))
    (Finset.sum_congr rfl fun x _ => congrArg (fun D => dl _ _ _ D q * nrm _ q) (d_high m c t x))).trans
    (bands t fun r => dl (uRow m c r) (row (X5 m c)) (row (X6 m c)) (dRow m c r) q * nrm (uRow m c r) q)
theorem step15B (t : Fin cfg0.N) (h : ¬t.val % 16 = 0) (i : S1x512.Idx) :
    (outsAt0 m c t.val t.isLt).2.2.2.2.2.1 i
      = (outsAt0 m c (t.val - 1) (Nat.lt_of_le_of_lt (Nat.sub_le _ _) t.isLt)).2.2.2.2.2.1 i + part15 m c t i := by
  rw [outsAt0_B m c t h (caseB h) h (caseB h) h (caseB h)]; frame_out
  obtain ⟨p, q, rfl⟩ : ∃ p q, i = ix2 p q := ⟨i 0, i 1, ValueIdx.eq_ix2 i⟩
  pointwise [k0_pay41, k0_pay38, k0_pay28, k0_pay21]
  simp only [dl26, dl34, nrm25, nrm33, u_low, u_high, g_row, b_row, d18, d20]
  refine congrArg _ ?_; exact (congrArg₂ (· + ·) (Finset.sum_congr rfl fun x _ => congrArg (fun D => dl _ _ _ D q * nrm _ q) (d_low m c t x))
    (Finset.sum_congr rfl fun x _ => congrArg (fun D => dl _ _ _ D q * nrm _ q) (d_high m c t x))).trans
    (bands t fun r => dl (uRow m c r) (row (X5 m c)) (row (X6 m c)) (dRow m c r) q * nrm (uRow m c r) q)
theorem arr15 : (dats m 0 c).arrAt 15 cfg0.N = fun z => ∑ t : Fin cfg0.N, part15 m c t z := by
  refine (dats m 0 c).arrAt_eq_of_after_last 15 t0_15 (by decide +kernel) _ fun j => ?_
  blk_simp
  rw [after0_15, Pipeline.eq_sum_fin_of_reset_step_apply_last (fun n h => (outsAt0 m c n h).2.2.2.2.2.1) 16 (fun _ => 0)
    (part15 m c) (step15A m c) (step15B m c) (le_of_eq N_0) t0_15 rfl, zero_add]

theorem step16A (t : Fin cfg0.N) (h : t.val % 16 = 0) (i : S1x512.Idx) :
    (outsAt0 m c t.val t.isLt).2.2.2.2.2.2.1 i
      = 0 + part16 m c t i := by
  rw [outsAt0_A m c t h (caseA h) h (caseA h) h (caseA h)]; frame_out
  obtain ⟨p, q, rfl⟩ : ∃ p q, i = ix2 p q := ⟨i 0, i 1, ValueIdx.eq_ix2 i⟩
  pointwise [k0_pay42, k0_pay39, k0_pay29, k0_pay21]
  simp only [dl26, dl34, u_low, u_high, g_row, b_row, d18, d20]
  first | rw [zero_add] | skip
  exact (congrArg₂ (· + ·) (Finset.sum_congr rfl fun x _ => congrArg (fun D => dl _ _ _ D q) (d_low m c t x))
    (Finset.sum_congr rfl fun x _ => congrArg (fun D => dl _ _ _ D q) (d_high m c t x))).trans
    (bands t fun r => dl (uRow m c r) (row (X5 m c)) (row (X6 m c)) (dRow m c r) q)
theorem step16B (t : Fin cfg0.N) (h : ¬t.val % 16 = 0) (i : S1x512.Idx) :
    (outsAt0 m c t.val t.isLt).2.2.2.2.2.2.1 i
      = (outsAt0 m c (t.val - 1) (Nat.lt_of_le_of_lt (Nat.sub_le _ _) t.isLt)).2.2.2.2.2.2.1 i + part16 m c t i := by
  rw [outsAt0_B m c t h (caseB h) h (caseB h) h (caseB h)]; frame_out
  obtain ⟨p, q, rfl⟩ : ∃ p q, i = ix2 p q := ⟨i 0, i 1, ValueIdx.eq_ix2 i⟩
  pointwise [k0_pay42, k0_pay39, k0_pay29, k0_pay21]
  simp only [dl26, dl34, u_low, u_high, g_row, b_row, d18, d20]
  refine congrArg _ ?_; exact (congrArg₂ (· + ·) (Finset.sum_congr rfl fun x _ => congrArg (fun D => dl _ _ _ D q) (d_low m c t x))
    (Finset.sum_congr rfl fun x _ => congrArg (fun D => dl _ _ _ D q) (d_high m c t x))).trans
    (bands t fun r => dl (uRow m c r) (row (X5 m c)) (row (X6 m c)) (dRow m c r) q)
theorem arr16 : (dats m 0 c).arrAt 16 cfg0.N = fun z => ∑ t : Fin cfg0.N, part16 m c t z := by
  refine (dats m 0 c).arrAt_eq_of_after_last 16 t0_15 (by decide +kernel) _ fun j => ?_
  blk_simp
  rw [after0_16, Pipeline.eq_sum_fin_of_reset_step_apply_last (fun n h => (outsAt0 m c n h).2.2.2.2.2.2.1) 16 (fun _ => 0)
    (part16 m c) (step16A m c) (step16B m c) (le_of_eq N_0) t0_15 rfl, zero_add]

theorem step17A (t : Fin cfg0.N) (h : t.val % 16 = 0) (i : S1x512.Idx) :
    (outsAt0 m c t.val t.isLt).2.2.2.2.2.2.2 i
      = 0 + part17 m c t i := by
  rw [outsAt0_A m c t h (caseA h) h (caseA h) h (caseA h)]; frame_out
  obtain ⟨p, q, rfl⟩ : ∃ p q, i = ix2 p q := ⟨i 0, i 1, ValueIdx.eq_ix2 i⟩
  pointwise [k0_pay1, k0_pay40, k0_pay30, k0_pay21]
  simp only [du27, du37, u_low, u_high, g_row, b_row, d18, d20]
  first | rw [zero_add] | skip
  exact (congrArg₂ (· + ·) (Finset.sum_congr rfl fun x _ => congrArg (fun D => du _ _ _ D q) (d_low m c t x))
    (Finset.sum_congr rfl fun x _ => congrArg (fun D => du _ _ _ D q) (d_high m c t x))).trans
    (bands t fun r => du (uRow m c r) (row (X5 m c)) (row (X6 m c)) (dRow m c r) q)
theorem step17B (t : Fin cfg0.N) (h : ¬t.val % 16 = 0) (i : S1x512.Idx) :
    (outsAt0 m c t.val t.isLt).2.2.2.2.2.2.2 i
      = (outsAt0 m c (t.val - 1) (Nat.lt_of_le_of_lt (Nat.sub_le _ _) t.isLt)).2.2.2.2.2.2.2 i + part17 m c t i := by
  rw [outsAt0_B m c t h (caseB h) h (caseB h) h (caseB h)]; frame_out
  obtain ⟨p, q, rfl⟩ : ∃ p q, i = ix2 p q := ⟨i 0, i 1, ValueIdx.eq_ix2 i⟩
  pointwise [k0_pay1, k0_pay40, k0_pay30, k0_pay21]
  simp only [du27, du37, u_low, u_high, g_row, b_row, d18, d20]
  refine congrArg _ ?_; exact (congrArg₂ (· + ·) (Finset.sum_congr rfl fun x _ => congrArg (fun D => du _ _ _ D q) (d_low m c t x))
    (Finset.sum_congr rfl fun x _ => congrArg (fun D => du _ _ _ D q) (d_high m c t x))).trans
    (bands t fun r => du (uRow m c r) (row (X5 m c)) (row (X6 m c)) (dRow m c r) q)
theorem arr17 : (dats m 0 c).arrAt 17 cfg0.N = fun z => ∑ t : Fin cfg0.N, part17 m c t z := by
  refine (dats m 0 c).arrAt_eq_of_after_last 17 t0_15 (by decide +kernel) _ fun j => ?_
  blk_simp
  rw [after0_17, Pipeline.eq_sum_fin_of_reset_step_apply_last (fun n h => (outsAt0 m c n h).2.2.2.2.2.2.2) 16 (fun _ => 0)
    (part17 m c) (step17A m c) (step17B m c) (le_of_eq N_0) t0_15 rfl, zero_add]

end Cert.MixIdeal.MixValue
end
-- ==== Proof.RowSum.lean ====
/- A host sum over the batch and the sequence of a rank-three array, read at a column. -/
module
public import Idealize.ShloMosaic.Lib.Pointwise
@[expose] public section
noncomputable section
open Idealize.ShloMosaic
namespace Cert.RowSum
variable {A B C : ℕ}

/-- Which entries are summed into column `j`: all of that column. -/
theorem dropped (h : (⟨3, ![A, B, C]⟩ : Shape).ReducesTo [0, 1] ⟨1, ![C]⟩) (j : Fin C) (i : (⟨3, ![A, B, C]⟩ : Shape).Idx) :
    h.drop i = ix1 j ↔ ∃ k : Fin A × Fin B, ix3 k.1 k.2 j = i := by
  constructor
  · intro e
    have e0 : i 2 = j := Fin.ext (congrArg Fin.val (congrFun e 0))
    exact ⟨(i 0, i 1), by rw [← e0]; exact (ValueIdx.eq_ix3 i).symm⟩
  · rintro ⟨k, rfl⟩
    funext a
    obtain rfl : a = 0 := Fin.fin_one_eq_zero a
    rfl

@[pointwise] theorem hostSum_columns (h : (⟨3, ![A, B, C]⟩ : Shape).ReducesTo [0, 1] ⟨1, ![C]⟩)
    (v : (⟨3, ![A, B, C]⟩ : Shape).Idx → EReal) (z : EReal) (j : Fin C) :
    Ideal.hostReduceAdd h v z (ix1 j) = z + ∑ a : Fin A, ∑ b : Fin B, v (ix3 a b j) := by
  refine congrArg (z + ·) ?_
  rw [Finset.sum_filter_eq_sum_of_fiber _ (fun k : Fin A × Fin B => ix3 k.1 k.2 j)
    (fun _ _ e => Prod.ext (congrFun e 0) (congrFun e 1)) (dropped h j) v, Fintype.sum_prod_type]
end Cert.RowSum
end
-- ==== Proof.MixRef.lean ====
/- The derivative of the forward lines, read off at one position: the reference's arrays, one after the other,
   as the functions of MixSpec and NormSwish. -/
module
public import proofs.«01_k».proof.Proof.Gen.MixRefIdeal.Read
public import proofs.«01_k».proof.Proof.MixSpec
public import proofs.«01_k».proof.Proof.RowSum
public import Idealize.ShloMosaic.Lib.KernelVsHost
@[expose] public section
set_option maxRecDepth 16384
noncomputable section
open Idealize.ShloMosaic Idealize.ShloMosaic.TcCoe Idealize.SL.Sem
namespace Cert.MixRefIdeal.MixRead
open Cert.MixRefIdeal Cert.MixRefIdeal.Gen Cert.MixRefIdeal.Read Cert.MixSpec Cert.NormSwish

variable (x0 x1 : Seq 512) (x2 : Seq 2048) (x3 : Mat 512 1024) (x4 x5 x6 : Row 512) (x7 : Mat 512 1024)
  (x8 : Mat 1024 1024) (x9 : Seq 1024) (b : Fin 4) (s : Fin 2048)

/-- The convolution branch's row, its norm and its swish. -/
theorem r5 (j : Fin 512) : val_main_v5 (F := Ideal) x1 x4 (ix3 b s j) = u1 x1 x4 b s j := by
  pointwise [val_main_v5, val_main_v4, val_main_v3, val_main_v2, u1]
theorem r6 (j : Fin 512) : val_main_v32 (F := Ideal) x5 (ix3 b s j) = row x5 j := by
  pointwise [val_main_v32, val_main_v31, val_main_v6, row]
theorem r71 (j : Fin 512) : val_main_v71 (F := Ideal) x5 (ix3 b s j) = row x5 j := by
  pointwise [val_main_v71, val_main_v31, val_main_v6, row]
theorem r35 (j : Fin 512) : val_main_v35 (F := Ideal) x6 (ix3 b s j) = row x6 j := by
  pointwise [val_main_v35, val_main_v34, val_main_v7, row]
theorem r11 : val_main_v11 (F := Ideal) x1 x4 (ix3 b s 0) = mean (u1 x1 x4 b s) := by
  pointwise [val_main_v11, val_main_v10, val_main_v9, val_main_v8, val_main_cst, val_main_cst_0, mean, RealRow.w512]
  simp only [r5]
theorem r13 (j : Fin 512) : val_main_v13 (F := Ideal) x1 x4 (ix3 b s j) = cen (u1 x1 x4 b s) j := by
  pointwise [val_main_v13, val_main_v12, cen]
  simp only [r5, r11]
theorem r22 (j : Fin 512) : val_main_v22 (F := Ideal) x1 x4 (ix3 b s j) = cen (u1 x1 x4 b s) j := by
  pointwise [val_main_v22, val_main_v21, cen]
  simp only [r5, r11]
theorem r24 : val_main_v24 (F := Ideal) x1 x4 (ix3 b s 0) = dev (u1 x1 x4 b s) := by
  pointwise [val_main_v24, val_main_v23, val_main_v20, val_main_v19, val_main_v18, val_main_v17, val_main_v14,
    val_main_cst_2, val_main_cst_3, val_main_cst_4, dev, RealRow.w512, RealRow.eps]
  simp only [r13]
theorem r25 : val_main_v25 (F := Ideal) x1 x4 (ix3 b s 0) = rstd (u1 x1 x4 b s) := by
  pointwise [val_main_v25, rstd]
  simp only [r24]
theorem r28 : val_main_v28 (F := Ideal) x1 x4 (ix3 b s 0)
    = Ideal.ofBits FTy.f32 0xBF000000#32 * Ideal.div (rstd (u1 x1 x4 b s)) (dev (u1 x1 x4 b s)) := by
  pointwise [val_main_v28, val_main_v27, val_main_v26, val_main_cst_5]
  simp only [r24, r25]
theorem r16 (j : Fin 512) : val_main_v16 (F := Ideal) x1 x4 (ix3 b s j)
    = Ideal.ofBits FTy.f32 0x40000000#32 * cen (u1 x1 x4 b s) j := by
  pointwise [val_main_v16, val_main_v15, val_main_cst_1]
  simp only [r13]
theorem r30 (j : Fin 512) : val_main_v30 (F := Ideal) x1 x4 (ix3 b s j) = nrm (u1 x1 x4 b s) j := by
  pointwise [val_main_v30, val_main_v29, nrm]
  simp only [r22, r25]
theorem r36 (j : Fin 512) : val_main_v36 (F := Ideal) x1 x4 x5 x6 (ix3 b s j)
    = aff (u1 x1 x4 b s) (row x5) (row x6) j := by
  pointwise [val_main_v36, val_main_v33, aff]
  simp only [r30, r6, r35]
theorem r37 (j : Fin 512) : val_main_v37_2 (F := Ideal) x1 x4 x5 x6 (ix3 b s j)
    = swg (u1 x1 x4 b s) (row x5) (row x6) j := by
  pointwise [val_main_v37_2, val_main_call0_v4, val_main_call0_cst_0, val_main_call0_v3, val_main_call0_v2,
    val_main_call0_cst, val_main_call0_v1, val_main_call0_v0, swg]
  simp only [r36]
  rfl
theorem r371 (j : Fin 512) : val_main_v37_1 (F := Ideal) x1 x4 x5 x6 (ix3 b s j)
    = swg (u1 x1 x4 b s) (row x5) (row x6) j * (1 - swg (u1 x1 x4 b s) (row x5) (row x6) j) := by
  pointwise [val_main_v37_1, val_main_call0_v7, val_main_call0_v6, val_main_call0_cst_1]
  simp only [r37]
theorem r1 (j : Fin 1024) : val_main_v1 (F := Ideal) x0 x3 (ix3 b s j) = ya x0 x3 b s j := by
  pointwise [val_main_v1, val_main_v0, ya]
theorem r39 (j : Fin 1024) : val_main_v39 (F := Ideal) x1 x4 x5 x6 x7 (ix3 b s j) = yb x1 x4 x5 x6 x7 b s j := by
  pointwise [val_main_v39, val_main_v38, val_main_v37_0, yb]
  simp only [r36, r37]

/-- The gates, the merged branches' cotangent and its two branches. -/
theorem r45 (j : Fin 2048) : val_main_v45 (F := Ideal) x2 (ix3 b s j) = Ideal.logistic (x2 (ix3 b s j)) := by
  pointwise [val_main_v45, val_main_v44, val_main_v43, val_main_v42, val_main_v41, val_main_v40, val_main_cst_6,
    val_main_cst_7]
  rfl
theorem r48 (j : Fin 2048) : val_main_v48 (F := Ideal) x2 (ix3 b s j)
    = Ideal.logistic (x2 (ix3 b s j)) * (1 - Ideal.logistic (x2 (ix3 b s j))) := by
  pointwise [val_main_v48, val_main_v47, val_main_v46, val_main_cst_8]
  simp only [r45]
theorem r56 (j : Fin 1024) : val_main_v56 (F := Ideal) x8 x9 (ix3 b s j) = dmp x8 x9 b s j := by
  pointwise [val_main_v56, val_main_v54, dmp]
theorem r59 (j : Fin 1024) : val_main_v59 (F := Ideal) x2 x8 x9 (ix3 b s j) = dya x2 x8 x9 b s j := by
  pointwise [val_main_v59, val_main_v49, dya, ga]
  simp only [r45, r56]
  exact mul_comm _ _
theorem r57 (j : Fin 1024) : val_main_v57 (F := Ideal) x2 x8 x9 (ix3 b s j) = dyb x2 x8 x9 b s j := by
  pointwise [val_main_v57, val_main_v50, dyb, gb]
  simp only [r45, r56]
  exact mul_comm _ _
theorem r62a (j : Fin 1024) : val_main_v62 (F := Ideal) x0 x1 x2 x3 x4 x5 x6 x7 x8 x9 (ix3 b s ⟨j.val, by omega⟩)
    = dza x0 x2 x3 x8 x9 b s j := by
  pointwise [val_main_v62, val_main_v61, val_main_v60, dza, ga]
  simp only [r48, r1, r56]
theorem r62b (j : Fin 1024) : val_main_v62 (F := Ideal) x0 x1 x2 x3 x4 x5 x6 x7 x8 x9 (ix3 b s ⟨1024 + j.val, by omega⟩)
    = dzb x1 x2 x4 x5 x6 x7 x8 x9 b s j := by
  pointwise [val_main_v62, val_main_v61, val_main_v58, dzb, gb]
  simp only [r48, r39, r56]

/-- The swish's and the norm's cotangents. -/
theorem r63 (j : Fin 512) : val_main_v63 (F := Ideal) x2 x7 x8 x9 (ix3 b s j) = du3 x2 x7 x8 x9 b s j := by
  pointwise [val_main_v63, val_main_v38, du3]
  simp only [r57]
theorem r64 (j : Fin 512) : val_main_v64 (F := Ideal) x1 x2 x4 x5 x6 x7 x8 x9 (ix3 b s j)
    = dlR (u1 x1 x4 b s) (row x5) (row x6) (du3 x2 x7 x8 x9 b s) j := by
  pointwise [val_main_v64, val_main_call1_v0, val_main_call1_v1, val_main_call1_v2, dlR]
  simp only [r36, r37, r371, r63]
theorem r68 (j : Fin 512) : val_main_v68 (F := Ideal) x1 x2 x4 x5 x6 x7 x8 x9 (ix3 b s j)
    = nrm (u1 x1 x4 b s) j * dlR (u1 x1 x4 b s) (row x5) (row x6) (du3 x2 x7 x8 x9 b s) j := by
  pointwise [val_main_v68]
  simp only [r30, r64]
theorem r72 (j : Fin 512) : val_main_v72 (F := Ideal) x1 x2 x4 x5 x6 x7 x8 x9 (ix3 b s j)
    = dnR (u1 x1 x4 b s) (row x5) (row x6) (du3 x2 x7 x8 x9 b s) j := by
  pointwise [val_main_v72, dnR]
  simp only [r64, r71]
theorem r78 (j : Fin 512) : val_main_v78 (F := Ideal) x1 x2 x4 x5 x6 x7 x8 x9 (ix3 b s j)
    = direct (u1 x1 x4 b s) (row x5) (row x6) (du3 x2 x7 x8 x9 b s) j := by
  pointwise [val_main_v78, val_main_v77, direct]
  simp only [r72, r25]
theorem r85 : val_main_v85 (F := Ideal) x1 x2 x4 x5 x6 x7 x8 x9 (ix2 b s)
    = viaDev (u1 x1 x4 b s) (row x5) (row x6) (du3 x2 x7 x8 x9 b s) := by
  pointwise [val_main_v85, val_main_v84, val_main_v83, val_main_v79, val_main_v76, val_main_v75, val_main_v74,
    val_main_cst_13, val_main_cst_15, val_main_cst_16, viaDev, RealRow.w512]
  simp only [r22, r72, Fin.sum_univ_one, r28]
theorem r87 (j : Fin 512) : val_main_v87 (F := Ideal) x1 x2 x4 x5 x6 x7 x8 x9 (ix3 b s j)
    = sq (u1 x1 x4 b s) (row x5) (row x6) (du3 x2 x7 x8 x9 b s) j := by
  pointwise [val_main_v87, val_main_v86, NormSwish.sq]
  simp only [r85, r16]
theorem r97 (j : Fin 512) : val_main_v97 (F := Ideal) x1 x2 x4 x5 x6 x7 x8 x9 (ix3 b s j)
    = duR (u1 x1 x4 b s) (row x5) (row x6) (du3 x2 x7 x8 x9 b s) j := by
  pointwise [val_main_v97, val_main_v96, val_main_v95, val_main_v94, val_main_v93, val_main_v92, val_main_v91,
    val_main_v90, val_main_v89, val_main_v88, val_main_v82, val_main_v81, val_main_v80, val_main_cst_14, val_main_cst_17,
    val_main_cst_18, val_main_cst_19, duR, RealRow.w512]
  simp only [r78, r87, Fin.sum_univ_one]

/-- The results. -/
theorem out103 (j : Fin 512) : val_main_v103 (F := Ideal) x1 x2 x4 x5 x6 x7 x8 x9 (ix2 0 j)
    = ∑ b : Fin 4, ∑ s : Fin 2048, duR (u1 x1 x4 b s) (row x5) (row x6) (du3 x2 x7 x8 x9 b s) j := by
  pointwise [val_main_v103, val_main_v102, val_main_v101, val_main_v100, val_main_cst_20, val_main_cst_21]
  simp only [Fin.sum_univ_one, r97]
theorem out99 (j : Fin 512) : val_main_v99 (F := Ideal) x1 x2 x4 x5 x6 x7 x8 x9 (ix2 0 j)
    = ∑ b : Fin 4, ∑ s : Fin 2048,
        nrm (u1 x1 x4 b s) j * dlR (u1 x1 x4 b s) (row x5) (row x6) (du3 x2 x7 x8 x9 b s) j := by
  pointwise [val_main_v99, val_main_v73, val_main_v70, val_main_v69, val_main_cst_11, val_main_cst_12]
  simp only [Fin.sum_univ_one, r68]
theorem out98 (j : Fin 512) : val_main_v98 (F := Ideal) x1 x2 x4 x5 x6 x7 x8 x9 (ix2 0 j)
    = ∑ b : Fin 4, ∑ s : Fin 2048, dlR (u1 x1 x4 b s) (row x5) (row x6) (du3 x2 x7 x8 x9 b s) j := by
  pointwise [val_main_v98, val_main_v67, val_main_v66, val_main_v65, val_main_cst_9, val_main_cst_10]
  simp only [Fin.sum_univ_one, r64]
end Cert.MixRefIdeal.MixRead
end
-- ==== Proof.MixSame.lean ====
/- The two programs' results are the same arrays: the call's results, row by row of the flattened arrays, against the
   derivative's. -/
module
public import proofs.«01_k».proof.Proof.MixOut
public import proofs.«01_k».proof.Proof.MixRef
@[expose] public section
set_option maxRecDepth 16384
noncomputable section
open Idealize.ShloMosaic Idealize.ShloMosaic.TcCoe Idealize.SL.Sem
open Idealize.ShloMosaic.Pipeline (Dat)
namespace Cert.MixIdeal.MixValue
open Cert.MixIdeal Cert.MixIdeal.Gen Cert.MixSpec Cert.NormSwish Cert.RealRow
open Cert.MixRefIdeal.Read Cert.MixRefIdeal.MixRead

section flat
variable (x0 x1 : Seq 512) (x2 : Seq 2048) (x3 : Mat 512 1024) (x4 x5 x6 : Row 512) (x7 : Mat 512 1024)
  (x8 : Mat 1024 1024) (x9 : Seq 1024) (r : Fin 8192)

/-- The derivative's results, at a row of the flattened arrays. -/
theorem out111 (j : Fin 1024) : val_main_v111 (F := Ideal) x2 x8 x9 (ix2 r j) = dya x2 x8 x9 (bi r) (si r) j := by
  pointwise [val_main_v111, val_main_v110]
  exact r59 x2 x8 x9 (bi r) (si r) j
theorem out113 (j : Fin 1024) : val_main_v113 (F := Ideal) x2 x8 x9 (ix2 r j) = dyb x2 x8 x9 (bi r) (si r) j := by
  pointwise [val_main_v113, val_main_v112]
  exact r57 x2 x8 x9 (bi r) (si r) j
theorem out116 (j : Fin 512) : val_main_v116 (F := Ideal) x1 x2 x4 x5 x6 x7 x8 x9 (ix2 r j)
    = duR (u1 x1 x4 (bi r) (si r)) (row x5) (row x6) (du3 x2 x7 x8 x9 (bi r) (si r)) j := by
  pointwise [val_main_v116]
  exact r97 x1 x2 x4 x5 x6 x7 x8 x9 (bi r) (si r) j
theorem out114 (j : Fin 3584) (hj : j.val < 2048) :
    val_main_v114 (F := Ideal) x0 x1 x2 x3 x4 x5 x6 x7 x8 x9 (ix2 r j)
      = dz x0 x1 x2 x3 x4 x5 x6 x7 x8 x9 (bi r) (si r) j.val := by
  pointwise [val_main_v114, val_main_v109, val_main_v108]
  rw [dif_pos hj]
  by_cases h : j.val < 1024
  · rw [dz, dif_pos h]
    exact r62a x0 x1 x2 x3 x4 x5 x6 x7 x8 x9 (bi r) (si r) ⟨j.val, h⟩
  · rw [dz, dif_neg h, dif_pos hj, ← r62b x0 x1 x2 x3 x4 x5 x6 x7 x8 x9 (bi r) (si r) ⟨j.val - 1024, by omega⟩]
    exact congrArg (fun k => val_main_v62 (F := Ideal) x0 x1 x2 x3 x4 x5 x6 x7 x8 x9 (ix3 (bi r) (si r) k))
      (Fin.ext (by show j.val = 1024 + (j.val - 1024); omega))
theorem out115 (j : Fin 1024) :
    val_main_v115 (F := Ideal) x2 x3 x8 x9 (ix2 r j) = dout x2 x3 x8 x9 (bi r) (si r) j := by
  pointwise [val_main_v115, val_main_v107, val_main_v106, val_main_v105, val_main_v104, val_main_v0]
  unfold dout
  by_cases h : j.val % 128 < 64
  · rw [dif_pos ⟨by omega, h⟩]
    refine Finset.sum_congr rfl fun k _ => ?_
    rw [wpad, dif_pos h]
    exact congrArg (· * _) (r59 x2 x8 x9 (bi r) (si r) k)
  · rw [dif_neg fun e => h e.2]
    refine Eq.trans ?_ (Finset.sum_eq_zero fun k _ => ?_).symm
    · exact sitofp_zero (φ := FTy.f32)
    · rw [wpad, dif_neg h, mul_zero]
end flat

variable (m : (ℓ : Loc nD τ sig) → Buf (Elt Ideal) ℓ) (c : Dev nD)

theorem same10 : (dats m 0 c).arrAt 10 cfg0.N = val_main_v111 (F := Ideal) (X2 m c) (X8 m c) (X9 m c) := by
  rw [arr10]; funext z; obtain ⟨r, j, rfl⟩ : ∃ r j, z = ix2 r j := ⟨z 0, z 1, ValueIdx.eq_ix2 z⟩
  exact (out111 _ _ _ r j).symm
theorem same11 : (dats m 0 c).arrAt 11 cfg0.N = val_main_v113 (F := Ideal) (X2 m c) (X8 m c) (X9 m c) := by
  rw [arr11]; funext z; obtain ⟨r, j, rfl⟩ : ∃ r j, z = ix2 r j := ⟨z 0, z 1, ValueIdx.eq_ix2 z⟩
  exact (out113 _ _ _ r j).symm
theorem same12 (z : S8192x3584.Idx) (hz : (z 1).val < 2048) : (dats m 0 c).arrAt 12 cfg0.N z
    = val_main_v114 (F := Ideal) (X0 m c) (X1 m c) (X2 m c) (X3 m c) (X4 m c) (X5 m c) (X6 m c) (X7 m c) (X8 m c) (X9 m c)
        z := by
  rw [arr12 m c z hz]; obtain ⟨r, j, rfl⟩ : ∃ r j, z = ix2 r j := ⟨z 0, z 1, ValueIdx.eq_ix2 z⟩
  exact (out114 _ _ _ _ _ _ _ _ _ _ r j hz).symm
theorem same13 : (dats m 0 c).arrAt 13 cfg0.N = val_main_v115 (F := Ideal) (X2 m c) (X3 m c) (X8 m c) (X9 m c) := by
  rw [arr13]; funext z; obtain ⟨r, j, rfl⟩ : ∃ r j, z = ix2 r j := ⟨z 0, z 1, ValueIdx.eq_ix2 z⟩
  exact (out115 _ _ _ _ r j).symm

/-- The finiteness the norm's and the swish's gradients need. -/
structure Real : Prop where
  u : ∀ r k, IsReal (uRow m c r k)
  g : ∀ k, IsReal (row (X5 m c) k)
  b : ∀ k, IsReal (row (X6 m c) k)
  d : ∀ r k, IsReal (dRow m c r k)

theorem Real.of (h1 : ∀ i, IsReal (X1 m c i)) (h4 : ∀ i, IsReal (X4 m c i)) (h5 : ∀ i, IsReal (X5 m c i))
    (h6 : ∀ i, IsReal (X6 m c i)) (h7 : ∀ i, IsReal (X7 m c i)) (h8 : ∀ i, IsReal (X8 m c i))
    (h9 : ∀ i, IsReal (X9 m c i)) : Real m c where
  u r k := (h1 _).add (h4 _)
  g k := h5 _
  b k := h6 _
  d r k := by
    unfold dRow du3 dyb dmp gb
    exact .sum _ fun j => (((IsReal.sum _ fun l => (h9 _).mul (h8 _))).mul (isReal_logistic _)).mul (h7 _)

/-- A sum over the blocks and their rows is a sum over the batch and the sequence. -/
theorem sum_rows (f : Fin 8192 → EReal) (g : Fin 4 → Fin 2048 → EReal) (h : ∀ r, f r = g (bi r) (si r)) :
    (∑ t : Fin cfg0.N, ∑ p : Fin 512, f (rowOf t p)) = ∑ b : Fin 4, ∑ s : Fin 2048, g b s := by
  refine Fin.sum_points_lanes_congr 4 fun t k ha hl => ?_
  rw [h]
  refine congrArg₂ g (Fin.ext ?_) (Fin.ext ?_)
  · show (512 * t.val + k.val) / 2048 = t.val / 4
    omega
  · show (512 * t.val + k.val) % 2048 = t.val % 4 * 512 + k.val
    omega

variable {m c}
theorem same14 (R : Real m c) : (dats m 0 c).arrAt 14 cfg0.N
    = val_main_v116 (F := Ideal) (X1 m c) (X2 m c) (X4 m c) (X5 m c) (X6 m c) (X7 m c) (X8 m c) (X9 m c) := by
  rw [arr14]; funext z; obtain ⟨r, j, rfl⟩ : ∃ r j, z = ix2 r j := ⟨z 0, z 1, ValueIdx.eq_ix2 z⟩
  exact (du_eq _ _ _ _ (R.u r) R.g R.b (R.d r) j).trans (out116 _ _ _ _ _ _ _ _ r j).symm
theorem same15 (R : Real m c) : (dats m 0 c).arrAt 15 cfg0.N
    = val_main_v99 (F := Ideal) (X1 m c) (X2 m c) (X4 m c) (X5 m c) (X6 m c) (X7 m c) (X8 m c) (X9 m c) := by
  rw [arr15]; funext z; obtain ⟨r, j, rfl⟩ : ∃ r j, z = ix2 r j := ⟨z 0, z 1, ValueIdx.eq_ix2 z⟩
  obtain rfl : r = 0 := Fin.fin_one_eq_zero r
  refine Eq.trans ?_ (out99 _ _ _ _ _ _ _ _ j).symm
  exact sum_rows (fun r => dl (uRow m c r) (row (X5 m c)) (row (X6 m c)) (dRow m c r) j * nrm (uRow m c r) j) _
    fun r => by rw [(real_dl _ _ _ _ (R.u r) R.g R.b (R.d r) j).1]; exact mul_comm _ _
theorem same16 (R : Real m c) : (dats m 0 c).arrAt 16 cfg0.N
    = val_main_v98 (F := Ideal) (X1 m c) (X2 m c) (X4 m c) (X5 m c) (X6 m c) (X7 m c) (X8 m c) (X9 m c) := by
  rw [arr16]; funext z; obtain ⟨r, j, rfl⟩ : ∃ r j, z = ix2 r j := ⟨z 0, z 1, ValueIdx.eq_ix2 z⟩
  obtain rfl : r = 0 := Fin.fin_one_eq_zero r
  refine Eq.trans ?_ (out98 _ _ _ _ _ _ _ _ j).symm
  exact sum_rows (fun r => dl (uRow m c r) (row (X5 m c)) (row (X6 m c)) (dRow m c r) j) _
    fun r => (real_dl _ _ _ _ (R.u r) R.g R.b (R.d r) j).1
theorem same17 (R : Real m c) : (dats m 0 c).arrAt 17 cfg0.N
    = val_main_v103 (F := Ideal) (X1 m c) (X2 m c) (X4 m c) (X5 m c) (X6 m c) (X7 m c) (X8 m c) (X9 m c) := by
  rw [arr17]; funext z; obtain ⟨r, j, rfl⟩ : ∃ r j, z = ix2 r j := ⟨z 0, z 1, ValueIdx.eq_ix2 z⟩
  obtain rfl : r = 0 := Fin.fin_one_eq_zero r
  refine Eq.trans ?_ (out103 _ _ _ _ _ _ _ _ j).symm
  exact sum_rows (fun r => du (uRow m c r) (row (X5 m c)) (row (X6 m c)) (dRow m c r) j) _
    fun r => du_eq _ _ _ _ (R.u r) R.g R.b (R.d r) j
end Cert.MixIdeal.MixValue
end
-- ==== Proof.Finite.lean ====
/- What a finiteness precondition says: the array's entries are real numbers. -/
module
public import proofs.«01_k».proof.Proof.RealRow
public import Idealize.ShloMosaic.Lib.Claim
public import Idealize.ShloMosaic.Lib.ReduceAll
@[expose] public section
noncomputable section
open Idealize.ShloMosaic
namespace Cert.RealRow

/-- The printed test: every entry's magnitude below infinity. -/
theorem real_of_finite {s t u : Shape} [Subsingleton t.Idx] {axes : List (Fin s.rank)} (x : FVec Ideal s .f32) (h : s.ReducesTo axes t)
    (hu : 0 < u.numel) (hz : (⟨0, ![]⟩ : Shape).BroadcastsInDim s (![] : Fin 0 → Fin s.rank)) (j : t.Idx)
    (e : Host.reduce (u := u) IntOp.andi
      (cmpf .olt (Host.absf x) (broadcastInDim s ![] hz (constant (F := Ideal) ⟨0, ![]⟩ .f32 0x7F800000#32)))
      (constantI u 1 1#1) h hu j = 1#1) (i : s.Idx) : IsReal (x i) := by
  have e1 := Host.reduce_andi_all _ _ _ _ j e i
  refine isReal_of_abs_lt ?_
  by_contra hn
  have hi : Ideal.ofBits FTy.f32 0x7F800000#32 = ⊤ := by simp [Ideal.ofBits, Ideal.ieee]
  have e2 : BitVec.ofBool (decide (max (x i) (-x i) < Ideal.ofBits FTy.f32 0x7F800000#32)) = 1#1 := e1
  rw [hi, decide_eq_false hn] at e2
  exact absurd e2 (by decide)
end Cert.RealRow
end
-- ==== Proof.MixFinite.lean ====
/- The gated merge's precondition read off: the entries of seven arguments are real numbers. -/
module
public import proofs.«01_k».proof.Defs
public import proofs.«01_k».proof.Proof.Finite
public import proofs.«01_k».proof.Proof.MixSpec
@[expose] public section
set_option maxRecDepth 16384
noncomputable section
open Idealize.ShloMosaic
namespace Cert.MixSpec
open Cert.RealRow

theorem reals [h : Cert.Pre_mix_finite.Facts] (x0 x1 : Seq 512) (x2 : Seq 2048) (x3 : Mat 512 1024) (x4 x5 x6 : Row 512)
    (x7 : Mat 512 1024) (x8 : Mat 1024 1024) (x9 : Seq 1024)
    (e : Cert.Pre_mix_finite.fn (F := Ideal) x0 x1 x2 x3 x4 x5 x6 x7 x8 x9 = fun _ => 1#1) :
    (∀ i, IsReal (x1 i)) ∧ (∀ i, IsReal (x4 i)) ∧ (∀ i, IsReal (x5 i)) ∧ (∀ i, IsReal (x6 i)) ∧ (∀ i, IsReal (x7 i))
      ∧ (∀ i, IsReal (x8 i)) ∧ (∀ i, IsReal (x9 i)) := by
  have e0 := congrFun e ix0
  haveI : Subsingleton Cert.Pre_mix_finite.S_.Idx := ⟨fun a b => funext fun k => k.elim0⟩
  obtain ⟨e0, h9⟩ := IntOp.andi_eq_one.1 e0
  obtain ⟨e0, h8⟩ := IntOp.andi_eq_one.1 e0
  obtain ⟨e0, h7⟩ := IntOp.andi_eq_one.1 e0
  obtain ⟨e0, h6⟩ := IntOp.andi_eq_one.1 e0
  obtain ⟨e0, h5⟩ := IntOp.andi_eq_one.1 e0
  obtain ⟨h1, h4⟩ := IntOp.andi_eq_one.1 e0
  exact ⟨real_of_finite x1 _ _ _ ix0 h1, real_of_finite x4 _ _ _ ix0 h4, real_of_finite x5 _ _ _ ix0 h5,
    real_of_finite x6 _ _ _ ix0 h6, real_of_finite x7 _ _ _ ix0 h7, real_of_finite x8 _ _ _ ix0 h8,
    real_of_finite x9 _ _ _ ix0 h9⟩
end Cert.MixSpec
end
-- ==== Proof.Mix.lean ====
/- The gated merge's gradients: the call computes what differentiating the forward lines gives. -/
module
public import proofs.«01_k».proof.Proof.MixSame
public import proofs.«01_k».proof.Proof.MixFinite
public import proofs.«01_k».proof.Proof.Gen.MixRefIdeal.Run
public import proofs.«01_k».proof.Proof.Gen.MixRefIdeal.Read
public import proofs.«01_k».proof.Proof.Gen.Pre_mix_finite
public import proofs.«01_k».proof.Proof.Gen.On_mix_written
public import Idealize.ShloMosaic.Lib.Affine
@[expose] public section
set_option maxRecDepth 16384
noncomputable section
open Idealize.ShloMosaic Idealize.ShloMosaic.TcCoe Idealize.SL.Sem
namespace Cert.MixSpec
open Cert.RealRow Cert.MixIdeal.MixValue Cert.MixRefIdeal.Read

/-- The mask of the third result holds on the columns the call writes, and on no other. -/
theorem written [Cert.On_mix_written.Facts] (x0 x1 : Seq 512) (x2 : Seq 2048) (x3 : Mat 512 1024) (x4 x5 x6 : Row 512)
    (x7 : Mat 512 1024) (x8 : Mat 1024 1024) (x9 : Seq 1024) (z : (⟨2, ![8192, 3584]⟩ : Shape).Idx)
    (h : (Cert.On_mix_written.fn (F := Ideal) x0 x1 x2 x3 x4 x5 x6 x7 x8 x9).2.2.1 z = 1#1) : (z 1).val < 2048 := by
  have e : IntOp.cmpi .slt (BitVec.ofNat 32 (z 1).val) 2048#32 = 1#1 := h
  have b : (z 1).val < 3584 := (z 1).isLt
  have e' := IntOp.cmpi_slt.1 e
  rw [BitVec.toInt_eq_toNat_cond, BitVec.toInt_eq_toNat_cond] at e'
  simp only [BitVec.toNat_ofNat] at e'
  split at e' <;> omega

/-- The reference leaves its arguments alone. -/
theorem frame : Cert.quiescent_MixRefIdeal := fun m ρ _ =>
  (θ_run Cert.MixRefIdeal.defs _ _).mono (fun r h => ⟨fun c => (h c).2.2.2.2.2.2.2.2,
      Idealize.ShloMosaic.sem_eq_zero_of_no_sems (by decide) r.2⟩)
    (Cert.MixRefIdeal.Value.run (F := Ideal) m ρ)

set_option maxHeartbeats 4000000 in
/-- The call's eight results are the reference's: seven whole, the packed one on the columns written. -/
theorem algebraic : Cert.algebraic_MixIdeal_MixRefIdeal_on_mix_written_pre_mix_finite := by
  intro m g m' g' hpre hagree
  have R : ∀ c, Real m c := fun c => by
    obtain ⟨h1, h4, h5, h6, h7, h8, h9⟩ := reals _ _ _ _ _ _ _ _ _ _ (hpre c)
    exact Real.of m c h1 h4 h5 h6 h7 h8 h9
  refine ⟨fun c => val_main_v111 (F := Ideal) (X2 m c) (X8 m c) (X9 m c),
    fun c => val_main_v113 (F := Ideal) (X2 m c) (X8 m c) (X9 m c),
    fun c => val_main_v114 (F := Ideal) (X0 m c) (X1 m c) (X2 m c) (X3 m c) (X4 m c) (X5 m c) (X6 m c) (X7 m c) (X8 m c) (X9 m c),
    fun c => val_main_v115 (F := Ideal) (X2 m c) (X3 m c) (X8 m c) (X9 m c),
    fun c => val_main_v116 (F := Ideal) (X1 m c) (X2 m c) (X4 m c) (X5 m c) (X6 m c) (X7 m c) (X8 m c) (X9 m c),
    fun c => val_main_v99 (F := Ideal) (X1 m c) (X2 m c) (X4 m c) (X5 m c) (X6 m c) (X7 m c) (X8 m c) (X9 m c),
    fun c => val_main_v98 (F := Ideal) (X1 m c) (X2 m c) (X4 m c) (X5 m c) (X6 m c) (X7 m c) (X8 m c) (X9 m c),
    fun c => val_main_v103 (F := Ideal) (X1 m c) (X2 m c) (X4 m c) (X5 m c) (X6 m c) (X7 m c) (X8 m c) (X9 m c), ?_, ?_⟩
  · refine (θ_run _ _ _).mono (fun r h c => ?_) (θ_run_and (Cert.MixIdeal.Gen.run_main m g) (Cert.MixIdeal.Gen.unchanged m g))
    exact ⟨fun z _ => congrFun (((h.1 c).1 10).trans (same10 m c)) z,
      fun z _ => congrFun (((h.1 c).1 11).trans (same11 m c)) z,
      fun z hz => (congrFun ((h.1 c).1 12) z).trans (same12 m c z (written _ _ _ _ _ _ _ _ _ _ z hz)),
      fun z _ => congrFun (((h.1 c).1 13).trans (same13 m c)) z,
      fun z _ => congrFun (((h.1 c).1 14).trans (same14 (R c))) z,
      fun z _ => congrFun (((h.1 c).1 15).trans (same15 (R c))) z,
      fun z _ => congrFun (((h.1 c).1 16).trans (same16 (R c))) z,
      fun z _ => congrFun (((h.1 c).1 17).trans (same17 (R c))) z, h.2 c⟩
  · refine (θ_run _ _ _).mono (fun r h c => ?_) (Cert.MixRefIdeal.Value.run (F := Ideal) m' g')
    obtain ⟨h0, h1, h2, h3, h4, h5, h6, h7, ha⟩ := h c
    obtain ⟨a0, a1, a2, a3, a4, a5, a6, a7, a8, a9⟩ := hagree c
    exact ⟨fun z _ => congrFun ((h0.trans (val_main_v111_eq _ _ _)).trans (by rw [a2, a8, a9])) z,
      fun z _ => congrFun ((h1.trans (val_main_v113_eq _ _ _)).trans (by rw [a2, a8, a9])) z,
      fun z _ => congrFun ((h2.trans (val_main_v114_eq m' c)).trans (by rw [a0, a1, a2, a3, a4, a5, a6, a7, a8, a9])) z,
      fun z _ => congrFun ((h3.trans (val_main_v115_eq _ _ _ _)).trans (by rw [a2, a3, a8, a9])) z,
      fun z _ => congrFun ((h4.trans (val_main_v116_eq m' c)).trans (by rw [a1, a2, a4, a5, a6, a7, a8, a9])) z,
      fun z _ => congrFun ((h5.trans (val_main_v99_eq m' c)).trans (by rw [a1, a2, a4, a5, a6, a7, a8, a9])) z,
      fun z _ => congrFun ((h6.trans (val_main_v98_eq m' c)).trans (by rw [a1, a2, a4, a5, a6, a7, a8, a9])) z,
      fun z _ => congrFun ((h7.trans (val_main_v103_eq m' c)).trans (by rw [a1, a2, a4, a5, a6, a7, a8, a9])) z, ha⟩
end Cert.MixSpec
end
-- ==== Proof.AttnMath.lean ====
/- Chunk-causal attention of one head and the gradients of its three operands, over the real numbers; and the two ways a softmax's row is
   computed, by blocks of keys and over all keys at once, read as these numbers. -/
module
public import proofs.«01_k».proof.Proof.RealRow
@[expose] public section
set_option maxRecDepth 16384
noncomputable section
open Idealize.ShloMosaic

namespace Cert.AttnMath
open Cert.RealRow

/-- A head of one sequence: for each position a value in each lane. -/
abbrev Head := Fin 2048 → Fin 128 → ℝ

/-- Position `i` attends to position `j`: `j` is not in a later chunk of 64. -/
def Sees (i j : Fin 2048) : Prop := j.val / 64 ≤ i.val / 64
instance (i j : Fin 2048) : Decidable (Sees i j) := inferInstanceAs (Decidable (_ ≤ _))

/-- The scale of the scores, `96 ^ (-1/2)` in 32 bits. -/
def scale : ℝ := 3424635 / 33554432
theorem scale_bits : Ideal.ofBits FTy.f32 0x3DD105EC#32 = ((scale : ℝ) : EReal) := by
  simp [scale, Ideal.ofBits, Ideal.ieee, -EReal.coe_mul]; norm_num

variable (Q K V O : Head)

/-- The product of a row of one head with a row of another. -/
def score (i j : Fin 2048) : ℝ := ∑ k, Q i k * K j k
/-- The softmax's weights, their sum, and the attention's probabilities. -/
def weight (i j : Fin 2048) : ℝ := if Sees i j then Real.exp (score Q K i j * scale) else 0
def total (i : Fin 2048) : ℝ := ∑ j, weight Q K i j
def prob (i j : Fin 2048) : ℝ := weight Q K i j / total Q K i
/-- The gradient of the scores, before the scale. -/
def delta (i : Fin 2048) : ℝ := ∑ j, prob Q K i j * score O V i j
def grad (i j : Fin 2048) : ℝ := prob Q K i j * (score O V i j - delta Q K V O i)
/-- The gradients of the queries, keys and values. -/
def dq (i : Fin 2048) (k : Fin 128) : ℝ := (∑ j, grad Q K V O i j * K j k) * scale
def dk (j : Fin 2048) (k : Fin 128) : ℝ := (∑ i, grad Q K V O i j * Q i k) * scale
def dv (j : Fin 2048) (k : Fin 128) : ℝ := ∑ i, prob Q K i j * O i k

theorem sees_self (i : Fin 2048) : Sees i i := le_refl _
theorem weight_nonneg (i j : Fin 2048) : 0 ≤ weight Q K i j := by
  unfold weight; split
  · exact (Real.exp_pos _).le
  · exact le_refl _
theorem total_pos (i : Fin 2048) : 0 < total Q K i :=
  Finset.sum_pos' (fun j _ => weight_nonneg Q K i j) ⟨i, Finset.mem_univ _, by unfold weight; rw [if_pos (sees_self i)]; exact Real.exp_pos _⟩
theorem prob_unseen {i j : Fin 2048} (h : ¬ Sees i j) : prob Q K i j = 0 := by
  unfold prob weight; rw [if_neg h, zero_div]
theorem grad_unseen {i j : Fin 2048} (h : ¬ Sees i j) : grad Q K V O i j = 0 := by
  unfold grad; rw [prob_unseen Q K h, zero_mul]

/-! ## Rows in the extended reals -/

/-- The number below all others, as the masks write it. -/
def bot : EReal := Ideal.ofBits FTy.f32 0xFF800000#32
theorem bot_eq : bot = ⊥ := by simp [bot, Ideal.ofBits, Ideal.ieee]

/-- The greatest of a family with a real member, and no member infinite from above, is real. -/
theorem fold_max_ne_top {ι : Type*} (s : Finset ι) (f : ι → EReal) (h : ∀ i, f i ≠ ⊤) : s.fold max ⊥ f ≠ ⊤ := by
  classical
  induction s using Finset.induction_on with
  | empty => simp
  | insert a s ha ih =>
    rw [Finset.fold_insert ha]
    intro e
    rcases max_eq_iff.1 e with e | e
    · exact h a e.1
    · exact ih e.1
theorem le_fold_max {ι : Type*} [Fintype ι] (f : ι → EReal) (i : ι) : f i ≤ Finset.univ.fold max ⊥ f :=
  (Finset.le_fold_max _).2 (Or.inr ⟨i, Finset.mem_univ _, le_refl _⟩)
theorem real_of_between {x y : EReal} {r : ℝ} (h : (r : EReal) ≤ x) (h' : x ≠ ⊤) : ∃ M : ℝ, x = M := by
  refine ⟨x.toReal, (EReal.coe_toReal h' ?_).symm⟩
  rintro rfl
  exact absurd (le_bot_iff.1 h) (EReal.coe_ne_bot r)

/-- A masked score. -/
def masked (i j : Fin 2048) : EReal := if Sees i j then ((score Q K i j : ℝ) : EReal) else ⊥
theorem masked_ne_top (i j : Fin 2048) : masked Q K i j ≠ ⊤ := by
  unfold masked; split
  · exact EReal.coe_ne_top _
  · exact bot_ne_top

/-- A sum over all positions of what vanishes after a block of 256, split at the block's first position. -/
theorem sum_split {M : Type*} [AddCommMonoid M] (n : ℕ) (hn : n + 256 ≤ 2048) (f : Fin 2048 → M) (h : ∀ j : Fin 2048, n + 256 ≤ j.val → f j = 0) :
    ∑ j, f j = (∑ q : Fin 256, f ⟨n + q.val, by omega⟩) + ∑ k : Fin n, f ⟨k.val, by omega⟩ := by
  obtain ⟨r, hr⟩ : ∃ r, n + 256 + r = 2048 := ⟨2048 - (n + 256), by omega⟩
  rw [← Equiv.sum_comp (finCongr hr) f, Fin.sum_univ_add, Fin.sum_univ_add]
  have z : ∑ i : Fin r, f (finCongr hr (Fin.natAdd (n + 256) i)) = 0 :=
    Finset.sum_eq_zero fun i _ => h _ (by simp)
  rw [z, add_zero, add_comm]
  rfl

/-! ## The kernel's row: the keys of the query's own block, and those before it -/

section Block
/-- The scale of the exponents, to the base two. -/
def scale2 : EReal := ((scale * (Real.log 2)⁻¹ : ℝ) : EReal)
variable {n : ℕ} (sd : Fin 256 → EReal) (sp : Fin n → EReal) (gd : Fin 256 → EReal) (gp : Fin n → EReal)

def top : EReal := max (Finset.univ.fold max bot sd) (Finset.univ.fold max bot sp)
def pow (x : EReal) : EReal := Ideal.exp2 ((x - top sd sp) * scale2)
def inv : EReal := Ideal.div 1 (∑ q, pow sd sp (sd q) + ∑ k, pow sd sp (sp k))
def prb (x : EReal) : EReal := pow sd sp x * inv sd sp
def dlt : EReal := ∑ q, prb sd sp (sd q) * gd q + ∑ k, prb sd sp (sp k) * gp k
def grd (x g : EReal) : EReal := prb sd sp x * (g - dlt sd sp gd gp)
end Block

/-- What a block of queries is given: the positions' masked scores in the query's own block and before it, and the cotangents of the
    probabilities. -/
structure Given {n : ℕ} (hn : n + 256 ≤ 2048) (i : Fin 2048) (sd : Fin 256 → EReal) (sp : Fin n → EReal) (gd : Fin 256 → EReal) (gp : Fin n → EReal) : Prop where
  chunk : 256 ∣ n
  low : n ≤ i.val
  high : i.val < n + 256
  own : ∀ q, sd q = masked Q K i ⟨n + q.val, by omega⟩
  past : ∀ k, sp k = ((score Q K i ⟨k.val, by omega⟩ : ℝ) : EReal)
  ownGrad : ∀ q, gd q = ((score O V i ⟨n + q.val, by omega⟩ : ℝ) : EReal)
  pastGrad : ∀ k, gp k = ((score O V i ⟨k.val, by omega⟩ : ℝ) : EReal)

section
variable {Q K V O} {n : ℕ} {hn : n + 256 ≤ 2048} {i : Fin 2048} {sd : Fin 256 → EReal} {sp : Fin n → EReal} {gd : Fin 256 → EReal} {gp : Fin n → EReal}

theorem Given.sees_past (h : Given Q K V O hn i sd sp gd gp) (k : Fin n) : Sees i ⟨k.val, by omega⟩ := by
  have := h.low; show k.val / 64 ≤ i.val / 64; omega
theorem Given.unseen (h : Given Q K V O hn i sd sp gd gp) (j : Fin 2048) (hj : n + 256 ≤ j.val) : ¬ Sees i j := by
  obtain ⟨c, hc⟩ := h.chunk; have := h.high; show ¬ j.val / 64 ≤ i.val / 64; omega
theorem Given.past' (h : Given Q K V O hn i sd sp gd gp) (k : Fin n) : sp k = masked Q K i ⟨k.val, by omega⟩ := by
  rw [h.past, masked, if_pos (h.sees_past k)]

theorem Given.top_real (h : Given Q K V O hn i sd sp gd gp) : ∃ M : ℝ, top sd sp = M := by
  have hi := h.high; have hl := h.low
  refine real_of_between (y := 0) (r := score Q K i i) ?_ ?_
  · refine le_trans ?_ (le_max_left _ _)
    rw [bot_eq]
    refine le_trans (le_of_eq ?_) (le_fold_max sd ⟨i.val - n, by omega⟩)
    have e : (⟨n + (i.val - n), by omega⟩ : Fin 2048) = i := Fin.ext (by simp; omega)
    rw [h.own, masked]
    simp only [e, if_pos (sees_self i)]
  · rw [top, bot_eq]
    intro e
    rcases max_eq_iff.1 e with e | e
    · exact fold_max_ne_top _ sd (fun q => by rw [h.own]; exact masked_ne_top Q K _ _) e.1
    · exact fold_max_ne_top _ sp (fun q => by rw [h.past]; exact EReal.coe_ne_top _) e.1

/-- The block's exponential of a masked score is the weight, times a number of the row. -/
theorem pow_masked {M : ℝ} (hM : top sd sp = M) (j : Fin 2048) :
    pow sd sp (masked Q K i j) = ((weight Q K i j * Real.exp (-(M * scale)) : ℝ) : EReal) := by
  have h96 : (0 : ℝ) < scale := by norm_num [scale]
  have h2 : (0 : ℝ) < Real.log 2 := Real.log_pos (by norm_num)
  unfold pow masked weight scale2
  rw [hM]
  split
  · rw [← EReal.coe_sub, ← EReal.coe_mul, Ideal.exp2_coe]
    congr 1
    rw [show Real.rpow 2 _ = Real.exp (Real.log 2 * _) from Real.rpow_def_of_pos (by norm_num) _, ← Real.exp_add]
    congr 1
    field_simp
    ring
  · rw [EReal.bot_sub, EReal.bot_mul_coe_of_pos (by positivity), Ideal.exp2_bot, zero_mul, EReal.coe_zero]

theorem Given.inv_eq (h : Given Q K V O hn i sd sp gd gp) {M : ℝ} (hM : top sd sp = M) :
    inv sd sp = ((1 / (total Q K i * Real.exp (-(M * scale))) : ℝ) : EReal) := by
  unfold inv
  simp only [h.own, h.past', pow_masked hM, sum_coe]
  rw [← EReal.coe_add, ← Finset.sum_mul, ← Finset.sum_mul, ← add_mul, ← sum_split n hn (weight Q K i) fun j hj => if_neg (h.unseen j hj)]
  show Ideal.div 1 ((total Q K i * _ : ℝ) : EReal) = _
  rw [Ideal.div_coe (mul_ne_zero (total_pos Q K i).ne' (Real.exp_pos _).ne'), one_mul]

/-- The block's probabilities are the attention's. -/
theorem Given.prb_masked (h : Given Q K V O hn i sd sp gd gp) (j : Fin 2048) : prb sd sp (masked Q K i j) = ((prob Q K i j : ℝ) : EReal) := by
  obtain ⟨M, hM⟩ := h.top_real
  unfold prb
  rw [h.inv_eq hM, pow_masked hM, ← EReal.coe_mul, prob]
  congr 1
  have := (total_pos Q K i).ne'
  have := (Real.exp_pos (-(M * scale))).ne'
  field_simp

theorem Given.dlt_eq (h : Given Q K V O hn i sd sp gd gp) : dlt sd sp gd gp = ((delta Q K V O i : ℝ) : EReal) := by
  unfold dlt
  simp only [h.own, h.past', h.ownGrad, h.pastGrad, h.prb_masked, ← EReal.coe_mul, sum_coe]
  rw [← EReal.coe_add, delta, sum_split n hn (fun j => prob Q K i j * score O V i j) fun j hj => by rw [prob_unseen Q K (h.unseen j hj), zero_mul]]

/-- The kernel's four arrays of a block of queries, at one query. -/
theorem Given.prob_own (h : Given Q K V O hn i sd sp gd gp) (q : Fin 256) : prb sd sp (sd q) = ((prob Q K i ⟨n + q.val, by omega⟩ : ℝ) : EReal) := by
  rw [h.own, h.prb_masked]
theorem Given.prob_past (h : Given Q K V O hn i sd sp gd gp) (k : Fin n) : prb sd sp (sp k) = ((prob Q K i ⟨k.val, by omega⟩ : ℝ) : EReal) := by
  rw [h.past', h.prb_masked]
theorem Given.grad_own (h : Given Q K V O hn i sd sp gd gp) (q : Fin 256) :
    grd sd sp gd gp (sd q) (gd q) = ((grad Q K V O i ⟨n + q.val, by omega⟩ : ℝ) : EReal) := by
  unfold grd; rw [h.dlt_eq, h.prob_own, h.ownGrad, ← EReal.coe_sub, ← EReal.coe_mul]; rfl
theorem Given.grad_past (h : Given Q K V O hn i sd sp gd gp) (k : Fin n) :
    grd sd sp gd gp (sp k) (gp k) = ((grad Q K V O i ⟨k.val, by omega⟩ : ℝ) : EReal) := by
  unfold grd; rw [h.dlt_eq, h.prob_past, h.pastGrad, ← EReal.coe_sub, ← EReal.coe_mul]; rfl
end

/-! ## The reference's row: all keys at once -/

section Row
variable (i : Fin 2048)
/-- The scaled and masked scores. -/
def scaled (j : Fin 2048) : EReal := if Sees i j then ((score Q K i j * scale : ℝ) : EReal) else ⊥
def rowTop : EReal := max bot (Finset.univ.fold max bot (scaled Q K i))
def rowExp (j : Fin 2048) : EReal := Ideal.exp (scaled Q K i j - rowTop Q K i)
def rowSum : EReal := ∑ j, rowExp Q K i j
/-- The gradient of a score, as the softmax's derivative forms it. -/
def rowGrad (j : Fin 2048) : EReal :=
  (Ideal.div ((score O V i j : ℝ) : EReal) (rowSum Q K i)
    + -(∑ l, ((score O V i l : ℝ) : EReal) * Ideal.div 1 (rowSum Q K i * rowSum Q K i) * rowExp Q K i l)) * rowExp Q K i j

theorem rowTop_real : ∃ M : ℝ, rowTop Q K i = M := by
  refine real_of_between (y := 0) (r := score Q K i i * scale) ?_ ?_
  · refine le_trans ?_ (le_max_right _ _)
    rw [bot_eq]
    refine le_trans (le_of_eq ?_) (le_fold_max (scaled Q K i) i)
    rw [scaled, if_pos (sees_self i)]
  · rw [rowTop, bot_eq]
    intro e
    rcases max_eq_iff.1 e with e | e
    · exact absurd e.1 bot_ne_top
    · refine fold_max_ne_top _ _ (fun q => ?_) e.1
      unfold scaled; split
      · exact EReal.coe_ne_top _
      · exact bot_ne_top

theorem rowExp_eq {M : ℝ} (hM : rowTop Q K i = M) (j : Fin 2048) : rowExp Q K i j = ((weight Q K i j * Real.exp (-M) : ℝ) : EReal) := by
  unfold rowExp scaled weight
  rw [hM]
  split
  · rw [← EReal.coe_sub, Ideal.exp_coe, ← Real.exp_add]; rfl
  · rw [EReal.bot_sub, Ideal.exp_bot, zero_mul, EReal.coe_zero]
theorem rowSum_eq {M : ℝ} (hM : rowTop Q K i = M) : rowSum Q K i = ((total Q K i * Real.exp (-M) : ℝ) : EReal) := by
  unfold rowSum; simp only [rowExp_eq Q K i hM, sum_coe]; rw [← Finset.sum_mul]; rfl

theorem row_prob (j : Fin 2048) : Ideal.div (rowExp Q K i j) (rowSum Q K i) = ((prob Q K i j : ℝ) : EReal) := by
  obtain ⟨M, hM⟩ := rowTop_real Q K i
  have ht := (total_pos Q K i).ne'
  have he := (Real.exp_pos (-M)).ne'
  rw [rowExp_eq Q K i hM, rowSum_eq Q K i hM, Ideal.div_coe (mul_ne_zero ht he), ← EReal.coe_mul, prob]
  congr 1
  field_simp
theorem row_grad (j : Fin 2048) : rowGrad Q K V O i j = ((grad Q K V O i j : ℝ) : EReal) := by
  obtain ⟨M, hM⟩ := rowTop_real Q K i
  have ht := (total_pos Q K i).ne'
  have he := (Real.exp_pos (-M)).ne'
  unfold rowGrad
  simp only [rowExp_eq Q K i hM, rowSum_eq Q K i hM, ← EReal.coe_mul, Ideal.div_coe (mul_ne_zero ht he),
    Ideal.div_coe (mul_ne_zero (mul_ne_zero ht he) (mul_ne_zero ht he)), one_mul, sum_coe]
  rw [← EReal.coe_neg, ← EReal.coe_add, ← EReal.coe_mul]
  congr 1
  have e : ∑ l, score O V i l * (1 / (total Q K i * Real.exp (-M) * (total Q K i * Real.exp (-M)))) * (weight Q K i l * Real.exp (-M))
      = delta Q K V O i * (1 / (total Q K i * Real.exp (-M))) := by
    unfold delta prob
    rw [Finset.sum_mul]
    refine Finset.sum_congr rfl fun l _ => ?_
    field_simp
  rw [e, grad, prob]
  field_simp
  ring
end Row

end Cert.AttnMath
-- ==== Proof.AttnBlock.lean ====
/- The four arrays the kernel forms for each block of 256 queries: the attention's probabilities and the gradients of the scores, for the keys
   of the block itself and for those before it. -/
module
public import proofs.«01_k».proof.Proof.Gen.AttnIdeal.Value
public import proofs.«01_k».proof.Proof.AttnMath
public import Idealize.ShloMosaic.Lib.Pipeline.ValueKit
public import Idealize.ShloMosaic.Lib.Claim
public import Idealize.ShloMosaic.Lib.KernelVsHost
public import Idealize.ShloMosaic.Lib.WordCmp
@[expose] public section
set_option maxRecDepth 16384
noncomputable section
namespace Cert.AttnIdeal.AttnValue
open Cert.AttnIdeal Cert.AttnIdeal.Gen Idealize.ShloMosaic Idealize.ShloMosaic.TcCoe Idealize.SL.Sem
open Cert.AttnMath Cert.RealRow

/-- What a block of 2048 positions and 128 lanes holds. -/
abbrev Blk := Vec Ideal S2048x128 .bf16
def Holds (x : Blk) (X : Head) : Prop := ∀ i k, x (ix2 i k) = ((X i k : ℝ) : EReal)

/-- The kernel's scale, and the constant that carries a name with its value. -/
theorem scale_eq : Ideal.ofBits FTy.f32 0x3DD105EC#32 = ((scale : ℝ) : EReal) := scale_bits
theorem scale2_eq : (Named.named κ "scale2" 0x3E16C740#32 : Ideal .f32) = Cert.AttnMath.scale2 :=
  (IdealRules.named_const.ideal_named_scalar _ _ _ _ rfl).trans (by rw [scale2, scale])

/-- The mask of a block's own keys. -/
theorem mask (p q : Fin 256) (a b : EReal) :
    Scalar.select (k0_pay5 (ix2 p q)) a b = if q.val / 64 ≤ p.val / 64 then a else b := by
  have e : k0_pay5 (ix2 p q) = BitVec.ofBool (decide (q.val / 64 ≤ p.val / 64)) := by
    have s : ∀ a : Fin 256, IntOp.shrsi ArithUnit.vector (BitVec.ofNat 32 a.val) 6#32 = BitVec.ofNat 32 (a.val / 64) := by decide +kernel
    pointwise [k0_pay5]
    rw [s, s, WordCmp.cmpi_sge_ofNat (by omega) (by omega)]
  rw [e]
  by_cases h : q.val / 64 ≤ p.val / 64 <;> simp [h, Scalar.select]

section
variable {Q K V O : Head}
/-- A block of queries is given what its rows' products are. -/
theorem given {n : ℕ} (hn : n + 256 ≤ 2048) (hc : 256 ∣ n) (p : Fin 256) {D E : Fin 256 → EReal} {P G : Fin n → EReal}
    (hD : ∀ q : Fin 256, D q = ∑ k, ((Q ⟨n + p.val, by omega⟩ k : ℝ) : EReal) * ((K ⟨n + q.val, by omega⟩ k : ℝ) : EReal))
    (hP : ∀ q : Fin n, P q = ∑ k, ((Q ⟨n + p.val, by omega⟩ k : ℝ) : EReal) * ((K ⟨q.val, by omega⟩ k : ℝ) : EReal))
    (hE : ∀ q : Fin 256, E q = ∑ k, ((O ⟨n + p.val, by omega⟩ k : ℝ) : EReal) * ((V ⟨n + q.val, by omega⟩ k : ℝ) : EReal))
    (hG : ∀ q : Fin n, G q = ∑ k, ((O ⟨n + p.val, by omega⟩ k : ℝ) : EReal) * ((V ⟨q.val, by omega⟩ k : ℝ) : EReal)) :
    Given Q K V O hn ⟨n + p.val, by omega⟩ (fun q => Scalar.select (k0_pay5 (ix2 p q)) (D q) bot) P E G where
  chunk := hc
  low := by simp
  high := by simp
  own q := by
    obtain ⟨c, rfl⟩ := hc
    have e : (q.val / 64 ≤ p.val / 64) ↔ Sees ⟨256 * c + p.val, by omega⟩ ⟨256 * c + q.val, by omega⟩ := by
      show _ ↔ (256 * c + q.val) / 64 ≤ (256 * c + p.val) / 64
      omega
    rw [mask, hD, bot_eq, masked, score]
    simp only [← EReal.coe_mul, sum_coe, e]
  past k := by rw [hP, score]; simp only [← EReal.coe_mul, sum_coe]
  ownGrad q := by rw [hE, score]; simp only [← EReal.coe_mul, sum_coe]
  pastGrad k := by rw [hG, score]; simp only [← EReal.coe_mul, sum_coe]
end

/-- A load of 256 rows from row `n`, and one of the rows before. -/
abbrev own (x : Blk) (n : ℕ) (b : ∀ a, (![n, 0] : Fin 2 → ℕ) a + (![256, 128] : Fin 2 → ℕ) a ≤ S2048x128.size a) :=
  View.ld (Val := Elt Ideal) (S := S2048x128) (e' := .bf16) x (Rect.unit ![n, 0] ![256, 128] b)
abbrev past (x : Blk) (n : ℕ) (b : ∀ a, (![0, 0] : Fin 2 → ℕ) a + (![n, 128] : Fin 2 → ℕ) a ≤ S2048x128.size a) :=
  View.ld (Val := Elt Ideal) (S := S2048x128) (e' := .bf16) x (Rect.unit ![0, 0] ![n, 128] b)
theorem own_holds {x : Blk} {X : Head} (h : Holds x X) {n : ℕ} (hn : n + 256 ≤ 2048) (b) (p : Fin 256) (k : Fin 128) :
    own x n b (ix2 p k) = ((X ⟨n + p.val, by omega⟩ k : ℝ) : EReal) := by
  refine Eq.trans (congrArg x ?_) (h _ _)
  funext a
  refine Fin.cases ?_ (fun a => ?_) a
  · exact Fin.ext (by show n + 1 * p.val = n + p.val; omega)
  · obtain rfl : a = 0 := Subsingleton.elim _ _
    exact Fin.ext (by show 0 + 1 * k.val = k.val; omega)
theorem past_holds {x : Blk} {X : Head} (h : Holds x X) {n : ℕ} (hn : n + 256 ≤ 2048) (b) (p : Fin n) (k : Fin 128) :
    past x n b (ix2 p k) = ((X ⟨p.val, by omega⟩ k : ℝ) : EReal) := by
  refine Eq.trans (congrArg x ?_) (h _ _)
  funext a
  refine Fin.cases ?_ (fun a => ?_) a
  · exact Fin.ext (by show 0 + 1 * p.val = p.val; omega)
  · obtain rfl : a = 0 := Subsingleton.elim _ _
    exact Fin.ext (by show 0 + 1 * k.val = k.val; omega)

variable {x0 x1 x2 x3 : Blk} {Q K V O : Head} (h0 : Holds x0 Q) (h1 : Holds x1 K) (h2 : Holds x2 V) (h3 : Holds x3 O)

include h0 h1 h2 h3 in
/-- The same of the rows loaded. -/
theorem given_ld {n : ℕ} (hn : n + 256 ≤ 2048) (hc : 256 ∣ n) (b b') (p : Fin 256) {D E : Fin 256 → EReal} {P G : Fin n → EReal}
    (hD : ∀ q, D q = ∑ k : Fin 128, own x0 n b (ix2 p k) * own x1 n b (ix2 q k))
    (hP : ∀ q, P q = ∑ k : Fin 128, own x0 n b (ix2 p k) * past x1 n b' (ix2 q k))
    (hE : ∀ q, E q = ∑ k : Fin 128, own x3 n b (ix2 p k) * own x2 n b (ix2 q k))
    (hG : ∀ q, G q = ∑ k : Fin 128, own x3 n b (ix2 p k) * past x2 n b' (ix2 q k)) :
    Given Q K V O hn ⟨n + p.val, by omega⟩ (fun q => Scalar.select (k0_pay5 (ix2 p q)) (D q) bot) P E G :=
  given hn hc p
    (fun q => (hD q).trans (Finset.sum_congr rfl fun k _ => congrArg₂ (· * ·) (own_holds h0 hn b p k) (own_holds h1 hn b q k)))
    (fun q => (hP q).trans (Finset.sum_congr rfl fun k _ => congrArg₂ (· * ·) (own_holds h0 hn b p k) (past_holds h1 hn b' q k)))
    (fun q => (hE q).trans (Finset.sum_congr rfl fun k _ => congrArg₂ (· * ·) (own_holds h3 hn b p k) (own_holds h2 hn b q k)))
    (fun q => (hG q).trans (Finset.sum_congr rfl fun k _ => congrArg₂ (· * ·) (own_holds h3 hn b p k) (past_holds h2 hn b' q k)))

/-- What the four arrays of the block of queries from `n` hold. -/
structure Block (Q K V O : Head) (n : ℕ) (hn : n + 256 ≤ 2048) (sd pd : (⟨2, ![256, 256]⟩ : Shape).Idx → EReal) (sp pp : (⟨2, ![256, n]⟩ : Shape).Idx → EReal) : Prop where
  gradOwn : ∀ (p q : Fin 256), sd (ix2 p q) = ((grad Q K V O ⟨n + p.val, by omega⟩ ⟨n + q.val, by omega⟩ : ℝ) : EReal)
  probOwn : ∀ (p q : Fin 256), pd (ix2 p q) = ((prob Q K ⟨n + p.val, by omega⟩ ⟨n + q.val, by omega⟩ : ℝ) : EReal)
  gradPast : ∀ (p : Fin 256) (q : Fin n), sp (ix2 p q) = ((grad Q K V O ⟨n + p.val, by omega⟩ ⟨q.val, by omega⟩ : ℝ) : EReal)
  probPast : ∀ (p : Fin 256) (q : Fin n), pp (ix2 p q) = ((prob Q K ⟨n + p.val, by omega⟩ ⟨q.val, by omega⟩ : ℝ) : EReal)

theorem block_of {n : ℕ} {hn : n + 256 ≤ 2048} {sd pd : (⟨2, ![256, 256]⟩ : Shape).Idx → EReal} {sp pp : (⟨2, ![256, n]⟩ : Shape).Idx → EReal}
    {D E : Fin 256 → Fin 256 → EReal} {P G : Fin 256 → Fin n → EReal}
    (g : ∀ p : Fin 256, Given Q K V O hn ⟨n + p.val, by omega⟩ (D p) (P p) (E p) (G p))
    (e1 : ∀ p q, sd (ix2 p q) = grd (D p) (P p) (E p) (G p) (D p q) (E p q)) (e2 : ∀ p q, pd (ix2 p q) = prb (D p) (P p) (D p q))
    (e3 : ∀ p q, sp (ix2 p q) = grd (D p) (P p) (E p) (G p) (P p q) (G p q)) (e4 : ∀ p q, pp (ix2 p q) = prb (D p) (P p) (P p q)) :
    Block Q K V O n hn sd pd sp pp :=
  ⟨fun p q => (e1 p q).trans ((g p).grad_own q), fun p q => (e2 p q).trans ((g p).prob_own q), fun p q => (e3 p q).trans ((g p).grad_past q),
    fun p q => (e4 p q).trans ((g p).prob_past q)⟩

end Cert.AttnIdeal.AttnValue
end
-- ==== Proof.AttnBlocks.lean ====
/- Each block's four arrays: the probabilities and the gradients of the scores. -/
module
public import proofs.«01_k».proof.Proof.AttnBlock
@[expose] public section
set_option maxRecDepth 16384
set_option maxHeartbeats 1000000
noncomputable section
namespace Cert.AttnIdeal.AttnValue
open Cert.AttnIdeal Cert.AttnIdeal.Gen Idealize.ShloMosaic Idealize.ShloMosaic.TcCoe Idealize.SL.Sem
open Cert.AttnMath Cert.RealRow

variable {x0 x1 x2 x3 : Blk} {Q K V O : Head} (h0 : Holds x0 Q) (h1 : Holds x1 K) (h2 : Holds x2 V) (h3 : Holds x3 O)

/-! ## The first block, which has no keys before its own -/
section
variable (M : IVec S256x256 1) (D E : FVec Ideal S256x256 .f32)
abbrev sd0 := k0_pay23 (F := Ideal) E (k0_pay20 M D) (k0_pay21 M D)
abbrev pd0 := k0_pay24 (F := Ideal) (k0_pay20 M D) (k0_pay21 M D)
end
include h0 h1 h2 h3 in
theorem block0 (b) (b' : ∀ a, (![0, 0] : Fin 2 → ℕ) a + (![0, 128] : Fin 2 → ℕ) a ≤ S2048x128.size a) :
    let D := k0_pay6 (F := Ideal) (own x0 0 b) (own x1 0 b)
    let E := k0_pay7 (F := Ideal) (own x3 0 b) (own x2 0 b)
    Block Q K V O 0 (by omega) (sd0 k0_pay5 D E) (pd0 k0_pay5 D) (fun _ => 0) (fun _ => 0) := by
  intro D E
  refine block_of (fun p => given_ld h0 h1 h2 h3 _ ⟨0, rfl⟩ b b' p (D := fun q => D (ix2 p q)) (E := fun q => E (ix2 p q)) (P := fun q => q.elim0)
    (G := fun q => q.elim0) ?_ (fun q => q.elim0) ?_ (fun q => q.elim0)) ?_ ?_ (fun p q => q.elim0) (fun p q => q.elim0)
  iterate 2 intro q; pointwise [D, E, k0_pay6, k0_pay7]
  all_goals
    clear_value D E; intro p q; pointwise [sd0, pd0, k0_pay20, k0_pay21, k0_pay22, k0_pay23, k0_pay24]; simp only [scale2_eq]
    simp only [grd, dlt, prb, Cert.AttnMath.inv, pow, top, Finset.univ_eq_empty, Finset.sum_empty, Finset.fold_empty, add_zero, bot_eq,
      show Ideal.ofBits FTy.f32 0xFF800000#32 = (⊥ : EReal) from bot_eq, max_eq_left bot_le]
    rfl

/-! ## The second block -/
section
variable (M : IVec S256x256 1) (D E : FVec Ideal S256x256 .f32) (P G : FVec Ideal S256x256 .f32)
abbrev sd1 := k0_pay40 (F := Ideal) P G E (k0_pay31 M D) (k0_pay32 M D)
abbrev sp1 := k0_pay41 (F := Ideal) P G E (k0_pay31 M D) (k0_pay32 M D)
abbrev pd1 := k0_pay48 (F := Ideal) (k0_pay37 P (k0_pay31 M D) (k0_pay32 M D))
abbrev pp1 := k0_pay49 (F := Ideal) (k0_pay38 P (k0_pay31 M D) (k0_pay32 M D))
end
include h0 h1 h2 h3 in
theorem block1 (b b') :
    let D := k0_pay10 (F := Ideal) (k0_pay8 (own x0 256 b)) (own x1 256 b)
    let P := k0_pay9 (F := Ideal) (own x0 256 b) (past x1 256 b')
    let E := k0_pay13 (F := Ideal) (own x3 256 b) (own x2 256 b)
    let G := k0_pay12 (F := Ideal) (own x3 256 b) (past x2 256 b')
    Block Q K V O 256 (by omega) (sd1 k0_pay5 D E P G) (pd1 k0_pay5 D P) (sp1 k0_pay5 D E P G) (pp1 k0_pay5 D P) := by
  intro D P E G
  refine block_of (fun p => given_ld h0 h1 h2 h3 _ ⟨1, rfl⟩ b b' p (D := fun q => D (ix2 p q)) (E := fun q => E (ix2 p q)) (P := fun q => P (ix2 p q))
    (G := fun q => G (ix2 p q)) ?_ ?_ ?_ ?_) ?_ ?_ ?_ ?_
  iterate 4 intro q; pointwise [D, P, E, G, k0_pay8, k0_pay9, k0_pay10, k0_pay11, k0_pay12, k0_pay13]
  all_goals clear_value D P E G; intro p q; pointwise [sd1, sp1, pd1, pp1, k0_pay31, k0_pay32, k0_pay33, k0_pay34, k0_pay35, k0_pay36, k0_pay37, k0_pay38, k0_pay39, k0_pay40, k0_pay41, k0_pay48, k0_pay49]; simp only [scale2_eq]; rfl

/-! ## The third block -/
section
variable (M : IVec S256x256 1) (D E : FVec Ideal S256x256 .f32) (P G : FVec Ideal S256x512 .f32)
abbrev sd2 := k0_pay64 (F := Ideal) M P D G E
abbrev sp2 := k0_pay65 (F := Ideal) M P D G E
abbrev pd2 := k0_pay74 (F := Ideal) (k0_pay61 M P D)
abbrev pp2 := k0_pay75 (F := Ideal) (k0_pay62 M P D)
end
include h0 h1 h2 h3 in
theorem block2 (b b') :
    let D := k0_pay16 (F := Ideal) (own x0 512 b) (own x1 512 b)
    let P := k0_pay15 (F := Ideal) (own x0 512 b) (past x1 512 b')
    let E := k0_pay19 (F := Ideal) (own x3 512 b) (own x2 512 b)
    let G := k0_pay18 (F := Ideal) (own x3 512 b) (past x2 512 b')
    Block Q K V O 512 (by omega) (sd2 k0_pay5 D E P G) (pd2 k0_pay5 D P) (sp2 k0_pay5 D E P G) (pp2 k0_pay5 D P) := by
  intro D P E G
  refine block_of (fun p => given_ld h0 h1 h2 h3 _ ⟨2, rfl⟩ b b' p (D := fun q => D (ix2 p q)) (E := fun q => E (ix2 p q)) (P := fun q => P (ix2 p q))
    (G := fun q => G (ix2 p q)) ?_ ?_ ?_ ?_) ?_ ?_ ?_ ?_
  iterate 4 intro q; pointwise [D, P, E, G, k0_pay14, k0_pay15, k0_pay16, k0_pay17, k0_pay18, k0_pay19]
  all_goals clear_value D P E G; intro p q; pointwise [sd2, sp2, pd2, pp2, k0_pay56, k0_pay57, k0_pay58, k0_pay59, k0_pay60, k0_pay61, k0_pay62, k0_pay63, k0_pay64, k0_pay65, k0_pay74, k0_pay75]; simp only [scale2_eq]; rfl

/-! ## The fourth block -/
section
variable (M : IVec S256x256 1) (D E : FVec Ideal S256x256 .f32) (P G : FVec Ideal S256x768 .f32)
abbrev sd3 := k0_pay91 (F := Ideal) P G E (k0_pay82 M D) (k0_pay83 M P D) (k0_pay84 M P D)
abbrev sp3 := k0_pay92 (F := Ideal) P G E (k0_pay82 M D) (k0_pay83 M P D) (k0_pay84 M P D)
abbrev pd3 := k0_pay101 (F := Ideal) (k0_pay88 P (k0_pay82 M D) (k0_pay83 M P D) (k0_pay84 M P D))
abbrev pp3 := k0_pay102 (F := Ideal) (k0_pay89 P (k0_pay82 M D) (k0_pay83 M P D) (k0_pay84 M P D))
end
include h0 h1 h2 h3 in
theorem block3 (b b') :
    let D := k0_pay27 (F := Ideal) (own x0 768 b) (own x1 768 b)
    let P := k0_pay26 (F := Ideal) (own x0 768 b) (past x1 768 b')
    let E := k0_pay30 (F := Ideal) (own x3 768 b) (own x2 768 b)
    let G := k0_pay29 (F := Ideal) (own x3 768 b) (past x2 768 b')
    Block Q K V O 768 (by omega) (sd3 k0_pay5 D E P G) (pd3 k0_pay5 D P) (sp3 k0_pay5 D E P G) (pp3 k0_pay5 D P) := by
  intro D P E G
  refine block_of (fun p => given_ld h0 h1 h2 h3 _ ⟨3, rfl⟩ b b' p (D := fun q => D (ix2 p q)) (E := fun q => E (ix2 p q)) (P := fun q => P (ix2 p q))
    (G := fun q => G (ix2 p q)) ?_ ?_ ?_ ?_) ?_ ?_ ?_ ?_
  iterate 4 intro q; pointwise [D, P, E, G, k0_pay25, k0_pay26, k0_pay27, k0_pay28, k0_pay29, k0_pay30]
  all_goals clear_value D P E G; intro p q; pointwise [sd3, sp3, pd3, pp3, k0_pay82, k0_pay83, k0_pay84, k0_pay85, k0_pay86, k0_pay87, k0_pay88, k0_pay89, k0_pay90, k0_pay91, k0_pay92, k0_pay101, k0_pay102]; simp only [scale2_eq]; rfl

/-! ## The fifth block -/
section
variable (M : IVec S256x256 1) (D E : FVec Ideal S256x256 .f32) (P G : FVec Ideal S256x1024 .f32)
abbrev sd4 := k0_pay119 (F := Ideal) G E (k0_pay111 M P D) (k0_pay112 M P D) (k0_pay113 M P D) (k0_pay114 M P D)
abbrev sp4 := k0_pay120 (F := Ideal) G E (k0_pay111 M P D) (k0_pay112 M P D) (k0_pay113 M P D) (k0_pay114 M P D)
abbrev pd4 := k0_pay130 (F := Ideal) (k0_pay116 (k0_pay111 M P D) (k0_pay112 M P D) (k0_pay114 M P D))
abbrev pp4 := k0_pay131 (F := Ideal) (k0_pay117 (k0_pay112 M P D) (k0_pay113 M P D) (k0_pay114 M P D))
end
include h0 h1 h2 h3 in
theorem block4 (b b') :
    let D := k0_pay52 (F := Ideal) (own x0 1024 b) (own x1 1024 b)
    let P := k0_pay51 (F := Ideal) (own x0 1024 b) (past x1 1024 b')
    let E := k0_pay55 (F := Ideal) (k0_pay53 (own x3 1024 b)) (own x2 1024 b)
    let G := k0_pay54 (F := Ideal) (own x3 1024 b) (past x2 1024 b')
    Block Q K V O 1024 (by omega) (sd4 k0_pay5 D E P G) (pd4 k0_pay5 D P) (sp4 k0_pay5 D E P G) (pp4 k0_pay5 D P) := by
  intro D P E G
  refine block_of (fun p => given_ld h0 h1 h2 h3 _ ⟨4, rfl⟩ b b' p (D := fun q => D (ix2 p q)) (E := fun q => E (ix2 p q)) (P := fun q => P (ix2 p q))
    (G := fun q => G (ix2 p q)) ?_ ?_ ?_ ?_) ?_ ?_ ?_ ?_
  iterate 4 intro q; pointwise [D, P, E, G, k0_pay50, k0_pay51, k0_pay52, k0_pay53, k0_pay54, k0_pay55]
  all_goals clear_value D P E G; intro p q; pointwise [sd4, sp4, pd4, pp4, k0_pay109, k0_pay110, k0_pay111, k0_pay112, k0_pay113, k0_pay114, k0_pay115, k0_pay116, k0_pay117, k0_pay118, k0_pay119, k0_pay120, k0_pay130, k0_pay131]; simp only [scale2_eq]; rfl

/-! ## The sixth block -/
section
variable (M : IVec S256x256 1) (D E : FVec Ideal S256x256 .f32) (P G : FVec Ideal S256x1280 .f32)
abbrev sd5 := k0_pay146 (F := Ideal) E (k0_pay143 M P D) (k0_pay145 M P D G E)
abbrev sp5 := k0_pay147 (F := Ideal) G (k0_pay144 M P D) (k0_pay145 M P D G E)
abbrev pd5 := k0_pay157 (F := Ideal) (k0_pay143 M P D)
abbrev pp5 := k0_pay158 (F := Ideal) (k0_pay144 M P D)
end
include h0 h1 h2 h3 in
theorem block5 (b b') :
    let D := k0_pay78 (F := Ideal) (own x0 1280 b) (own x1 1280 b)
    let P := k0_pay77 (F := Ideal) (own x0 1280 b) (past x1 1280 b')
    let E := k0_pay81 (F := Ideal) (own x3 1280 b) (own x2 1280 b)
    let G := k0_pay80 (F := Ideal) (own x3 1280 b) (past x2 1280 b')
    Block Q K V O 1280 (by omega) (sd5 k0_pay5 D E P G) (pd5 k0_pay5 D P) (sp5 k0_pay5 D E P G) (pp5 k0_pay5 D P) := by
  intro D P E G
  refine block_of (fun p => given_ld h0 h1 h2 h3 _ ⟨5, rfl⟩ b b' p (D := fun q => D (ix2 p q)) (E := fun q => E (ix2 p q)) (P := fun q => P (ix2 p q))
    (G := fun q => G (ix2 p q)) ?_ ?_ ?_ ?_) ?_ ?_ ?_ ?_
  iterate 4 intro q; pointwise [D, P, E, G, k0_pay76, k0_pay77, k0_pay78, k0_pay79, k0_pay80, k0_pay81]
  all_goals clear_value D P E G; intro p q; pointwise [sd5, sp5, pd5, pp5, k0_pay138, k0_pay139, k0_pay140, k0_pay141, k0_pay142, k0_pay143, k0_pay144, k0_pay145, k0_pay146, k0_pay147, k0_pay157, k0_pay158]; simp only [scale2_eq]; rfl

/-! ## The seventh block -/
section
variable (M : IVec S256x256 1) (D E : FVec Ideal S256x256 .f32) (P G : FVec Ideal S256x1536 .f32)
abbrev sd6 := k0_pay167 (F := Ideal) G E (k0_pay162 M P D) (k0_pay163 M P D) (k0_pay164 M P D)
abbrev sp6 := k0_pay168 (F := Ideal) G E (k0_pay162 M P D) (k0_pay163 M P D) (k0_pay164 M P D)
abbrev pd6 := k0_pay177 (F := Ideal) (k0_pay164 M P D)
abbrev pp6 := k0_pay178 (F := Ideal) (k0_pay165 (k0_pay162 M P D) (k0_pay163 M P D))
end
include h0 h1 h2 h3 in
theorem block6 (b b') :
    let D := k0_pay105 (F := Ideal) (own x0 1536 b) (own x1 1536 b)
    let P := k0_pay104 (F := Ideal) (own x0 1536 b) (past x1 1536 b')
    let E := k0_pay108 (F := Ideal) (own x3 1536 b) (own x2 1536 b)
    let G := k0_pay107 (F := Ideal) (own x3 1536 b) (past x2 1536 b')
    Block Q K V O 1536 (by omega) (sd6 k0_pay5 D E P G) (pd6 k0_pay5 D P) (sp6 k0_pay5 D E P G) (pp6 k0_pay5 D P) := by
  intro D P E G
  refine block_of (fun p => given_ld h0 h1 h2 h3 _ ⟨6, rfl⟩ b b' p (D := fun q => D (ix2 p q)) (E := fun q => E (ix2 p q)) (P := fun q => P (ix2 p q))
    (G := fun q => G (ix2 p q)) ?_ ?_ ?_ ?_) ?_ ?_ ?_ ?_
  iterate 4 intro q; pointwise [D, P, E, G, k0_pay103, k0_pay104, k0_pay105, k0_pay106, k0_pay107, k0_pay108]
  all_goals clear_value D P E G; intro p q; pointwise [sd6, sp6, pd6, pp6, k0_pay159, k0_pay160, k0_pay161, k0_pay162, k0_pay163, k0_pay164, k0_pay165, k0_pay166, k0_pay167, k0_pay168, k0_pay177, k0_pay178]; simp only [scale2_eq]; rfl

/-! ## The eighth block -/
section
variable (M : IVec S256x256 1) (D E : FVec Ideal S256x256 .f32) (P G : FVec Ideal S256x1792 .f32)
abbrev sd7 := k0_pay190 (F := Ideal) G E (k0_pay181 M P D) (k0_pay182 M P D) (k0_pay183 M P D) k0_pay184
abbrev sp7 := k0_pay191 (F := Ideal) G E (k0_pay181 M P D) (k0_pay182 M P D) (k0_pay183 M P D) k0_pay184
abbrev pd7 := k0_pay200 (F := Ideal) (k0_pay187 (k0_pay181 M P D) (k0_pay182 M P D) (k0_pay183 M P D) k0_pay184)
abbrev pp7 := k0_pay201 (F := Ideal) (k0_pay188 (k0_pay182 M P D) (k0_pay183 M P D) k0_pay184)
end
include h0 h1 h2 h3 in
theorem block7 (b b') :
    let D := k0_pay134 (F := Ideal) (own x0 1792 b) (own x1 1792 b)
    let P := k0_pay133 (F := Ideal) (own x0 1792 b) (past x1 1792 b')
    let E := k0_pay137 (F := Ideal) (own x3 1792 b) (own x2 1792 b)
    let G := k0_pay136 (F := Ideal) (own x3 1792 b) (past x2 1792 b')
    Block Q K V O 1792 (by omega) (sd7 k0_pay5 D E P G) (pd7 k0_pay5 D P) (sp7 k0_pay5 D E P G) (pp7 k0_pay5 D P) := by
  intro D P E G
  refine block_of (fun p => given_ld h0 h1 h2 h3 _ ⟨7, rfl⟩ b b' p (D := fun q => D (ix2 p q)) (E := fun q => E (ix2 p q)) (P := fun q => P (ix2 p q))
    (G := fun q => G (ix2 p q)) ?_ ?_ ?_ ?_) ?_ ?_ ?_ ?_
  iterate 4 intro q; pointwise [D, P, E, G, k0_pay132, k0_pay133, k0_pay134, k0_pay135, k0_pay136, k0_pay137]
  all_goals clear_value D P E G; intro p q; pointwise [sd7, sp7, pd7, pp7, k0_pay179, k0_pay180, k0_pay181, k0_pay182, k0_pay183, k0_pay184, k0_pay185, k0_pay186, k0_pay187, k0_pay188, k0_pay189, k0_pay190, k0_pay191, k0_pay200, k0_pay201]; simp only [scale2_eq]; rfl

end Cert.AttnIdeal.AttnValue
end
-- ==== Proof.AttnPay.lean ====
/- The sums each block of queries adds to the buffers of the keys' and the values' gradients, read at an index. -/
module
public import proofs.«01_k».proof.Proof.AttnBlock
@[expose] public section
set_option maxRecDepth 16384
noncomputable section
namespace Cert.AttnIdeal.AttnValue
open Cert.AttnIdeal Cert.AttnIdeal.Gen Idealize.ShloMosaic Idealize.ShloMosaic.TcCoe Idealize.SL.Sem
open Cert.AttnMath

/-- Rows of a block, and the products of its array with them added to what the buffer held. -/
abbrev Rows := Vec Ideal S256x128 .bf16
abbrev Adds {n : ℕ} (w Z : (⟨2, ![n, 128]⟩ : Shape).Idx → EReal) (A : (⟨2, ![256, n]⟩ : Shape).Idx → EReal) (R : Rows) : Prop :=
  ∀ (p : Fin n) (k : Fin 128), w (ix2 p k) = Z (ix2 p k) + ∑ x : Fin 256, A (ix2 x p) * (R (ix2 x k) : EReal)
abbrev zero256 := constant (F := Ideal) S256x128 .f32 0x00000000#32

section
variable (A : FVec Ideal S256x256 .bf16) (R : Rows) (Z : FVec Ideal S256x128 .f32)
theorem k_own0 : Adds (k0_pay45 (F := Ideal) A (k0_pay42 R) Z) Z A R := by intro p k; pointwise [k0_pay45, k0_pay42]
theorem v_own0 : Adds (k0_pay46 (F := Ideal) A (k0_pay43 R) Z) Z A R := by intro p k; pointwise [k0_pay46, k0_pay43]
theorem k_own1 : Adds (k0_pay68 (F := Ideal) A R Z) Z A R := by intro p k; pointwise [k0_pay68, k0_pay66]
theorem v_own1 : Adds (k0_pay69 (F := Ideal) A R Z) Z A R := by intro p k; pointwise [k0_pay69, k0_pay67]
theorem k_own2 : Adds (k0_pay96 (F := Ideal) A (k0_pay93 R) Z zero256) Z A R := by intro p k; pointwise [k0_pay96, k0_pay93, zero256]
theorem v_own2 : Adds (k0_pay97 (F := Ideal) A (k0_pay94 R) Z) Z A R := by intro p k; pointwise [k0_pay97, k0_pay94]
theorem k_own3 : Adds (k0_pay124 (F := Ideal) A R Z) Z A R := by intro p k; pointwise [k0_pay124, k0_pay121]
theorem v_own3 : Adds (k0_pay126 (F := Ideal) (k0_pay125 A R Z)) Z A R := by intro p k; pointwise [k0_pay126, k0_pay125, k0_pay122]
theorem k_own4 : Adds (k0_pay150 (F := Ideal) A R Z) Z A R := by intro p k; pointwise [k0_pay150, k0_pay148]
theorem v_own4 : Adds (k0_pay151 (F := Ideal) A R Z) Z A R := by intro p k; pointwise [k0_pay151, k0_pay149]
theorem k_own5 : Adds (k0_pay172 (F := Ideal) A R Z) Z A R := by intro p k; pointwise [k0_pay172, k0_pay169]
theorem v_own5 : Adds (k0_pay173 (F := Ideal) A R Z) Z A R := by intro p k; pointwise [k0_pay173, k0_pay170]
theorem k_own6 : Adds (k0_pay195 (F := Ideal) A R Z) Z A R := by intro p k; pointwise [k0_pay195, k0_pay192]
theorem v_own6 : Adds (k0_pay196 (F := Ideal) A (k0_pay193 R) Z zero256) Z A R := by intro p k; pointwise [k0_pay196, k0_pay193, zero256]
theorem k_own7 : Adds (k0_pay205 (F := Ideal) A (k0_pay202 R) Z) Z A R := by intro p k; pointwise [k0_pay205, k0_pay202]
theorem v_own7 : Adds (k0_pay206 (F := Ideal) A (k0_pay203 R) Z) Z A R := by intro p k; pointwise [k0_pay206, k0_pay203]
end
theorem k_past1 (A : FVec Ideal S256x256 .bf16) (R : Rows) (Z : FVec Ideal S256x128 .f32) : Adds (k0_pay71 (F := Ideal) A R Z) Z A R := by intro p k; pointwise [k0_pay71, k0_pay66]
theorem v_past1 (A : FVec Ideal S256x256 .bf16) (R : Rows) (Z : FVec Ideal S256x128 .f32) : Adds (k0_pay72 (F := Ideal) A (k0_pay67 R) Z zero256) Z A R := by intro p k; pointwise [k0_pay72, k0_pay67, zero256]
theorem k_past2 (A : FVec Ideal S256x512 .bf16) (R : Rows) (Z : FVec Ideal S512x128 .f32) : Adds (k0_pay98 (F := Ideal) A (k0_pay93 R) Z) Z A R := by intro p k; pointwise [k0_pay98, k0_pay93]
theorem v_past2 (A : FVec Ideal S256x512 .bf16) (R : Rows) (Z : FVec Ideal S512x128 .f32) : Adds (k0_pay99 (F := Ideal) A (k0_pay94 R) Z) Z A R := by intro p k; pointwise [k0_pay99, k0_pay94]
theorem k_past3 (A : FVec Ideal S256x768 .bf16) (R : Rows) (Z : FVec Ideal S768x128 .f32) : Adds (k0_pay127 (F := Ideal) A (k0_pay121 R) Z) Z A R := by intro p k; pointwise [k0_pay127, k0_pay121]
theorem v_past3 (A : FVec Ideal S256x768 .bf16) (R : Rows) (Z : FVec Ideal S768x128 .f32) : Adds (k0_pay128 (F := Ideal) A (k0_pay122 R) Z) Z A R := by intro p k; pointwise [k0_pay128, k0_pay122]
theorem k_past4 (A : FVec Ideal S256x1024 .bf16) (R : Rows) (Z : FVec Ideal S1024x128 .f32) : Adds (k0_pay154 (F := Ideal) (k0_pay153 A R Z)) Z A R := by intro p k; pointwise [k0_pay154, k0_pay153, k0_pay148]
theorem v_past4 (A : FVec Ideal S256x1024 .bf16) (R : Rows) (Z : FVec Ideal S1024x128 .f32) : Adds (k0_pay155 (F := Ideal) A (k0_pay149 R) Z) Z A R := by intro p k; pointwise [k0_pay155, k0_pay149]
theorem k_past5 (A : FVec Ideal S256x1280 .bf16) (R : Rows) (Z : FVec Ideal S1280x128 .f32) : Adds (k0_pay174 (F := Ideal) A (k0_pay169 R) Z) Z A R := by intro p k; pointwise [k0_pay174, k0_pay169]
theorem v_past5 (A : FVec Ideal S256x1280 .bf16) (R : Rows) (Z : FVec Ideal S1280x128 .f32) : Adds (k0_pay175 (F := Ideal) A (k0_pay170 R) Z) Z A R := by intro p k; pointwise [k0_pay175, k0_pay170]
theorem k_past6 (A : FVec Ideal S256x1536 .bf16) (R : Rows) (Z : FVec Ideal S1536x128 .f32) : Adds (k0_pay197 (F := Ideal) A (k0_pay192 R) Z) Z A R := by intro p k; pointwise [k0_pay197, k0_pay192]
theorem v_past6 (A : FVec Ideal S256x1536 .bf16) (R : Rows) (Z : FVec Ideal S1536x128 .f32) : Adds (k0_pay198 (F := Ideal) A (k0_pay193 R) Z) Z A R := by intro p k; pointwise [k0_pay198, k0_pay193]
theorem k_past7 (A : FVec Ideal S256x1792 .bf16) (R : Rows) (Z : FVec Ideal S1792x128 .f32) : Adds (k0_pay207 (F := Ideal) A (k0_pay202 R) Z) Z A R := by intro p k; pointwise [k0_pay207, k0_pay202]
theorem v_past7 (A : FVec Ideal S256x1792 .bf16) (R : Rows) (Z : FVec Ideal S1792x128 .f32) : Adds (k0_pay208 (F := Ideal) A (k0_pay203 R) Z) Z A R := by intro p k; pointwise [k0_pay208, k0_pay203]

/-- A block's two products, scaled: its queries' gradient. -/
abbrev Scaled {n : ℕ} (w : (⟨2, ![256, 128]⟩ : Shape).Idx → EReal) (A : (⟨2, ![256, 256]⟩ : Shape).Idx → EReal) (R : Rows)
    (B : (⟨2, ![256, n]⟩ : Shape).Idx → EReal) (P : (⟨2, ![n, 128]⟩ : Shape).Idx → EReal) : Prop :=
  ∀ (p : Fin 256) (k : Fin 128), w (ix2 p k)
    = (∑ x : Fin 256, A (ix2 p x) * (R (ix2 x k) : EReal) + ∑ x : Fin n, B (ix2 p x) * P (ix2 x k)) * ((scale : ℝ) : EReal)
section
variable (A : FVec Ideal S256x256 .bf16) (R : Rows)
theorem q_0 : Scaled (n := 0) (k0_pay47 (F := Ideal) A (k0_pay44 R) zero256) A R (fun _ => 0) (fun _ => 0) := by
  intro p k; pointwise [k0_pay47, k0_pay44, zero256]; simp only [scale_eq, Finset.univ_eq_empty, Finset.sum_empty, add_zero]
theorem q_1 (B : FVec Ideal S256x256 .bf16) (P : Vec Ideal S256x128 .bf16) : Scaled (n := 256) (k0_pay73 (F := Ideal) (k0_pay70 A B R P)) A R B P := by
  intro p k; pointwise [k0_pay73, k0_pay70]; simp only [scale_eq]
theorem q_2 (B : FVec Ideal S256x512 .bf16) (P : Vec Ideal S512x128 .bf16) : Scaled (n := 512) (k0_pay100 (F := Ideal) B (k0_pay95 A R) P) A R B P := by
  intro p k; pointwise [k0_pay100, k0_pay95]; simp only [scale_eq]
theorem q_3 (B : FVec Ideal S256x768 .bf16) (P : Vec Ideal S768x128 .bf16) : Scaled (n := 768) (k0_pay129 (F := Ideal) B (k0_pay123 A R) P) A R B P := by
  intro p k; pointwise [k0_pay129, k0_pay123]; simp only [scale_eq]
theorem q_4 (B : FVec Ideal S256x1024 .bf16) (P : Vec Ideal S1024x128 .bf16) : Scaled (n := 1024) (k0_pay156 (F := Ideal) (k0_pay152 A B R P)) A R B P := by
  intro p k; pointwise [k0_pay156, k0_pay152]; simp only [scale_eq]
theorem q_5 (B : FVec Ideal S256x1280 .bf16) (P : Vec Ideal S1280x128 .bf16) : Scaled (n := 1280) (k0_pay176 (F := Ideal) B (k0_pay171 A R) P) A R B P := by
  intro p k; pointwise [k0_pay176, k0_pay171]; simp only [scale_eq]
theorem q_6 (B : FVec Ideal S256x1536 .bf16) (P : Vec Ideal S1536x128 .bf16) : Scaled (n := 1536) (k0_pay199 (F := Ideal) B (k0_pay194 A R) P) A R B P := by
  intro p k; pointwise [k0_pay199, k0_pay194]; simp only [scale_eq]
theorem q_7 (B : FVec Ideal S256x1792 .bf16) (P : Vec Ideal S1792x128 .bf16) : Scaled (n := 1792) (k0_pay209 (F := Ideal) A B (k0_pay204 R) P) A R B P := by
  intro p k; pointwise [k0_pay209, k0_pay204]; simp only [scale_eq]
end

end Cert.AttnIdeal.AttnValue
end
-- ==== Proof.AttnAcc.lean ====
/- Sums gathered over blocks of 256 queries: what the buffer of the keys' (or the values') gradient holds after each block. -/
module
public import proofs.«01_k».proof.Proof.AttnPay
@[expose] public section
set_option maxRecDepth 16384
noncomputable section
namespace Cert.AttnIdeal.AttnValue
open Cert.AttnIdeal Cert.AttnIdeal.Gen Idealize.ShloMosaic Idealize.ShloMosaic.TcCoe Idealize.SL.Sem
open Cert.AttnMath Cert.RealRow

/-- The part of the sum over the queries before the `n`th. -/
def acc (F : Fin 2048 → Fin 2048 → ℝ) (X : Head) (n : ℕ) (j : Fin 2048) (k : Fin 128) : ℝ := ∑ i : Fin 2048, if i.val < n then F i j * X i k else 0

section
variable (F : Fin 2048 → Fin 2048 → ℝ) (X : Head)
theorem acc_zero (j : Fin 2048) (k : Fin 128) : acc F X 0 j k = 0 := by simp [acc]
theorem acc_all (j : Fin 2048) (k : Fin 128) : acc F X 2048 j k = ∑ i, F i j * X i k :=
  Finset.sum_congr rfl fun i _ => if_pos i.isLt
theorem acc_step {n : ℕ} (hn : n + 256 ≤ 2048) (j : Fin 2048) (k : Fin 128) :
    acc F X (n + 256) j k = acc F X n j k + ∑ x : Fin 256, F ⟨n + x.val, by omega⟩ j * X ⟨n + x.val, by omega⟩ k := by
  unfold acc
  rw [sum_split n hn _ fun i hi => if_neg (by omega), sum_split n hn (fun i : Fin 2048 => if i.val < n then F i j * X i k else 0) fun i hi => if_neg (by omega)]
  rw [Finset.sum_congr rfl fun (q : Fin 256) _ => if_pos (show n + q.val < n + 256 by omega),
    Finset.sum_congr rfl fun (q : Fin n) _ => if_pos (show q.val < n + 256 by omega),
    Finset.sum_congr rfl fun (q : Fin 256) _ => if_neg (show ¬ n + q.val < n by omega),
    Finset.sum_congr rfl fun (q : Fin n) _ => if_pos q.isLt]
  simp only [Finset.sum_const_zero, zero_add]
  ring
/-- Queries of the block that do not see a position add nothing to it. -/
theorem acc_unseen (hF : ∀ i j, ¬ Sees i j → F i j = 0) {n : ℕ} (hn : n + 256 ≤ 2048) (hc : 256 ∣ n) {j : Fin 2048} (hj : n + 256 ≤ j.val) (k : Fin 128) :
    acc F X (n + 256) j k = acc F X n j k := by
  rw [acc_step F X hn, Finset.sum_eq_zero, add_zero]
  intro x _
  have u : ¬ Sees ⟨n + x.val, by omega⟩ j := by
    show ¬ j.val / 64 ≤ (n + x.val) / 64
    obtain ⟨c, rfl⟩ := hc
    omega
  rw [hF _ _ u, zero_mul]

/-- What the buffer holds before the block from `n`, and once the block has added to its own rows. -/
def At (n : ℕ) (f : S2048x128.Idx → EReal) : Prop := ∀ i k, f (ix2 i k) = ((acc F X n i k : ℝ) : EReal)
def Mid (n : ℕ) (f : S2048x128.Idx → EReal) : Prop := ∀ i k, f (ix2 i k) = ((acc F X (if n ≤ i.val then n + 256 else n) i k : ℝ) : EReal)
end

variable {F : Fin 2048 → Fin 2048 → ℝ} {X : Head}

/-- Where rows `[n, n + r)` of the buffer lie. -/
theorem rows_emb {n r : ℕ} (hn : n + r ≤ 2048) (b : ∀ a, (![n, 0] : Fin 2 → ℕ) a + (![r, 128] : Fin 2 → ℕ) a ≤ S2048x128.size a) (p : Fin r) (k : Fin 128) :
    (Rect.unit (s := S2048x128) ![n, 0] ![r, 128] b).emb (ix2 p k) = ix2 (⟨n + p.val, by omega⟩ : Fin 2048) k := by
  funext a
  refine Fin.cases ?_ (fun a => ?_) a
  · exact Fin.ext (by show n + 1 * p.val = n + p.val; omega)
  · obtain rfl : a = 0 := Subsingleton.elim _ _
    exact Fin.ext (by show 0 + 1 * k.val = k.val; omega)
theorem rows_not_mem {n r : ℕ} (b : ∀ a, (![n, 0] : Fin 2 → ℕ) a + (![r, 128] : Fin 2 → ℕ) a ≤ S2048x128.size a) (i : Fin 2048) (k : Fin 128)
    (h : i.val < n ∨ n + r ≤ i.val) : (ix2 i k : S2048x128.Idx) ∉ (Rect.unit (s := S2048x128) ![n, 0] ![r, 128] b).set := fun hm => by
  have := (Rect.mem_set_unit.1 hm) 0
  have h1 : n ≤ i.val := this.1
  have h2 : i.val < n + r := this.2
  omega

abbrev Pieces := List (View.Piece (Elt Ideal) S2048x128 .f32)
/-- A store of rows, read at a row it holds and at another. -/
theorem canon_rows {n r : ℕ} (hn : n + r ≤ 2048) (b) (w : (⟨2, ![r, 128]⟩ : Shape).Idx → EReal) (L : Pieces) (i : Fin 2048) (k : Fin 128) :
    View.canon ((⟨Rect.unit ![n, 0] ![r, 128] b, w⟩ : View.Piece (Elt Ideal) S2048x128 .f32) :: L) (ix2 i k)
      = if h : n ≤ i.val ∧ i.val < n + r then w (ix2 (⟨i.val - n, by omega⟩ : Fin r) k) else View.canon L (ix2 i k) := by
  split
  · rename_i h
    have e := rows_emb hn b ⟨i.val - n, by omega⟩ k
    have e' : (ix2 (⟨n + (i.val - n), by omega⟩ : Fin 2048) k : S2048x128.Idx) = ix2 i k := by
      congr 1; exact Fin.ext (by show n + (i.val - n) = i.val; omega)
    rw [← e', ← e]
    exact View.canon_cons_emb _ _ _ _
  · rename_i h
    exact View.canon_cons_of_not_mem _ _ (rows_not_mem b i k (by omega))
/-- A load of rows `[n, n + r)` after the stores `L`. -/
abbrev loaded {sp : Space} (v : View sig .tc sp S2048x128 .f32) (L : Pieces) (n r : ℕ)
    (b : ∀ a, (![n, 0] : Fin 2 → ℕ) a + (![r, 128] : Fin 2 → ℕ) a ≤ S2048x128.size a) : (⟨2, ![r, 128]⟩ : Shape).Idx → EReal :=
  v.readCov (Val := Elt Ideal) L (Rect.unit (s := S2048x128) ![n, 0] ![r, 128] b).toLoadRect
theorem loaded_apply {sp : Space} (v : View sig .tc sp S2048x128 .f32) (L : Pieces) {n r : ℕ} (hn : n + r ≤ 2048) (b) (p : Fin r) (k : Fin 128) :
    loaded v L n r b (ix2 p k) = View.canon L (ix2 (⟨n + p.val, by omega⟩ : Fin 2048) k) := by
  unfold loaded
  rw [View.readCov_eq_canon', ← rows_emb hn b p k]
  rfl

/-- A block adds to its own rows. -/
theorem own_step {n : ℕ} (hn : n + 256 ≤ 2048) (hc : 256 ∣ n) (hF : ∀ i j, ¬ Sees i j → F i j = 0) {L : Pieces} {b} {sp : Space}
    {v : View sig .tc sp S2048x128 .f32} {w : (⟨2, ![256, 128]⟩ : Shape).Idx → EReal} {A : (⟨2, ![256, 256]⟩ : Shape).Idx → EReal} {R : Rows}
    (hw : Adds w (loaded v L n 256 b) A R)
    (hA : ∀ x q : Fin 256, A (ix2 x q) = ((F ⟨n + x.val, by omega⟩ ⟨n + q.val, by omega⟩ : ℝ) : EReal))
    (hR : ∀ (x : Fin 256) (k : Fin 128), R (ix2 x k) = ((X ⟨n + x.val, by omega⟩ k : ℝ) : EReal))
    (hL : At F X n (View.canon L)) :
    Mid F X n (View.canon ((⟨Rect.unit ![n, 0] ![256, 128] b, w⟩ : View.Piece (Elt Ideal) S2048x128 .f32) :: L)) := by
  intro i k
  rw [canon_rows hn b w L i k]
  split
  · rename_i h
    rw [hw, loaded_apply v L hn b, hL, if_pos h.1, acc_step F X hn]
    simp only [hA, hR, ← EReal.coe_mul, sum_coe, ← EReal.coe_add]
    have e : (⟨n + (i.val - n), by omega⟩ : Fin 2048) = i := Fin.ext (by show n + (i.val - n) = i.val; omega)
    simp only [e]
  · rename_i h
    rw [hL]
    split
    · rw [acc_unseen F X hF hn hc (by omega)]
    · rfl
/-- A block adds to the rows before it. -/
theorem past_step {n : ℕ} (hn : n + 256 ≤ 2048) {L : Pieces} {b} {sp : Space}
    {v : View sig .tc sp S2048x128 .f32} {w : (⟨2, ![n, 128]⟩ : Shape).Idx → EReal} {A : (⟨2, ![256, n]⟩ : Shape).Idx → EReal} {R : Rows}
    (hw : Adds w (loaded v L 0 n b) A R)
    (hA : ∀ (x : Fin 256) (q : Fin n), A (ix2 x q) = ((F ⟨n + x.val, by omega⟩ ⟨q.val, by omega⟩ : ℝ) : EReal))
    (hR : ∀ (x : Fin 256) (k : Fin 128), R (ix2 x k) = ((X ⟨n + x.val, by omega⟩ k : ℝ) : EReal))
    (hL : Mid F X n (View.canon L)) :
    At F X (n + 256) (View.canon ((⟨Rect.unit ![0, 0] ![n, 128] b, w⟩ : View.Piece (Elt Ideal) S2048x128 .f32) :: L)) := by
  intro i k
  rw [canon_rows (by omega) b w L i k]
  split
  · rename_i h
    rw [hw, loaded_apply v L (by omega) b, hL, if_neg (by show ¬ n ≤ 0 + (i.val - 0); omega), acc_step F X hn]
    simp only [hA, hR, ← EReal.coe_mul, sum_coe, ← EReal.coe_add]
    have e : (⟨0 + (i.val - 0), by omega⟩ : Fin 2048) = i := Fin.ext (by show 0 + (i.val - 0) = i.val; omega)
    have e' : (⟨i.val - 0, by omega⟩ : Fin 2048) = i := Fin.ext (by show i.val - 0 = i.val; omega)
    simp only [e, e']
  · rename_i h
    rw [hL, if_pos (by omega)]
/-- The first block has no rows before it. -/
theorem mid_zero {f : S2048x128.Idx → EReal} (h : Mid F X 0 f) : At F X 256 f := fun i k => by rw [h i k, if_pos (Nat.zero_le _)]
/-- Before the first block the buffer is zero. -/
theorem fill_zero (b : ∀ a, (![0, 0] : Fin 2 → ℕ) a + (![2048, 128] : Fin 2 → ℕ) a ≤ S2048x128.size a) :
    At F X 0 (View.canon [(⟨Rect.unit ![0, 0] ![2048, 128] b, k0_pay3 (F := Ideal)⟩ : View.Piece (Elt Ideal) S2048x128 .f32)]) := by
  intro i k
  rw [canon_rows (n := 0) (r := 2048) (by omega) b _ [] i k, dif_pos (by omega), acc_zero]
  pointwise [k0_pay3]
  rfl

/-- Stores of consecutive rows, one below the other. -/
theorem rows_step {G : Fin 2048 → Fin 128 → EReal} {n r : ℕ} (hn : n + r ≤ 2048) {b} {w : (⟨2, ![r, 128]⟩ : Shape).Idx → EReal} {L : Pieces}
    (hw : ∀ (p : Fin r) (k : Fin 128), w (ix2 p k) = G ⟨n + p.val, by omega⟩ k) (hL : ∀ (i : Fin 2048) k, i.val < n → View.canon L (ix2 i k) = G i k)
    (i : Fin 2048) (k : Fin 128) (hi : i.val < n + r) :
    View.canon ((⟨Rect.unit ![n, 0] ![r, 128] b, w⟩ : View.Piece (Elt Ideal) S2048x128 .f32) :: L) (ix2 i k) = G i k := by
  rw [canon_rows hn b w L i k]
  split
  · rename_i h
    rw [hw]
    congr 1; exact Fin.ext (by show n + (i.val - n) = i.val; omega)
  · exact hL i k (by omega)

end Cert.AttnIdeal.AttnValue
end
-- ==== Proof.AttnOut.lean ====
/- What the kernel writes for one head of one sequence: the gradients of its queries, keys and values. -/
module
public import proofs.«01_k».proof.Proof.AttnBlocks
public import proofs.«01_k».proof.Proof.AttnAcc
@[expose] public section
set_option maxRecDepth 16384
noncomputable section
namespace Cert.AttnIdeal.AttnValue
open Cert.AttnIdeal Cert.AttnIdeal.Gen Idealize.ShloMosaic Idealize.ShloMosaic.TcCoe Idealize.SL.Sem
open Cert.AttnMath Cert.RealRow

variable {Q K V O : Head}

/-- A block's scaled products are the gradient of its queries. -/
theorem q_piece {n : ℕ} {hn : n + 256 ≤ 2048} (hc : 256 ∣ n) {sd pd : (⟨2, ![256, 256]⟩ : Shape).Idx → EReal} {sp pp : (⟨2, ![256, n]⟩ : Shape).Idx → EReal}
    (B : Block Q K V O n hn sd pd sp pp) {w : (⟨2, ![256, 128]⟩ : Shape).Idx → EReal} {R : Rows} {P : (⟨2, ![n, 128]⟩ : Shape).Idx → EReal}
    (hs : Scaled w sd R sp P) (hR : ∀ (x : Fin 256) (k : Fin 128), R (ix2 x k) = ((K ⟨n + x.val, by omega⟩ k : ℝ) : EReal))
    (hP : ∀ (x : Fin n) (k : Fin 128), P (ix2 x k) = ((K ⟨x.val, by omega⟩ k : ℝ) : EReal)) (p : Fin 256) (k : Fin 128) :
    w (ix2 p k) = ((dq Q K V O ⟨n + p.val, by omega⟩ k : ℝ) : EReal) := by
  have u : ∀ j : Fin 2048, n + 256 ≤ j.val → grad Q K V O ⟨n + p.val, by omega⟩ j * K j k = 0 := fun j hj => by
    have s : ¬ Sees ⟨n + p.val, by omega⟩ j := by
      show ¬ j.val / 64 ≤ (n + p.val) / 64
      obtain ⟨c, rfl⟩ := hc
      omega
    rw [grad_unseen _ _ _ _ s, zero_mul]
  rw [hs, dq, sum_split n hn _ u]
  simp only [B.gradOwn, B.gradPast, hR, hP, ← EReal.coe_mul, sum_coe, ← EReal.coe_add]

/-- The sums over all blocks, scaled for the keys. -/
theorem last_k {sp : Space} {v : View sig .tc sp S2048x128 .f32} {L : Pieces} {b} (h : At (grad Q K V O) Q 2048 (View.canon L)) (j : Fin 2048) (k : Fin 128) :
    k0_pay1 (F := Ideal) (loaded v L 0 2048 b) (ix2 j k) = ((dk Q K V O j k : ℝ) : EReal) := by
  have e := loaded_apply v L (n := 0) (r := 2048) (by omega) b j k
  generalize loaded v L 0 2048 b = Z at e ⊢
  pointwise [k0_pay1]
  rw [e, h, scale_eq, acc_all, dk, EReal.coe_mul]
  simp only [Nat.zero_add]
theorem last_v {sp : Space} {v : View sig .tc sp S2048x128 .f32} {L : Pieces} {b} (h : At (prob Q K) O 2048 (View.canon L)) (j : Fin 2048) (k : Fin 128) :
    k0_pay2 (F := Ideal) (loaded v L 0 2048 b) (ix2 j k) = ((dv Q K O j k : ℝ) : EReal) := by
  have e := loaded_apply v L (n := 0) (r := 2048) (by omega) b j k
  generalize loaded v L 0 2048 b = Z at e ⊢
  pointwise [k0_pay2]
  rw [e, h, acc_all, dv]
  simp only [Nat.zero_add]

variable (m : (ℓ : Loc nD τ sig) → Buf (Elt Ideal) ℓ) (c : Dev nD) (t : Fin cfg0.N)
variable (h0 : Holds (iblk m c 0 t) Q) (h1 : Holds (iblk m c 1 t) K) (h2 : Holds (iblk m c 2 t) V) (h3 : Holds (iblk m c 3 t) O)

include h0 h1 h2 h3
set_option maxHeartbeats 4000000 in
theorem out_q (i : Fin 2048) (k : Fin 128) : (outsAt0 m c t).1 (ix2 i k) = ((dq Q K V O i k : ℝ) : EReal) := by
  simp only [outsAt0]
  generalize iblk m c 0 t = x0, iblk m c 1 t = x1, iblk m c 2 t = x2, iblk m c 3 t = x3 at *
  frame_out
  refine rows_step (n := 1792) (r := 256) (G := fun i k => ((dq Q K V O i k : ℝ) : EReal)) (by omega) (q_piece ⟨7, rfl⟩ (block7 h0 h1 h2 h3 _ _) (q_7 _ _ _ _) (own_holds h1 (by omega) _) (past_holds h1 (by omega) _)) ?_ i k i.isLt
  intro i k hi
  refine rows_step (n := 1536) (r := 256) (G := fun i k => ((dq Q K V O i k : ℝ) : EReal)) (by omega) (q_piece ⟨6, rfl⟩ (block6 h0 h1 h2 h3 _ _) (q_6 _ _ _ _) (own_holds h1 (by omega) _) (past_holds h1 (by omega) _)) ?_ i k hi
  intro i k hi
  refine rows_step (n := 1280) (r := 256) (G := fun i k => ((dq Q K V O i k : ℝ) : EReal)) (by omega) (q_piece ⟨5, rfl⟩ (block5 h0 h1 h2 h3 _ _) (q_5 _ _ _ _) (own_holds h1 (by omega) _) (past_holds h1 (by omega) _)) ?_ i k hi
  intro i k hi
  refine rows_step (n := 1024) (r := 256) (G := fun i k => ((dq Q K V O i k : ℝ) : EReal)) (by omega) (q_piece ⟨4, rfl⟩ (block4 h0 h1 h2 h3 _ _) (q_4 _ _ _ _) (own_holds h1 (by omega) _) (past_holds h1 (by omega) _)) ?_ i k hi
  intro i k hi
  refine rows_step (n := 768) (r := 256) (G := fun i k => ((dq Q K V O i k : ℝ) : EReal)) (by omega) (q_piece ⟨3, rfl⟩ (block3 h0 h1 h2 h3 _ _) (q_3 _ _ _ _) (own_holds h1 (by omega) _) (past_holds h1 (by omega) _)) ?_ i k hi
  intro i k hi
  refine rows_step (n := 512) (r := 256) (G := fun i k => ((dq Q K V O i k : ℝ) : EReal)) (by omega) (q_piece ⟨2, rfl⟩ (block2 h0 h1 h2 h3 _ _) (q_2 _ _ _ _) (own_holds h1 (by omega) _) (past_holds h1 (by omega) _)) ?_ i k hi
  intro i k hi
  refine rows_step (n := 256) (r := 256) (G := fun i k => ((dq Q K V O i k : ℝ) : EReal)) (by omega) (q_piece ⟨1, rfl⟩ (block1 h0 h1 h2 h3 _ _) (q_1 _ _ _ _) (own_holds h1 (by omega) _) (past_holds h1 (by omega) _)) ?_ i k hi
  intro i k hi
  refine rows_step (n := 0) (r := 256) (G := fun i k => ((dq Q K V O i k : ℝ) : EReal)) (by omega) (q_piece ⟨0, rfl⟩ (block0 h0 h1 h2 h3 _ (by decide)) (q_0 _ _) (own_holds h1 (by omega) _) (fun x => x.elim0)) ?_ i k hi
  intro i k hi
  omega
set_option maxHeartbeats 4000000 in
theorem out_k (j : Fin 2048) (k : Fin 128) : (outsAt0 m c t).2.1 (ix2 j k) = ((dk Q K V O j k : ℝ) : EReal) := by
  have hF : ∀ i j, ¬ Sees i j → grad Q K V O i j = 0 := fun i j h => grad_unseen _ _ _ _ h
  simp only [outsAt0]
  generalize iblk m c 0 t = x0, iblk m c 1 t = x1, iblk m c 2 t = x2, iblk m c 3 t = x3 at *
  frame_out
  refine last_k ?_ j k
  refine past_step (n := 1792) (by omega) (k_past7 _ _ _) (block7 h0 h1 h2 h3 _ _).gradPast (own_holds h0 (by omega) _) ?_
  refine own_step (n := 1792) (by omega) ⟨7, rfl⟩ hF (k_own7 _ _ _) (block7 h0 h1 h2 h3 _ _).gradOwn (own_holds h0 (by omega) _) ?_
  refine past_step (n := 1536) (by omega) (k_past6 _ _ _) (block6 h0 h1 h2 h3 _ _).gradPast (own_holds h0 (by omega) _) ?_
  refine own_step (n := 1536) (by omega) ⟨6, rfl⟩ hF (k_own6 _ _ _) (block6 h0 h1 h2 h3 _ _).gradOwn (own_holds h0 (by omega) _) ?_
  refine past_step (n := 1280) (by omega) (k_past5 _ _ _) (block5 h0 h1 h2 h3 _ _).gradPast (own_holds h0 (by omega) _) ?_
  refine own_step (n := 1280) (by omega) ⟨5, rfl⟩ hF (k_own5 _ _ _) (block5 h0 h1 h2 h3 _ _).gradOwn (own_holds h0 (by omega) _) ?_
  refine past_step (n := 1024) (by omega) (k_past4 _ _ _) (block4 h0 h1 h2 h3 _ _).gradPast (own_holds h0 (by omega) _) ?_
  refine own_step (n := 1024) (by omega) ⟨4, rfl⟩ hF (k_own4 _ _ _) (block4 h0 h1 h2 h3 _ _).gradOwn (own_holds h0 (by omega) _) ?_
  refine past_step (n := 768) (by omega) (k_past3 _ _ _) (block3 h0 h1 h2 h3 _ _).gradPast (own_holds h0 (by omega) _) ?_
  refine own_step (n := 768) (by omega) ⟨3, rfl⟩ hF (k_own3 _ _ _) (block3 h0 h1 h2 h3 _ _).gradOwn (own_holds h0 (by omega) _) ?_
  refine past_step (n := 512) (by omega) (k_past2 _ _ _) (block2 h0 h1 h2 h3 _ _).gradPast (own_holds h0 (by omega) _) ?_
  refine own_step (n := 512) (by omega) ⟨2, rfl⟩ hF (k_own2 _ _ _) (block2 h0 h1 h2 h3 _ _).gradOwn (own_holds h0 (by omega) _) ?_
  refine past_step (n := 256) (by omega) (k_past1 _ _ _) (block1 h0 h1 h2 h3 _ _).gradPast (own_holds h0 (by omega) _) ?_
  refine own_step (n := 256) (by omega) ⟨1, rfl⟩ hF (k_own1 _ _ _) (block1 h0 h1 h2 h3 _ _).gradOwn (own_holds h0 (by omega) _) ?_
  refine mid_zero (own_step (n := 0) (by omega) ⟨0, rfl⟩ hF (k_own0 _ _ _) (block0 h0 h1 h2 h3 _ (by decide)).gradOwn (own_holds h0 (by omega) _) ?_)
  exact fill_zero _
set_option maxHeartbeats 4000000 in
theorem out_v (j : Fin 2048) (k : Fin 128) : (outsAt0 m c t).2.2 (ix2 j k) = ((dv Q K O j k : ℝ) : EReal) := by
  have hF : ∀ i j, ¬ Sees i j → prob Q K i j = 0 := fun i j h => prob_unseen _ _ h
  simp only [outsAt0]
  generalize iblk m c 0 t = x0, iblk m c 1 t = x1, iblk m c 2 t = x2, iblk m c 3 t = x3 at *
  frame_out
  refine last_v ?_ j k
  refine past_step (n := 1792) (by omega) (v_past7 _ _ _) (block7 h0 h1 h2 h3 _ _).probPast (own_holds h3 (by omega) _) ?_
  refine own_step (n := 1792) (by omega) ⟨7, rfl⟩ hF (v_own7 _ _ _) (block7 h0 h1 h2 h3 _ _).probOwn (own_holds h3 (by omega) _) ?_
  refine past_step (n := 1536) (by omega) (v_past6 _ _ _) (block6 h0 h1 h2 h3 _ _).probPast (own_holds h3 (by omega) _) ?_
  refine own_step (n := 1536) (by omega) ⟨6, rfl⟩ hF (v_own6 _ _ _) (block6 h0 h1 h2 h3 _ _).probOwn (own_holds h3 (by omega) _) ?_
  refine past_step (n := 1280) (by omega) (v_past5 _ _ _) (block5 h0 h1 h2 h3 _ _).probPast (own_holds h3 (by omega) _) ?_
  refine own_step (n := 1280) (by omega) ⟨5, rfl⟩ hF (v_own5 _ _ _) (block5 h0 h1 h2 h3 _ _).probOwn (own_holds h3 (by omega) _) ?_
  refine past_step (n := 1024) (by omega) (v_past4 _ _ _) (block4 h0 h1 h2 h3 _ _).probPast (own_holds h3 (by omega) _) ?_
  refine own_step (n := 1024) (by omega) ⟨4, rfl⟩ hF (v_own4 _ _ _) (block4 h0 h1 h2 h3 _ _).probOwn (own_holds h3 (by omega) _) ?_
  refine past_step (n := 768) (by omega) (v_past3 _ _ _) (block3 h0 h1 h2 h3 _ _).probPast (own_holds h3 (by omega) _) ?_
  refine own_step (n := 768) (by omega) ⟨3, rfl⟩ hF (v_own3 _ _ _) (block3 h0 h1 h2 h3 _ _).probOwn (own_holds h3 (by omega) _) ?_
  refine past_step (n := 512) (by omega) (v_past2 _ _ _) (block2 h0 h1 h2 h3 _ _).probPast (own_holds h3 (by omega) _) ?_
  refine own_step (n := 512) (by omega) ⟨2, rfl⟩ hF (v_own2 _ _ _) (block2 h0 h1 h2 h3 _ _).probOwn (own_holds h3 (by omega) _) ?_
  refine past_step (n := 256) (by omega) (v_past1 _ _ _) (block1 h0 h1 h2 h3 _ _).probPast (own_holds h3 (by omega) _) ?_
  refine own_step (n := 256) (by omega) ⟨1, rfl⟩ hF (v_own1 _ _ _) (block1 h0 h1 h2 h3 _ _).probOwn (own_holds h3 (by omega) _) ?_
  refine mid_zero (own_step (n := 0) (by omega) ⟨0, rfl⟩ hF (v_own0 _ _ _) (block0 h0 h1 h2 h3 _ (by decide)).probOwn (own_holds h3 (by omega) _) ?_)
  exact fill_zero _

end Cert.AttnIdeal.AttnValue
end
-- ==== Proof.AttnSpec.lean ====
/- The heads of the attention's arguments, as real numbers in 128 lanes, and where a head's block lies in the flattened arrays. -/
module
public import proofs.«01_k».proof.Proof.AttnMath
@[expose] public section
set_option maxRecDepth 16384
noncomputable section
namespace Cert.AttnSpec
open Idealize.ShloMosaic Cert.AttnMath Cert.RealRow

/-- An argument: sequences, positions, heads, and the head's own columns. -/
abbrev Arr (w : ℕ) := (⟨4, ![4, 2048, 8, w]⟩ : Shape).Idx → EReal
/-- A head of a sequence in 128 lanes, zero past its columns. -/
def lane {w : ℕ} (x : Arr w) (b : Fin 4) (i : Fin 2048) (h : Fin 8) (k : Fin 128) : EReal := if hk : k.val < w then x (ix4 b i h ⟨k.val, hk⟩) else 0
theorem lane_col {w : ℕ} (x : Arr w) (b : Fin 4) (i : Fin 2048) (h : Fin 8) (k : Fin 128) (hk : k.val < w) : lane x b i h k = x (ix4 b i h ⟨k.val, hk⟩) :=
  dif_pos hk
theorem lane_pad {w : ℕ} (x : Arr w) (b : Fin 4) (i : Fin 2048) (h : Fin 8) (k : Fin 128) (hk : ¬ k.val < w) : lane x b i h k = 0 := dif_neg hk
def head {w : ℕ} (x : Arr w) (b : Fin 4) (h : Fin 8) : Head := fun i k => (lane x b i h k).toReal
theorem lane_real {w : ℕ} {x : Arr w} (R : ∀ i, IsReal (x i)) (b : Fin 4) (i : Fin 2048) (h : Fin 8) (k : Fin 128) :
    lane x b i h k = ((head x b h i k : ℝ) : EReal) := by
  have r : IsReal (lane x b i h k) := by
    unfold lane
    split
    · exact R _
    · exact ⟨0, by simp⟩
  obtain ⟨a, ha⟩ := r
  rw [head, ha, EReal.toReal_coe]
/-- The head's own columns, and the lanes past them. -/
theorem head_col {w : ℕ} {x : Arr w} (R : ∀ i, IsReal (x i)) (b : Fin 4) (i : Fin 2048) (h : Fin 8) (k : Fin w) (hk : k.val < 128) :
    x (ix4 b i h k) = ((head x b h i ⟨k.val, hk⟩ : ℝ) : EReal) := by
  rw [← lane_real R, lane, dif_pos k.isLt]
theorem head_pad {w : ℕ} (x : Arr w) (b : Fin 4) (i : Fin 2048) (h : Fin 8) (k : Fin 128) (hk : w ≤ k.val) : head x b h i k = 0 := by
  rw [head, lane, dif_neg (by omega), EReal.toReal_zero]
/-- A sum over a head's columns, over its lanes. -/
theorem sum_lanes {w : ℕ} (hw : w ≤ 128) (f : Fin 128 → ℝ) (hf : ∀ k : Fin 128, w ≤ k.val → f k = 0) : ∑ k : Fin w, f ⟨k.val, by omega⟩ = ∑ k, f k := by
  obtain ⟨r, hr⟩ : ∃ r, w + r = 128 := ⟨128 - w, by omega⟩
  rw [← Equiv.sum_comp (finCongr hr) f, Fin.sum_univ_add]
  have z : ∑ i : Fin r, f (finCongr hr (Fin.natAdd w i)) = 0 := Finset.sum_eq_zero fun i _ => hf _ (by simp)
  rw [z, add_zero]
  rfl

/-- The batch, position, head and lane of an entry of a flattened array. -/
def bat (r : Fin 8192) : Fin 4 := ⟨r.val / 2048, by omega⟩
def pos (r : Fin 8192) : Fin 2048 := ⟨r.val % 2048, by omega⟩
def hd (j : Fin 1024) : Fin 8 := ⟨j.val / 128, by omega⟩
def ln (j : Fin 1024) : Fin 128 := ⟨j.val % 128, by omega⟩

end Cert.AttnSpec
end
-- ==== Proof.AttnIn.lean ====
/- The arrays the attention's call is handed, and the gradients it leaves. -/
module
public import proofs.«01_k».proof.Proof.AttnOut
public import proofs.«01_k».proof.Proof.AttnSpec
public import Idealize.ShloMosaic.Lib.KernelVsHost
@[expose] public section
set_option maxRecDepth 16384
noncomputable section
namespace Cert.AttnIdeal.AttnValue
open Cert.AttnIdeal Cert.AttnIdeal.Gen Idealize.ShloMosaic Idealize.ShloMosaic.TcCoe Idealize.SL.Sem
open Cert.AttnMath Cert.RealRow Cert.AttnSpec

variable (m : (ℓ : Loc nD τ sig) → Buf (Elt Ideal) ℓ) (c : Dev nD)

/-- The arguments. -/
abbrev A0 : Arr 96 := m (c, Proc.tc.devRef main_arg0)
abbrev A1 : Arr 96 := m (c, Proc.tc.devRef main_arg1)
abbrev A2 : Arr 64 := m (c, Proc.tc.devRef main_arg2)
abbrev A3 : Arr 64 := m (c, Proc.tc.devRef main_arg3)

set_option maxHeartbeats 2000000 in
/-- The operands when the call starts: the host's lines, read at an index. -/
theorem operands (r : Fin 8192) (j : Fin 1024) :
    V m c main_v2 (ix2 r j) = lane (A0 m c) (bat r) (pos r) (hd j) (ln j)
    ∧ V m c main_v5 (ix2 r j) = lane (A1 m c) (bat r) (pos r) (hd j) (ln j)
    ∧ V m c main_v8 (ix2 r j) = lane (A2 m c) (bat r) (pos r) (hd j) (ln j)
    ∧ V m c main_v11 (ix2 r j) = lane (A3 m c) (bat r) (pos r) (hd j) (ln j) := by
  refine ⟨?_, ?_, ?_, ?_⟩ <;>
  (simp only [V, hostOps0, hostOps0_1, hostOps0_2, hostOps0_3, hostOps0_4, hostOps0_5, hostOps0_6, hostOps0_7, hostOps0_8, List.flatten_cons, List.flatten_nil,
      List.append_nil, List.cons_append, List.nil_append, StableHlo.TRef.binary, StableHlo.TRef.unary,
      StableHlo.TRef.nullary, StableHlo.TRef.toBuf, StableHlo.TRef.ofBuf, cast_eq]
   after_results_simp; pointwise; try simp only [bat, pos, hd, ln]; try with_reducible rfl)
  · by_cases h : j.val % 128 < 96
    · rw [dif_pos ⟨by omega, by omega, by omega, h⟩]; exact (lane_col _ _ _ _ ⟨j.val % 128, _⟩ h).symm
    · rw [dif_neg fun e => h e.2.2.2]; exact (sitofp_zero (φ := FTy.f32)).trans (lane_pad _ _ _ _ ⟨j.val % 128, _⟩ h).symm
  · by_cases h : j.val % 128 < 96
    · rw [dif_pos ⟨by omega, by omega, by omega, h⟩]; exact (lane_col _ _ _ _ ⟨j.val % 128, _⟩ h).symm
    · rw [dif_neg fun e => h e.2.2.2]; exact (sitofp_zero (φ := FTy.f32)).trans (lane_pad _ _ _ _ ⟨j.val % 128, _⟩ h).symm
  · by_cases h : j.val % 128 < 64
    · rw [dif_pos ⟨by omega, by omega, by omega, h⟩]; exact (lane_col _ _ _ _ ⟨j.val % 128, _⟩ h).symm
    · rw [dif_neg fun e => h e.2.2.2]; exact (sitofp_zero (φ := FTy.f32)).trans (lane_pad _ _ _ _ ⟨j.val % 128, _⟩ h).symm
  · by_cases h : j.val % 128 < 64
    · rw [dif_pos ⟨by omega, by omega, by omega, h⟩]; exact (lane_col _ _ _ _ ⟨j.val % 128, _⟩ h).symm
    · rw [dif_neg fun e => h e.2.2.2]; exact (sitofp_zero (φ := FTy.f32)).trans (lane_pad _ _ _ _ ⟨j.val % 128, _⟩ h).symm

/-- The sequence and the head of a point of the grid. -/
def tb (t : Fin cfg0.N) : Fin 4 := ⟨t.val / 8, by have := t.isLt; have : cfg0.N = 32 := N_0; omega⟩
def th (t : Fin cfg0.N) : Fin 8 := ⟨t.val % 8, by omega⟩
def rowOf (t : Fin cfg0.N) (p : Fin 2048) : Fin 8192 := ⟨2048 * (tb t).val + p.val, by omega⟩
def colOf (t : Fin cfg0.N) (k : Fin 128) : Fin 1024 := ⟨128 * (th t).val + k.val, by omega⟩
theorem bat_rowOf (t : Fin cfg0.N) (p : Fin 2048) : bat (rowOf t p) = tb t := Fin.ext (by show (2048 * (tb t).val + p.val) / 2048 = _; omega)
theorem pos_rowOf (t : Fin cfg0.N) (p : Fin 2048) : pos (rowOf t p) = p := Fin.ext (by show (2048 * (tb t).val + p.val) % 2048 = _; omega)
theorem hd_colOf (t : Fin cfg0.N) (k : Fin 128) : hd (colOf t k) = th t := Fin.ext (by show (128 * (th t).val + k.val) / 128 = _; omega)
theorem ln_colOf (t : Fin cfg0.N) (k : Fin 128) : ln (colOf t k) = k := Fin.ext (by show (128 * (th t).val + k.val) % 128 = _; omega)

/-- The blocks the windows take. -/
theorem idx : ∀ t : Fin cfg0.N, win0_0.index t = ![t.val / 8, t.val % 8] ∧ win0_1.index t = ![t.val / 8, t.val % 8] ∧ win0_2.index t = ![t.val / 8, t.val % 8]
    ∧ win0_3.index t = ![t.val / 8, t.val % 8] ∧ win0_4.index t = ![t.val / 8, t.val % 8] ∧ win0_5.index t = ![t.val / 8, t.val % 8]
    ∧ win0_6.index t = ![t.val / 8, t.val % 8] :=
  (by decide +kernel : ∀ t : Fin grid0.N, _)

variable {m c} (R0 : ∀ i, IsReal (A0 m c i)) (R1 : ∀ i, IsReal (A1 m c i)) (R2 : ∀ i, IsReal (A2 m c i)) (R3 : ∀ i, IsReal (A3 m c i)) (t : Fin cfg0.N)

include R0 in
theorem holds0 : Holds (iblk m c 0 t) (head (A0 m c) (tb t) (th t)) := fun i k => by
  rw [← lane_real R0]
  have e := (operands m c (rowOf t i) (colOf t k)).1
  rw [bat_rowOf, pos_rowOf, hd_colOf, ln_colOf] at e
  rw [← e]; unfold rowOf colOf tb th; blk_point [iblk, V, idx t]
include R1 in
theorem holds1 : Holds (iblk m c 1 t) (head (A1 m c) (tb t) (th t)) := fun i k => by
  rw [← lane_real R1]
  have e := (operands m c (rowOf t i) (colOf t k)).2.1
  rw [bat_rowOf, pos_rowOf, hd_colOf, ln_colOf] at e
  rw [← e]; unfold rowOf colOf tb th; blk_point [iblk, V, idx t]
include R2 in
theorem holds2 : Holds (iblk m c 2 t) (head (A2 m c) (tb t) (th t)) := fun i k => by
  rw [← lane_real R2]
  have e := (operands m c (rowOf t i) (colOf t k)).2.2.1
  rw [bat_rowOf, pos_rowOf, hd_colOf, ln_colOf] at e
  rw [← e]; unfold rowOf colOf tb th; blk_point [iblk, V, idx t]
include R3 in
theorem holds3 : Holds (iblk m c 3 t) (head (A3 m c) (tb t) (th t)) := fun i k => by
  rw [← lane_real R3]
  have e := (operands m c (rowOf t i) (colOf t k)).2.2.2
  rw [bat_rowOf, pos_rowOf, hd_colOf, ln_colOf] at e
  rw [← e]; unfold rowOf colOf tb th; blk_point [iblk, V, idx t]

/-- Where the block of a result's window lies in the result. -/
theorem emb4 (t : Fin cfg0.N) (y : ((cfg0.win 4).xblock (cfg0.grid.coords t)).Idx) (p : Fin 2048) (q : Fin 128)
    (h0 : (y 0).val = p.val) (h1 : (y 1).val = q.val) :
    (((View.whole main_v12_0).slice (win0_4.rect t)).emb y 0) = rowOf t p
      ∧ (((View.whole main_v12_0).slice (win0_4.rect t)).emb y 1) = colOf t q := by
  constructor <;> (apply Fin.ext; simp [rowOf, colOf, tb, th, View.slice, idx t, Pipeline.WinKind.off]; omega)
theorem emb5 (t : Fin cfg0.N) (y : ((cfg0.win 5).xblock (cfg0.grid.coords t)).Idx) (p : Fin 2048) (q : Fin 128)
    (h0 : (y 0).val = p.val) (h1 : (y 1).val = q.val) :
    (((View.whole main_v12_1).slice (win0_5.rect t)).emb y 0) = rowOf t p
      ∧ (((View.whole main_v12_1).slice (win0_5.rect t)).emb y 1) = colOf t q := by
  constructor <;> (apply Fin.ext; simp [rowOf, colOf, tb, th, View.slice, idx t, Pipeline.WinKind.off]; omega)
theorem emb6 (t : Fin cfg0.N) (y : ((cfg0.win 6).xblock (cfg0.grid.coords t)).Idx) (p : Fin 2048) (q : Fin 128)
    (h0 : (y 0).val = p.val) (h1 : (y 1).val = q.val) :
    (((View.whole main_v12_2).slice (win0_6.rect t)).emb y 0) = rowOf t p
      ∧ (((View.whole main_v12_2).slice (win0_6.rect t)).emb y 1) = colOf t q := by
  constructor <;> (apply Fin.ext; simp [rowOf, colOf, tb, th, View.slice, idx t, Pipeline.WinKind.off]; omega)

variable (m c)
/-- The gradients, over the flattened arrays. -/
def dqAt (z : (⟨2, ![8192, 1024]⟩ : Shape).Idx) : ℝ := let b := bat (z 0); let h := hd (z 1)
  dq (head (A0 m c) b h) (head (A1 m c) b h) (head (A2 m c) b h) (head (A3 m c) b h) (pos (z 0)) (ln (z 1))
def dkAt (z : (⟨2, ![8192, 1024]⟩ : Shape).Idx) : ℝ := let b := bat (z 0); let h := hd (z 1)
  dk (head (A0 m c) b h) (head (A1 m c) b h) (head (A2 m c) b h) (head (A3 m c) b h) (pos (z 0)) (ln (z 1))
def dvAt (z : (⟨2, ![8192, 1024]⟩ : Shape).Idx) : ℝ := let b := bat (z 0); let h := hd (z 1)
  dv (head (A0 m c) b h) (head (A1 m c) b h) (head (A3 m c) b h) (pos (z 0)) (ln (z 1))
variable {m c}
include R0 R1 R2 R3
theorem arr4 : (dats m 0 c).arrAt 4 cfg0.N = fun z => ((dqAt m c z : ℝ) : EReal) := by
  refine (dats m 0 c).arrAt_eq_of_covers 4 _ (by decide +kernel) fun t hf y => ?_
  rw [after0_4]
  obtain ⟨p, q, e⟩ : ∃ p q, (cfg0.win 4).xinj (cfg0.grid.coords t) y = (ix2 p q : S2048x128.Idx) := ⟨_, _, ValueIdx.eq_ix2 _⟩
  have e' := emb4 t y p q (congrArg (fun z => (z 0).val) e) (congrArg (fun z => (z 1).val) e)
  refine (congrArg (outsAt0 m c t).1 e).trans ((out_q m c t (holds0 R0 t) (holds1 R1 t) (holds2 R2 t) (holds3 R3 t) p q).trans ?_)
  show _ = ((dqAt m c _ : ℝ) : EReal)
  simp only [dqAt, e'.1, e'.2, bat_rowOf, pos_rowOf, hd_colOf, ln_colOf]
theorem arr5 : (dats m 0 c).arrAt 5 cfg0.N = fun z => ((dkAt m c z : ℝ) : EReal) := by
  refine (dats m 0 c).arrAt_eq_of_covers 5 _ (by decide +kernel) fun t hf y => ?_
  rw [after0_5]
  obtain ⟨p, q, e⟩ : ∃ p q, (cfg0.win 5).xinj (cfg0.grid.coords t) y = (ix2 p q : S2048x128.Idx) := ⟨_, _, ValueIdx.eq_ix2 _⟩
  have e' := emb5 t y p q (congrArg (fun z => (z 0).val) e) (congrArg (fun z => (z 1).val) e)
  refine (congrArg (outsAt0 m c t).2.1 e).trans ((out_k m c t (holds0 R0 t) (holds1 R1 t) (holds2 R2 t) (holds3 R3 t) p q).trans ?_)
  show _ = ((dkAt m c _ : ℝ) : EReal)
  simp only [dkAt, e'.1, e'.2, bat_rowOf, pos_rowOf, hd_colOf, ln_colOf]
theorem arr6 : (dats m 0 c).arrAt 6 cfg0.N = fun z => ((dvAt m c z : ℝ) : EReal) := by
  refine (dats m 0 c).arrAt_eq_of_covers 6 _ (by decide +kernel) fun t hf y => ?_
  rw [after0_6]
  obtain ⟨p, q, e⟩ : ∃ p q, (cfg0.win 6).xinj (cfg0.grid.coords t) y = (ix2 p q : S2048x128.Idx) := ⟨_, _, ValueIdx.eq_ix2 _⟩
  have e' := emb6 t y p q (congrArg (fun z => (z 0).val) e) (congrArg (fun z => (z 1).val) e)
  refine (congrArg (outsAt0 m c t).2.2 e).trans ((out_v m c t (holds0 R0 t) (holds1 R1 t) (holds2 R2 t) (holds3 R3 t) p q).trans ?_)
  show _ = ((dvAt m c _ : ℝ) : EReal)
  simp only [dvAt, e'.1, e'.2, bat_rowOf, pos_rowOf, hd_colOf, ln_colOf]

end Cert.AttnIdeal.AttnValue
end
-- ==== Proof.AttnRef.lean ====
/- The derivative of the attention's forward lines, read at an index: the reference's arrays, one after the other, as the numbers of
   AttnMath. -/
module
public import proofs.«01_k».proof.Proof.Gen.AttnRefIdeal.Read
public import proofs.«01_k».proof.Proof.AttnSpec
public import Idealize.ShloMosaic.Lib.KernelVsHost
public import Idealize.ShloMosaic.Lib.WordCmp
@[expose] public section
set_option maxRecDepth 16384
noncomputable section
open Idealize.ShloMosaic Idealize.ShloMosaic.TcCoe Idealize.SL.Sem
namespace Cert.AttnRefIdeal.AttnRead
open Cert.AttnRefIdeal Cert.AttnRefIdeal.Gen Cert.AttnRefIdeal.Read Cert.AttnMath Cert.RealRow Cert.AttnSpec

/-- A position's chunk: the rounded-down quotient, as the host's lines form it. -/
theorem quotient : ∀ i : Fin 2048, Scalar.select
    (IntOp.andi (IntOp.cmpi .ne (if BitVec.ofNat 32 i.val = 0 then (0 : BitVec 32) else if (BitVec.ofNat 32 i.val).msb = true then -1 else 1)
        (if 64#32 = 0 then (0 : BitVec 32) else if BitVec.msb 64#32 = true then -1 else 1))
      (IntOp.cmpi .ne (IntOp.remsi .host (BitVec.ofNat 32 i.val) 64#32) 0#32))
    (IntOp.subi (IntOp.divsi .host (BitVec.ofNat 32 i.val) 64#32) 1#32) (IntOp.divsi .host (BitVec.ofNat 32 i.val) 64#32)
    = BitVec.ofNat 32 (i.val / 64) := by decide +kernel
theorem chunk (i : Fin 2048) : val_main_v1 (F := Ideal) (ix1 i) = BitVec.ofNat 32 (i.val / 64) := by
  pointwise [val_main_v1, val_main_call0_v2, val_main_call0_v13, val_main_call0_v12, val_main_call0_c_0, val_main_call0_v11, val_main_call0_v10,
    val_main_call0_v9, val_main_call0_c, val_main_call0_v8, val_main_call0_v7, val_main_call0_v6, val_main_call0_v5, val_main_call0_v4,
    val_main_call0_v3, val_main_call0_v1, val_main_call0_v0, val_main_c, val_main_v0]
  exact quotient i
theorem seen (b : Fin 4) (h : Fin 8) (i j : Fin 2048) : val_main_v11_1 (F := Ideal) (ix4 b h i j) = BitVec.ofBool (decide (Sees i j)) := by
  pointwise [val_main_v11_1, val_main_v10, val_main_v9, val_main_v8, val_main_v7, val_main_v6, val_main_v5]
  simp only [chunk]
  exact (WordCmp.cmpi_sge_ofNat (by omega) (by omega)).trans rfl

variable {x0 x1 : Arr 96} {x2 x3 : Arr 64} (R0 : ∀ i, IsReal (x0 i)) (R1 : ∀ i, IsReal (x1 i)) (R2 : ∀ i, IsReal (x2 i)) (R3 : ∀ i, IsReal (x3 i))
  (b : Fin 4) (h : Fin 8) (i j : Fin 2048)

section Scores
include R0 R1
theorem r2 : val_main_v2 (F := Ideal) x0 x1 (ix4 b h i j) = ((score (head x0 b h) (head x1 b h) i j : ℝ) : EReal) := by
  pointwise [val_main_v2]
  have e : ∀ k : Fin 96, k.val < 128 := fun k => by omega
  simp only [head_col R0 b i h _ (e _), head_col R1 b j h _ (e _), ← EReal.coe_mul, sum_coe]
  exact congrArg _ (sum_lanes (w := 96) (by decide) (fun k => head x0 b h i k * head x1 b h j k) fun k hk => by rw [head_pad x0 b i h k hk, zero_mul])
theorem r11 : val_main_v11_0 (F := Ideal) x0 x1 (ix4 b h i j) = scaled (head x0 b h) (head x1 b h) i j := by
  pointwise [val_main_v11_0, val_main_v4, val_main_v3, val_main_cst, val_main_call1_v2, val_main_call1_v0, val_main_cst_0]
  simp only [seen, r2 R0 R1, scale_bits]
  by_cases hs : Sees i j
  · rw [decide_eq_true hs, scaled, if_pos hs, EReal.coe_mul]; rfl
  · rw [decide_eq_false hs, scaled, if_neg hs]; exact bot_eq
theorem r12 : val_main_v12 (F := Ideal) x0 x1 (ix3 b h i) = Finset.univ.fold max bot (scaled (head x0 b h) (head x1 b h) i) := by
  pointwise [val_main_v12, val_main_cst_1]
  simp only [r11 R0 R1, bot]
theorem r19 : val_main_v19 (F := Ideal) x0 x1 (ix3 b h i) = rowTop (head x0 b h) (head x1 b h) i := by
  rw [val_main_v19_apply, r12 R0 R1, val_main_v18_apply, val_main_cst_3_apply, rowTop, bot]
  rfl
theorem r30 : val_main_v30 (F := Ideal) x0 x1 (ix4 b h i j) = rowTop (head x0 b h) (head x1 b h) i := by
  rw [← r19 R0 R1]
  pointwise [val_main_v30, val_main_v29]
theorem r32 : val_main_v32 (F := Ideal) x0 x1 (ix4 b h i j) = rowExp (head x0 b h) (head x1 b h) i j := by
  pointwise [val_main_v32, val_main_v31, rowExp]
  simp only [r11 R0 R1, r30 R0 R1]
theorem r34 : val_main_v34 (F := Ideal) x0 x1 (ix4 b h i 0) = rowSum (head x0 b h) (head x1 b h) i := by
  pointwise [val_main_v34, val_main_v33, val_main_cst_9, rowSum]
  simp only [r32 R0 R1]
theorem r36 : val_main_v36 (F := Ideal) x0 x1 (ix4 b h i j) = ((prob (head x0 b h) (head x1 b h) i j : ℝ) : EReal) := by
  pointwise [val_main_v36, val_main_v35]
  simp only [r32 R0 R1, r34 R0 R1]
  exact row_prob _ _ _ _
theorem r46 : val_main_v46 (F := Ideal) x0 x1 (ix4 b h i j)
    = Ideal.div 1 (rowSum (head x0 b h) (head x1 b h) i * rowSum (head x0 b h) (head x1 b h) i) := by
  pointwise [val_main_v46, val_main_v39, val_main_v38, val_main_v37, val_main_cst_10]
  simp only [r34 R0 R1]
end Scores

section Cots
include R2 R3
theorem r43 : val_main_v43 (F := Ideal) x2 x3 (ix4 b h i j) = ((score (head x3 b h) (head x2 b h) i j : ℝ) : EReal) := by
  pointwise [val_main_v43, val_main_v42]
  have e : ∀ k : Fin 64, k.val < 128 := fun k => by omega
  simp only [head_col R3 b i h _ (e _), head_col R2 b j h _ (e _), ← EReal.coe_mul, sum_coe]
  exact congrArg _ (sum_lanes (w := 64) (by decide) (fun k => head x3 b h i k * head x2 b h j k) fun k hk => by rw [head_pad x3 b i h k hk, zero_mul])
end Cots

section Grads
include R0 R1 R2 R3
theorem r51 : val_main_v51 (F := Ideal) x0 x1 x2 x3 (ix4 b h i 0)
    = -(∑ l, ((score (head x3 b h) (head x2 b h) i l : ℝ) : EReal)
        * Ideal.div 1 (rowSum (head x0 b h) (head x1 b h) i * rowSum (head x0 b h) (head x1 b h) i) * rowExp (head x0 b h) (head x1 b h) i l) := by
  pointwise [val_main_v51, val_main_v50, val_main_v49, val_main_v48, val_main_v47, val_main_cst_11]
  simp only [r46 R0 R1, r32 R0 R1, r43 R2 R3]
theorem r57 : val_main_v57 (F := Ideal) x0 x1 x2 x3 (ix4 b h i j)
    = ((grad (head x0 b h) (head x1 b h) (head x2 b h) (head x3 b h) i j : ℝ) : EReal) := by
  rw [← row_grad]
  pointwise [val_main_v57, val_main_v56, val_main_v55, val_main_v54, val_main_v53, val_main_v52, val_main_cst_12, rowGrad]
  simp only [Fin.sum_univ_one, r51 R0 R1 R2 R3, r32 R0 R1, r34 R0 R1, r43 R2 R3]
theorem r60 : val_main_v60 (F := Ideal) x0 x1 x2 x3 (ix4 b h i j)
    = ((grad (head x0 b h) (head x1 b h) (head x2 b h) (head x3 b h) i j * scale : ℝ) : EReal) := by
  pointwise [val_main_v60, val_main_v59, val_main_v58, val_main_cst_13, val_main_call2_v0, val_main_call2_cst]
  simp only [seen, r57 R0 R1 R2 R3, scale_bits]
  by_cases hs : Sees i j
  · rw [decide_eq_true hs, EReal.coe_mul]; rfl
  · rw [decide_eq_false hs, grad_unseen _ _ _ _ hs, zero_mul, EReal.coe_zero]; rfl
/-- The gradients on the heads' own columns. -/
theorem r64 (k : Fin 96) (hk : k.val < 128) : val_main_v64 (F := Ideal) x0 x1 x2 x3 (ix4 b i h k)
    = ((dq (head x0 b h) (head x1 b h) (head x2 b h) (head x3 b h) i ⟨k.val, hk⟩ : ℝ) : EReal) := by
  pointwise [val_main_v64, val_main_v63]
  simp only [r60 R0 R1 R2 R3, head_col R1 b _ h k hk, ← EReal.coe_mul, sum_coe, dq, Finset.sum_mul]
  exact congrArg _ (Finset.sum_congr rfl fun j _ => by ring)
theorem r62 (k : Fin 96) (hk : k.val < 128) : val_main_v62 (F := Ideal) x0 x1 x2 x3 (ix4 b j h k)
    = ((dk (head x0 b h) (head x1 b h) (head x2 b h) (head x3 b h) j ⟨k.val, hk⟩ : ℝ) : EReal) := by
  pointwise [val_main_v62, val_main_v61]
  simp only [r60 R0 R1 R2 R3, head_col R0 b _ h k hk, ← EReal.coe_mul, sum_coe, dk, Finset.sum_mul]
  exact congrArg _ (Finset.sum_congr rfl fun j _ => by ring)
end Grads
section Values
include R0 R1 R3
theorem r45 (k : Fin 64) (hk : k.val < 128) : val_main_v45 (F := Ideal) x0 x1 x3 (ix4 b j h k)
    = ((dv (head x0 b h) (head x1 b h) (head x3 b h) j ⟨k.val, hk⟩ : ℝ) : EReal) := by
  pointwise [val_main_v45, val_main_v44, val_main_v42]
  simp only [r36 R0 R1, head_col R3 b _ h k hk, ← EReal.coe_mul, sum_coe, dv]
  exact congrArg _ (Finset.sum_congr rfl fun j _ => by ring)
end Values

theorem dq_pad (Q V O : Head) {x : Arr 96} (k : Fin 128) (hk : 96 ≤ k.val) : dq Q (head x b h) V O i k = 0 := by
  simp only [dq, head_pad x b _ h k hk, mul_zero, Finset.sum_const_zero, zero_mul]
theorem dk_pad (K V O : Head) {x : Arr 96} (k : Fin 128) (hk : 96 ≤ k.val) : dk (head x b h) K V O i k = 0 := by
  simp only [dk, head_pad x b _ h k hk, mul_zero, Finset.sum_const_zero, zero_mul]
theorem dv_pad (Q K : Head) {x : Arr 64} (k : Fin 128) (hk : 64 ≤ k.val) : dv Q K (head x b h) i k = 0 := by
  simp only [dv, head_pad x b _ h k hk, mul_zero, Finset.sum_const_zero]

section Results
variable (r : Fin 8192) (c : Fin 1024)
include R0 R1 R2 R3
/-- The results, over the flattened arrays. -/
theorem out66 : val_main_v66 (F := Ideal) x0 x1 x2 x3 (ix2 r c)
    = ((dq (head x0 (bat r) (hd c)) (head x1 (bat r) (hd c)) (head x2 (bat r) (hd c)) (head x3 (bat r) (hd c)) (pos r) (ln c) : ℝ) : EReal) := by
  pointwise [val_main_v66, val_main_v65, val_main_call3_v0, val_main_c_14]
  by_cases hk : c.val % 128 < 96
  · rw [dif_pos ⟨by omega, by omega, by omega, hk⟩]
    exact (r64 R0 R1 R2 R3 (bat r) (hd c) (pos r) ⟨c.val % 128, hk⟩ (by show c.val % 128 < 128; omega))
  · rw [dif_neg fun e => hk e.2.2.2, dq_pad _ _ _ _ _ _ (ln c) (by show 96 ≤ c.val % 128; omega)]
    exact sitofp_zero (φ := FTy.f32)
theorem out68 : val_main_v68 (F := Ideal) x0 x1 x2 x3 (ix2 r c)
    = ((dk (head x0 (bat r) (hd c)) (head x1 (bat r) (hd c)) (head x2 (bat r) (hd c)) (head x3 (bat r) (hd c)) (pos r) (ln c) : ℝ) : EReal) := by
  pointwise [val_main_v68, val_main_v67, val_main_call4_v0, val_main_c_15]
  by_cases hk : c.val % 128 < 96
  · rw [dif_pos ⟨by omega, by omega, by omega, hk⟩]
    exact (r62 R0 R1 R2 R3 (bat r) (hd c) (pos r) ⟨c.val % 128, hk⟩ (by show c.val % 128 < 128; omega))
  · rw [dif_neg fun e => hk e.2.2.2, dk_pad _ _ _ _ _ _ (ln c) (by show 96 ≤ c.val % 128; omega)]
    exact sitofp_zero (φ := FTy.f32)
omit R2 in
theorem out71 : val_main_v71 (F := Ideal) x0 x1 x3 (ix2 r c)
    = ((dv (head x0 (bat r) (hd c)) (head x1 (bat r) (hd c)) (head x3 (bat r) (hd c)) (pos r) (ln c) : ℝ) : EReal) := by
  pointwise [val_main_v71, val_main_v70, val_main_v69, val_main_call5_v0, val_main_c_16]
  by_cases hk : c.val % 128 < 64
  · rw [dif_pos ⟨by omega, by omega, by omega, hk⟩]
    exact (r45 R0 R1 R3 (bat r) (hd c) (pos r) ⟨c.val % 128, hk⟩ (by show c.val % 128 < 128; omega))
  · rw [dif_neg fun e => hk e.2.2.2, dv_pad _ _ _ _ _ (ln c) (by show 64 ≤ c.val % 128; omega)]
    exact sitofp_zero (φ := FTy.f32)
end Results
end Cert.AttnRefIdeal.AttnRead
end
-- ==== Proof.Attn.lean ====
/- The attention's gradients: the call computes what differentiating the forward lines gives. -/
module
public import proofs.«01_k».proof.Defs
public import proofs.«01_k».proof.Proof.Finite
public import proofs.«01_k».proof.Proof.AttnIn
public import proofs.«01_k».proof.Proof.AttnRef
public import proofs.«01_k».proof.Proof.Gen.AttnRefIdeal.Run
public import proofs.«01_k».proof.Proof.Gen.Pre_attn_finite
@[expose] public section
set_option maxRecDepth 16384
noncomputable section
open Idealize.ShloMosaic Idealize.ShloMosaic.TcCoe Idealize.SL.Sem
namespace Cert.AttnSpec
open Cert.RealRow Cert.AttnMath Cert.AttnIdeal.AttnValue Cert.AttnRefIdeal.Read Cert.AttnRefIdeal.AttnRead

/-- The precondition read off: the four arguments' entries are real numbers. -/
theorem reals [h : Cert.Pre_attn_finite.Facts] (x0 x1 : Arr 96) (x2 x3 : Arr 64)
    (e : Cert.Pre_attn_finite.fn (F := Ideal) x0 x1 x2 x3 = fun _ => 1#1) :
    (∀ i, IsReal (x0 i)) ∧ (∀ i, IsReal (x1 i)) ∧ (∀ i, IsReal (x2 i)) ∧ (∀ i, IsReal (x3 i)) := by
  have e0 := congrFun e ix0
  haveI : Subsingleton Cert.Pre_attn_finite.S_.Idx := ⟨fun a b => funext fun k => k.elim0⟩
  obtain ⟨e0, h3⟩ := IntOp.andi_eq_one.1 e0
  obtain ⟨e0, h2⟩ := IntOp.andi_eq_one.1 e0
  obtain ⟨h0, h1⟩ := IntOp.andi_eq_one.1 e0
  exact ⟨real_of_finite x0 _ _ _ ix0 h0, real_of_finite x1 _ _ _ ix0 h1, real_of_finite x2 _ _ _ ix0 h2, real_of_finite x3 _ _ _ ix0 h3⟩

/-- The reference leaves its arguments alone. -/
theorem frame : Cert.quiescent_AttnRefIdeal := fun m ρ _ =>
  (θ_run Cert.AttnRefIdeal.defs _ _).mono (fun r h => ⟨fun c => (h c).2.2.2,
      Idealize.ShloMosaic.sem_eq_zero_of_no_sems (by decide) r.2⟩)
    (Cert.AttnRefIdeal.Value.run (F := Ideal) m ρ)

/-- The one constant with a name is its value, rounded. -/
theorem preserves : Cert.preserves_Attn_AttnIdeal :=
  IdealRules.named_const.statement Cert.AttnIdeal.κ "scale2" .f32 0x3E16C740#32 (((3424635 / 33554432) * (Real.log 2)⁻¹ : ℝ) : EReal) rfl

set_option maxHeartbeats 4000000 in
/-- The call's three results are the reference's. -/
theorem algebraic : Cert.algebraic_AttnIdeal_AttnRefIdeal_pre_attn_finite := by
  intro m g m' g' hpre hagree
  have R : ∀ c, _ := fun c => reals (A0 m c) (A1 m c) (A2 m c) (A3 m c) (hpre c)
  refine ⟨fun c => fun z => ((dqAt m c z : ℝ) : EReal), fun c => fun z => ((dkAt m c z : ℝ) : EReal), fun c => fun z => ((dvAt m c z : ℝ) : EReal), ?_, ?_⟩
  · refine (θ_run _ _ _).mono (fun r h c => ?_) (θ_run_and (Cert.AttnIdeal.Gen.run_main m g) (Cert.AttnIdeal.Gen.unchanged m g))
    obtain ⟨R0, R1, R2, R3⟩ := R c
    exact ⟨((h.1 c).1 4).trans (arr4 R0 R1 R2 R3), ((h.1 c).1 5).trans (arr5 R0 R1 R2 R3), ((h.1 c).1 6).trans (arr6 R0 R1 R2 R3), h.2 c⟩
  · refine (θ_run _ _ _).mono (fun r h c => ?_) (Cert.AttnRefIdeal.Value.run (F := Ideal) m' g')
    obtain ⟨R0, R1, R2, R3⟩ := R c
    obtain ⟨h0, h1, h2, ha⟩ := h c
    obtain ⟨a0, a1, a2, a3⟩ := hagree c
    refine ⟨(h0.trans (val_main_v66_eq m' c)).trans ?_, (h1.trans (val_main_v68_eq m' c)).trans ?_, (h2.trans (val_main_v71_eq m' c)).trans ?_, ha⟩
    · rw [a0, a1, a2, a3]
      refine funext fun z => (congrArg _ (ValueIdx.eq_ix2 z)).trans (out66 R0 R1 R2 R3 (z 0) (z 1))
    · rw [a0, a1, a2, a3]
      refine funext fun z => (congrArg _ (ValueIdx.eq_ix2 z)).trans (out68 R0 R1 R2 R3 (z 0) (z 1))
    · rw [a0, a1, a3]
      refine funext fun z => (congrArg _ (ValueIdx.eq_ix2 z)).trans (out71 R0 R1 R3 (z 0) (z 1))
end Cert.AttnSpec
end
-- ==== Proof.AttnFwdRow.lean ====
/- The attention's output of a block of 256 queries: the kernel's exponentials times the values, divided by their sum, are the
   probabilities times the values. -/
module
public import proofs.«01_k».proof.Proof.Gen.AttnFwdIdeal.Value
public import proofs.«01_k».proof.Proof.AttnBlock
@[expose] public section
set_option maxRecDepth 16384
set_option maxHeartbeats 1000000
noncomputable section
open Idealize.ShloMosaic Idealize.ShloMosaic.TcCoe Idealize.SL.Sem

namespace Cert.AttnMath
open Cert.RealRow

/-- The attention's output. -/
def att (Q K V : Head) (i : Fin 2048) (k : Fin 128) : ℝ := ∑ j, prob Q K i j * V j k

/-- A row of the kernel's output, from the row's masked scores and the values' columns. -/
def row {n : ℕ} (D : Fin 256 → EReal) (P : Fin n → EReal) (R : Fin 256 → EReal) (S : Fin n → EReal) : EReal :=
  (∑ q, pow D P (D q) * R q + ∑ k, pow D P (P k) * S k) * inv D P

theorem Given.row_eq {Q K V O : Head} {n : ℕ} {hn : n + 256 ≤ 2048} {i : Fin 2048} {sd : Fin 256 → EReal} {sp : Fin n → EReal} {gd : Fin 256 → EReal}
    {gp : Fin n → EReal} (h : Given Q K V O hn i sd sp gd gp) (c : Fin 128) {R : Fin 256 → EReal} {S : Fin n → EReal}
    (hR : ∀ q, R q = ((V ⟨n + q.val, by omega⟩ c : ℝ) : EReal)) (hS : ∀ q, S q = ((V ⟨q.val, by omega⟩ c : ℝ) : EReal)) :
    row sd sp R S = ((att Q K V i c : ℝ) : EReal) := by
  obtain ⟨M, hM⟩ := h.top_real
  have ht := (total_pos Q K i).ne'
  have he := (Real.exp_pos (-(M * scale))).ne'
  unfold row
  rw [h.inv_eq hM]
  simp only [h.own, h.past', pow_masked hM, hR, hS, ← EReal.coe_mul, sum_coe]
  rw [← EReal.coe_add, ← EReal.coe_mul]
  have e := sum_split n hn (fun j => weight Q K i j * Real.exp (-(M * scale)) * V j c) fun j hj => by
    rw [weight, if_neg (h.unseen j hj), zero_mul, zero_mul]
  rw [← e, att, Finset.sum_mul]
  refine congrArg _ (Finset.sum_congr rfl fun j _ => ?_)
  rw [prob]
  field_simp

end Cert.AttnMath

namespace Cert.AttnFwdIdeal.AttnValue
open Cert.AttnFwdIdeal Cert.AttnFwdIdeal.Gen
open Cert.AttnMath Cert.RealRow
open Cert.AttnIdeal.AttnValue (Blk Holds own past own_holds past_holds given_ld)

theorem scale2_eq : (Named.named κ "scale2" 0x3E16C740#32 : Ideal .f32) = Cert.AttnMath.scale2 :=
  (IdealRules.named_const.ideal_named_scalar _ _ _ _ rfl).trans (by rw [scale2, scale])
/-- The mask is that of the gradients' kernel. -/
theorem mask_eq : k0_pay2 = Cert.AttnIdeal.Gen.k0_pay5 := rfl

section
variable {x0 x1 x2 : Blk} {Q K V : Head} (h0 : Holds x0 Q) (h1 : Holds x1 K) (h2 : Holds x2 V)
include h0 h1 h2
/-- A block's row is the attention's, where its scores are the products of the rows loaded. -/
theorem piece {n : ℕ} (hn : n + 256 ≤ 2048) (hc : 256 ∣ n) (b b') (p : Fin 256) (k : Fin 128) {w : EReal} {D : Fin 256 → EReal} {P S : Fin n → EReal}
    (hw : w = row (fun q => Scalar.select (k0_pay2 (ix2 p q)) (D q) bot) P (fun q => own x2 n b (ix2 q k)) S)
    (hD : ∀ q, D q = ∑ k : Fin 128, own x0 n b (ix2 p k) * own x1 n b (ix2 q k))
    (hP : ∀ q, P q = ∑ k : Fin 128, own x0 n b (ix2 p k) * past x1 n b' (ix2 q k))
    (hS : ∀ q, S q = past x2 n b' (ix2 q k)) :
    w = ((att Q K V ⟨n + p.val, by omega⟩ k : ℝ) : EReal) := by
  rw [hw, mask_eq]
  exact (given_ld h0 h1 h2 h2 hn hc b b' p hD hP (fun q => rfl) (fun q => rfl)).row_eq k (fun q => own_holds h2 hn b q k)
    (fun q => (hS q).trans (past_holds h2 hn b' q k))
end

/-! ## What each block's payload is, row by row -/

section
variable (M : IVec S256x256 1) (D : FVec Ideal S256x256 .f32) (R : FVec Ideal S256x128 .bf16) (p : Fin 256) (k : Fin 128)
/-- A row of a block with keys before its own. -/
abbrev rowAt {n : ℕ} (P : (⟨2, ![256, n]⟩ : Shape).Idx → EReal) (S : (⟨2, ![n, 128]⟩ : Shape).Idx → EReal) : EReal :=
  row (fun q => Scalar.select (M (ix2 p q)) (D (ix2 p q)) bot) (fun q => P (ix2 p q)) (fun q => R (ix2 q k)) (fun q => S (ix2 q k))

theorem row1 (P : FVec Ideal S256x256 .f32) (S : FVec Ideal S256x128 .bf16) :
    k0_pay18 (F := Ideal) P (k0_pay16 M P D) (k0_pay17 M P D) R S (ix2 p k) = rowAt M D R p k P S := by
  pointwise [k0_pay15, k0_pay16, k0_pay17, k0_pay18]; simp only [scale2_eq]; rfl
theorem row2 (P : FVec Ideal S256x512 .f32) (S : FVec Ideal S512x128 .bf16) :
    k0_pay24 (F := Ideal) P (k0_pay22 M D) (k0_pay23 M D) R S (ix2 p k) = rowAt M D R p k P S := by
  pointwise [k0_pay22, k0_pay23, k0_pay24]; simp only [scale2_eq]; rfl
theorem row3 (P : FVec Ideal S256x768 .f32) (S : FVec Ideal S768x128 .bf16) :
    k0_pay28 (F := Ideal) M P D R S (ix2 p k) = rowAt M D R p k P S := by
  pointwise [k0_pay28]; simp only [scale2_eq]; rfl
theorem row4 (P : FVec Ideal S256x1024 .f32) (S : FVec Ideal S1024x128 .bf16) :
    k0_pay38 (F := Ideal) (k0_pay36 M P D R S) (k0_pay37 M P D) (ix2 p k) = rowAt M D R p k P S := by
  pointwise [k0_pay32, k0_pay33, k0_pay34, k0_pay35, k0_pay36, k0_pay37, k0_pay38]; simp only [scale2_eq]; rfl
theorem row5 (P : FVec Ideal S256x1280 .f32) (S : FVec Ideal S1280x128 .bf16) :
    k0_pay49 (F := Ideal) (k0_pay46 M P D) (k0_pay47 M P D R) (k0_pay48 M P D) S (ix2 p k) = rowAt M D R p k P S := by
  pointwise [k0_pay42, k0_pay43, k0_pay44, k0_pay45, k0_pay46, k0_pay47, k0_pay48, k0_pay49]; simp only [scale2_eq]; rfl
theorem row6 (P : FVec Ideal S256x1536 .f32) (S : FVec Ideal S1536x128 .bf16) :
    k0_pay57 (F := Ideal) (k0_pay54 M P D) (k0_pay55 M P D R) (k0_pay56 M P D S) (ix2 p k) = rowAt M D R p k P S := by
  pointwise [k0_pay50, k0_pay51, k0_pay52, k0_pay53, k0_pay54, k0_pay55, k0_pay56, k0_pay57]; simp only [scale2_eq]; rfl
theorem row7 (P : FVec Ideal S256x1792 .f32) (S : FVec Ideal S1792x128 .bf16) :
    k0_pay1 (F := Ideal) (k0_pay58 M P D R S) (ix2 p k) = rowAt M D R p k P S := by
  pointwise [k0_pay1, k0_pay58]; simp only [scale2_eq]; rfl
/-- The first block has no keys before its own. -/
theorem row0 (x y : FVec Ideal S256x128 .bf16) :
    k0_pay11 (F := Ideal) (k0_pay9 x y) (k0_pay10 x y) R (ix2 p k)
      = row (n := 0) (fun q => Scalar.select (k0_pay2 (ix2 p q)) (∑ k : Fin 128, x (ix2 p k) * y (ix2 q k)) bot) (fun q => q.elim0) (fun q => R (ix2 q k))
          (fun q => q.elim0) := by
  pointwise [k0_pay11, k0_pay10, k0_pay9]
  simp only [scale2_eq, row, pow, Cert.AttnMath.inv, top, Finset.univ_eq_empty, Finset.sum_empty, Finset.fold_empty, add_zero, bot_eq,
    show Ideal.ofBits FTy.f32 0xFF800000#32 = (⊥ : EReal) from bot_eq, max_eq_left bot_le]
  rfl
end

/-! ## Each block's products -/

section
variable (x y : FVec Ideal S256x128 .bf16) (p : Fin 256)
theorem own1 (q : Fin 256) : k0_pay5 (F := Ideal) x y (ix2 p q) = ∑ k : Fin 128, x (ix2 p k) * y (ix2 q k) := by pointwise [k0_pay3, k0_pay5]
theorem own2 (q : Fin 256) : k0_pay8 (F := Ideal) x y (ix2 p q) = ∑ k : Fin 128, x (ix2 p k) * y (ix2 q k) := by pointwise [k0_pay6, k0_pay8]
theorem own3 (q : Fin 256) : k0_pay14 (F := Ideal) x y (ix2 p q) = ∑ k : Fin 128, x (ix2 p k) * y (ix2 q k) := by pointwise [k0_pay12, k0_pay14]
theorem own4 (q : Fin 256) : k0_pay21 (F := Ideal) x y (ix2 p q) = ∑ k : Fin 128, x (ix2 p k) * y (ix2 q k) := by pointwise [k0_pay19, k0_pay21]
theorem own5 (q : Fin 256) : k0_pay27 (F := Ideal) (k0_pay25 x) y (ix2 p q) = ∑ k : Fin 128, x (ix2 p k) * y (ix2 q k) := by pointwise [k0_pay25, k0_pay27]
theorem own6 (q : Fin 256) : k0_pay31 (F := Ideal) x y (ix2 p q) = ∑ k : Fin 128, x (ix2 p k) * y (ix2 q k) := by pointwise [k0_pay29, k0_pay31]
theorem own7 (q : Fin 256) : k0_pay41 (F := Ideal) x y (ix2 p q) = ∑ k : Fin 128, x (ix2 p k) * y (ix2 q k) := by pointwise [k0_pay39, k0_pay41]
theorem past1 (z : FVec Ideal S256x128 .bf16) (q : Fin 256) : k0_pay4 (F := Ideal) x z (ix2 p q) = ∑ k : Fin 128, x (ix2 p k) * z (ix2 q k) := by
  pointwise [k0_pay3, k0_pay4]
theorem past2 (z : FVec Ideal S512x128 .bf16) (q : Fin 512) : k0_pay7 (F := Ideal) x z (ix2 p q) = ∑ k : Fin 128, x (ix2 p k) * z (ix2 q k) := by
  pointwise [k0_pay6, k0_pay7]
theorem past3 (z : FVec Ideal S768x128 .bf16) (q : Fin 768) : k0_pay13 (F := Ideal) x z (ix2 p q) = ∑ k : Fin 128, x (ix2 p k) * z (ix2 q k) := by
  pointwise [k0_pay12, k0_pay13]
theorem past4 (z : FVec Ideal S1024x128 .bf16) (q : Fin 1024) : k0_pay20 (F := Ideal) x z (ix2 p q) = ∑ k : Fin 128, x (ix2 p k) * z (ix2 q k) := by
  pointwise [k0_pay19, k0_pay20]
theorem past5 (z : FVec Ideal S1280x128 .bf16) (q : Fin 1280) : k0_pay26 (F := Ideal) x z (ix2 p q) = ∑ k : Fin 128, x (ix2 p k) * z (ix2 q k) := by
  pointwise [k0_pay25, k0_pay26]
theorem past6 (z : FVec Ideal S1536x128 .bf16) (q : Fin 1536) : k0_pay30 (F := Ideal) x z (ix2 p q) = ∑ k : Fin 128, x (ix2 p k) * z (ix2 q k) := by
  pointwise [k0_pay29, k0_pay30]
theorem past7 (z : FVec Ideal S1792x128 .bf16) (q : Fin 1792) : k0_pay40 (F := Ideal) x z (ix2 p q) = ∑ k : Fin 128, x (ix2 p k) * z (ix2 q k) := by
  pointwise [k0_pay39, k0_pay40]
end

end Cert.AttnFwdIdeal.AttnValue
end
-- ==== Proof.AttnFwdOut.lean ====
/- What the attention's kernel writes for one head of one sequence. -/
module
public import proofs.«01_k».proof.Proof.AttnFwdRow
public import proofs.«01_k».proof.Proof.AttnAcc
@[expose] public section
set_option maxRecDepth 16384
noncomputable section
namespace Cert.AttnFwdIdeal.AttnValue
open Cert.AttnFwdIdeal Cert.AttnFwdIdeal.Gen Idealize.ShloMosaic Idealize.ShloMosaic.TcCoe Idealize.SL.Sem
open Cert.AttnMath Cert.RealRow
open Cert.AttnIdeal.AttnValue (Blk Holds own past own_holds past_holds rows_emb rows_not_mem)

/-- Stores of consecutive rows, one below the other, in the output's format. -/
theorem rows_step {G : Fin 2048 → Fin 128 → EReal} {n r : ℕ} (hn : n + r ≤ 2048) {b} {w : (⟨2, ![r, 128]⟩ : Shape).Idx → EReal}
    {L : List (View.Piece (Elt Ideal) S2048x128 .bf16)} (hw : ∀ (p : Fin r) (k : Fin 128), w (ix2 p k) = G ⟨n + p.val, by omega⟩ k)
    (hL : ∀ (i : Fin 2048) k, i.val < n → View.canon L (ix2 i k) = G i k) (i : Fin 2048) (k : Fin 128) (hi : i.val < n + r) :
    View.canon ((⟨Rect.unit ![n, 0] ![r, 128] b, w⟩ : View.Piece (Elt Ideal) S2048x128 .bf16) :: L) (ix2 i k) = G i k := by
  have hb : ∀ p : Fin r, n + p.val < 2048 := by clear hi i; intro p; omega
  by_cases h : n ≤ i.val
  · obtain ⟨p, rfl⟩ : ∃ p : Fin r, i = ⟨n + p.val, hb p⟩ := ⟨⟨i.val - n, by omega⟩, Fin.ext (by show i.val = n + (i.val - n); omega)⟩
    rw [← hw p k, ← rows_emb hn b p k]
    exact View.canon_cons_emb _ _ _ _
  · rw [← hL i k (Nat.lt_of_not_le h)]
    exact View.canon_cons_of_not_mem _ _ (rows_not_mem b i k (Or.inl (Nat.lt_of_not_le h)))

variable {x0 x1 x2 : Blk} {Q K V : Head} (h0 : Holds x0 Q) (h1 : Holds x1 K) (h2 : Holds x2 V)
include h0 h1 h2
set_option maxHeartbeats 4000000 in
theorem out_eq (i : Fin 2048) (k : Fin 128) : out0_3 x0 x1 x2 (ix2 i k) = ((att Q K V i k : ℝ) : EReal) := by
  unfold out0_3
  simp only [k0_pay59, k0_pay60, k0_pay61, k0_pay62, k0_pay63, k0_pay64, k0_pay65, k0_pay66, k0_pay67, k0_pay68]
  refine rows_step (n := 1792) (r := 256) (G := fun i k => ((att Q K V i k : ℝ) : EReal)) (by omega) (fun p k => piece h0 h1 h2 (by omega) ⟨7, rfl⟩ _ _ p k
    (row7 _ _ _ p k _ _) (own7 _ _ p) (past7 _ p _) fun q => rfl) ?_ i k i.isLt
  intro i k hi
  refine rows_step (n := 1536) (r := 256) (G := fun i k => ((att Q K V i k : ℝ) : EReal)) (by omega) (fun p k => piece h0 h1 h2 (by omega) ⟨6, rfl⟩ _ _ p k
    (row6 _ _ _ p k _ _) (own6 _ _ p) (past6 _ p _) fun q => rfl) ?_ i k hi
  intro i k hi
  refine rows_step (n := 1280) (r := 256) (G := fun i k => ((att Q K V i k : ℝ) : EReal)) (by omega) (fun p k => piece h0 h1 h2 (by omega) ⟨5, rfl⟩ _ _ p k
    (row5 _ _ _ p k _ _) (own5 _ _ p) (past5 _ p _) fun q => rfl) ?_ i k hi
  intro i k hi
  refine rows_step (n := 1024) (r := 256) (G := fun i k => ((att Q K V i k : ℝ) : EReal)) (by omega) (fun p k => piece h0 h1 h2 (by omega) ⟨4, rfl⟩ _ _ p k
    (row4 _ _ _ p k _ _) (own4 _ _ p) (past4 _ p _) fun q => rfl) ?_ i k hi
  intro i k hi
  refine rows_step (n := 768) (r := 256) (G := fun i k => ((att Q K V i k : ℝ) : EReal)) (by omega) (fun p k => piece h0 h1 h2 (by omega) ⟨3, rfl⟩ _ _ p k
    (row3 _ _ _ p k _ _) (own3 _ _ p) (past3 _ p _) fun q => rfl) ?_ i k hi
  intro i k hi
  refine rows_step (n := 512) (r := 256) (G := fun i k => ((att Q K V i k : ℝ) : EReal)) (by omega) (fun p k => piece h0 h1 h2 (by omega) ⟨2, rfl⟩ _ _ p k
    (row2 _ _ _ p k _ _) (own2 _ _ p) (past2 _ p _) fun q => rfl) ?_ i k hi
  intro i k hi
  refine rows_step (n := 256) (r := 256) (G := fun i k => ((att Q K V i k : ℝ) : EReal)) (by omega) (fun p k => piece h0 h1 h2 (by omega) ⟨1, rfl⟩ _ _ p k
    (row1 _ _ _ p k _ _) (own1 _ _ p) (past1 _ p _) fun q => rfl) ?_ i k hi
  intro i k hi
  refine rows_step (n := 0) (r := 256) (G := fun i k => ((att Q K V i k : ℝ) : EReal)) (by omega) (fun p k => piece h0 h1 h2 (by omega) ⟨0, rfl⟩ _ (by decide) p k
    (row0 _ p k _ _) (fun q => rfl) (fun q => q.elim0) fun q => q.elim0) ?_ i k hi
  intro i k hi
  omega

end Cert.AttnFwdIdeal.AttnValue
end
-- ==== Proof.AttnFwdRef.lean ====
/- The attention's forward lines, read at an index. -/
module
public import proofs.«01_k».proof.Proof.Gen.AttnFwdRefIdeal.Read
public import proofs.«01_k».proof.Proof.AttnFwdRow
public import proofs.«01_k».proof.Proof.AttnRef
@[expose] public section
set_option maxRecDepth 16384
noncomputable section
open Idealize.ShloMosaic Idealize.ShloMosaic.TcCoe Idealize.SL.Sem
namespace Cert.AttnFwdRefIdeal.AttnRead
open Cert.AttnFwdRefIdeal Cert.AttnFwdRefIdeal.Gen Cert.AttnFwdRefIdeal.Read Cert.AttnMath Cert.RealRow Cert.AttnSpec

variable {x0 x1 : Arr 96} {x2 : Arr 64} (R0 : ∀ i, IsReal (x0 i)) (R1 : ∀ i, IsReal (x1 i)) (R2 : ∀ i, IsReal (x2 i))

/-- The probabilities are those the gradients' lines form. -/
theorem probs : val_main_v22 (F := Ideal) x0 x1 = Cert.AttnRefIdeal.Read.val_main_v36 (F := Ideal) x0 x1 := rfl

include R0 R1 R2
theorem r24 (b : Fin 4) (h : Fin 8) (i : Fin 2048) (k : Fin 64) (hk : k.val < 128) : val_main_v24 (F := Ideal) x0 x1 x2 (ix4 b i h k)
    = ((att (head x0 b h) (head x1 b h) (head x2 b h) i ⟨k.val, hk⟩ : ℝ) : EReal) := by
  pointwise [val_main_v24, val_main_v23]
  simp only [probs, Cert.AttnRefIdeal.AttnRead.r36 R0 R1, head_col R2 b _ h k hk, ← EReal.coe_mul, sum_coe, att]
  exact congrArg _ (Finset.sum_congr rfl fun j _ => by ring)
omit R0 R1 R2 in
theorem att_pad (Q K : Head) (b : Fin 4) (h : Fin 8) (i : Fin 2048) (k : Fin 128) (hk : 64 ≤ k.val) : att Q K (head x2 b h) i k = 0 := by
  simp only [att, head_pad x2 b _ h k hk, mul_zero, Finset.sum_const_zero]
/-- The output, over the flattened array. -/
theorem out27 (r : Fin 8192) (c : Fin 1024) : val_main_v27 (F := Ideal) x0 x1 x2 (ix2 r c)
    = ((att (head x0 (bat r) (hd c)) (head x1 (bat r) (hd c)) (head x2 (bat r) (hd c)) (pos r) (ln c) : ℝ) : EReal) := by
  pointwise [val_main_v27, val_main_v26, val_main_v25, val_main_call2_v0, val_main_c_4]
  by_cases hk : c.val % 128 < 64
  · rw [dif_pos ⟨by omega, by omega, by omega, hk⟩]
    exact r24 R0 R1 R2 (bat r) (hd c) (pos r) ⟨c.val % 128, hk⟩ (by show c.val % 128 < 128; omega)
  · rw [dif_neg fun e => hk e.2.2.2, att_pad _ _ _ _ _ (ln c) (by show 64 ≤ c.val % 128; omega)]
    exact sitofp_zero (φ := FTy.f32)
end Cert.AttnFwdRefIdeal.AttnRead
end
-- ==== Proof.AttnFwd.lean ====
/- The attention's forward pass: the call computes what the forward lines give. -/
module
public import proofs.«01_k».proof.Defs
public import proofs.«01_k».proof.Proof.Finite
public import proofs.«01_k».proof.Proof.AttnFwdOut
public import proofs.«01_k».proof.Proof.AttnFwdRef
public import proofs.«01_k».proof.Proof.Gen.AttnFwdRefIdeal.Run
public import proofs.«01_k».proof.Proof.Gen.Pre_attn_fwd_finite
@[expose] public section
set_option maxRecDepth 16384
noncomputable section
open Idealize.ShloMosaic Idealize.ShloMosaic.TcCoe Idealize.SL.Sem
namespace Cert.AttnFwdIdeal.AttnValue
open Cert.AttnFwdIdeal Cert.AttnFwdIdeal.Gen
open Cert.AttnMath Cert.RealRow Cert.AttnSpec
open Cert.AttnIdeal.AttnValue (Holds)

variable (m : (ℓ : Loc nD τ sig) → Buf (Elt Ideal) ℓ) (c : Dev nD)

/-- The arguments. -/
abbrev A0 : Arr 96 := m (c, Proc.tc.devRef main_arg0)
abbrev A1 : Arr 96 := m (c, Proc.tc.devRef main_arg1)
abbrev A2 : Arr 64 := m (c, Proc.tc.devRef main_arg2)

set_option maxHeartbeats 2000000 in
/-- The operands when the call starts: the host's lines, read at an index. -/
theorem operands (r : Fin 8192) (j : Fin 1024) :
    V m c main_v2 (ix2 r j) = lane (A0 m c) (bat r) (pos r) (hd j) (ln j)
    ∧ V m c main_v5 (ix2 r j) = lane (A1 m c) (bat r) (pos r) (hd j) (ln j)
    ∧ V m c main_v8 (ix2 r j) = lane (A2 m c) (bat r) (pos r) (hd j) (ln j) := by
  refine ⟨?_, ?_, ?_⟩ <;>
  (simp only [V, hostOps0, hostOps0_1, hostOps0_2, hostOps0_3, hostOps0_4, hostOps0_5, hostOps0_6, List.flatten_cons, List.flatten_nil,
      List.append_nil, List.cons_append, List.nil_append, StableHlo.TRef.binary, StableHlo.TRef.unary,
      StableHlo.TRef.nullary, StableHlo.TRef.toBuf, StableHlo.TRef.ofBuf, cast_eq]
   after_results_simp; pointwise; try simp only [bat, pos, hd, ln]; try with_reducible rfl)
  · by_cases h : j.val % 128 < 96
    · rw [dif_pos ⟨by omega, by omega, by omega, h⟩]; exact (lane_col _ _ _ _ ⟨j.val % 128, _⟩ h).symm
    · rw [dif_neg fun e => h e.2.2.2]; exact (sitofp_zero (φ := FTy.f32)).trans (lane_pad _ _ _ _ ⟨j.val % 128, _⟩ h).symm
  · by_cases h : j.val % 128 < 96
    · rw [dif_pos ⟨by omega, by omega, by omega, h⟩]; exact (lane_col _ _ _ _ ⟨j.val % 128, _⟩ h).symm
    · rw [dif_neg fun e => h e.2.2.2]; exact (sitofp_zero (φ := FTy.f32)).trans (lane_pad _ _ _ _ ⟨j.val % 128, _⟩ h).symm
  · by_cases h : j.val % 128 < 64
    · rw [dif_pos ⟨by omega, by omega, by omega, h⟩]; exact (lane_col _ _ _ _ ⟨j.val % 128, _⟩ h).symm
    · rw [dif_neg fun e => h e.2.2.2]; exact (sitofp_zero (φ := FTy.f32)).trans (lane_pad _ _ _ _ ⟨j.val % 128, _⟩ h).symm

/-- The sequence and the head of a point of the grid. -/
def tb (t : Fin cfg0.N) : Fin 4 := ⟨t.val / 8, by have := t.isLt; have : cfg0.N = 32 := N_0; omega⟩
def th (t : Fin cfg0.N) : Fin 8 := ⟨t.val % 8, by omega⟩
def rowOf (t : Fin cfg0.N) (p : Fin 2048) : Fin 8192 := ⟨2048 * (tb t).val + p.val, by omega⟩
def colOf (t : Fin cfg0.N) (k : Fin 128) : Fin 1024 := ⟨128 * (th t).val + k.val, by omega⟩
theorem bat_rowOf (t : Fin cfg0.N) (p : Fin 2048) : bat (rowOf t p) = tb t := Fin.ext (by show (2048 * (tb t).val + p.val) / 2048 = _; omega)
theorem pos_rowOf (t : Fin cfg0.N) (p : Fin 2048) : pos (rowOf t p) = p := Fin.ext (by show (2048 * (tb t).val + p.val) % 2048 = _; omega)
theorem hd_colOf (t : Fin cfg0.N) (k : Fin 128) : hd (colOf t k) = th t := Fin.ext (by show (128 * (th t).val + k.val) / 128 = _; omega)
theorem ln_colOf (t : Fin cfg0.N) (k : Fin 128) : ln (colOf t k) = k := Fin.ext (by show (128 * (th t).val + k.val) % 128 = _; omega)

/-- The blocks the windows take. -/
theorem idx : ∀ t : Fin cfg0.N, win0_0.index t = ![t.val / 8, t.val % 8] ∧ win0_1.index t = ![t.val / 8, t.val % 8] ∧ win0_2.index t = ![t.val / 8, t.val % 8]
    ∧ win0_3.index t = ![t.val / 8, t.val % 8] :=
  (by decide +kernel : ∀ t : Fin grid0.N, _)

variable {m c} (R0 : ∀ i, IsReal (A0 m c i)) (R1 : ∀ i, IsReal (A1 m c i)) (R2 : ∀ i, IsReal (A2 m c i)) (t : Fin cfg0.N)

include R0 in
theorem holds0 : Holds (iblk m c 0 t) (head (A0 m c) (tb t) (th t)) := fun i k => by
  rw [← lane_real R0]
  have e := (operands m c (rowOf t i) (colOf t k)).1
  rw [bat_rowOf, pos_rowOf, hd_colOf, ln_colOf] at e
  rw [← e]; unfold rowOf colOf tb th; blk_point [iblk, V, idx t]
include R1 in
theorem holds1 : Holds (iblk m c 1 t) (head (A1 m c) (tb t) (th t)) := fun i k => by
  rw [← lane_real R1]
  have e := (operands m c (rowOf t i) (colOf t k)).2.1
  rw [bat_rowOf, pos_rowOf, hd_colOf, ln_colOf] at e
  rw [← e]; unfold rowOf colOf tb th; blk_point [iblk, V, idx t]
include R2 in
theorem holds2 : Holds (iblk m c 2 t) (head (A2 m c) (tb t) (th t)) := fun i k => by
  rw [← lane_real R2]
  have e := (operands m c (rowOf t i) (colOf t k)).2.2
  rw [bat_rowOf, pos_rowOf, hd_colOf, ln_colOf] at e
  rw [← e]; unfold rowOf colOf tb th; blk_point [iblk, V, idx t]

/-- Where the block of the result's window lies in the result. -/
theorem emb3 (t : Fin cfg0.N) (y : ((cfg0.win 3).xblock (cfg0.grid.coords t)).Idx) (p : Fin 2048) (q : Fin 128)
    (h0 : (y 0).val = p.val) (h1 : (y 1).val = q.val) :
    (((View.whole main_v9).slice (win0_3.rect t)).emb y 0) = rowOf t p
      ∧ (((View.whole main_v9).slice (win0_3.rect t)).emb y 1) = colOf t q := by
  constructor <;> (apply Fin.ext; simp [rowOf, colOf, tb, th, View.slice, idx t, Pipeline.WinKind.off]; omega)

variable (m c)
/-- The output, over the flattened array. -/
def outAt (z : (⟨2, ![8192, 1024]⟩ : Shape).Idx) : ℝ := let b := bat (z 0); let h := hd (z 1)
  att (head (A0 m c) b h) (head (A1 m c) b h) (head (A2 m c) b h) (pos (z 0)) (ln (z 1))
variable {m c}
include R0 R1 R2
theorem arr3 : (dats m 0 c).arrAt 3 cfg0.N = fun z => ((outAt m c z : ℝ) : EReal) := by
  refine (dats m 0 c).arrAt_eq_of_covers 3 _ (by decide +kernel) fun t hf y => ?_
  rw [after0_3]
  obtain ⟨p, q, e⟩ : ∃ p q, (cfg0.win 3).xinj (cfg0.grid.coords t) y = (ix2 p q : S2048x128.Idx) := ⟨_, _, ValueIdx.eq_ix2 _⟩
  have e' := emb3 t y p q (congrArg (fun z => (z 0).val) e) (congrArg (fun z => (z 1).val) e)
  refine (congrArg (out0_3 (iblk m c 0 t) (iblk m c 1 t) (iblk m c 2 t)) e).trans
    ((out_eq (holds0 R0 t) (holds1 R1 t) (holds2 R2 t) p q).trans ?_)
  show _ = ((outAt m c _ : ℝ) : EReal)
  simp only [outAt, e'.1, e'.2, bat_rowOf, pos_rowOf, hd_colOf, ln_colOf]
end Cert.AttnFwdIdeal.AttnValue

namespace Cert.AttnFwdSpec
open Cert.AttnSpec Cert.RealRow Cert.AttnMath Cert.AttnFwdIdeal.AttnValue Cert.AttnFwdRefIdeal.Read Cert.AttnFwdRefIdeal.AttnRead

/-- The precondition read off: the three arguments' entries are real numbers. -/
theorem reals [h : Cert.Pre_attn_fwd_finite.Facts] (x0 x1 : Arr 96) (x2 : Arr 64)
    (e : Cert.Pre_attn_fwd_finite.fn (F := Ideal) x0 x1 x2 = fun _ => 1#1) :
    (∀ i, IsReal (x0 i)) ∧ (∀ i, IsReal (x1 i)) ∧ (∀ i, IsReal (x2 i)) := by
  have e0 := congrFun e ix0
  haveI : Subsingleton Cert.Pre_attn_fwd_finite.S_.Idx := ⟨fun a b => funext fun k => k.elim0⟩
  obtain ⟨e0, h2⟩ := IntOp.andi_eq_one.1 e0
  obtain ⟨h0, h1⟩ := IntOp.andi_eq_one.1 e0
  exact ⟨real_of_finite x0 _ _ _ ix0 h0, real_of_finite x1 _ _ _ ix0 h1, real_of_finite x2 _ _ _ ix0 h2⟩

/-- The reference leaves its arguments alone. -/
theorem frame : Cert.quiescent_AttnFwdRefIdeal := fun m ρ _ =>
  (θ_run Cert.AttnFwdRefIdeal.defs _ _).mono (fun r h => ⟨fun c => (h c).2,
      Idealize.ShloMosaic.sem_eq_zero_of_no_sems (by decide) r.2⟩)
    (Cert.AttnFwdRefIdeal.Value.run (F := Ideal) m ρ)

/-- The one constant with a name is its value, rounded. -/
theorem preserves : Cert.preserves_AttnFwd_AttnFwdIdeal :=
  IdealRules.named_const.statement Cert.AttnFwdIdeal.κ "scale2" .f32 0x3E16C740#32 (((3424635 / 33554432) * (Real.log 2)⁻¹ : ℝ) : EReal) rfl

set_option maxHeartbeats 4000000 in
/-- The call's result is the reference's. -/
theorem algebraic : Cert.algebraic_AttnFwdIdeal_AttnFwdRefIdeal_pre_attn_fwd_finite := by
  intro m g m' g' hpre hagree
  have R : ∀ c, _ := fun c => reals (A0 m c) (A1 m c) (A2 m c) (hpre c)
  refine ⟨fun c => fun z => ((outAt m c z : ℝ) : EReal), ?_, ?_⟩
  · refine (θ_run _ _ _).mono (fun r h c => ?_) (θ_run_and (Cert.AttnFwdIdeal.Gen.run_main m g) (Cert.AttnFwdIdeal.Gen.unchanged m g))
    obtain ⟨R0, R1, R2⟩ := R c
    exact ⟨((h.1 c).1 3).trans (arr3 R0 R1 R2), h.2 c⟩
  · refine (θ_run _ _ _).mono (fun r h c => ?_) (Cert.AttnFwdRefIdeal.Value.run (F := Ideal) m' g')
    obtain ⟨R0, R1, R2⟩ := R c
    obtain ⟨h0, ha⟩ := h c
    obtain ⟨a0, a1, a2⟩ := hagree c
    refine ⟨(h0.trans (val_main_v27_eq m' c)).trans ?_, ha⟩
    rw [a0, a1, a2]
    refine funext fun z => (congrArg _ (ValueIdx.eq_ix2 z)).trans (out27 R0 R1 R2 (z 0) (z 1))
end Cert.AttnFwdSpec
end
-- ==== Proof.RmsNorm.lean ====
/- One row of the model's width: the root-mean-square norm and its gradient, once in the kernels' form
   and once in the form the derivative of the forward lines takes. -/
module
public import proofs.«01_k».proof.Proof.RealRow
public import Mathlib.Tactic.FieldSimp
public import Mathlib.Tactic.LinearCombination
@[expose] public section
noncomputable section
open Idealize.ShloMosaic

namespace Cert.RmsNorm
open Cert.RealRow

variable (x d : Fin 1024 → EReal)

/-- The width of the row. -/
def w1024 : EReal := Ideal.ofBits FTy.f32 0x44800000#32
theorem w1024_eq : w1024 = ((1024 : ℝ) : EReal) := by
  simp [w1024, Ideal.ofBits, Ideal.ieee, -EReal.coe_mul]; norm_num

/-- The mean square with the small constant, its reciprocal root, and the normalised row. -/
def msq : EReal := Ideal.div (∑ k, x k * x k) w1024 + eps
def irms : EReal := Ideal.rsqrt (msq x)
def nrm (j : Fin 1024) : EReal := x j * irms x

/-- The kernels' gradient at the row, for the cotangent `d` of the normalised row. -/
def grad (j : Fin 1024) : EReal := irms x * (d j - nrm x j * Ideal.div (∑ k, d k * nrm x k) w1024)

/-- The reference's: the part through the mean square, and the gradient with it. -/
def via : EReal :=
  Ideal.div ((∑ k, x k * d k) * (Ideal.ofBits FTy.f32 0xBF000000#32 * Ideal.div (irms x) (msq x))) w1024
def gradR (j : Fin 1024) : EReal := d j * irms x + via x d * (Ideal.ofBits FTy.f32 0x40000000#32 * x j)

theorem div1024 (a : ℝ) : Ideal.div (a : EReal) w1024 = ((a / 1024 : ℝ) : EReal) := by
  rw [w1024_eq, Ideal.div_coe (by norm_num), ← EReal.coe_mul]; congr 1; ring

/-- The mean square of a real row is a positive real, and its reciprocal root's square is its reciprocal. -/
theorem msq_real (X : Fin 1024 → ℝ) : ∃ w r : ℝ, 0 < w ∧ r * r * w = 1 ∧ msq (fun k => (X k : EReal)) = (w : EReal)
    ∧ irms (fun k => (X k : EReal)) = (r : EReal) := by
  obtain ⟨e, he, hE⟩ := eps_pos
  have hv : 0 ≤ (∑ k, X k * X k) / 1024 :=
    div_nonneg (Finset.sum_nonneg fun k _ => mul_self_nonneg _) (by norm_num)
  have hw : 0 < (∑ k, X k * X k) / 1024 + e := by linarith
  have hd : msq (fun k => (X k : EReal)) = (((∑ k, X k * X k) / 1024 + e : ℝ) : EReal) := by
    simp only [msq, ← EReal.coe_mul]
    rw [sum_coe, div1024, hE, ← EReal.coe_add]
  refine ⟨_, (Real.sqrt ((∑ k, X k * X k) / 1024 + e))⁻¹, hw, rsqrt_sq hw, hd, ?_⟩
  rw [irms, hd, Ideal.rsqrt_coe, if_neg (not_lt.mpr hw.le), if_neg hw.ne']

theorem isReal_nrm (hx : ∀ k, IsReal (x k)) (j : Fin 1024) : IsReal (nrm x j) := by
  obtain ⟨X, rfl⟩ := lift hx
  obtain ⟨w, r, -, -, -, hR⟩ := msq_real X
  exact (isReal_coe _).mul ⟨r, hR⟩

/-- The two gradients of the row agree where the row and the cotangent are real; they are real then. -/
theorem grad_eq (hx : ∀ k, IsReal (x k)) (hd : ∀ k, IsReal (d k)) (j : Fin 1024) :
    grad x d j = gradR x d j ∧ IsReal (grad x d j) := by
  obtain ⟨D, rfl⟩ := lift hd
  obtain ⟨X, rfl⟩ := lift hx
  obtain ⟨w, r, hw, hr, hD, hR⟩ := msq_real X
  have hK : grad (fun k => (X k : EReal)) (fun k => (D k : EReal)) j
      = ((r * (D j - X j * r * ((∑ k, D k * (X k * r)) / 1024)) : ℝ) : EReal) := by
    simp only [grad, nrm, hR, ← EReal.coe_mul, sum_coe, div1024, ← EReal.coe_sub]
  have hQ : gradR (fun k => (X k : EReal)) (fun k => (D k : EReal)) j
      = ((D j * r + (∑ k, X k * D k) * (-(1 / 2) * (r * (1 / w))) / 1024 * (2 * X j) : ℝ) : EReal) := by
    simp only [gradR, via, hR, hD, minus_half_eq, two_eq, Ideal.div_coe hw.ne', ← EReal.coe_mul, sum_coe, div1024,
      ← EReal.coe_add]
  refine ⟨?_, _, hK⟩
  rw [hK, hQ]
  congr 1
  have e1 : (∑ k, D k * (X k * r)) = (∑ k, X k * D k) * r := by
    rw [Finset.sum_mul]; exact Finset.sum_congr rfl fun k _ => by ring
  have hrw : 1 / w = r * r := by field_simp; linarith
  rw [e1, hrw]; ring

end Cert.RmsNorm
end
-- ==== Proof.InSpec.lean ====
/- The gradient of the layer's first norm and of the product after it, as functions of the arguments: what
   the kernel's call computes, and the column order its operands are packed in. -/
module
public import proofs.«01_k».proof.Proof.RmsNorm
public import Idealize.ShloMosaic.Lib.Pointwise
@[expose] public section
noncomputable section
open Idealize.ShloMosaic

namespace Cert.InSpec
open Cert.RmsNorm Cert.RealRow

/-- The arguments' shapes. -/
abbrev Seq (n : ℕ) := FVec Ideal ⟨3, ![4, 2048, n]⟩ .f32
abbrev Mods := FVec Ideal ⟨2, ![4, 6144]⟩ .f32
abbrev Row := FVec Ideal ⟨2, ![1, 1024]⟩ .f32
abbrev Mat := FVec Ideal ⟨3, ![1, 1024, 3488]⟩ .f32

/-! ### The order of the columns

The kernel's operands hold the 3488 columns in four pieces, with 64 and 32 columns of zeros among them. -/

section cols
variable (f g : Fin 3488 → EReal)

/-- The row `f` in the kernel's order. -/
def packed (k : Fin 3584) : EReal :=
  if h : k.val < 2048 then f ⟨1440 + k.val, by omega⟩
  else if h : k.val - 2048 < 1024 then f ⟨416 + (k.val - 2048), by omega⟩
  else if h : k.val - 2048 - 1024 < 384 then f ⟨k.val - 2048 - 1024, by omega⟩
  else if h : k.val - 2048 - 1024 - 384 < 64 then 0
  else if h : k.val - 2048 - 1024 - 384 - 64 < 32 then f ⟨384 + (k.val - 2048 - 1024 - 384 - 64), by omega⟩
  else 0

theorem packed_mul (k : Fin 3584) : packed f k * packed g k = packed (fun c => f c * g c) k := by
  unfold packed
  by_cases h1 : k.val < 2048
  · simp only [dif_pos h1]
  by_cases h2 : k.val - 2048 < 1024
  · simp only [dif_neg h1, dif_pos h2]
  by_cases h3 : k.val - 2048 - 1024 < 384
  · simp only [dif_neg h1, dif_neg h2, dif_pos h3]
  by_cases h4 : k.val - 2048 - 1024 - 384 < 64
  · simp only [dif_neg h1, dif_neg h2, dif_neg h3, dif_pos h4, mul_zero]
  by_cases h5 : k.val - 2048 - 1024 - 384 - 64 < 32
  · simp only [dif_neg h1, dif_neg h2, dif_neg h3, dif_neg h4, dif_pos h5]
  · simp only [dif_neg h1, dif_neg h2, dif_neg h3, dif_neg h4, dif_neg h5, mul_zero]

/-- The same order reached from the four shards the weights lie in, 872 columns each. -/
theorem packed_shards (k : Fin 3584) :
    (if h : k.val < 304 then f ⟨872 + (568 + k.val), by omega⟩
      else if h : k.val - 304 < 872 then f ⟨1744 + (k.val - 304), by omega⟩
      else if h : k.val - 304 - 872 < 872 then f ⟨2616 + (k.val - 304 - 872), by omega⟩
      else if h : k.val - 304 - 872 - 872 < 456 then f ⟨416 + (k.val - 304 - 872 - 872), by omega⟩
      else if h : k.val - 304 - 872 - 872 - 456 < 568 then f ⟨872 + (k.val - 304 - 872 - 872 - 456), by omega⟩
      else if h : k.val - 304 - 872 - 872 - 456 - 568 < 384 then f ⟨k.val - 304 - 872 - 872 - 456 - 568, by omega⟩
      else if h : k.val - 304 - 872 - 872 - 456 - 568 - 384 < 64 then 0
      else if h : k.val - 304 - 872 - 872 - 456 - 568 - 384 - 64 < 32 then
        f ⟨384 + (k.val - 304 - 872 - 872 - 456 - 568 - 384 - 64), by omega⟩
      else 0) = packed f k := by
  unfold packed
  repeat' split
  all_goals first
    | with_reducible rfl
    | (exfalso; omega)
    | exact congrArg f (Fin.ext (by dsimp only; omega))

end cols

/-- The sum over the `n` columns from `o`. -/
def seg {N : ℕ} (f : Fin N → EReal) (o n : ℕ) (h : o + n ≤ N) : EReal := ∑ k : Fin n, f ⟨o + k.val, by omega⟩
theorem seg_split {N : ℕ} (f : Fin N → EReal) (o a b : ℕ) (h : o + (a + b) ≤ N) :
    seg f o (a + b) h = seg f o a (by omega) + seg f (o + a) b (by omega) :=
  (Fin.sum_univ_add (a := a) (b := b) fun k => f ⟨o + k.val, by omega⟩).trans
    (congrArg _ (Finset.sum_congr rfl fun k _ => congrArg f (Fin.ext (Nat.add_assoc o a k.val).symm)))
theorem seg_all {N : ℕ} (f : Fin N → EReal) : ∑ c, f c = seg f 0 N (by omega) :=
  Finset.sum_congr rfl fun k _ => congrArg f (Fin.ext (Nat.zero_add k.val).symm)
theorem seg_congr {N M : ℕ} {f : Fin N → EReal} {g : Fin M → EReal} (o p n : ℕ) (h : o + n ≤ N) (h' : p + n ≤ M)
    (e : ∀ k : Fin n, f ⟨o + k.val, by omega⟩ = g ⟨p + k.val, by omega⟩) : seg f o n h = seg g p n h' :=
  Finset.sum_congr rfl fun k _ => e k
theorem seg_zero {N : ℕ} {f : Fin N → EReal} (o n : ℕ) (h : o + n ≤ N)
    (e : ∀ k : Fin n, f ⟨o + k.val, by omega⟩ = 0) : seg f o n h = 0 :=
  Finset.sum_eq_zero fun k _ => e k

section sums
variable (f g : Fin 3488 → EReal)

/-- The zeros add nothing: a sum in the kernel's order is the sum over the columns. -/
theorem sum_packed : ∑ k, packed f k = ∑ c, f c := by
  rw [seg_all, seg_all, seg_split (packed f) 0 2048 1536, seg_split (packed f) 2048 1024 512, seg_split (packed f) 3072 384 128,
    seg_split (packed f) 3456 64 64, seg_split (packed f) 3520 32 32,
    seg_split f 0 384 3104, seg_split f 384 32 3072, seg_split f 416 1024 2048]
  rw [seg_congr (f := packed f) (g := f) 0 1440 2048 _ (by omega) fun k => ?_,
    seg_congr (f := packed f) (g := f) 2048 416 1024 _ (by omega) fun k => ?_,
    seg_congr (f := packed f) (g := f) 3072 0 384 _ (by omega) fun k => ?_,
    seg_zero (f := packed f) 3456 64 _ fun k => ?_,
    seg_congr (f := packed f) (g := f) 3520 384 32 _ (by omega) fun k => ?_,
    seg_zero (f := packed f) 3552 32 _ fun k => ?_]
  · have e : ∀ p q r z : EReal, p + (q + (r + (0 + (z + 0)))) = r + (z + (q + p)) := fun p q r z => by
      rw [zero_add, add_zero]; ac_rfl
    exact e _ _ _ _
  all_goals unfold packed
  all_goals repeat' first | rw [dif_neg (by simp only; omega)] | rw [dif_pos (by simp only; omega)]
  all_goals exact congrArg f (Fin.ext (by simp only; omega))

theorem dot_packed : ∑ k, packed f k * packed g k = ∑ c, f c * g c := by
  simp only [packed_mul]; exact sum_packed _
end sums

/-! ### The gradient -/

variable (x : Seq 1024) (md : Mods) (g : Row) (w : Mat) (dz : Seq 3488) (dx1 : Seq 1024) (b : Fin 4) (s : Fin 2048)

/-- The cotangent of the scaled and shifted norm, and the scale of the batch's row. -/
def dh (j : Fin 1024) : EReal := ∑ c : Fin 3488, dz (ix3 b s c) * w (ix3 0 j c)
def scl (j : Fin 1024) : EReal := 1 + md (ix2 b ⟨1024 + j.val, by omega⟩)
def xr (k : Fin 1024) : EReal := x (ix3 b s k)
/-- The cotangent of the normalised row. -/
def dn (j : Fin 1024) : EReal := dh w dz b s j * scl md b j * g (ix2 0 j)
/-- The gradient of the input, and one position's part of the three parameters'. -/
def dx (j : Fin 1024) : EReal := dx1 (ix3 b s j) + grad (xr x b s) (dn md g w dz b s) j
def pscale (j : Fin 1024) : EReal := dh w dz b s j * (nrm (xr x b s) j * g (ix2 0 j))
def pg (j : Fin 1024) : EReal := dh w dz b s j * scl md b j * nrm (xr x b s) j
/-- The three parameters' gradients. -/
def dshift (j : Fin 1024) : EReal := ∑ s : Fin 2048, dh w dz b s j
def dscale (j : Fin 1024) : EReal := ∑ s : Fin 2048, pscale x g w dz b s j
def dg (j : Fin 1024) : EReal := ∑ b : Fin 4, ∑ s : Fin 2048, pg x md w dz b s j

end Cert.InSpec
end
-- ==== Proof.InKernel.lean ====
/- What the kernel's operands and its blocks hold, and the copy of the weights it keeps between blocks. -/
module
public import proofs.«01_k».proof.Proof.Gen.InIdeal.Value
public import proofs.«01_k».proof.Proof.InSpec
public import Idealize.ShloMosaic.Lib.Pipeline.ValueKit
public import Idealize.ShloMosaic.Lib.Pipeline.ReadBack
public import Idealize.ShloMosaic.Lib.Claim
public import Idealize.ShloMosaic.Lib.StableHlo.RunRead
public import Idealize.ShloMosaic.Lib.KernelVsHost
@[expose] public section
set_option maxRecDepth 16384
noncomputable section
open Idealize.ShloMosaic Idealize.ShloMosaic.TcCoe Idealize.SL.Sem
open Idealize.ShloMosaic.Pipeline (Dat)

namespace Cert.InIdeal.InValue
open Cert.InIdeal Cert.InIdeal.Gen Cert.InSpec Cert.RmsNorm

variable (m : (ℓ : Loc nD τ sig) → Buf (Elt Ideal) ℓ) (c : Dev nD)

/-- The arguments. -/
abbrev X0 : Seq 1024 := m (c, Proc.tc.devRef main_arg0)
abbrev X1 : Mods := m (c, Proc.tc.devRef main_arg1)
abbrev X2 : Row := m (c, Proc.tc.devRef main_arg2)
abbrev X3 : Mat := m (c, Proc.tc.devRef main_arg3)
abbrev X4 : Seq 3488 := m (c, Proc.tc.devRef main_arg4)
abbrev X5 : Seq 1024 := m (c, Proc.tc.devRef main_arg5)

/-- The batch and the position of a row of the flattened arrays. -/
def bi (r : Fin 8192) : Fin 4 := ⟨r.val / 2048, by omega⟩
def si (r : Fin 8192) : Fin 2048 := ⟨r.val % 2048, by omega⟩
/-- The row of the arrays that row `p` of block `t` is, and the batch the block belongs to. -/
def rowOf (t : Fin cfg0.N) (p : Fin 512) : Fin 8192 :=
  ⟨512 * t.val + p.val, by have := t.isLt; have : cfg0.N = 16 := N_0; omega⟩
def batch (t : Fin cfg0.N) : Fin 4 := ⟨t.val / 4, by have := t.isLt; have : cfg0.N = 16 := N_0; omega⟩
theorem bi_rowOf (t : Fin cfg0.N) (p : Fin 512) : bi (rowOf t p) = batch t := by
  apply Fin.ext; show (512 * t.val + p.val) / 2048 = t.val / 4; omega

/-- The blocks the windows take. -/
theorem idx : ∀ t : Fin cfg0.N, win0_0.index t = ![t.val, 0] ∧ win0_1.index t = ![t.val, 0] ∧ win0_2.index t = ![t.val, 0]
    ∧ win0_3.index t = ![0, 0] ∧ win0_4.index t = ![t.val / 4, 0, 0] ∧ win0_5.index t = ![t.val, 0]
    ∧ win0_6.index t = ![t.val / 4, 0, 0] ∧ win0_7.index t = ![t.val / 4, 0, 0] ∧ win0_8.index t = ![0, 0] :=
  (by decide +kernel : ∀ t : Fin grid0.N, _)

theorem lt16 (t : Fin cfg0.N) : t.val < 16 := by have := t.isLt; have : cfg0.N = 16 := N_0; omega

set_option maxHeartbeats 2000000 in
/-- The operands when the call starts: the host's lines, read at an index. -/
theorem operands (r : Fin 8192) (j : Fin 1024) (b : Fin 4) (k : Fin 6) :
    V m c main_v30 (ix2 r j) = X0 m c (ix3 (bi r) (si r) j)
    ∧ V m c main_v31 (ix2 r j) = X5 m c (ix3 (bi r) (si r) j)
    ∧ V m c main_v32 (ix3 b k j) = X1 m c (ix2 b ⟨k.val * 1024 + j.val, by omega⟩) := by
  refine ⟨?_, ?_, ?_⟩ <;>
  (simp only [V, hostOps0, List.flatten_cons, List.flatten_nil,
      List.append_nil, List.cons_append, List.nil_append, StableHlo.TRef.binary, StableHlo.TRef.unary,
      StableHlo.TRef.nullary, StableHlo.TRef.toBuf, StableHlo.TRef.ofBuf, cast_eq]
   after_results_simp
   pointwise
   try simp only [bi, si]
   try with_reducible rfl)

set_option maxHeartbeats 4000000 in
theorem operand_dz (r : Fin 8192) (k : Fin 3584) :
    V m c main_v29 (ix2 r k) = packed (fun z => X4 m c (ix3 (bi r) (si r) z)) k := by
  simp only [V, hostOps0]
  after_reads_simp
  pointwise
  after_reads_simp
  pointwise
  rfl

theorem operand_w (q : Fin 1024) (k : Fin 3584) :
    V m c main_v20 (ix2 q k) = packed (fun z => X3 m c (ix3 0 q z)) k := by
  simp only [V, hostOps0]
  after_reads_simp
  pointwise
  after_reads_simp
  pointwise
  exact packed_shards (fun z => X3 m c (ix3 0 q z)) k

/-- The operands' blocks, read at an index. -/
theorem b0 (t : Fin cfg0.N) (p : Fin 512) (k : Fin 3584) :
    iblk m c 0 t (ix2 p k) = packed (fun z => X4 m c (ix3 (batch t) (si (rowOf t p)) z)) k := by
  rw [← bi_rowOf t p, ← operand_dz m c (rowOf t p) k]; unfold rowOf; blk_point [iblk, V, idx t]
theorem b1 (t : Fin cfg0.N) (p : Fin 512) (k : Fin 1024) :
    iblk m c 1 t (ix2 p k) = X0 m c (ix3 (batch t) (si (rowOf t p)) k) := by
  rw [← bi_rowOf t p, ← (operands m c (rowOf t p) k 0 0).1]; unfold rowOf; blk_point [iblk, V, idx t]
theorem b2 (t : Fin cfg0.N) (p : Fin 512) (k : Fin 1024) :
    iblk m c 2 t (ix2 p k) = X5 m c (ix3 (batch t) (si (rowOf t p)) k) := by
  rw [← bi_rowOf t p, ← (operands m c (rowOf t p) k 0 0).2.1]; unfold rowOf; blk_point [iblk, V, idx t]
theorem b3 (t : Fin cfg0.N) (k : Fin 1024) : iblk m c 3 t (ix2 0 k) = X2 m c (ix2 0 k) := by
  blk_point [iblk, V, idx t]
theorem b4 (t : Fin cfg0.N) (k : Fin 6) (j : Fin 1024) :
    iblk m c 4 t (ix3 0 k j) = X1 m c (ix2 (batch t) ⟨k.val * 1024 + j.val, by omega⟩) := by
  rw [← (operands m c 0 j (batch t) k).2.2]; unfold batch; blk_point [iblk, V, idx t]

/-- The kernel's three kinds of block: the first, the later ones of a batch, the first of a later batch. -/
theorem kinds (t : Fin cfg0.N) : t.val = 0 ∨ (¬t.val % 16 = 0 ∧ ¬t.val % 4 = 0 ∧ 1 ≤ t.val)
    ∨ (¬t.val % 16 = 0 ∧ t.val % 4 = 0 ∧ 1 ≤ t.val) := by have := lt16 t; omega

/-- The buffer of the weights after the copy, and a load of the whole of it. -/
theorem copied : View.canon [⟨Rect.whole S1024x3584,
    ReadAs.same.apply (View.read (Elt Ideal) (View.whole main_v20) (V m c main_v20))⟩] = V m c main_v20 := by
  funext y
  canon_tiles x h
  have e : x = y := by
    funext a
    exact Fin.cases (Fin.ext h0.symm) (fun a => Fin.cases (Fin.ext h1.symm) (fun a => a.elim0) a) a
  exact congrArg (V m c main_v20) e
theorem loaded : (View.whole cc0_scratch0).readCov [⟨Rect.whole S1024x3584,
    ReadAs.same.apply (View.read (Elt Ideal) (View.whole main_v20) (V m c main_v20))⟩]
      (Rect.unit ![0, 0] ![1024, 3584] inb_S1024x3584_S1024x3584_0_0).toLoadRect = V m c main_v20 := by
  funext y
  rw [View.readCov_eq_canon', copied]
  refine congrArg (V m c main_v20) ?_
  funext a
  refine Fin.cases (Fin.ext ?_) (fun a => Fin.cases (Fin.ext ?_) (fun a => a.elim0) a) a
  · show 0 + 1 * (y 0).val = (y 0).val
    omega
  · show 0 + 1 * (y 1).val = (y 1).val
    omega

/-- The copy of the weights, made at the first block and kept. -/
theorem held (n : ℕ) (hn : n < cfg0.N) : (outsAt0 m c n hn).2.2.2.2 = V m c main_v20 := by
  induction n with
  | zero =>
    rw [outsAt0_A m c ⟨0, hn⟩ rfl rfl (by simp) rfl (by simp) rfl (by simp)]
    frame_out
    exact copied m c
  | succ n ih =>
    have ih := ih (by omega)
    rcases kinds ⟨n + 1, hn⟩ with h | ⟨h, h', h''⟩ | ⟨h, h', h''⟩
    · simp at h
    · rw [outsAt0_B m c ⟨n + 1, hn⟩ h h' h' h' h' h h'']
      frame_out
      exact ih
    · rw [outsAt0_C m c ⟨n + 1, hn⟩ h h' (by simpa using h') h' (by simpa using h') h h'']
      frame_out
      exact ih

end Cert.InIdeal.InValue
end
-- ==== Proof.InBand.lean ====
/- One band of 256 rows of the kernel's block: what its rows of the norm's gradient are. -/
module
public import proofs.«01_k».proof.Proof.Gen.InIdeal.Value
public import proofs.«01_k».proof.Proof.InSpec
public import Idealize.ShloMosaic.Lib.Pipeline.ValueKit
@[expose] public section
set_option maxRecDepth 16384
noncomputable section
open Idealize.ShloMosaic Idealize.ShloMosaic.TcCoe Idealize.SL.Sem

namespace Cert.InIdeal.InValue
open Cert.InIdeal Cert.InIdeal.Gen Cert.InSpec Cert.RmsNorm Cert.RealRow

/-- A row of a band, and the one row of a parameter. -/
def rowf {a : ℕ} (x : FVec Ideal ⟨2, ![a, 1024]⟩ .f32) (p : Fin a) (k : Fin 1024) : EReal := x (ix2 p k)

variable (v x y : FVec Ideal S256x1024 .f32) (g s z : FVec Ideal S1x1024 .f32) (p : Fin 256) (q : Fin 1024)

theorem inv10 : k0_pay10 (F := Ideal) x (ix2 p 0) = irms (rowf x p) := by
  pointwise [k0_pay10, irms, msq, rowf, w1024, eps]
theorem inv17 : k0_pay17 (F := Ideal) x (ix2 p 0) = irms (rowf x p) := by
  pointwise [k0_pay17, irms, msq, rowf, w1024, eps]
theorem nrm11 : k0_pay11 (F := Ideal) x (ix2 p q) = nrm (rowf x p) q := by
  pointwise [k0_pay11, nrm]; simp only [inv10]; rfl
theorem nrm18 : k0_pay18 (F := Ideal) x (ix2 p q) = nrm (rowf x p) q := by
  pointwise [k0_pay18, nrm]; simp only [inv17]; rfl
/-- The cotangent of the normalised row. -/
def dnf (k : Fin 1024) : EReal := rowf v p k * s (ix2 0 k) * g (ix2 0 k)
theorem dx15 : k0_pay15 (F := Ideal) g s v x y (ix2 p q) = y (ix2 p q) + grad (rowf x p) (dnf v g s p) q := by
  pointwise [k0_pay15, grad, w1024]; simp only [nrm11, inv10]; rfl
theorem dx22 : k0_pay22 (F := Ideal) g s v x y (ix2 p q) = y (ix2 p q) + grad (rowf x p) (dnf v g s p) q := by
  pointwise [k0_pay22, grad, w1024]; simp only [nrm18, inv17]; rfl
theorem sh12 : k0_pay12 (F := Ideal) v z (ix2 0 q) = z (ix2 0 q) + ∑ p : Fin 256, rowf v p q := by
  pointwise [k0_pay12, rowf]
theorem sh19 : k0_pay19 (F := Ideal) v z (ix2 0 q) = z (ix2 0 q) + ∑ p : Fin 256, rowf v p q := by
  pointwise [k0_pay19, rowf]
theorem sc13 : k0_pay13 (F := Ideal) g v z x (ix2 0 q)
    = z (ix2 0 q) + ∑ p : Fin 256, rowf v p q * (nrm (rowf x p) q * g (ix2 0 q)) := by
  pointwise [k0_pay13, rowf]; simp only [nrm11]
theorem sc20 : k0_pay20 (F := Ideal) g v z x (ix2 0 q)
    = z (ix2 0 q) + ∑ p : Fin 256, rowf v p q * (nrm (rowf x p) q * g (ix2 0 q)) := by
  pointwise [k0_pay20, rowf]; simp only [nrm18]
theorem g14 : k0_pay14 (F := Ideal) s v z x (ix2 0 q)
    = z (ix2 0 q) + ∑ p : Fin 256, rowf v p q * s (ix2 0 q) * nrm (rowf x p) q := by
  pointwise [k0_pay14, rowf]; simp only [nrm11]
theorem g21 : k0_pay21 (F := Ideal) s v z x (ix2 0 q)
    = z (ix2 0 q) + ∑ p : Fin 256, rowf v p q * s (ix2 0 q) * nrm (rowf x p) q := by
  pointwise [k0_pay21, rowf]; simp only [nrm18]
theorem zero8 : k0_pay8 (F := Ideal) (ix2 0 q) = 0 := by pointwise [k0_pay8]
theorem row9 (x : Vec Ideal S256x1024 .f32) : k0_pay9 (F := Ideal) x = x := by
  funext i; obtain ⟨p, q, rfl⟩ : ∃ p q, i = ix2 p q := ⟨i 0, i 1, ValueIdx.eq_ix2 i⟩
  pointwise [k0_pay9]
theorem row16 (x : Vec Ideal S256x1024 .f32) : k0_pay16 (F := Ideal) x = x := by
  funext i; obtain ⟨p, q, rfl⟩ : ∃ p q, i = ix2 p q := ⟨i 0, i 1, ValueIdx.eq_ix2 i⟩
  pointwise [k0_pay16]
theorem scl5 (a : Vec Ideal S1x1x1024 .f32) : k0_pay5 (F := Ideal) a (ix2 0 q) = 1 + a (ix3 0 0 q) := by
  pointwise [k0_pay5]
theorem dh6 (a : FVec Ideal S256x3584 .bf16) (w : FVec Ideal S1024x3584 .bf16) :
    k0_pay6 (F := Ideal) a w (ix2 p q) = ∑ k : Fin 3584, a (ix2 p k) * w (ix2 q k) := by
  pointwise [k0_pay6]
theorem dh7 (a : FVec Ideal S256x3584 .bf16) (w : FVec Ideal S1024x3584 .bf16) :
    k0_pay7 (F := Ideal) a w (ix2 p q) = ∑ k : Fin 3584, a (ix2 p k) * w (ix2 q k) := by
  pointwise [k0_pay7]
/-- The parameters' sums as they are stored: a reset, or a step from what the block before left. -/
theorem out1 (u : Vec Ideal S1x1x1024 .f32) : k0_pay1 (F := Ideal) z u (ix3 0 0 q) = u (ix3 0 0 q) + z (ix2 0 q) := by
  pointwise [k0_pay1]
theorem out2 : k0_pay2 (F := Ideal) z (ix3 0 0 q) = z (ix2 0 q) := by
  pointwise [k0_pay2]
theorem out3 (u : Vec Ideal S1x1x1024 .f32) : k0_pay3 (F := Ideal) z u (ix3 0 0 q) = u (ix3 0 0 q) + z (ix2 0 q) := by
  pointwise [k0_pay3]
theorem out4 (u : Vec Ideal S1x1024 .f32) : k0_pay4 (F := Ideal) z u (ix2 0 q) = u (ix2 0 q) + z (ix2 0 q) := by
  pointwise [k0_pay4]
theorem out23 : k0_pay23 (F := Ideal) v z (ix3 0 0 q) = z (ix2 0 q) + ∑ p : Fin 256, rowf v p q := by
  pointwise [k0_pay23]; exact sh19 v z q

end Cert.InIdeal.InValue
end
-- ==== Proof.InOut.lean ====
/- The arrays the call's results are left as: the functions of the arguments in InSpec, one theorem for each. -/
module
public import proofs.«01_k».proof.Proof.InKernel
public import proofs.«01_k».proof.Proof.InBand
@[expose] public section
set_option maxRecDepth 16384
noncomputable section
open Idealize.ShloMosaic Idealize.ShloMosaic.TcCoe Idealize.SL.Sem
open Idealize.ShloMosaic.Pipeline (Dat)
namespace Cert.InIdeal.InValue
open Cert.InIdeal Cert.InIdeal.Gen Cert.InSpec Cert.RmsNorm
variable (m : (ℓ : Loc nD τ sig) → Buf (Elt Ideal) ℓ) (c : Dev nD)

/-- The two bands' rows of block `t`: their positions in the batch's sequence. -/
def low (t : Fin cfg0.N) (p : Fin 256) : Fin 2048 := si (rowOf t ⟨p.val, by omega⟩)
def high (t : Fin cfg0.N) (p : Fin 256) : Fin 2048 := si (rowOf t ⟨256 + p.val, by omega⟩)
/-- The row of the input and the cotangent of the scaled norm at a position of the block's batch. -/
def xRow (t : Fin cfg0.N) (s : Fin 2048) : Fin 1024 → EReal := xr (X0 m c) (batch t) s
def dRow (t : Fin cfg0.N) (s : Fin 2048) : Fin 1024 → EReal := dh (X3 m c) (X4 m c) (batch t) s

theorem d_low (t : Fin cfg0.N) {W : FVec Ideal S1024x3584 .bf16} (hW : W = V m c main_v20) (p : Fin 256) :
    rowf (k0_pay6 (F := Ideal) (View.ld (Val := Elt Ideal) (S := S512x3584) (e' := .bf16) (iblk m c 0 t) (Rect.unit ![0, 0] ![256, 3584] inb_S512x3584_S256x3584_0_0)) W) p
      = dRow m c t (low t p) := by
  subst hW; funext j; unfold rowf dRow dh low
  rw [dh6, ← dot_packed]
  refine Finset.sum_congr rfl fun k _ => ?_
  rw [operand_w, ← b0]; pointwise
theorem d_high (t : Fin cfg0.N) {W : FVec Ideal S1024x3584 .bf16} (hW : W = V m c main_v20) (p : Fin 256) :
    rowf (k0_pay7 (F := Ideal) (View.ld (Val := Elt Ideal) (S := S512x3584) (e' := .bf16) (iblk m c 0 t) (Rect.unit ![256, 0] ![256, 3584] inb_S512x3584_S256x3584_256_0)) W) p
      = dRow m c t (high t p) := by
  subst hW; funext j; unfold rowf dRow dh high
  rw [dh7, ← dot_packed]
  refine Finset.sum_congr rfl fun k _ => ?_
  rw [operand_w, ← b0]; pointwise
theorem x_low (t : Fin cfg0.N) (p : Fin 256) :
    rowf (View.ld (iblk m c 1 t) (Rect.unit ![0, 0] ![256, 1024] inb_S512x1024_S256x1024_0_0)) p = xRow m c t (low t p) := by
  funext k; unfold rowf xRow xr low; rw [← b1]; pointwise
theorem x_high (t : Fin cfg0.N) (p : Fin 256) :
    rowf (View.ld (iblk m c 1 t) (Rect.unit ![256, 0] ![256, 1024] inb_S512x1024_S256x1024_256_0)) p = xRow m c t (high t p) := by
  funext k; unfold rowf xRow xr high; rw [← b1]; pointwise
theorem y_low (t : Fin cfg0.N) (p : Fin 256) (q : Fin 1024) :
    View.ld (iblk m c 2 t) (Rect.unit ![0, 0] ![256, 1024] inb_S512x1024_S256x1024_0_0) (ix2 p q)
      = X5 m c (ix3 (batch t) (low t p) q) := by
  unfold low; rw [← b2]; pointwise
theorem y_high (t : Fin cfg0.N) (p : Fin 256) (q : Fin 1024) :
    View.ld (iblk m c 2 t) (Rect.unit ![256, 0] ![256, 1024] inb_S512x1024_S256x1024_256_0) (ix2 p q)
      = X5 m c (ix3 (batch t) (high t p) q) := by
  unfold high; rw [← b2]; pointwise
theorem s_row (t : Fin cfg0.N) (q : Fin 1024) :
    k0_pay5 (F := Ideal) (View.ld (iblk m c 4 t) (Rect.unit ![0, 1, 0] ![1, 1, 1024] inb_S1x6x1024_S1x1x1024_0_1_0)) (ix2 0 q)
      = scl (X1 m c) (batch t) q := by
  rw [scl5]; unfold scl
  refine congrArg (1 + ·) ((?_ : _ = iblk m c 4 t (ix3 0 1 q)).trans (b4 m c t 1 q))
  pointwise
theorem dn_low (t : Fin cfg0.N) {W : FVec Ideal S1024x3584 .bf16} (hW : W = V m c main_v20) (p : Fin 256) :
    dnf (k0_pay6 (F := Ideal) (View.ld (Val := Elt Ideal) (S := S512x3584) (e' := .bf16) (iblk m c 0 t) (Rect.unit ![0, 0] ![256, 3584] inb_S512x3584_S256x3584_0_0)) W)
      (iblk m c 3 t) (k0_pay5 (F := Ideal) (View.ld (iblk m c 4 t) (Rect.unit ![0, 1, 0] ![1, 1, 1024] inb_S1x6x1024_S1x1x1024_0_1_0))) p
      = dn (X1 m c) (X2 m c) (X3 m c) (X4 m c) (batch t) (low t p) := by
  funext k; unfold dnf; rw [d_low m c t hW, s_row, b3]; rfl
theorem dn_high (t : Fin cfg0.N) {W : FVec Ideal S1024x3584 .bf16} (hW : W = V m c main_v20) (p : Fin 256) :
    dnf (k0_pay7 (F := Ideal) (View.ld (Val := Elt Ideal) (S := S512x3584) (e' := .bf16) (iblk m c 0 t) (Rect.unit ![256, 0] ![256, 3584] inb_S512x3584_S256x3584_256_0)) W)
      (iblk m c 3 t) (k0_pay5 (F := Ideal) (View.ld (iblk m c 4 t) (Rect.unit ![0, 1, 0] ![1, 1, 1024] inb_S1x6x1024_S1x1x1024_0_1_0))) p
      = dn (X1 m c) (X2 m c) (X3 m c) (X4 m c) (batch t) (high t p) := by
  funext k; unfold dnf; rw [d_high m c t hW, s_row, b3]; rfl

/-- A sum down the two bands is a sum over the block's rows. -/
theorem bands (t : Fin cfg0.N) (f : Fin 2048 → EReal) :
    (∑ p : Fin 256, f (low t p)) + (∑ p : Fin 256, f (high t p)) = ∑ p : Fin 512, f (si (rowOf t p)) :=
  (Fin.sum_univ_add (a := 256) (b := 256) fun p => f (si (rowOf t p))).symm

/-- Where the block of the first result's window lies in the result. -/
theorem emb5 (t : Fin cfg0.N) (y : ((cfg0.win 5).xblock (cfg0.grid.coords t)).Idx) (p : Fin 512) (q : Fin 1024)
    (h0 : (y 0).val = p.val) (h1 : (y 1).val = q.val) :
    (((View.whole main_v33_0).slice (win0_5.rect t)).emb y 0) = rowOf t p
      ∧ (((View.whole main_v33_0).slice (win0_5.rect t)).emb y 1) = q := by
  constructor <;> (apply Fin.ext; simp [rowOf, View.slice, idx t, Pipeline.WinKind.off]; omega)

set_option maxHeartbeats 1000000 in
theorem arr5 : (dats m 0 c).arrAt 5 cfg0.N
    = fun z => dx (X0 m c) (X1 m c) (X2 m c) (X3 m c) (X4 m c) (X5 m c) (bi (z 0)) (si (z 0)) (z 1) := by
  refine (dats m 0 c).arrAt_eq_of_covers 5 _ (by decide +kernel) fun t hf y => ?_
  blk_simp
  rw [after0_5]
  rcases kinds t with h | ⟨h, h', h''⟩ | ⟨h, h', h''⟩
  on_goal 1 => rw [outsAt0_A m c t (by omega) (by omega) (by omega) (by omega) (by omega) (by omega) (by omega)]; frame_out
  on_goal 2 => rw [outsAt0_B m c t h h' h' h' h' h h'']; frame_out
  on_goal 3 => rw [outsAt0_C m c t h h' (by omega) h' (by omega) h h'']; frame_out
  all_goals canon_tiles x h
  all_goals obtain ⟨p, q, rfl⟩ : ∃ p q, x = ix2 p q := ⟨x 0, x 1, ValueIdx.eq_ix2 x⟩
  all_goals simp only [read_unread_whole, held, row9, row16, dx15, dx22]
  all_goals first
    | rw [(emb5 t y ⟨256 + p.val, by omega⟩ q h0 h1).1, (emb5 t y ⟨256 + p.val, by omega⟩ q h0 h1).2, bi_rowOf]
    | rw [(emb5 t y ⟨p.val, by omega⟩ q h0 h1).1, (emb5 t y ⟨p.val, by omega⟩ q h0 h1).2, bi_rowOf]
  on_goal 1 => exact congrArg₂ (· + ·) (y_high m c t p q) (congrFun (congrArg₂ grad (x_high m c t p) (dn_high m c t (loaded m c) p)) q)
  on_goal 1 => exact congrArg₂ (· + ·) (y_low m c t p q) (congrFun (congrArg₂ grad (x_low m c t p) (dn_low m c t (loaded m c) p)) q)
  on_goal 1 => exact congrArg₂ (· + ·) (y_high m c t p q) (congrFun (congrArg₂ grad (x_high m c t p) (dn_high m c t rfl p)) q)
  on_goal 1 => exact congrArg₂ (· + ·) (y_low m c t p q) (congrFun (congrArg₂ grad (x_low m c t p) (dn_low m c t rfl p)) q)
  on_goal 1 => exact congrArg₂ (· + ·) (y_high m c t p q) (congrFun (congrArg₂ grad (x_high m c t p) (dn_high m c t rfl p)) q)
  on_goal 1 => exact congrArg₂ (· + ·) (y_low m c t p q) (congrFun (congrArg₂ grad (x_low m c t p) (dn_low m c t rfl p)) q)

/-- The three parameters' gradients: one block's part. -/
def part6 (t : Fin cfg0.N) (i : S1x1x1024.Idx) : EReal := ∑ p : Fin 512, dRow m c t (si (rowOf t p)) (i 2)
def part7 (t : Fin cfg0.N) (i : S1x1x1024.Idx) : EReal :=
  ∑ p : Fin 512, pscale (X0 m c) (X2 m c) (X3 m c) (X4 m c) (batch t) (si (rowOf t p)) (i 2)
def part8 (t : Fin cfg0.N) (i : S1x1024.Idx) : EReal :=
  ∑ p : Fin 512, pg (X0 m c) (X1 m c) (X3 m c) (X4 m c) (batch t) (si (rowOf t p)) (i 1)

/-- The two bands' sums of the three parameters' gradients are the block's. -/
theorem sum6 (t : Fin cfg0.N) {W : FVec Ideal S1024x3584 .bf16} (hW : W = V m c main_v20) (q : Fin 1024) :
    (∑ p : Fin 256, rowf (k0_pay6 (F := Ideal) (View.ld (Val := Elt Ideal) (S := S512x3584) (e' := .bf16) (iblk m c 0 t) (Rect.unit ![0, 0] ![256, 3584] inb_S512x3584_S256x3584_0_0)) W) p q)
      + (∑ p : Fin 256, rowf (k0_pay7 (F := Ideal) (View.ld (Val := Elt Ideal) (S := S512x3584) (e' := .bf16) (iblk m c 0 t) (Rect.unit ![256, 0] ![256, 3584] inb_S512x3584_S256x3584_256_0)) W) p q)
      = part6 m c t (ix3 0 0 q) := by
  simp only [d_low m c t hW, d_high m c t hW]
  exact bands t fun s => dRow m c t s q
theorem sum7 (t : Fin cfg0.N) {W : FVec Ideal S1024x3584 .bf16} (hW : W = V m c main_v20) (q : Fin 1024) :
    (∑ p : Fin 256, rowf (k0_pay6 (F := Ideal) (View.ld (Val := Elt Ideal) (S := S512x3584) (e' := .bf16) (iblk m c 0 t) (Rect.unit ![0, 0] ![256, 3584] inb_S512x3584_S256x3584_0_0)) W) p q
        * (nrm (rowf (View.ld (iblk m c 1 t) (Rect.unit ![0, 0] ![256, 1024] inb_S512x1024_S256x1024_0_0)) p) q * iblk m c 3 t (ix2 0 q)))
      + (∑ p : Fin 256, rowf (k0_pay7 (F := Ideal) (View.ld (Val := Elt Ideal) (S := S512x3584) (e' := .bf16) (iblk m c 0 t) (Rect.unit ![256, 0] ![256, 3584] inb_S512x3584_S256x3584_256_0)) W) p q
        * (nrm (rowf (View.ld (iblk m c 1 t) (Rect.unit ![256, 0] ![256, 1024] inb_S512x1024_S256x1024_256_0)) p) q * iblk m c 3 t (ix2 0 q)))
      = part7 m c t (ix3 0 0 q) := by
  simp only [d_low m c t hW, d_high m c t hW, x_low, x_high, b3]
  exact bands t fun s => pscale (X0 m c) (X2 m c) (X3 m c) (X4 m c) (batch t) s q
theorem sum8 (t : Fin cfg0.N) {W : FVec Ideal S1024x3584 .bf16} (hW : W = V m c main_v20) (q : Fin 1024) :
    (∑ p : Fin 256, rowf (k0_pay6 (F := Ideal) (View.ld (Val := Elt Ideal) (S := S512x3584) (e' := .bf16) (iblk m c 0 t) (Rect.unit ![0, 0] ![256, 3584] inb_S512x3584_S256x3584_0_0)) W) p q
        * k0_pay5 (F := Ideal) (View.ld (iblk m c 4 t) (Rect.unit ![0, 1, 0] ![1, 1, 1024] inb_S1x6x1024_S1x1x1024_0_1_0)) (ix2 0 q)
        * nrm (rowf (View.ld (iblk m c 1 t) (Rect.unit ![0, 0] ![256, 1024] inb_S512x1024_S256x1024_0_0)) p) q)
      + (∑ p : Fin 256, rowf (k0_pay7 (F := Ideal) (View.ld (Val := Elt Ideal) (S := S512x3584) (e' := .bf16) (iblk m c 0 t) (Rect.unit ![256, 0] ![256, 3584] inb_S512x3584_S256x3584_256_0)) W) p q
        * k0_pay5 (F := Ideal) (View.ld (iblk m c 4 t) (Rect.unit ![0, 1, 0] ![1, 1, 1024] inb_S1x6x1024_S1x1x1024_0_1_0)) (ix2 0 q)
        * nrm (rowf (View.ld (iblk m c 1 t) (Rect.unit ![256, 0] ![256, 1024] inb_S512x1024_S256x1024_256_0)) p) q)
      = part8 m c t (ix2 0 q) := by
  simp only [d_low m c t hW, d_high m c t hW, x_low, x_high, s_row]
  exact bands t fun s => pg (X0 m c) (X1 m c) (X3 m c) (X4 m c) (batch t) s q

theorem step6A (t : Fin cfg0.N) (h : t.val % 4 = 0) (i : S1x1x1024.Idx) :
    (outsAt0 m c t.val t.isLt).2.1 i = 0 + part6 m c t i := by
  obtain ⟨p, z, q, rfl⟩ : ∃ p z q, i = ix3 p z q := ⟨i 0, i 1, i 2, ValueIdx.eq_ix3 i⟩
  obtain rfl : p = 0 := Subsingleton.elim _ _
  obtain rfl : z = 0 := Subsingleton.elim _ _
  by_cases h0 : t.val % 16 = 0
  on_goal 1 => rw [outsAt0_A m c t h0 h (by omega) h (by omega) h0 (by have := lt16 t; omega)]; frame_out
  on_goal 2 => rw [outsAt0_C m c t h0 h (by omega) h (by omega) h0 (by omega)]; frame_out
  all_goals simp only [read_unread_whole, held, row9, row16, out23, sh12, zero8, add_assoc]
  · exact congrArg (0 + ·) (sum6 m c t (loaded m c) q)
  · exact congrArg (0 + ·) (sum6 m c t rfl q)
theorem step6B (t : Fin cfg0.N) (h : ¬t.val % 4 = 0) (i : S1x1x1024.Idx) :
    (outsAt0 m c t.val t.isLt).2.1 i
      = (outsAt0 m c (t.val - 1) (Nat.lt_of_le_of_lt (Nat.sub_le _ _) t.isLt)).2.1 i + part6 m c t i := by
  obtain ⟨p, z, q, rfl⟩ : ∃ p z q, i = ix3 p z q := ⟨i 0, i 1, i 2, ValueIdx.eq_ix3 i⟩
  obtain rfl : p = 0 := Subsingleton.elim _ _
  obtain rfl : z = 0 := Subsingleton.elim _ _
  rw [outsAt0_B m c t (by omega) h h h h (by omega) (by omega)]; frame_out
  simp only [read_unread_whole, held, row9, row16, out1, sh19, sh12, zero8, add_assoc, zero_add]
  exact congrArg (_ + ·) (sum6 m c t rfl q)

theorem step7A (t : Fin cfg0.N) (h : t.val % 4 = 0) (i : S1x1x1024.Idx) :
    (outsAt0 m c t.val t.isLt).2.2.1 i = 0 + part7 m c t i := by
  obtain ⟨p, z, q, rfl⟩ : ∃ p z q, i = ix3 p z q := ⟨i 0, i 1, i 2, ValueIdx.eq_ix3 i⟩
  obtain rfl : p = 0 := Subsingleton.elim _ _
  obtain rfl : z = 0 := Subsingleton.elim _ _
  by_cases h0 : t.val % 16 = 0
  on_goal 1 => rw [outsAt0_A m c t h0 h (by omega) h (by omega) h0 (by have := lt16 t; omega)]; frame_out
  on_goal 2 => rw [outsAt0_C m c t h0 h (by omega) h (by omega) h0 (by omega)]; frame_out
  all_goals simp only [read_unread_whole, held, row9, row16, out2, sc20, sc13, zero8, add_assoc]
  · exact congrArg (0 + ·) (sum7 m c t (loaded m c) q)
  · exact congrArg (0 + ·) (sum7 m c t rfl q)
theorem step7B (t : Fin cfg0.N) (h : ¬t.val % 4 = 0) (i : S1x1x1024.Idx) :
    (outsAt0 m c t.val t.isLt).2.2.1 i
      = (outsAt0 m c (t.val - 1) (Nat.lt_of_le_of_lt (Nat.sub_le _ _) t.isLt)).2.2.1 i + part7 m c t i := by
  obtain ⟨p, z, q, rfl⟩ : ∃ p z q, i = ix3 p z q := ⟨i 0, i 1, i 2, ValueIdx.eq_ix3 i⟩
  obtain rfl : p = 0 := Subsingleton.elim _ _
  obtain rfl : z = 0 := Subsingleton.elim _ _
  rw [outsAt0_B m c t (by omega) h h h h (by omega) (by omega)]; frame_out
  simp only [read_unread_whole, held, row9, row16, out3, sc20, sc13, zero8, add_assoc, zero_add]
  exact congrArg (_ + ·) (sum7 m c t rfl q)

theorem step8A (t : Fin cfg0.N) (h : t.val % 16 = 0) (i : S1x1024.Idx) :
    (outsAt0 m c t.val t.isLt).2.2.2.1 i = 0 + part8 m c t i := by
  obtain ⟨p, q, rfl⟩ : ∃ p q, i = ix2 p q := ⟨i 0, i 1, ValueIdx.eq_ix2 i⟩
  obtain rfl : p = 0 := Subsingleton.elim _ _
  rw [outsAt0_A m c t h (by omega) (by omega) (by omega) (by omega) h (by have := lt16 t; omega)]; frame_out
  simp only [read_unread_whole, held, row9, row16, g21, g14, zero8, add_assoc]
  exact congrArg (0 + ·) (sum8 m c t (loaded m c) q)
theorem step8B (t : Fin cfg0.N) (h : ¬t.val % 16 = 0) (i : S1x1024.Idx) :
    (outsAt0 m c t.val t.isLt).2.2.2.1 i
      = (outsAt0 m c (t.val - 1) (Nat.lt_of_le_of_lt (Nat.sub_le _ _) t.isLt)).2.2.2.1 i + part8 m c t i := by
  obtain ⟨p, q, rfl⟩ : ∃ p q, i = ix2 p q := ⟨i 0, i 1, ValueIdx.eq_ix2 i⟩
  obtain rfl : p = 0 := Subsingleton.elim _ _
  by_cases h0 : t.val % 4 = 0
  on_goal 1 => rw [outsAt0_C m c t h h0 (by omega) h0 (by omega) h (by omega)]; frame_out
  on_goal 2 => rw [outsAt0_B m c t h h0 h0 h0 h0 h (by omega)]; frame_out
  all_goals simp only [read_unread_whole, held, row9, row16, out4, g21, g14, zero8, add_assoc, zero_add]
  all_goals exact congrArg (_ + ·) (sum8 m c t rfl q)

/-- The four blocks of a batch hold its positions. -/
theorem sum_batch (b : Fin 4) (f : Fin 2048 → EReal) (r : Fin 4 → Fin cfg0.N) (hr : ∀ s, (r s).val = 4 * b.val + s.val) :
    (∑ s : Fin 4, ∑ p : Fin 512, f (si (rowOf (r s) p))) = ∑ k, f k := by
  refine Fin.sum_mul_add_congr fun s k hl => congrArg f (Fin.ext ?_)
  have := hr s
  show (512 * (r s).val + k.val) % 2048 = s.val * 512 + k.val
  omega

theorem emb6 (t : Fin cfg0.N) (y : ((cfg0.win 6).xblock (cfg0.grid.coords t)).Idx) :
    (win0_6.blk t).view.emb y = ix3 (batch t) 0 (y 2) := by
  funext a; apply Fin.ext; fin_cases a <;> simp [batch, View.slice, idx t, Pipeline.WinKind.off] <;> omega
theorem emb7 (t : Fin cfg0.N) (y : ((cfg0.win 7).xblock (cfg0.grid.coords t)).Idx) :
    (win0_7.blk t).view.emb y = ix3 (batch t) 0 (y 2) := by
  funext a; apply Fin.ext; fin_cases a <;> simp [batch, View.slice, idx t, Pipeline.WinKind.off] <;> omega

/-- The four blocks that end at a point where the sums are written back. -/
def run4 (t : Fin cfg0.N) (s : Fin 4) : Fin cfg0.N :=
  ⟨4 * (t.val / 4) + s.val, by have := t.isLt; have : cfg0.N = 16 := N_0; omega⟩
theorem run4_batch (t : Fin cfg0.N) (s : Fin 4) : batch (run4 t s) = batch t := by
  apply Fin.ext; show (4 * (t.val / 4) + s.val) / 4 = t.val / 4; omega

theorem run6 (t : Fin cfg0.N) (i : S1x1x1024.Idx) : (∑ s : Fin 4, part6 m c (run4 t s) i)
    = ∑ k : Fin 2048, dh (X3 m c) (X4 m c) (batch t) k (i 2) := by
  refine Eq.trans (Finset.sum_congr rfl fun s _ => ?_)
    (sum_batch (batch t) (fun k => dh (X3 m c) (X4 m c) (batch t) k (i 2)) (run4 t) fun s => rfl)
  exact congrArg (fun b => ∑ p : Fin 512, dh (X3 m c) (X4 m c) b (si (rowOf (run4 t s) p)) (i 2)) (run4_batch t s)
theorem arr6 : (dats m 0 c).arrAt 6 cfg0.N = fun z => ∑ s : Fin 2048, dh (X3 m c) (X4 m c) (z 0) s (z 2) := by
  refine (dats m 0 c).arrAt_eq_of_covers 6 _ (by decide +kernel) fun t hf y => ?_
  have hm : t.val % 4 = 4 - 1 := (flush0_6 t).mp hf
  blk_simp
  rw [after0_6, Pipeline.eq_sum_fin_of_reset_step_apply_of_flush (fun n h => (outsAt0 m c n h).2.1) 4 (fun _ => 0)
    (part6 m c) (step6A m c) (step6B m c) t hm, zero_add, emb6]
  exact run6 m c t y

theorem run7 (t : Fin cfg0.N) (i : S1x1x1024.Idx) : (∑ s : Fin 4, part7 m c (run4 t s) i)
    = ∑ k : Fin 2048, pscale (X0 m c) (X2 m c) (X3 m c) (X4 m c) (batch t) k (i 2) := by
  refine Eq.trans (Finset.sum_congr rfl fun s _ => ?_)
    (sum_batch (batch t) (fun k => pscale (X0 m c) (X2 m c) (X3 m c) (X4 m c) (batch t) k (i 2)) (run4 t) fun s => rfl)
  exact congrArg (fun b => ∑ p : Fin 512, pscale (X0 m c) (X2 m c) (X3 m c) (X4 m c) b (si (rowOf (run4 t s) p)) (i 2)) (run4_batch t s)
theorem arr7 : (dats m 0 c).arrAt 7 cfg0.N = fun z => ∑ s : Fin 2048, pscale (X0 m c) (X2 m c) (X3 m c) (X4 m c) (z 0) s (z 2) := by
  refine (dats m 0 c).arrAt_eq_of_covers 7 _ (by decide +kernel) fun t hf y => ?_
  have hm : t.val % 4 = 4 - 1 := (flush0_7 t).mp hf
  blk_simp
  rw [after0_7, Pipeline.eq_sum_fin_of_reset_step_apply_of_flush (fun n h => (outsAt0 m c n h).2.2.1) 4 (fun _ => 0)
    (part7 m c) (step7A m c) (step7B m c) t hm, zero_add, emb7]
  exact run7 m c t y

theorem arr8 : (dats m 0 c).arrAt 8 cfg0.N
    = fun z => ∑ b : Fin 4, ∑ s : Fin 2048, pg (X0 m c) (X1 m c) (X3 m c) (X4 m c) b s (z 1) := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => 0)
    (part8 m c) (step8A m c) (step8B m c) (le_of_eq N_0) t0_15 rfl, zero_add]
  refine Fin.sum_points_lanes_congr 4 fun t k ha hl => ?_
  refine congrArg₂ (fun b s => pg (X0 m c) (X1 m c) (X3 m c) (X4 m c) b s _) (Fin.ext ?_) (Fin.ext ?_)
  · show t.val / 4 = t.val / 4
    rfl
  · show (512 * t.val + k.val) % 2048 = t.val % 4 * 512 + k.val
    omega
end Cert.InIdeal.InValue
end
-- ==== Proof.InRef.lean ====
/- The derivative of the forward lines, read off at one position: the reference's arrays, one after the other,
   as the functions of InSpec and RmsNorm. -/
module
public import proofs.«01_k».proof.Proof.Gen.InRefIdeal.Read
public import proofs.«01_k».proof.Proof.InSpec
public import proofs.«01_k».proof.Proof.RowSum
public import Idealize.ShloMosaic.Lib.KernelVsHost
@[expose] public section
set_option maxRecDepth 16384
noncomputable section
open Idealize.ShloMosaic Idealize.ShloMosaic.TcCoe Idealize.SL.Sem
namespace Cert.InRefIdeal.InRead
open Cert.InRefIdeal Cert.InRefIdeal.Gen Cert.InRefIdeal.Read Cert.InSpec Cert.RmsNorm

variable (x0 : Seq 1024) (x1 : Mods) (x2 : Row) (x3 : Mat) (x4 : Seq 3488) (x5 : Seq 1024) (b : Fin 4) (s : Fin 2048)

/-- The row's mean square and norm. -/
theorem r16 : val_main_v16 (F := Ideal) x0 (ix3 b s 0) = msq (xr x0 b s) := by
  pointwise [val_main_v16, val_main_v15, val_main_v14, val_main_v13, val_main_v12, val_main_v11, val_main_v8,
    val_main_cst_0, val_main_cst_1, val_main_cst_2, msq, w1024, RealRow.eps, xr]
theorem r17 : val_main_v17 (F := Ideal) x0 (ix3 b s 0) = irms (xr x0 b s) := by
  pointwise [val_main_v17, irms]
  simp only [r16]
theorem r20 : val_main_v20 (F := Ideal) x0 (ix3 b s 0)
    = Ideal.ofBits FTy.f32 0xBF000000#32 * Ideal.div (irms (xr x0 b s)) (msq (xr x0 b s)) := by
  pointwise [val_main_v20, val_main_v19, val_main_v18, val_main_cst_3]
  simp only [r16, r17]
theorem r22 (j : Fin 1024) : val_main_v22 (F := Ideal) x0 (ix3 b s j) = nrm (xr x0 b s) j := by
  pointwise [val_main_v22, val_main_v21, nrm]
  simp only [r17]
  rfl
theorem r24 (j : Fin 1024) : val_main_v24 (F := Ideal) x2 (ix3 b s j) = x2 (ix2 0 j) := by
  pointwise [val_main_v24, val_main_v23, val_main_v7]
theorem r45 (j : Fin 1024) : val_main_v45 (F := Ideal) x2 (ix3 b s j) = x2 (ix2 0 j) := by
  pointwise [val_main_v45, val_main_v23, val_main_v7]
theorem r40 (j : Fin 1024) : val_main_v40 (F := Ideal) x1 (ix3 b s j) = scl x1 b j := by
  pointwise [val_main_v40, val_main_v27, val_main_v26, val_main_v2, val_main_v0, val_main_cst_4, scl]
theorem r34 (j : Fin 1024) : val_main_v34 (F := Ideal) x3 x4 (ix3 b s j) = dh x3 x4 b s j := by
  pointwise [val_main_v34, val_main_v32, dh]
theorem r41 (j : Fin 1024) : val_main_v41 (F := Ideal) x1 x3 x4 (ix3 b s j) = dh x3 x4 b s j * scl x1 b j := by
  pointwise [val_main_v41]
  simp only [r34, r40]
theorem r46 (j : Fin 1024) : val_main_v46 (F := Ideal) x1 x2 x3 x4 (ix3 b s j) = dn x1 x2 x3 x4 b s j := by
  pointwise [val_main_v46, dn]
  simp only [r41, r45]
theorem r57 : val_main_v57 (F := Ideal) x0 x1 x2 x3 x4 (ix2 b s) = via (xr x0 b s) (dn x1 x2 x3 x4 b s) := by
  pointwise [val_main_v57, val_main_v56, val_main_v55, val_main_v54, val_main_v50, val_main_v49, val_main_v48,
    val_main_cst_9, val_main_cst_10, val_main_cst_11, via, w1024]
  simp only [Fin.sum_univ_one, r20, r46]
  rfl
theorem r60 (j : Fin 1024) : val_main_v60 (F := Ideal) x0 x1 x2 x3 x4 x5 (ix3 b s j)
    = x5 (ix3 b s j) + gradR (xr x0 b s) (dn x1 x2 x3 x4 b s) j := by
  pointwise [val_main_v60, val_main_v59, val_main_v58, val_main_v53, val_main_v52, val_main_v51, val_main_v10,
    val_main_v9, val_main_cst, gradR]
  simp only [r57, r17, r46]
  exact add_assoc _ _ _

/-- The results. -/
theorem out36 (j : Fin 1024) : val_main_v36 (F := Ideal) x3 x4 (ix3 b 0 j) = ∑ s : Fin 2048, dh x3 x4 b s j := by
  pointwise [val_main_v36, val_main_v35, val_main_cst_5]
  simp only [r34]
theorem out39 (j : Fin 1024) : val_main_v39 (F := Ideal) x0 x2 x3 x4 (ix3 b 0 j)
    = ∑ s : Fin 2048, pscale x0 x2 x3 x4 b s j := by
  pointwise [val_main_v39, val_main_v38, val_main_v37, val_main_v25, val_main_cst_6, pscale]
  simp only [r34, r22, r24, mul_comm]
theorem out61 (j : Fin 1024) : val_main_v61 (F := Ideal) x0 x1 x3 x4 (ix2 0 j)
    = ∑ b : Fin 4, ∑ s : Fin 2048, pg x0 x1 x3 x4 b s j := by
  pointwise [val_main_v61, val_main_v47, val_main_v44, val_main_v43, val_main_v42, val_main_cst_7, val_main_cst_8, pg]
  simp only [Fin.sum_univ_one, r41, r22]
  exact Finset.sum_congr rfl fun b _ => Finset.sum_congr rfl fun s _ => mul_comm _ _
end Cert.InRefIdeal.InRead
end
-- ==== Proof.In.lean ====
/- The first norm's gradients: the call that multiplies the packed cotangent with the first weights and differentiates
   the norm computes what differentiating the forward lines gives. -/
module
public import proofs.«01_k».proof.Proof.InOut
public import proofs.«01_k».proof.Proof.InRef
public import proofs.«01_k».proof.Proof.Finite
public import proofs.«01_k».proof.Proof.Gen.InRefIdeal.Run
public import proofs.«01_k».proof.Proof.Gen.Pre_in_finite
public import proofs.«01_k».proof.Defs
@[expose] public section
set_option maxRecDepth 16384
noncomputable section
open Idealize.ShloMosaic Idealize.ShloMosaic.TcCoe Idealize.SL.Sem
namespace Cert.InSpec
open Cert.RealRow Cert.InIdeal.InValue Cert.InRefIdeal.Read Cert.InRefIdeal.InRead

/-- The precondition read off: the entries of the five arguments it names are real. -/
theorem reals [h : Cert.Pre_in_finite.Facts] (x0 : Seq 1024) (x1 : Mods) (x2 : Row) (x3 : Mat) (x4 : Seq 3488)
    (x5 : Seq 1024) (e : Cert.Pre_in_finite.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) := by
  have e0 := congrFun e ix0
  haveI : Subsingleton Cert.Pre_in_finite.S_.Idx := ⟨fun a b => funext fun k => k.elim0⟩
  obtain ⟨e0, h4⟩ := IntOp.andi_eq_one.1 e0
  obtain ⟨e0, h3⟩ := IntOp.andi_eq_one.1 e0
  obtain ⟨e0, h2⟩ := IntOp.andi_eq_one.1 e0
  obtain ⟨h0, h1⟩ := IntOp.andi_eq_one.1 e0
  exact ⟨real_of_finite x0 _ _ _ ix0 h0, real_of_finite x1 _ _ _ ix0 h1, real_of_finite x2 _ _ _ ix0 h2,
    real_of_finite x3 _ _ _ ix0 h3, real_of_finite x4 _ _ _ ix0 h4⟩

/-- The input's gradient is the derivative's where these five are real. -/
theorem dx_eq (x0 : Seq 1024) (x1 : Mods) (x2 : Row) (x3 : Mat) (x4 : Seq 3488) (x5 : Seq 1024)
    (h : (∀ i, IsReal (x0 i)) ∧ (∀ i, IsReal (x1 i)) ∧ (∀ i, IsReal (x2 i)) ∧ (∀ i, IsReal (x3 i)) ∧ (∀ i, IsReal (x4 i)))
    (r : Fin 8192) (j : Fin 1024) :
    val_main_v62 (F := Ideal) x0 x1 x2 x3 x4 x5 (ix2 r j) = dx x0 x1 x2 x3 x4 x5 (bi r) (si r) j := by
  obtain ⟨h0, h1, h2, h3, h4⟩ := h
  have e : val_main_v62 (F := Ideal) x0 x1 x2 x3 x4 x5 (ix2 r j)
      = val_main_v60 (F := Ideal) x0 x1 x2 x3 x4 x5 (ix3 (bi r) (si r) j) := by
    pointwise [val_main_v62]
    rfl
  rw [e, r60, dx, (RmsNorm.grad_eq (xr x0 (bi r) (si r)) (dn x1 x2 x3 x4 (bi r) (si r)) (fun k => h0 _) (fun k => ?_) j).1]
  exact ((IsReal.sum _ fun c => (h4 _).mul (h3 _)).mul ((isReal_coe 1).add (h1 _))).mul (h2 _)

/-- The reference leaves its arguments alone. -/
theorem frame : Cert.quiescent_InRefIdeal := fun m ρ _ =>
  (θ_run Cert.InRefIdeal.defs _ _).mono (fun r h => ⟨fun c => (h c).2.2.2.2,
      Idealize.ShloMosaic.sem_eq_zero_of_no_sems (by decide) r.2⟩)
    (Cert.InRefIdeal.Value.run (F := Ideal) m ρ)

set_option maxHeartbeats 4000000 in
/-- The call's four results are the reference's. -/
theorem algebraic : Cert.algebraic_InIdeal_InRefIdeal_pre_in_finite := by
  intro m g m' g' hpre hagree
  refine ⟨fun c => fun z => dx (X0 m c) (X1 m c) (X2 m c) (X3 m c) (X4 m c) (X5 m c) (bi (z 0)) (si (z 0)) (z 1),
    fun c => fun z => dshift (X3 m c) (X4 m c) (z 0) (z 2),
    fun c => fun z => dscale (X0 m c) (X2 m c) (X3 m c) (X4 m c) (z 0) (z 2),
    fun c => fun z => dg (X0 m c) (X1 m c) (X3 m c) (X4 m c) (z 1), ?_, ?_⟩
  · refine (θ_run _ _ _).mono (fun r h c => ?_) (θ_run_and (Cert.InIdeal.Gen.run_main m g) (Cert.InIdeal.Gen.unchanged m g))
    exact ⟨((h.1 c).1 5).trans (arr5 m c), ((h.1 c).1 6).trans (arr6 m c), ((h.1 c).1 7).trans (arr7 m c),
      ((h.1 c).1 8).trans (arr8 m c), h.2 c⟩
  · refine (θ_run _ _ _).mono (fun r h c => ?_) (Cert.InRefIdeal.Value.run (F := Ideal) m' g')
    obtain ⟨h0, h1, h2, h3, ha⟩ := h c
    obtain ⟨a0, a1, a2, a3, a4, a5⟩ := hagree c
    refine ⟨(h0.trans (val_main_v62_eq _ _ _ _ _ _)).trans ?_, (h1.trans (val_main_v36_eq _ _)).trans ?_,
      (h2.trans (val_main_v39_eq _ _ _ _)).trans ?_, (h3.trans (val_main_v61_eq _ _ _ _)).trans ?_, ha⟩
    · rw [a0, a1, a2, a3, a4, a5]
      refine funext fun z => (congrArg _ (ValueIdx.eq_ix2 z)).trans (dx_eq _ _ _ _ _ _ (reals _ _ _ _ _ _ (hpre c)) (z 0) (z 1))
    · rw [a3, a4]
      refine funext fun z => (congrArg _ ?_).trans (out36 _ _ (z 0) (z 2))
      exact (ValueIdx.eq_ix3 z).trans (congrArg (fun k => ix3 (z 0) k (z 2)) (Fin.fin_one_eq_zero (z 1)))
    · rw [a0, a2, a3, a4]
      refine funext fun z => (congrArg _ ?_).trans (out39 _ _ _ _ (z 0) (z 2))
      exact (ValueIdx.eq_ix3 z).trans (congrArg (fun k => ix3 (z 0) k (z 2)) (Fin.fin_one_eq_zero (z 1)))
    · rw [a0, a1, a3, a4]
      refine funext fun z => (congrArg _ ?_).trans (out61 _ _ _ _ (z 1))
      exact (ValueIdx.eq_ix2 z).trans (congrArg (fun k => ix2 k (z 1)) (Fin.fin_one_eq_zero (z 0)))
end Cert.InSpec
end
-- ==== Proof.FfnSpec.lean ====
/- The squared relu's layer and the second norm: the gradients, at one position, as functions of the arguments. -/
module
public import proofs.«01_k».proof.Proof.RmsNorm
public import proofs.«01_k».proof.Proof.InSpec
@[expose] public section
noncomputable section
open Idealize.ShloMosaic
namespace Cert.FfnSpec
open Cert.RmsNorm
open Cert.InSpec (Seq Mods Row)

/-- The two weights. -/
abbrev Up := FVec Ideal ⟨3, ![1, 1024, 4096]⟩ .f32
abbrev Down := FVec Ideal ⟨3, ![1, 4096, 1024]⟩ .f32

/-- One of the six modulations of a batch's row. -/
def part (md : Mods) (b : Fin 4) (n : Fin 6) (j : Fin 1024) : EReal := md (ix2 b ⟨n.val * 1024 + j.val, by omega⟩)

variable (x mx : Seq 1024) (md : Mods) (g : Row) (w1 : Up) (w2 : Down) (dy : Seq 1024) (b : Fin 4) (s : Fin 2048)

/-- The residual's row, the scaled norm's, and the upper product's. -/
def x1 (j : Fin 1024) : EReal := x (ix3 b s j) + part md b 2 j * mx (ix3 b s j)
def scl (j : Fin 1024) : EReal := 1 + part md b 4 j
def h2 (j : Fin 1024) : EReal := nrm (x1 x mx md b s) j * g (ix2 0 j) * scl md b j + part md b 3 j
def up (k : Fin 4096) : EReal := ∑ j, h2 x mx md g b s j * w1 (ix3 0 j k)
/-- The cotangents: of the lower product, of the upper one, of the scaled norm, of the normalised row. -/
def dr (k : Fin 4096) : EReal := ∑ j : Fin 1024, dy (ix3 b s j) * part md b 5 j * w2 (ix3 0 k j)
def da (k : Fin 4096) : EReal :=
  dr md w2 dy b s k * (Ideal.ofBits FTy.f32 0x40000000#32 * max (up x mx md g w1 b s k) 0)
def dh (j : Fin 1024) : EReal := ∑ k, da x mx md g w1 w2 dy b s k * w1 (ix3 0 j k)
def dn (j : Fin 1024) : EReal := dh x mx md g w1 w2 dy b s j * scl md b j * g (ix2 0 j)
/-- The gradient of the residual and of the mixed branches. -/
def dx1 (j : Fin 1024) : EReal :=
  dy (ix3 b s j) + grad (x1 x mx md b s) (dn x mx md g w1 w2 dy b s) j
def dmixed (j : Fin 1024) : EReal := dx1 x mx md g w1 w2 dy b s j * part md b 2 j
/-- One position's part of the four parameters' gradients, and those. -/
def pscale (j : Fin 1024) : EReal := dh x mx md g w1 w2 dy b s j * (nrm (x1 x mx md b s) j * g (ix2 0 j))
def pg (j : Fin 1024) : EReal := dh x mx md g w1 w2 dy b s j * scl md b j * nrm (x1 x mx md b s) j
def pgate (j : Fin 1024) : EReal := dx1 x mx md g w1 w2 dy b s j * mx (ix3 b s j)
def dshift (j : Fin 1024) : EReal := ∑ s : Fin 2048, dh x mx md g w1 w2 dy b s j
def dscale (j : Fin 1024) : EReal := ∑ s : Fin 2048, pscale x mx md g w1 w2 dy b s j
def dgate (j : Fin 1024) : EReal := ∑ s : Fin 2048, pgate x mx md g w1 w2 dy b s j
def dg (j : Fin 1024) : EReal := ∑ b : Fin 4, ∑ s : Fin 2048, pg x mx md g w1 w2 dy b s j

end Cert.FfnSpec
end
-- ==== Proof.LossSpec.lean ====
/- The squared relu's layer, the loss and the loss's gradient, at one position, as functions of the arguments. -/
module
public import proofs.«01_k».proof.Proof.FfnSpec
@[expose] public section
noncomputable section
open Idealize.ShloMosaic
namespace Cert.LossSpec
open Cert.RmsNorm Cert.FfnSpec
open Cert.InSpec (Seq Mods Row)

variable (x t : Seq 1024) (md : Mods) (g : Row) (w1 : Up) (w2 : Down) (b : Fin 4) (s : Fin 2048)

/-- The scaled norm's row, the upper product, the squared relu, and the lower product. -/
def hid (j : Fin 1024) : EReal := nrm (fun j => x (ix3 b s j)) j * g (ix2 0 j) * scl md b j + part md b 3 j
def pre (k : Fin 4096) : EReal := ∑ j, hid x md g b s j * w1 (ix3 0 j k)
def act (k : Fin 4096) : EReal := max (pre x md g w1 b s k) 0 * max (pre x md g w1 b s k) 0
def low (j : Fin 1024) : EReal := ∑ k, act x md g w1 b s k * w2 (ix3 0 k j)
/-- The error, its gradient, and the gradient of the lower product. -/
def err (j : Fin 1024) : EReal := x (ix3 b s j) + part md b 5 j * low x md g w1 w2 b s j - t (ix3 b s j)
def dy (j : Fin 1024) : EReal := err x t md g w1 w2 b s j * Ideal.ofBits FTy.f32 0x3A800000#32
def df (j : Fin 1024) : EReal := dy x t md g w1 w2 b s j * part md b 5 j
/-- The gate's gradient, and the loss. -/
def dgate (j : Fin 1024) : EReal := ∑ s : Fin 2048, dy x t md g w1 w2 b s j * low x md g w1 w2 b s j
def row : EReal := Ideal.div (∑ j, err x t md g w1 w2 b s j * err x t md g w1 w2 b s j) w1024
def loss : EReal := Ideal.ofBits FTy.f32 0x3F000000#32 * ∑ b : Fin 4, ∑ s : Fin 2048, row x t md g w1 w2 b s

/-- The three constants: a half, two, and the width's reciprocal. -/
theorem half_eq : Ideal.ofBits FTy.f32 0x3F000000#32 = (((1 : ℝ) / 2 : ℝ) : EReal) := by
  simp [Ideal.ofBits, Ideal.ieee, -EReal.coe_mul]; norm_num
theorem rec_eq : Ideal.ofBits FTy.f32 0x3A800000#32 = (((1 : ℝ) / 1024 : ℝ) : EReal) := by
  simp [Ideal.ofBits, Ideal.ieee, -EReal.coe_mul]; norm_num
/-- The factor the derivative puts before the error is the kernel's. -/
theorem scale_eq (e : EReal) : Ideal.div (Ideal.ofBits FTy.f32 0x3F000000#32 * 1) w1024 * (Ideal.ofBits FTy.f32 0x40000000#32 * e)
    = e * Ideal.ofBits FTy.f32 0x3A800000#32 := by
  rw [mul_one, half_eq, div1024, RealRow.two_eq, rec_eq, ← mul_assoc, ← EReal.coe_mul, mul_comm]
  congr 2; norm_num

theorem row_nonneg : 0 ≤ row x t md g w1 w2 b s := by
  have h : ∀ e : EReal, 0 ≤ e * e := fun e => by
    rcases le_total 0 e with h | h
    · exact mul_nonneg h h
    · exact EReal.mul_nonneg_iff.mpr (.inr ⟨h, h⟩)
  rw [row, w1024_eq, Ideal.div_coe (by norm_num)]
  exact mul_nonneg (Finset.sum_nonneg fun _ _ => h _) (by exact_mod_cast (by norm_num : (0 : ℝ) ≤ 1 / 1024))
/-- A factor goes into a sum of nonnegative terms. -/
theorem mul_sum {ι : Type} (S : Finset ι) (c : EReal) (f : ι → EReal) (h : ∀ i, 0 ≤ f i) :
    c * ∑ i ∈ S, f i = ∑ i ∈ S, c * f i := by
  classical
  induction S using Finset.induction_on with
  | empty => simp
  | insert i S hi ih =>
    rw [Finset.sum_insert hi, Finset.sum_insert hi, EReal.left_distrib_of_nonneg (h i) (Finset.sum_nonneg fun _ _ => h _), ih]

end Cert.LossSpec
end
-- ==== Proof.LossKernel.lean ====
/- What the kernel's operands and its blocks hold, and the copies of the two weights it keeps between blocks. -/
module
public import proofs.«01_k».proof.Proof.Gen.LossIdeal.Value
public import proofs.«01_k».proof.Proof.LossSpec
public import Idealize.ShloMosaic.Lib.Pipeline.ValueKit
public import Idealize.ShloMosaic.Lib.Pipeline.ReadBack
public import Idealize.ShloMosaic.Lib.Claim
public import Idealize.ShloMosaic.Lib.StableHlo.RunRead
public import Idealize.ShloMosaic.Lib.KernelVsHost
public import Idealize.ShloMosaic.Lib.ValueLayout
@[expose] public section
set_option maxRecDepth 16384
noncomputable section
open Idealize.ShloMosaic Idealize.ShloMosaic.TcCoe Idealize.SL.Sem
open Idealize.ShloMosaic.Pipeline (Dat)

namespace Cert.LossIdeal.LossValue
open Cert.LossIdeal Cert.LossIdeal.Gen Cert.LossSpec Cert.RmsNorm
open Cert.InSpec (Seq Mods Row)
open Cert.FfnSpec (Up Down part scl)

variable (m : (ℓ : Loc nD τ sig) → Buf (Elt Ideal) ℓ) (c : Dev nD)

/-- The arguments. -/
abbrev X0 : Seq 1024 := m (c, Proc.tc.devRef main_arg0)
abbrev X1 : Seq 1024 := m (c, Proc.tc.devRef main_arg1)
abbrev X2 : Mods := m (c, Proc.tc.devRef main_arg2)
abbrev X3 : Row := m (c, Proc.tc.devRef main_arg3)
abbrev X4 : Up := m (c, Proc.tc.devRef main_arg4)
abbrev X5 : Down := m (c, Proc.tc.devRef main_arg5)

/-- The batch and the position of a row of the flattened arrays. -/
def bi (r : Fin 8192) : Fin 4 := ⟨r.val / 2048, by omega⟩
def si (r : Fin 8192) : Fin 2048 := ⟨r.val % 2048, by omega⟩
/-- The row of the arrays that row `p` of block `t` is, and the batch the block belongs to. -/
def rowOf (t : Fin cfg0.N) (p : Fin 256) : Fin 8192 :=
  ⟨256 * t.val + p.val, by have := t.isLt; have : cfg0.N = 32 := N_0; omega⟩
def batch (t : Fin cfg0.N) : Fin 4 := ⟨t.val / 8, by have := t.isLt; have : cfg0.N = 32 := N_0; omega⟩
theorem bi_rowOf (t : Fin cfg0.N) (p : Fin 256) : bi (rowOf t p) = batch t := by
  apply Fin.ext; show (256 * t.val + p.val) / 2048 = t.val / 8; omega

/-- The blocks the windows take. -/
theorem idx : ∀ t : Fin cfg0.N, win0_0.index t = ![t.val, 0] ∧ win0_1.index t = ![t.val, 0] ∧ win0_2.index t = ![0, 0]
    ∧ win0_3.index t = ![t.val / 8, 0, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val / 8, 0, 0] ∧ win0_10.index t = ![0, 0] :=
  (by decide +kernel : ∀ t : Fin grid0.N, _)

theorem lt32 (t : Fin cfg0.N) : t.val < 32 := by have := t.isLt; have : cfg0.N = 32 := N_0; omega

set_option maxHeartbeats 4000000 in
/-- The operands when the call starts: the host's lines, read at an index. -/
theorem operands (r : Fin 8192) (j : Fin 1024) (b : Fin 4) (k : Fin 6) (u : Fin 4096) :
    V m c main_v4 (ix2 r j) = X0 m c (ix3 (bi r) (si r) j)
    ∧ V m c main_v5 (ix2 r j) = X1 m c (ix3 (bi r) (si r) j)
    ∧ V m c main_v6 (ix3 b k j) = part (X2 m c) b k j
    ∧ V m c main_v8 (ix2 u j) = X5 m c (ix3 0 u j) := by
  refine ⟨?_, ?_, ?_, ?_⟩ <;>
  (simp only [V, hostOps0, List.flatten_cons, List.flatten_nil,
      List.append_nil, List.cons_append, List.nil_append, StableHlo.TRef.binary, StableHlo.TRef.unary,
      StableHlo.TRef.nullary, StableHlo.TRef.toBuf, StableHlo.TRef.ofBuf, cast_eq]
   after_results_simp
   pointwise
   try simp only [part, bi, si]
   try with_reducible rfl)

set_option maxHeartbeats 4000000 in
theorem operand_w1 (s : Fin 4) (j k : Fin 1024) :
    V m c main_v3 (ix3 s j k) = X4 m c (ix3 0 j ⟨s.val * 1024 + k.val, by omega⟩) := by
  simp only [V, hostOps0, List.flatten_cons, List.flatten_nil,
      List.append_nil, List.cons_append, List.nil_append, StableHlo.TRef.binary, StableHlo.TRef.unary,
      StableHlo.TRef.nullary, StableHlo.TRef.toBuf, StableHlo.TRef.ofBuf, cast_eq]
  after_results_simp
  pointwise
  try with_reducible rfl

/-- The operands' blocks, read at an index. -/
theorem b0 (t : Fin cfg0.N) (p : Fin 256) (j : Fin 1024) :
    iblk m c 0 t (ix2 p j) = X0 m c (ix3 (batch t) (si (rowOf t p)) j) := by
  rw [← bi_rowOf t p, ← (operands m c (rowOf t p) j 0 0 0).1]; unfold rowOf; blk_point [iblk, V, idx t]
theorem b1 (t : Fin cfg0.N) (p : Fin 256) (j : Fin 1024) :
    iblk m c 1 t (ix2 p j) = X1 m c (ix3 (batch t) (si (rowOf t p)) j) := by
  rw [← bi_rowOf t p, ← (operands m c (rowOf t p) j 0 0 0).2.1]; unfold rowOf; blk_point [iblk, V, idx t]
theorem b2 (t : Fin cfg0.N) (k : Fin 1024) : iblk m c 2 t (ix2 0 k) = X3 m c (ix2 0 k) := by
  blk_point [iblk, V, idx t]
theorem b3 (t : Fin cfg0.N) (k : Fin 6) (j : Fin 1024) :
    iblk m c 3 t (ix3 0 k j) = part (X2 m c) (batch t) k j := by
  rw [← (operands m c 0 j (batch t) k 0).2.2.1]; unfold batch; blk_point [iblk, V, idx t]

/-- The kernel's three kinds of block: the first, the later ones of a batch, the first of a later batch. -/
theorem kinds (t : Fin cfg0.N) : t.val = 0 ∨ (¬t.val % 32 = 0 ∧ ¬t.val % 8 = 0 ∧ 1 ≤ t.val)
    ∨ (¬t.val % 32 = 0 ∧ t.val % 8 = 0 ∧ 1 ≤ t.val) := by have := lt32 t; omega

/-- The first weights as the kernel keeps them: the four shards side by side. -/
def W1 : FVec Ideal S1024x4096 .bf16 := fun z => X4 m c (ix3 0 (z 0) (z 1))

/-- The copy that fills the columns from `1024 s` of the kernel's buffer of the first weights, and the four copies. -/
abbrev shard (s : ℕ) (h : ∀ i : Fin 3, (![s, 0, 0] : Fin 3 → ℕ) i + (![1, 1024, 1024] : Fin 3 → ℕ) i ≤ S4x1024x1024.size i) :
    FVec Ideal S1024x1024 .bf16 :=
  ReadAs.same.apply (View.read (Elt Ideal)
    (((View.whole main_v3).slice (Rect.unit ![s, 0, 0] ![1, 1024, 1024] h)).reshape S1024x1024
      squeezes_S1x1024x1024_S1024x1024.numel_eq) (V m c main_v3))
abbrev shards : List (View.Piece (Elt Ideal) S1024x4096 .bf16) :=
  [⟨Rect.unit ![0, 3072] ![1024, 1024] inb_S1024x4096_S1024x1024_0_3072, shard m c 3 inb_S4x1024x1024_S1x1024x1024_3_0_0⟩,
    ⟨Rect.unit ![0, 2048] ![1024, 1024] inb_S1024x4096_S1024x1024_0_2048, shard m c 2 inb_S4x1024x1024_S1x1024x1024_2_0_0⟩,
    ⟨Rect.unit ![0, 1024] ![1024, 1024] inb_S1024x4096_S1024x1024_0_1024, shard m c 1 inb_S4x1024x1024_S1x1024x1024_1_0_0⟩,
    ⟨Rect.unit ![0, 0] ![1024, 1024] inb_S1024x4096_S1024x1024_0_0, shard m c 0 inb_S4x1024x1024_S1x1024x1024_0_0_0⟩]
theorem shard_at (s : ℕ) (hs : s < 4) (h) (a b : Fin 1024) : shard m c s h (ix2 a b) = V m c main_v3 (ix3 ⟨s, hs⟩ a b) := by
  show V m c main_v3 _ = _
  refine congrArg (V m c main_v3) ?_
  refine (congrArg (Rect.unit (s := S4x1024x1024) ![s, 0, 0] ![1, 1024, 1024] h).emb
    (ValueIdx.reshapeEquiv_ix2_1ab (a := 1024) (b := 1024) squeezes_S1x1024x1024_S1024x1024.numel_eq a b)).trans ?_
  funext i
  fin_cases i <;> apply Fin.ext <;> simp [Rect.unit, Rect.emb]
theorem copied1 : View.canon (shards m c) = W1 m c := by
  unfold shards
  funext y
  obtain ⟨p, q, rfl⟩ : ∃ p q, y = ix2 p q := ⟨y 0, y 1, ValueIdx.eq_ix2 y⟩
  canon_tiles x h
  all_goals obtain ⟨a, b, rfl⟩ : ∃ a b, x = ix2 a b := ⟨x 0, x 1, ValueIdx.eq_ix2 x⟩
  all_goals simp only [ix2_0, ix2_1] at h0 h1
  on_goal 1 => refine (shard_at m c 3 (by decide) _ a b).trans ?_
  on_goal 2 => refine (shard_at m c 2 (by decide) _ a b).trans ?_
  on_goal 3 => refine (shard_at m c 1 (by decide) _ a b).trans ?_
  on_goal 4 => refine (shard_at m c 0 (by decide) _ a b).trans ?_
  all_goals
    rw [operand_w1]
    refine congrArg (X4 m c) (congrArg₂ (ix3 0) (Fin.ext h0.symm) (Fin.ext ?_))
    show _ = q.val
    simp
    omega
theorem loaded1 : (View.whole cc0_scratch0).readCov (shards m c)
      (Rect.unit ![0, 0] ![1024, 4096] inb_S1024x4096_S1024x4096_0_0).toLoadRect = W1 m c := by
  funext y
  rw [View.readCov_eq_canon', copied1]
  refine congrArg (W1 m c) ?_
  funext a
  refine Fin.cases (Fin.ext ?_) (fun a => Fin.cases (Fin.ext ?_) (fun a => a.elim0) a) a
  · show 0 + 1 * (y 0).val = (y 0).val
    omega
  · show 0 + 1 * (y 1).val = (y 1).val
    omega
theorem copied2 : View.canon [⟨Rect.whole S4096x1024,
    ReadAs.same.apply (View.read (Elt Ideal) (View.whole main_v8) (V m c main_v8))⟩] = V m c main_v8 := by
  funext y
  canon_tiles x h
  have e : x = y := by
    funext a
    exact Fin.cases (Fin.ext h0.symm) (fun a => Fin.cases (Fin.ext h1.symm) (fun a => a.elim0) a) a
  exact congrArg (V m c main_v8) e
theorem loaded2 : (View.whole cc0_scratch1).readCov [⟨Rect.whole S4096x1024,
    ReadAs.same.apply (View.read (Elt Ideal) (View.whole main_v8) (V m c main_v8))⟩]
      (Rect.unit ![0, 0] ![4096, 1024] inb_S4096x1024_S4096x1024_0_0).toLoadRect = V m c main_v8 := by
  funext y
  rw [View.readCov_eq_canon', copied2]
  refine congrArg (V m c main_v8) ?_
  funext a
  refine Fin.cases (Fin.ext ?_) (fun a => Fin.cases (Fin.ext ?_) (fun a => a.elim0) a) a
  · show 0 + 1 * (y 0).val = (y 0).val
    omega
  · show 0 + 1 * (y 1).val = (y 1).val
    omega

/-- The copies of the weights, made at the first block and kept. -/
theorem held (n : ℕ) (hn : n < cfg0.N) : (outsAt0 m c n hn).2.2.2.2.2.2.2.1 = W1 m c
    ∧ (outsAt0 m c n hn).2.2.2.2.2.2.2.2 = V m c main_v8 := by
  induction n with
  | zero =>
    rw [outsAt0_A m c ⟨0, hn⟩ rfl rfl (by simp) rfl (by simp)]
    frame_out
    exact ⟨copied1 m c, copied2 m c⟩
  | succ n ih =>
    have ih := ih (by omega)
    rcases kinds ⟨n + 1, hn⟩ with h | ⟨h, h', h''⟩ | ⟨h, h', h''⟩
    · simp at h
    · rw [outsAt0_B m c ⟨n + 1, hn⟩ h h h'' h' h']
      frame_out
      exact ih
    · rw [outsAt0_C m c ⟨n + 1, hn⟩ h h h'' h' (by simpa using h')]
      frame_out
      exact ih

end Cert.LossIdeal.LossValue
end
-- ==== Proof.LossRow.lean ====
/- What the body of the kernel computes from a block: each stored value at one position. -/
module
public import proofs.«01_k».proof.Proof.Gen.LossIdeal.Value
public import proofs.«01_k».proof.Proof.LossSpec
public import Idealize.ShloMosaic.Lib.Pipeline.ValueKit
@[expose] public section
set_option maxRecDepth 16384
noncomputable section
open Idealize.ShloMosaic Idealize.ShloMosaic.TcCoe Idealize.SL.Sem

namespace Cert.LossIdeal.LossValue
open Cert.LossIdeal Cert.LossIdeal.Gen Cert.LossSpec Cert.RmsNorm Cert.RealRow

/-- A row of the block. -/
def rowf (x : FVec Ideal S256x1024 .f32) (p : Fin 256) (k : Fin 1024) : EReal := x (ix2 p k)

variable (x v e : FVec Ideal S256x1024 .f32) (h : FVec Ideal S256x1024 .bf16) (g z : FVec Ideal S1x1024 .f32)
  (W : FVec Ideal S1024x4096 .bf16) (U : FVec Ideal S4096x1024 .bf16) (p : Fin 256) (q : Fin 1024) (k : Fin 4096)

theorem row6 (x : Vec Ideal S256x1024 .f32) : k0_pay6 (F := Ideal) x = x := by
  funext i; obtain ⟨p, q, rfl⟩ : ∃ p q, i = ix2 p q := ⟨i 0, i 1, ValueIdx.eq_ix2 i⟩
  pointwise [k0_pay6]
theorem hid8 (a b : Vec Ideal S1x1x1024 .f32) : k0_pay8 (F := Ideal) x g a b (ix2 p q)
    = nrm (rowf x p) q * g (ix2 0 q) * (1 + a (ix3 0 0 q)) + b (ix3 0 0 q) := by
  pointwise [k0_pay8, nrm, irms, msq, rowf, w1024, eps, row6]
theorem pre9 : k0_pay9 (F := Ideal) h W (ix2 p k) = ∑ j : Fin 1024, h (ix2 p j) * W (ix2 j k) := by
  pointwise [k0_pay9]
theorem act10 : k0_pay10 (F := Ideal) h W (ix2 p k)
    = max (∑ j : Fin 1024, h (ix2 p j) * W (ix2 j k)) 0 * max (∑ j : Fin 1024, h (ix2 p j) * W (ix2 j k)) 0 := by
  pointwise [k0_pay10]; simp only [pre9]
theorem low11 : k0_pay11 (F := Ideal) h W U (ix2 p q) = ∑ k : Fin 4096, k0_pay10 (F := Ideal) h W (ix2 p k) * U (ix2 k q) := by
  pointwise [k0_pay11]
theorem err12 : k0_pay12 (F := Ideal) v z h W U e (ix2 p q)
    = v (ix2 p q) + z (ix2 0 q) * k0_pay11 (F := Ideal) h W U (ix2 p q) - e (ix2 p q) := by
  pointwise [k0_pay12]
theorem loss13 (i : S8x128.Idx) : k0_pay13 (F := Ideal) v z h W U e i
    = Ideal.ofBits FTy.f32 0x3F000000#32 * ∑ p : Fin 256, Ideal.div (∑ j : Fin 1024,
      k0_pay12 (F := Ideal) v z h W U e (ix2 p j) * k0_pay12 (F := Ideal) v z h W U e (ix2 p j)) w1024 := by
  obtain ⟨a, b, rfl⟩ : ∃ a b, i = ix2 a b := ⟨i 0, i 1, ValueIdx.eq_ix2 i⟩
  pointwise [k0_pay13, w1024]
theorem loss14 (i : S8x128.Idx) (u : Vec Ideal S8x128 .f32) : k0_pay14 (F := Ideal) v z h W U e u i
    = u i + k0_pay13 (F := Ideal) v z h W U e i := by
  obtain ⟨a, b, rfl⟩ : ∃ a b, i = ix2 a b := ⟨i 0, i 1, ValueIdx.eq_ix2 i⟩
  pointwise [k0_pay14]
theorem rec15 : k0_pay15 (F := Ideal) (ix2 p q) = Ideal.ofBits FTy.f32 0x3A800000#32 := by pointwise [k0_pay15]
theorem dy1 : k0_pay1 (F := Ideal) e v (ix2 p q) = e (ix2 p q) * v (ix2 p q) := by pointwise [k0_pay1]
theorem df2 : k0_pay2 (F := Ideal) z e v (ix2 p q) = e (ix2 p q) * v (ix2 p q) * z (ix2 0 q) := by
  pointwise [k0_pay2]; simp only [dy1]
theorem dg4 : k0_pay4 (F := Ideal) x e v (ix3 0 0 q) = ∑ p : Fin 256, e (ix2 p q) * v (ix2 p q) * x (ix2 p q) := by
  pointwise [k0_pay4, k0_pay3]; simp only [dy1]
theorem dg5 (u : Vec Ideal S1x1x1024 .f32) : k0_pay5 (F := Ideal) x e v u (ix3 0 0 q)
    = u (ix3 0 0 q) + ∑ p : Fin 256, e (ix2 p q) * v (ix2 p q) * x (ix2 p q) := by
  pointwise [k0_pay5, k0_pay3]; simp only [dy1]
theorem gate7 (a : Vec Ideal S1x1x1024 .f32) : k0_pay7 (F := Ideal) a (ix2 0 q) = a (ix3 0 0 q) := by
  pointwise [k0_pay7]

end Cert.LossIdeal.LossValue
end
-- ==== Proof.LossOut.lean ====
/- The arrays the call's results are left as: the functions of the arguments in LossSpec, one theorem for each. -/
module
public import proofs.«01_k».proof.Proof.LossKernel
public import proofs.«01_k».proof.Proof.LossRow
@[expose] public section
set_option maxRecDepth 16384
noncomputable section
open Idealize.ShloMosaic Idealize.ShloMosaic.TcCoe Idealize.SL.Sem
open Idealize.ShloMosaic.Pipeline (Dat)
namespace Cert.LossIdeal.LossValue
open Cert.LossIdeal Cert.LossIdeal.Gen Cert.LossSpec Cert.RmsNorm
open Cert.FfnSpec (part scl)
variable (m : (ℓ : Loc nD τ sig) → Buf (Elt Ideal) ℓ) (c : Dev nD) (t : Fin cfg0.N)

/-- The block's position in the batch's sequence. -/
abbrev ps (p : Fin 256) : Fin 2048 := si (rowOf t p)
/-- The block's scaled norm, and one of its modulations. -/
abbrev hb : FVec Ideal S256x1024 .bf16 := k0_pay8 (F := Ideal) (iblk m c 0 t) (iblk m c 2 t)
  (View.ld (iblk m c 3 t) (Rect.unit ![0, 4, 0] ![1, 1, 1024] inb_S1x6x1024_S1x1x1024_0_4_0))
  (View.ld (iblk m c 3 t) (Rect.unit ![0, 3, 0] ![1, 1, 1024] inb_S1x6x1024_S1x1x1024_0_3_0))
abbrev gb : FVec Ideal S1x1024 .f32 := k0_pay7 (F := Ideal)
  (View.ld (iblk m c 3 t) (Rect.unit ![0, 5, 0] ![1, 1, 1024] inb_S1x6x1024_S1x1x1024_0_5_0))
variable {W : FVec Ideal S1024x4096 .bf16} {U : FVec Ideal S4096x1024 .bf16} (hW : W = W1 m c) (hU : U = V m c main_v8)
  (p : Fin 256) (q : Fin 1024) (k : Fin 4096)

theorem x_row : rowf (iblk m c 0 t) p = fun j => X0 m c (ix3 (batch t) (ps t p) j) := by
  funext j; exact b0 m c t p j
theorem hid_at : hb m c t (ix2 p q) = hid (X0 m c) (X2 m c) (X3 m c) (batch t) (ps t p) q := by
  unfold hb hid scl
  rw [hid8, x_row, b2, ← b3, ← b3]
  pointwise
theorem gate_at : gb m c t (ix2 0 q) = part (X2 m c) (batch t) 5 q := by
  unfold gb; rw [gate7, ← b3]; pointwise
include hW in
theorem pre_at : (∑ j : Fin 1024, hb m c t (ix2 p j) * W (ix2 j k)) = pre (X0 m c) (X2 m c) (X3 m c) (X4 m c) (batch t) (ps t p) k := by
  subst hW; simp only [hid_at]; rfl
include hW in
theorem act_at : k0_pay10 (F := Ideal) (hb m c t) W (ix2 p k) = act (X0 m c) (X2 m c) (X3 m c) (X4 m c) (batch t) (ps t p) k := by
  rw [act10, pre_at m c t hW]; rfl
include hW hU in
theorem low_at : k0_pay11 (F := Ideal) (hb m c t) W U (ix2 p q) = low (X0 m c) (X2 m c) (X3 m c) (X4 m c) (X5 m c) (batch t) (ps t p) q := by
  subst hU; rw [low11]; unfold low
  refine Finset.sum_congr rfl fun k _ => congrArg₂ (· * ·) (act_at m c t hW p k) ?_
  exact (operands m c 0 q 0 0 k).2.2.2
include hW hU in
theorem err_at : k0_pay12 (F := Ideal) (k0_pay6 (F := Ideal) (iblk m c 0 t)) (gb m c t) (hb m c t) W U (iblk m c 1 t) (ix2 p q)
    = err (X0 m c) (X1 m c) (X2 m c) (X3 m c) (X4 m c) (X5 m c) (batch t) (ps t p) q := by
  rw [err12, row6, low_at m c t hW hU, gate_at, b0, b1]; rfl

include hW hU in
theorem dy_at : k0_pay1 (F := Ideal) (k0_pay12 (F := Ideal) (k0_pay6 (F := Ideal) (iblk m c 0 t)) (gb m c t) (hb m c t) W U (iblk m c 1 t)) k0_pay15 (ix2 p q)
    = dy (X0 m c) (X1 m c) (X2 m c) (X3 m c) (X4 m c) (X5 m c) (batch t) (ps t p) q := by
  rw [dy1, err_at m c t hW hU, rec15]; rfl
include hW hU in
theorem df_at : k0_pay2 (F := Ideal) (gb m c t) (k0_pay12 (F := Ideal) (k0_pay6 (F := Ideal) (iblk m c 0 t)) (gb m c t) (hb m c t) W U (iblk m c 1 t)) k0_pay15 (ix2 p q)
    = df (X0 m c) (X1 m c) (X2 m c) (X3 m c) (X4 m c) (X5 m c) (batch t) (ps t p) q := by
  rw [df2, err_at m c t hW hU, rec15, gate_at]; rfl

/-- One block's part of the gate's gradient and of the loss. -/
def part9 (t : Fin cfg0.N) (i : S1x1x1024.Idx) : EReal :=
  ∑ p : Fin 256, dy (X0 m c) (X1 m c) (X2 m c) (X3 m c) (X4 m c) (X5 m c) (batch t) (ps t p) (i 2)
    * low (X0 m c) (X2 m c) (X3 m c) (X4 m c) (X5 m c) (batch t) (ps t p) (i 2)
def part10 (t : Fin cfg0.N) (i : S8x128.Idx) : EReal :=
  Ideal.ofBits FTy.f32 0x3F000000#32 * ∑ p : Fin 256, row (X0 m c) (X1 m c) (X2 m c) (X3 m c) (X4 m c) (X5 m c) (batch t) (ps t p)
include hW hU in
theorem part9_at : (∑ p : Fin 256, k0_pay12 (F := Ideal) (k0_pay6 (F := Ideal) (iblk m c 0 t)) (gb m c t) (hb m c t) W U (iblk m c 1 t) (ix2 p q)
      * k0_pay15 (F := Ideal) (ix2 p q) * k0_pay11 (F := Ideal) (hb m c t) W U (ix2 p q)) = part9 m c t (ix3 0 0 q) := by
  simp only [err_at m c t hW hU, low_at m c t hW hU, rec15]; rfl
include hW hU in
theorem part10_at (i : S8x128.Idx) : k0_pay13 (F := Ideal) (k0_pay6 (F := Ideal) (iblk m c 0 t)) (gb m c t) (hb m c t) W U (iblk m c 1 t) i
    = part10 m c t i := by
  rw [loss13]; simp only [err_at m c t hW hU]; rfl

/-- Where a block of rows lies in its array. -/
theorem emb4 (p : Fin 256) (q : Fin 1024) : (win0_4.blk t).view.emb (ix2 p q) = ix2 (rowOf t p) q := by
  funext a; apply Fin.ext; fin_cases a <;> simp [rowOf, View.slice, idx t, Pipeline.WinKind.off] <;> omega
theorem emb5 (p : Fin 256) (q : Fin 4096) : (win0_5.blk t).view.emb (ix2 p q) = ix2 (rowOf t p) q := by
  funext a; apply Fin.ext; fin_cases a <;> simp [rowOf, View.slice, idx t, Pipeline.WinKind.off] <;> omega
theorem emb6 (p : Fin 256) (q : Fin 4096) : (win0_6.blk t).view.emb (ix2 p q) = ix2 (rowOf t p) q := by
  funext a; apply Fin.ext; fin_cases a <;> simp [rowOf, View.slice, idx t, Pipeline.WinKind.off] <;> omega
theorem emb7 (p : Fin 256) (q : Fin 1024) : (win0_7.blk t).view.emb (ix2 p q) = ix2 (rowOf t p) q := by
  funext a; apply Fin.ext; fin_cases a <;> simp [rowOf, View.slice, idx t, Pipeline.WinKind.off] <;> omega
theorem emb8 (p : Fin 256) (q : Fin 1024) : (win0_8.blk t).view.emb (ix2 p q) = ix2 (rowOf t p) q := by
  funext a; apply Fin.ext; fin_cases a <;> simp [rowOf, View.slice, idx t, Pipeline.WinKind.off] <;> omega
theorem emb9 (y : ((cfg0.win 9).xblock (cfg0.grid.coords t)).Idx) : (win0_9.blk t).view.emb y = ix3 (batch t) 0 (y 2) := by
  funext a; apply Fin.ext; fin_cases a <;> simp [batch, View.slice, idx t, Pipeline.WinKind.off] <;> omega

set_option maxHeartbeats 1000000 in
theorem arr4 : (dats m 0 c).arrAt 4 cfg0.N
    = fun z => hid (X0 m c) (X2 m c) (X3 m c) (bi (z 0)) (si (z 0)) (z 1) := by
  refine (dats m 0 c).arrAt_eq_of_covers 4 _ (by decide +kernel) fun t hf y => ?_
  blk_simp
  obtain ⟨p, q, rfl⟩ : ∃ (p : Fin 256) (q : Fin 1024), y = ix2 p q := ⟨y 0, y 1, ValueIdx.eq_ix2 y⟩
  rw [after0_4, emb4]
  show _ = hid (X0 m c) (X2 m c) (X3 m c) (bi (rowOf t p)) (si (rowOf t p)) q
  rw [bi_rowOf]
  rcases kinds t with h | ⟨h, h', h''⟩ | ⟨h, h', h''⟩
  on_goal 1 => rw [outsAt0_A m c t (by omega) (by omega) (by omega) (by omega) (by omega)]; frame_out
  on_goal 2 => rw [outsAt0_B m c t h h h'' h' h']; frame_out
  on_goal 3 => rw [outsAt0_C m c t h h h'' h' (by omega)]; frame_out
  all_goals exact hid_at m c t p q
set_option maxHeartbeats 1000000 in
theorem arr5 : (dats m 0 c).arrAt 5 cfg0.N
    = fun z => pre (X0 m c) (X2 m c) (X3 m c) (X4 m c) (bi (z 0)) (si (z 0)) (z 1) := by
  refine (dats m 0 c).arrAt_eq_of_covers 5 _ (by decide +kernel) fun t hf y => ?_
  blk_simp
  obtain ⟨p, q, rfl⟩ : ∃ (p : Fin 256) (q : Fin 4096), y = ix2 p q := ⟨y 0, y 1, ValueIdx.eq_ix2 y⟩
  rw [after0_5, emb5]
  show _ = pre (X0 m c) (X2 m c) (X3 m c) (X4 m c) (bi (rowOf t p)) (si (rowOf t p)) q
  rw [bi_rowOf]
  rcases kinds t with h | ⟨h, h', h''⟩ | ⟨h, h', h''⟩
  on_goal 1 => rw [outsAt0_A m c t (by omega) (by omega) (by omega) (by omega) (by omega)]; frame_out
  on_goal 2 => rw [outsAt0_B m c t h h h'' h' h']; frame_out
  on_goal 3 => rw [outsAt0_C m c t h h h'' h' (by omega)]; frame_out
  on_goal 1 => exact (pre9 _ _ p q).trans (pre_at m c t (loaded1 m c) p q)
  all_goals simp only [read_unread_whole, held]
  all_goals exact (pre9 _ _ p q).trans (pre_at m c t rfl p q)
set_option maxHeartbeats 1000000 in
theorem arr6 : (dats m 0 c).arrAt 6 cfg0.N
    = fun z => act (X0 m c) (X2 m c) (X3 m c) (X4 m c) (bi (z 0)) (si (z 0)) (z 1) := by
  refine (dats m 0 c).arrAt_eq_of_covers 6 _ (by decide +kernel) fun t hf y => ?_
  blk_simp
  obtain ⟨p, q, rfl⟩ : ∃ (p : Fin 256) (q : Fin 4096), y = ix2 p q := ⟨y 0, y 1, ValueIdx.eq_ix2 y⟩
  rw [after0_6, emb6]
  show _ = act (X0 m c) (X2 m c) (X3 m c) (X4 m c) (bi (rowOf t p)) (si (rowOf t p)) q
  rw [bi_rowOf]
  rcases kinds t with h | ⟨h, h', h''⟩ | ⟨h, h', h''⟩
  on_goal 1 => rw [outsAt0_A m c t (by omega) (by omega) (by omega) (by omega) (by omega)]; frame_out
  on_goal 2 => rw [outsAt0_B m c t h h h'' h' h']; frame_out
  on_goal 3 => rw [outsAt0_C m c t h h h'' h' (by omega)]; frame_out
  on_goal 1 => exact act_at m c t (loaded1 m c) p q
  all_goals simp only [read_unread_whole, held]
  all_goals exact act_at m c t rfl p q
set_option maxHeartbeats 1000000 in
theorem arr7 : (dats m 0 c).arrAt 7 cfg0.N
    = fun z => dy (X0 m c) (X1 m c) (X2 m c) (X3 m c) (X4 m c) (X5 m c) (bi (z 0)) (si (z 0)) (z 1) := by
  refine (dats m 0 c).arrAt_eq_of_covers 7 _ (by decide +kernel) fun t hf y => ?_
  blk_simp
  obtain ⟨p, q, rfl⟩ : ∃ (p : Fin 256) (q : Fin 1024), y = ix2 p q := ⟨y 0, y 1, ValueIdx.eq_ix2 y⟩
  rw [after0_7, emb7]
  show _ = dy (X0 m c) (X1 m c) (X2 m c) (X3 m c) (X4 m c) (X5 m c) (bi (rowOf t p)) (si (rowOf t p)) q
  rw [bi_rowOf]
  rcases kinds t with h | ⟨h, h', h''⟩ | ⟨h, h', h''⟩
  on_goal 1 => rw [outsAt0_A m c t (by omega) (by omega) (by omega) (by omega) (by omega)]; frame_out
  on_goal 2 => rw [outsAt0_B m c t h h h'' h' h']; frame_out
  on_goal 3 => rw [outsAt0_C m c t h h h'' h' (by omega)]; frame_out
  on_goal 1 => exact dy_at m c t (loaded1 m c) (loaded2 m c) p q
  all_goals simp only [read_unread_whole, held]
  all_goals exact dy_at m c t rfl rfl p q
set_option maxHeartbeats 1000000 in
theorem arr8 : (dats m 0 c).arrAt 8 cfg0.N
    = fun z => df (X0 m c) (X1 m c) (X2 m c) (X3 m c) (X4 m c) (X5 m c) (bi (z 0)) (si (z 0)) (z 1) := by
  refine (dats m 0 c).arrAt_eq_of_covers 8 _ (by decide +kernel) fun t hf y => ?_
  blk_simp
  obtain ⟨p, q, rfl⟩ : ∃ (p : Fin 256) (q : Fin 1024), y = ix2 p q := ⟨y 0, y 1, ValueIdx.eq_ix2 y⟩
  rw [after0_8, emb8]
  show _ = df (X0 m c) (X1 m c) (X2 m c) (X3 m c) (X4 m c) (X5 m c) (bi (rowOf t p)) (si (rowOf t p)) q
  rw [bi_rowOf]
  rcases kinds t with h | ⟨h, h', h''⟩ | ⟨h, h', h''⟩
  on_goal 1 => rw [outsAt0_A m c t (by omega) (by omega) (by omega) (by omega) (by omega)]; frame_out
  on_goal 2 => rw [outsAt0_B m c t h h h'' h' h']; frame_out
  on_goal 3 => rw [outsAt0_C m c t h h h'' h' (by omega)]; frame_out
  on_goal 1 => exact df_at m c t (loaded1 m c) (loaded2 m c) p q
  all_goals simp only [read_unread_whole, held]
  all_goals exact df_at m c t rfl rfl p q

theorem step9A (t : Fin cfg0.N) (h : t.val % 8 = 0) (i : S1x1x1024.Idx) :
    (outsAt0 m c t.val t.isLt).2.2.2.2.2.1 i = 0 + part9 m c t i := by
  obtain ⟨p, z, q, rfl⟩ : ∃ p z q, i = ix3 p z q := ⟨i 0, i 1, i 2, ValueIdx.eq_ix3 i⟩
  obtain rfl : p = 0 := Subsingleton.elim _ _
  obtain rfl : z = 0 := Subsingleton.elim _ _
  rw [zero_add]
  by_cases h0 : t.val % 32 = 0
  on_goal 1 => rw [outsAt0_A m c t h0 h0 (by have := lt32 t; omega) h (by omega)]; frame_out
  on_goal 2 => rw [outsAt0_C m c t h0 h0 (by omega) h (by omega)]; frame_out
  · exact (dg4 _ _ _ q).trans (part9_at m c t (loaded1 m c) (loaded2 m c) q)
  · simp only [read_unread_whole, held]
    exact (dg4 _ _ _ q).trans (part9_at m c t rfl rfl q)
theorem step9B (t : Fin cfg0.N) (h : ¬t.val % 8 = 0) (i : S1x1x1024.Idx) :
    (outsAt0 m c t.val t.isLt).2.2.2.2.2.1 i
      = (outsAt0 m c (t.val - 1) (Nat.lt_of_le_of_lt (Nat.sub_le _ _) t.isLt)).2.2.2.2.2.1 i + part9 m c t i := by
  obtain ⟨p, z, q, rfl⟩ : ∃ p z q, i = ix3 p z q := ⟨i 0, i 1, i 2, ValueIdx.eq_ix3 i⟩
  obtain rfl : p = 0 := Subsingleton.elim _ _
  obtain rfl : z = 0 := Subsingleton.elim _ _
  rw [outsAt0_B m c t (by omega) (by omega) (by omega) h h]; frame_out
  simp only [read_unread_whole, held]
  exact (dg5 _ _ _ q _).trans (congrArg (_ + ·) (part9_at m c t rfl rfl q))

theorem step10A (t : Fin cfg0.N) (h : t.val % 32 = 0) (i : S8x128.Idx) :
    (outsAt0 m c t.val t.isLt).2.2.2.2.2.2.1 i = 0 + part10 m c t i := by
  rw [zero_add, outsAt0_A m c t h h (by have := lt32 t; omega) (by omega) (by omega)]; frame_out
  exact part10_at m c t (loaded1 m c) (loaded2 m c) i
theorem step10B (t : Fin cfg0.N) (h : ¬t.val % 32 = 0) (i : S8x128.Idx) :
    (outsAt0 m c t.val t.isLt).2.2.2.2.2.2.1 i
      = (outsAt0 m c (t.val - 1) (Nat.lt_of_le_of_lt (Nat.sub_le _ _) t.isLt)).2.2.2.2.2.2.1 i + part10 m c t i := by
  by_cases h0 : t.val % 8 = 0
  on_goal 1 => rw [outsAt0_C m c t h h (by omega) h0 (by omega)]; frame_out
  on_goal 2 => rw [outsAt0_B m c t h h (by omega) h0 h0]; frame_out
  all_goals simp only [read_unread_whole, held]
  all_goals exact (loss14 _ _ _ _ _ _ i _).trans (congrArg (_ + ·) (part10_at m c t rfl rfl i))

/-- The eight blocks of a batch hold its positions. -/
theorem sum_batch (b : Fin 4) (f : Fin 2048 → EReal) (r : Fin 8 → Fin cfg0.N) (hr : ∀ s, (r s).val = 8 * b.val + s.val) :
    (∑ s : Fin 8, ∑ p : Fin 256, f (ps (r s) p)) = ∑ k, f k := by
  refine Fin.sum_mul_add_congr fun s k hl => congrArg f (Fin.ext ?_)
  have := hr s
  show (256 * (r s).val + k.val) % 2048 = s.val * 256 + k.val
  omega
/-- The eight blocks that end at a point where the gate's sums are written back. -/
def run8 (t : Fin cfg0.N) (s : Fin 8) : Fin cfg0.N :=
  ⟨8 * (t.val / 8) + s.val, by have := t.isLt; have : cfg0.N = 32 := N_0; omega⟩
theorem run8_batch (t : Fin cfg0.N) (s : Fin 8) : batch (run8 t s) = batch t := by
  apply Fin.ext; show (8 * (t.val / 8) + s.val) / 8 = t.val / 8; omega
theorem run9 (t : Fin cfg0.N) (i : S1x1x1024.Idx) : (∑ s : Fin 8, part9 m c (run8 t s) i)
    = dgate (X0 m c) (X1 m c) (X2 m c) (X3 m c) (X4 m c) (X5 m c) (batch t) (i 2) := by
  refine Eq.trans (Finset.sum_congr rfl fun s _ => ?_)
    (sum_batch (batch t) (fun k => dy (X0 m c) (X1 m c) (X2 m c) (X3 m c) (X4 m c) (X5 m c) (batch t) k (i 2) * low (X0 m c) (X2 m c) (X3 m c) (X4 m c) (X5 m c) (batch t) k (i 2)) (run8 t) fun s => rfl)
  exact congrArg (fun b => ∑ p : Fin 256, dy (X0 m c) (X1 m c) (X2 m c) (X3 m c) (X4 m c) (X5 m c) b (ps (run8 t s) p) (i 2)
    * low (X0 m c) (X2 m c) (X3 m c) (X4 m c) (X5 m c) b (ps (run8 t s) p) (i 2)) (run8_batch t s)
theorem arr9 : (dats m 0 c).arrAt 9 cfg0.N = fun z => dgate (X0 m c) (X1 m c) (X2 m c) (X3 m c) (X4 m c) (X5 m c) (z 0) (z 2) := by
  refine (dats m 0 c).arrAt_eq_of_covers 9 _ (by decide +kernel) fun t hf y => ?_
  have hm : t.val % 8 = 8 - 1 := (flush0_9 t).mp hf
  blk_simp
  rw [after0_9, Pipeline.eq_sum_fin_of_reset_step_apply_of_flush (fun n h => (outsAt0 m c n h).2.2.2.2.2.1) 8 (fun _ => 0)
    (part9 m c) (step9A m c) (step9B m c) t hm, zero_add, emb9]
  exact run9 m c t y

/-- The last block. -/
def last : Fin cfg0.N := ⟨31, by rw [show cfg0.N = 32 from N_0]; decide⟩
theorem arr10 : (dats m 0 c).arrAt 10 cfg0.N = fun _ => loss (X0 m c) (X1 m c) (X2 m c) (X3 m c) (X4 m c) (X5 m c) := by
  refine (dats m 0 c).arrAt_eq_of_after_last 10 last (by decide +kernel) _ fun j => ?_
  blk_simp
  rw [after0_10, Pipeline.eq_sum_fin_of_reset_step_apply_last (fun n h => (outsAt0 m c n h).2.2.2.2.2.2.1) 32 (fun _ => 0)
    (part10 m c) (step10A m c) (step10B m c) (le_of_eq N_0) last rfl, zero_add]
  unfold part10 loss
  rw [← mul_sum _ _ _ fun t => Finset.sum_nonneg fun p _ => row_nonneg _ _ _ _ _ _ _ _]
  refine congrArg (_ * ·) (Fin.sum_points_lanes_congr 8 fun t k ha hl => ?_)
  refine congrArg₂ (fun b s => row (X0 m c) (X1 m c) (X2 m c) (X3 m c) (X4 m c) (X5 m c) b s) (Fin.ext ?_) (Fin.ext ?_)
  · show t.val / 8 = t.val / 8
    rfl
  · show (256 * t.val + k.val) % 2048 = t.val % 8 * 256 + k.val
    omega
end Cert.LossIdeal.LossValue
end
-- ==== Proof.LossRef.lean ====
/- The forward lines and the derivative of the loss, read off at one position, as the functions of LossSpec. -/
module
public import proofs.«01_k».proof.Proof.Gen.LossRefIdeal.Read
public import proofs.«01_k».proof.Proof.LossSpec
public import proofs.«01_k».proof.Proof.RowSum
public import Idealize.ShloMosaic.Lib.KernelVsHost
@[expose] public section
set_option maxRecDepth 16384
noncomputable section
open Idealize.ShloMosaic Idealize.ShloMosaic.TcCoe Idealize.SL.Sem
namespace Cert.LossRefIdeal.LossRead
open Cert.LossRefIdeal Cert.LossRefIdeal.Gen Cert.LossRefIdeal.Read Cert.LossSpec Cert.RmsNorm
open Cert.InSpec (Seq Mods Row)
open Cert.FfnSpec (Up Down part scl)

variable (x0 x1 : Seq 1024) (x2 : Mods) (x3 : Row) (x4 : Up) (x5 : Down) (b : Fin 4) (s : Fin 2048)

/-- The modulations, spread over the sequence. -/
theorem p23 (j : Fin 1024) : val_main_v23 (F := Ideal) x2 (ix3 b s j) = scl x2 b j := by
  pointwise [val_main_v23, val_main_v22, val_main_v21, val_main_cst_2, val_main_v5, val_main_v0, part, scl]
theorem p25 (j : Fin 1024) : val_main_v25 (F := Ideal) x2 (ix3 b s j) = part x2 b 3 j := by
  pointwise [val_main_v25, val_main_v4, val_main_v0, part]
theorem p33 (j : Fin 1024) : val_main_v33 (F := Ideal) x2 (ix3 b s j) = part x2 b 5 j := by
  pointwise [val_main_v33, val_main_v6, val_main_v0, part]
theorem p51 (j : Fin 1024) : val_main_v51 (F := Ideal) x2 (ix3 b s j) = part x2 b 5 j := by
  pointwise [val_main_v51, val_main_v6, val_main_v0, part]
theorem p19 (j : Fin 1024) : val_main_v19 (F := Ideal) x3 (ix3 b s j) = x3 (ix2 0 j) := by
  pointwise [val_main_v19, val_main_v18, val_main_v7]

/-- The layer. -/
theorem r15 : val_main_v15 (F := Ideal) x0 (ix3 b s 0) = irms (fun j => x0 (ix3 b s j)) := by
  pointwise [val_main_v15, val_main_v14, val_main_v13, val_main_v12, val_main_v11, val_main_v10, val_main_v9, val_main_v8,
    val_main_cst, val_main_cst_0, val_main_cst_1, irms, msq, w1024, RealRow.eps]
theorem r26 (j : Fin 1024) : val_main_v26 (F := Ideal) x0 x2 x3 (ix3 b s j) = hid x0 x2 x3 b s j := by
  pointwise [val_main_v26, val_main_v24, val_main_v20, val_main_v17, val_main_v16, hid, nrm]
  simp only [r15, p19, p23, p25]
theorem r28 (k : Fin 4096) : val_main_v28 (F := Ideal) x0 x2 x3 x4 (ix3 b s k) = pre x0 x2 x3 x4 b s k := by
  pointwise [val_main_v28, val_main_v27, pre]
  simp only [r26]
theorem r30 (k : Fin 4096) : val_main_v30 (F := Ideal) x0 x2 x3 x4 (ix3 b s k) = act x0 x2 x3 x4 b s k := by
  pointwise [val_main_v30, val_main_v29, val_main_call0_v0, val_main_call0_cst, act]
  simp only [r28]
theorem r32 (j : Fin 1024) : val_main_v32 (F := Ideal) x0 x2 x3 x4 x5 (ix3 b s j) = low x0 x2 x3 x4 x5 b s j := by
  pointwise [val_main_v32, val_main_v31, low]
  simp only [r30]
theorem r36 (j : Fin 1024) : val_main_v36 (F := Ideal) x0 x1 x2 x3 x4 x5 (ix3 b s j) = err x0 x1 x2 x3 x4 x5 b s j := by
  pointwise [val_main_v36, val_main_v35, val_main_v34, err]
  simp only [r32, p33]

/-- The loss's gradient. -/
theorem r50 (j : Fin 1024) : val_main_v50 (F := Ideal) x0 x1 x2 x3 x4 x5 (ix3 b s j) = dy x0 x1 x2 x3 x4 x5 b s j := by
  rw [dy, ← scale_eq]
  pointwise [val_main_v50, val_main_v49, val_main_v48, val_main_v47, val_main_v46, val_main_v45, val_main_v39, val_main_v38,
    val_main_cst_3, val_main_cst_8, val_main_cst_9, val_main_cst_10, w1024]
  simp only [r36]
theorem r52 (j : Fin 1024) : val_main_v52 (F := Ideal) x0 x1 x2 x3 x4 x5 (ix3 b s j) = df x0 x1 x2 x3 x4 x5 b s j := by
  pointwise [val_main_v52, df]
  simp only [r50, p51, mul_comm]

/-- The results. -/
theorem out57 (r : Fin 8192) (j : Fin 1024) : val_main_v57 (F := Ideal) x0 x2 x3 (ix2 r j)
    = hid x0 x2 x3 ⟨r.val / 2048, by omega⟩ ⟨r.val % 2048, by omega⟩ j := by
  rw [← r26]; pointwise [val_main_v57, val_main_v56]
theorem out58 (r : Fin 8192) (k : Fin 4096) : val_main_v58 (F := Ideal) x0 x2 x3 x4 (ix2 r k)
    = pre x0 x2 x3 x4 ⟨r.val / 2048, by omega⟩ ⟨r.val % 2048, by omega⟩ k := by
  rw [← r28]; pointwise [val_main_v58]
theorem out60 (r : Fin 8192) (k : Fin 4096) : val_main_v60 (F := Ideal) x0 x2 x3 x4 (ix2 r k)
    = act x0 x2 x3 x4 ⟨r.val / 2048, by omega⟩ ⟨r.val % 2048, by omega⟩ k := by
  rw [← r30]; pointwise [val_main_v60, val_main_v59]
theorem out61 (r : Fin 8192) (j : Fin 1024) : val_main_v61 (F := Ideal) x0 x1 x2 x3 x4 x5 (ix2 r j)
    = dy x0 x1 x2 x3 x4 x5 ⟨r.val / 2048, by omega⟩ ⟨r.val % 2048, by omega⟩ j := by
  rw [← r50]; pointwise [val_main_v61]
theorem out63 (r : Fin 8192) (j : Fin 1024) : val_main_v63 (F := Ideal) x0 x1 x2 x3 x4 x5 (ix2 r j)
    = df x0 x1 x2 x3 x4 x5 ⟨r.val / 2048, by omega⟩ ⟨r.val % 2048, by omega⟩ j := by
  rw [← r52]; pointwise [val_main_v63, val_main_v62]
theorem out55 (j : Fin 1024) : val_main_v55 (F := Ideal) x0 x1 x2 x3 x4 x5 (ix3 b 0 j) = dgate x0 x1 x2 x3 x4 x5 b j := by
  pointwise [val_main_v55, val_main_v54, val_main_v53, val_main_cst_11, dgate]
  simp only [r50, r32]
theorem r42 : val_main_v42 (F := Ideal) x0 x1 x2 x3 x4 x5 (ix2 b s) = row x0 x1 x2 x3 x4 x5 b s := by
  pointwise [val_main_v42, val_main_v41, val_main_v40, val_main_v37, val_main_cst_4, val_main_cst_5, row, w1024]
  simp only [r36]
theorem out64 (p : Fin 8) (q : Fin 128) : val_main_v64 (F := Ideal) x0 x1 x2 x3 x4 x5 (ix2 p q) = loss x0 x1 x2 x3 x4 x5 := by
  pointwise [val_main_v64, val_main_v44, val_main_v43, val_main_cst_6, val_main_cst_7, loss]
  simp only [r42]
end Cert.LossRefIdeal.LossRead
end
-- ==== Proof.Loss.lean ====
/- The squared relu's layer and the loss: the call that ends the forward pass and begins the backward one computes what
   the forward lines and their derivative give. -/
module
public import proofs.«01_k».proof.Proof.LossOut
public import proofs.«01_k».proof.Proof.LossRef
public import proofs.«01_k».proof.Proof.Gen.LossRefIdeal.Run
public import proofs.«01_k».proof.Defs
@[expose] public section
set_option maxRecDepth 16384
noncomputable section
open Idealize.ShloMosaic Idealize.ShloMosaic.TcCoe Idealize.SL.Sem
namespace Cert.LossSpec
open Cert.LossIdeal.LossValue Cert.LossRefIdeal.Read Cert.LossRefIdeal.LossRead

/-- The reference leaves its arguments alone. -/
theorem frame : Cert.quiescent_LossRefIdeal := fun m ρ _ =>
  (θ_run Cert.LossRefIdeal.defs _ _).mono (fun r h => ⟨fun c => (h c).2.2.2.2.2.2.2,
      Idealize.ShloMosaic.sem_eq_zero_of_no_sems (by decide) r.2⟩)
    (Cert.LossRefIdeal.Value.run (F := Ideal) m ρ)

set_option maxHeartbeats 4000000 in
/-- The call's seven results are the reference's. -/
theorem algebraic : Cert.algebraic_LossIdeal_LossRefIdeal := by
  intro m g m' g' _ hagree
  refine ⟨fun c => fun z => hid (X0 m c) (X2 m c) (X3 m c) (bi (z 0)) (si (z 0)) (z 1),
    fun c => fun z => pre (X0 m c) (X2 m c) (X3 m c) (X4 m c) (bi (z 0)) (si (z 0)) (z 1),
    fun c => fun z => act (X0 m c) (X2 m c) (X3 m c) (X4 m c) (bi (z 0)) (si (z 0)) (z 1),
    fun c => fun z => dy (X0 m c) (X1 m c) (X2 m c) (X3 m c) (X4 m c) (X5 m c) (bi (z 0)) (si (z 0)) (z 1),
    fun c => fun z => df (X0 m c) (X1 m c) (X2 m c) (X3 m c) (X4 m c) (X5 m c) (bi (z 0)) (si (z 0)) (z 1),
    fun c => fun z => dgate (X0 m c) (X1 m c) (X2 m c) (X3 m c) (X4 m c) (X5 m c) (z 0) (z 2), fun c => fun _ => loss (X0 m c) (X1 m c) (X2 m c) (X3 m c) (X4 m c) (X5 m c), ?_, ?_⟩
  · refine (θ_run _ _ _).mono (fun r h c => ?_) (θ_run_and (Cert.LossIdeal.Gen.run_main m g) (Cert.LossIdeal.Gen.unchanged m g))
    exact ⟨((h.1 c).1 4).trans (arr4 m c), ((h.1 c).1 5).trans (arr5 m c), ((h.1 c).1 6).trans (arr6 m c),
      ((h.1 c).1 7).trans (arr7 m c), ((h.1 c).1 8).trans (arr8 m c), ((h.1 c).1 9).trans (arr9 m c),
      ((h.1 c).1 10).trans (arr10 m c), h.2 c⟩
  · refine (θ_run _ _ _).mono (fun r h c => ?_) (Cert.LossRefIdeal.Value.run (F := Ideal) m' g')
    obtain ⟨h0, h1, h2, h3, h4, h5, h6, ha⟩ := h c
    obtain ⟨a0, a1, a2, a3, a4, a5⟩ := hagree c
    refine ⟨(h0.trans (val_main_v57_eq _ _ _)).trans ?_, (h1.trans (val_main_v58_eq _ _ _ _)).trans ?_,
      (h2.trans (val_main_v60_eq _ _ _ _)).trans ?_, (h3.trans (val_main_v61_eq m' c)).trans ?_,
      (h4.trans (val_main_v63_eq m' c)).trans ?_, (h5.trans (val_main_v55_eq m' c)).trans ?_,
      (h6.trans (val_main_v64_eq m' c)).trans ?_, ha⟩
    · rw [a0, a2, a3]
      exact funext fun z => (congrArg _ (ValueIdx.eq_ix2 z)).trans (out57 _ _ _ (z 0) (z 1))
    · rw [a0, a2, a3, a4]
      exact funext fun z => (congrArg _ (ValueIdx.eq_ix2 z)).trans (out58 _ _ _ _ (z 0) (z 1))
    · rw [a0, a2, a3, a4]
      exact funext fun z => (congrArg _ (ValueIdx.eq_ix2 z)).trans (out60 _ _ _ _ (z 0) (z 1))
    · rw [a0, a1, a2, a3, a4, a5]
      exact funext fun z => (congrArg _ (ValueIdx.eq_ix2 z)).trans (out61 _ _ _ _ _ _ (z 0) (z 1))
    · rw [a0, a1, a2, a3, a4, a5]
      exact funext fun z => (congrArg _ (ValueIdx.eq_ix2 z)).trans (out63 _ _ _ _ _ _ (z 0) (z 1))
    · rw [a0, a1, a2, a3, a4, a5]
      refine funext fun z => (congrArg _ ?_).trans (out55 _ _ _ _ _ _ (z 0) (z 2))
      exact (ValueIdx.eq_ix3 z).trans (congrArg (fun k => ix3 (z 0) k (z 2)) (Fin.fin_one_eq_zero (z 1)))
    · rw [a0, a1, a2, a3, a4, a5]
      exact funext fun z => (congrArg _ (ValueIdx.eq_ix2 z)).trans (out64 _ _ _ _ _ _ (z 0) (z 1))
end Cert.LossSpec
end
-- ==== Proof.FfnKernel.lean ====
/- What the kernel's operands and its blocks hold, and the copies of the two weights it keeps between blocks. -/
module
public import proofs.«01_k».proof.Proof.Gen.FfnIdeal.Value
public import proofs.«01_k».proof.Proof.FfnSpec
public import Idealize.ShloMosaic.Lib.Pipeline.ValueKit
public import Idealize.ShloMosaic.Lib.Pipeline.ReadBack
public import Idealize.ShloMosaic.Lib.Claim
public import Idealize.ShloMosaic.Lib.StableHlo.RunRead
public import Idealize.ShloMosaic.Lib.KernelVsHost
public import Idealize.ShloMosaic.Lib.ValueLayout
@[expose] public section
set_option maxRecDepth 16384
noncomputable section
open Idealize.ShloMosaic Idealize.ShloMosaic.TcCoe Idealize.SL.Sem
open Idealize.ShloMosaic.Pipeline (Dat)

namespace Cert.FfnIdeal.FfnValue
open Cert.FfnIdeal Cert.FfnIdeal.Gen Cert.FfnSpec Cert.RmsNorm
open Cert.InSpec (Seq Mods Row)

variable (m : (ℓ : Loc nD τ sig) → Buf (Elt Ideal) ℓ) (c : Dev nD)

/-- The arguments. -/
abbrev X0 : Seq 1024 := m (c, Proc.tc.devRef main_arg0)
abbrev X1 : Seq 1024 := m (c, Proc.tc.devRef main_arg1)
abbrev X2 : Mods := m (c, Proc.tc.devRef main_arg2)
abbrev X3 : Row := m (c, Proc.tc.devRef main_arg3)
abbrev X4 : Up := m (c, Proc.tc.devRef main_arg4)
abbrev X5 : Down := m (c, Proc.tc.devRef main_arg5)
abbrev X6 : Seq 1024 := m (c, Proc.tc.devRef main_arg6)

/-- The batch and the position of a row of the flattened arrays. -/
def bi (r : Fin 8192) : Fin 4 := ⟨r.val / 2048, by omega⟩
def si (r : Fin 8192) : Fin 2048 := ⟨r.val % 2048, by omega⟩
/-- The row of the arrays that row `p` of block `t` is, and the batch the block belongs to. -/
def rowOf (t : Fin cfg0.N) (p : Fin 256) : Fin 8192 :=
  ⟨256 * t.val + p.val, by have := t.isLt; have : cfg0.N = 32 := N_0; omega⟩
def batch (t : Fin cfg0.N) : Fin 4 := ⟨t.val / 8, by have := t.isLt; have : cfg0.N = 32 := N_0; omega⟩
theorem bi_rowOf (t : Fin cfg0.N) (p : Fin 256) : bi (rowOf t p) = batch t := by
  apply Fin.ext; show (256 * t.val + p.val) / 2048 = t.val / 8; omega

/-- The blocks the windows take. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0]
    ∧ win0_6.index t = ![t.val / 8, 0, 0] ∧ win0_7.index t = ![t.val, 0] ∧ win0_8.index t = ![t.val, 0]
    ∧ win0_9.index t = ![t.val, 0] ∧ win0_10.index t = ![t.val / 8, 0, 0] ∧ win0_11.index t = ![t.val / 8, 0, 0]
    ∧ win0_12.index t = ![t.val / 8, 0, 0] ∧ win0_13.index t = ![0, 0] :=
  (by decide +kernel : ∀ t : Fin grid0.N, _)

theorem lt32 (t : Fin cfg0.N) : t.val < 32 := by have := t.isLt; have : cfg0.N = 32 := N_0; omega

set_option maxHeartbeats 4000000 in
/-- The operands when the call starts: the host's lines, read at an index. -/
theorem operands (r : Fin 8192) (j : Fin 1024) (b : Fin 4) (k : Fin 6) :
    V m c main_v43 (ix2 r j) = FfnSpec.x1 (X0 m c) (X1 m c) (X2 m c) (bi r) (si r) j
    ∧ V m c main_v44 (ix2 r j) = X6 m c (ix3 (bi r) (si r) j)
    ∧ V m c main_v45 (ix2 r j) = X1 m c (ix3 (bi r) (si r) j)
    ∧ V m c main_v46 (ix3 b k j) = part (X2 m c) b k j
    ∧ V m c main_v41 (ix2 r j) = X6 m c (ix3 (bi r) (si r) j) * part (X2 m c) (bi r) 5 j := by
  refine ⟨?_, ?_, ?_, ?_, ?_⟩ <;>
  (simp only [V, hostOps0, List.flatten_cons, List.flatten_nil,
      List.append_nil, List.cons_append, List.nil_append, StableHlo.TRef.binary, StableHlo.TRef.unary,
      StableHlo.TRef.nullary, StableHlo.TRef.toBuf, StableHlo.TRef.ofBuf, cast_eq]
   after_results_simp
   pointwise
   try simp only [FfnSpec.x1, part, bi, si]
   try rfl)

set_option maxHeartbeats 4000000 in
theorem operand_a (r : Fin 8192) (k : Fin 4096) :
    V m c main_v42 (ix2 r k) = up (X0 m c) (X1 m c) (X2 m c) (X3 m c) (X4 m c) (bi r) (si r) k := by
  simp only [V, hostOps0, List.flatten_cons, List.flatten_nil,
      List.append_nil, List.cons_append, List.nil_append, StableHlo.TRef.binary, StableHlo.TRef.unary,
      StableHlo.TRef.nullary, StableHlo.TRef.toBuf, StableHlo.TRef.ofBuf, cast_eq]
  after_results_simp
  pointwise [up, h2, nrm, irms, msq, FfnSpec.x1, part, scl, w1024, RealRow.eps]
  try simp only [bi, si]
  try with_reducible rfl

set_option maxHeartbeats 4000000 in
theorem operand_w2 (k : Fin 4096) (j : Fin 1024) : V m c main_v5 (ix2 k j) = X5 m c (ix3 0 k j) := by
  simp only [V, hostOps0, List.flatten_cons, List.flatten_nil,
      List.append_nil, List.cons_append, List.nil_append, StableHlo.TRef.binary, StableHlo.TRef.unary,
      StableHlo.TRef.nullary, StableHlo.TRef.toBuf, StableHlo.TRef.ofBuf, cast_eq]
  after_results_simp
  pointwise
  try with_reducible rfl

set_option maxHeartbeats 4000000 in
theorem operand_w1 (s : Fin 4) (j k : Fin 1024) :
    V m c main_v3 (ix3 s j k) = X4 m c (ix3 0 j ⟨s.val * 1024 + k.val, by omega⟩) := by
  simp only [V, hostOps0, List.flatten_cons, List.flatten_nil,
      List.append_nil, List.cons_append, List.nil_append, StableHlo.TRef.binary, StableHlo.TRef.unary,
      StableHlo.TRef.nullary, StableHlo.TRef.toBuf, StableHlo.TRef.ofBuf, cast_eq]
  after_results_simp
  pointwise
  try with_reducible rfl

/-- The operands' blocks, read at an index. -/
theorem b0 (t : Fin cfg0.N) (p : Fin 256) (j : Fin 1024) :
    iblk m c 0 t (ix2 p j) = X6 m c (ix3 (batch t) (si (rowOf t p)) j) * part (X2 m c) (batch t) 5 j := by
  rw [← bi_rowOf t p, ← (operands m c (rowOf t p) j 0 0).2.2.2.2]; unfold rowOf; blk_point [iblk, V, idx t]
theorem b1 (t : Fin cfg0.N) (p : Fin 256) (k : Fin 4096) :
    iblk m c 1 t (ix2 p k) = up (X0 m c) (X1 m c) (X2 m c) (X3 m c) (X4 m c) (batch t) (si (rowOf t p)) k := by
  rw [← bi_rowOf t p, ← operand_a m c (rowOf t p) k]; unfold rowOf; blk_point [iblk, V, idx t]
theorem b2 (t : Fin cfg0.N) (p : Fin 256) (k : Fin 1024) :
    iblk m c 2 t (ix2 p k) = FfnSpec.x1 (X0 m c) (X1 m c) (X2 m c) (batch t) (si (rowOf t p)) k := by
  rw [← bi_rowOf t p, ← (operands m c (rowOf t p) k 0 0).1]; unfold rowOf; blk_point [iblk, V, idx t]
theorem b3 (t : Fin cfg0.N) (p : Fin 256) (k : Fin 1024) :
    iblk m c 3 t (ix2 p k) = X6 m c (ix3 (batch t) (si (rowOf t p)) k) := by
  rw [← bi_rowOf t p, ← (operands m c (rowOf t p) k 0 0).2.1]; unfold rowOf; blk_point [iblk, V, idx t]
theorem b4 (t : Fin cfg0.N) (p : Fin 256) (k : Fin 1024) :
    iblk m c 4 t (ix2 p k) = X1 m c (ix3 (batch t) (si (rowOf t p)) k) := by
  rw [← bi_rowOf t p, ← (operands m c (rowOf t p) k 0 0).2.2.1]; unfold rowOf; blk_point [iblk, V, idx t]
theorem b5 (t : Fin cfg0.N) (k : Fin 1024) : iblk m c 5 t (ix2 0 k) = X3 m c (ix2 0 k) := by
  blk_point [iblk, V, idx t]
theorem b6 (t : Fin cfg0.N) (k : Fin 6) (j : Fin 1024) :
    iblk m c 6 t (ix3 0 k j) = part (X2 m c) (batch t) k j := by
  rw [← (operands m c 0 j (batch t) k).2.2.2.1]; unfold batch; blk_point [iblk, V, idx t]

/-- The kernel's three kinds of block: the first, the later ones of a batch, the first of a later batch. -/
theorem kinds (t : Fin cfg0.N) : t.val = 0 ∨ (¬t.val % 32 = 0 ∧ ¬t.val % 8 = 0 ∧ 1 ≤ t.val)
    ∨ (¬t.val % 32 = 0 ∧ t.val % 8 = 0 ∧ 1 ≤ t.val) := by have := lt32 t; omega

/-- The first weights as the kernel keeps them: the four shards side by side. -/
def W1 : FVec Ideal S1024x4096 .bf16 := fun z => X4 m c (ix3 0 (z 0) (z 1))

/-- The copy that fills the columns from `1024 s` of the kernel's buffer of the first weights, and the four copies. -/
abbrev shard (s : ℕ) (h : ∀ i : Fin 3, (![s, 0, 0] : Fin 3 → ℕ) i + (![1, 1024, 1024] : Fin 3 → ℕ) i ≤ S4x1024x1024.size i) :
    FVec Ideal S1024x1024 .bf16 :=
  ReadAs.same.apply (View.read (Elt Ideal)
    (((View.whole main_v3).slice (Rect.unit ![s, 0, 0] ![1, 1024, 1024] h)).reshape S1024x1024
      squeezes_S1x1024x1024_S1024x1024.numel_eq) (V m c main_v3))
abbrev shards : List (View.Piece (Elt Ideal) S1024x4096 .bf16) :=
  [⟨Rect.unit ![0, 3072] ![1024, 1024] inb_S1024x4096_S1024x1024_0_3072, shard m c 3 inb_S4x1024x1024_S1x1024x1024_3_0_0⟩,
    ⟨Rect.unit ![0, 2048] ![1024, 1024] inb_S1024x4096_S1024x1024_0_2048, shard m c 2 inb_S4x1024x1024_S1x1024x1024_2_0_0⟩,
    ⟨Rect.unit ![0, 1024] ![1024, 1024] inb_S1024x4096_S1024x1024_0_1024, shard m c 1 inb_S4x1024x1024_S1x1024x1024_1_0_0⟩,
    ⟨Rect.unit ![0, 0] ![1024, 1024] inb_S1024x4096_S1024x1024_0_0, shard m c 0 inb_S4x1024x1024_S1x1024x1024_0_0_0⟩]
theorem shard_at (s : ℕ) (hs : s < 4) (h) (a b : Fin 1024) : shard m c s h (ix2 a b) = V m c main_v3 (ix3 ⟨s, hs⟩ a b) := by
  show V m c main_v3 _ = _
  refine congrArg (V m c main_v3) ?_
  refine (congrArg (Rect.unit (s := S4x1024x1024) ![s, 0, 0] ![1, 1024, 1024] h).emb
    (ValueIdx.reshapeEquiv_ix2_1ab (a := 1024) (b := 1024) squeezes_S1x1024x1024_S1024x1024.numel_eq a b)).trans ?_
  funext i
  fin_cases i <;> apply Fin.ext <;> simp [Rect.unit, Rect.emb]
theorem copied1 : View.canon (shards m c) = W1 m c := by
  unfold shards
  funext y
  obtain ⟨p, q, rfl⟩ : ∃ p q, y = ix2 p q := ⟨y 0, y 1, ValueIdx.eq_ix2 y⟩
  canon_tiles x h
  all_goals obtain ⟨a, b, rfl⟩ : ∃ a b, x = ix2 a b := ⟨x 0, x 1, ValueIdx.eq_ix2 x⟩
  all_goals simp only [ix2_0, ix2_1] at h0 h1
  on_goal 1 => refine (shard_at m c 3 (by decide) _ a b).trans ?_
  on_goal 2 => refine (shard_at m c 2 (by decide) _ a b).trans ?_
  on_goal 3 => refine (shard_at m c 1 (by decide) _ a b).trans ?_
  on_goal 4 => refine (shard_at m c 0 (by decide) _ a b).trans ?_
  all_goals
    rw [operand_w1]
    refine congrArg (X4 m c) (congrArg₂ (ix3 0) (Fin.ext h0.symm) (Fin.ext ?_))
    show _ = q.val
    simp
    omega
theorem loaded1 : (View.whole cc0_scratch1).readCov (shards m c)
      (Rect.unit ![0, 0] ![1024, 4096] inb_S1024x4096_S1024x4096_0_0).toLoadRect = W1 m c := by
  funext y
  rw [View.readCov_eq_canon', copied1]
  refine congrArg (W1 m c) ?_
  funext a
  refine Fin.cases (Fin.ext ?_) (fun a => Fin.cases (Fin.ext ?_) (fun a => a.elim0) a) a
  · show 0 + 1 * (y 0).val = (y 0).val
    omega
  · show 0 + 1 * (y 1).val = (y 1).val
    omega
theorem copied2 : View.canon [⟨Rect.whole S4096x1024,
    ReadAs.same.apply (View.read (Elt Ideal) (View.whole main_v5) (V m c main_v5))⟩] = V m c main_v5 := by
  funext y
  canon_tiles x h
  have e : x = y := by
    funext a
    exact Fin.cases (Fin.ext h0.symm) (fun a => Fin.cases (Fin.ext h1.symm) (fun a => a.elim0) a) a
  exact congrArg (V m c main_v5) e
theorem loaded2 : (View.whole cc0_scratch0).readCov [⟨Rect.whole S4096x1024,
    ReadAs.same.apply (View.read (Elt Ideal) (View.whole main_v5) (V m c main_v5))⟩]
      (Rect.unit ![0, 0] ![4096, 1024] inb_S4096x1024_S4096x1024_0_0).toLoadRect = V m c main_v5 := by
  funext y
  rw [View.readCov_eq_canon', copied2]
  refine congrArg (V m c main_v5) ?_
  funext a
  refine Fin.cases (Fin.ext ?_) (fun a => Fin.cases (Fin.ext ?_) (fun a => a.elim0) a) a
  · show 0 + 1 * (y 0).val = (y 0).val
    omega
  · show 0 + 1 * (y 1).val = (y 1).val
    omega

/-- The copies of the weights, made at the first block and kept. -/
theorem held (n : ℕ) (hn : n < cfg0.N) : (outsAt0 m c n hn).2.2.2.2.2.2.2.1 = V m c main_v5
    ∧ (outsAt0 m c n hn).2.2.2.2.2.2.2.2 = W1 m c := by
  induction n with
  | zero =>
    rw [outsAt0_A m c ⟨0, hn⟩ rfl rfl (by simp) rfl (by simp) rfl (by simp) rfl (by simp)]
    frame_out
    exact ⟨copied2 m c, copied1 m c⟩
  | succ n ih =>
    have ih := ih (by omega)
    rcases kinds ⟨n + 1, hn⟩ with h | ⟨h, h', h''⟩ | ⟨h, h', h''⟩
    · simp at h
    · rw [outsAt0_B m c ⟨n + 1, hn⟩ h h' h' h' h' h h'' h' h']
      frame_out
      exact ih
    · rw [outsAt0_C m c ⟨n + 1, hn⟩ h h' (by simpa using h') h' (by simpa using h') h h'' h' (by simpa using h')]
      frame_out
      exact ih

end Cert.FfnIdeal.FfnValue
end
-- ==== Proof.FfnRow.lean ====
/- What the body of the kernel computes from a block: each stored value at one position. -/
module
public import proofs.«01_k».proof.Proof.Gen.FfnIdeal.Value
public import proofs.«01_k».proof.Proof.FfnSpec
public import Idealize.ShloMosaic.Lib.Pipeline.ValueKit
@[expose] public section
set_option maxRecDepth 16384
noncomputable section
open Idealize.ShloMosaic Idealize.ShloMosaic.TcCoe Idealize.SL.Sem

namespace Cert.FfnIdeal.FfnValue
open Cert.FfnIdeal Cert.FfnIdeal.Gen Cert.FfnSpec Cert.RmsNorm Cert.RealRow

/-- A row of the block. -/
def rowf (x : FVec Ideal S256x1024 .f32) (p : Fin 256) (k : Fin 1024) : EReal := x (ix2 p k)

variable (d x y e : FVec Ideal S256x1024 .f32) (f : FVec Ideal S256x1024 .bf16) (a : FVec Ideal S256x4096 .f32)
  (g z : FVec Ideal S1x1024 .f32) (s u : FVec Ideal S1x1x1024 .f32) (W : FVec Ideal S1024x4096 .bf16)
  (U : FVec Ideal S4096x1024 .bf16) (p : Fin 256) (q : Fin 1024) (k : Fin 4096)

theorem da2 : k0_pay2 (F := Ideal) f U a (ix2 p k)
    = (∑ j : Fin 1024, f (ix2 p j) * U (ix2 k j)) * (Ideal.ofBits FTy.f32 0x40000000#32 * max (a (ix2 p k)) 0) := by
  pointwise [k0_pay2]
theorem dh3 : k0_pay3 (F := Ideal) f U a W (ix2 p q) = ∑ k : Fin 4096, k0_pay2 (F := Ideal) f U a (ix2 p k) * W (ix2 q k) := by
  pointwise [k0_pay3]
theorem row4 : k0_pay4 (F := Ideal) x = x := by
  funext i; obtain ⟨p, q, rfl⟩ : ∃ p q, i = ix2 p q := ⟨i 0, i 1, ValueIdx.eq_ix2 i⟩
  pointwise [k0_pay4]
theorem inv5 : k0_pay5 (F := Ideal) x (ix2 p 0) = irms (rowf x p) := by
  pointwise [k0_pay5, irms, msq, rowf, w1024, eps]; simp only [row4]
theorem nrm6 : k0_pay6 (F := Ideal) x (ix2 p q) = nrm (rowf x p) q := by
  pointwise [k0_pay6, nrm]; simp only [row4, inv5]; rfl
theorem scl7 : k0_pay7 (F := Ideal) s (ix2 0 q) = 1 + s (ix3 0 0 q) := by
  pointwise [k0_pay7]
theorem sh9 : k0_pay9 (F := Ideal) d (ix3 0 0 q) = ∑ p : Fin 256, rowf d p q := by
  pointwise [k0_pay9, k0_pay8, rowf]
theorem sh10 : k0_pay10 (F := Ideal) d u (ix3 0 0 q) = u (ix3 0 0 q) + ∑ p : Fin 256, rowf d p q := by
  pointwise [k0_pay10, k0_pay8, rowf]
theorem sc12 : k0_pay12 (F := Ideal) d x g (ix3 0 0 q)
    = ∑ p : Fin 256, rowf d p q * (nrm (rowf x p) q * g (ix2 0 q)) := by
  pointwise [k0_pay12, k0_pay11, rowf]; simp only [nrm6]
theorem sc13 : k0_pay13 (F := Ideal) d x g u (ix3 0 0 q)
    = u (ix3 0 0 q) + ∑ p : Fin 256, rowf d p q * (nrm (rowf x p) q * g (ix2 0 q)) := by
  pointwise [k0_pay13, k0_pay11, rowf]; simp only [nrm6]
theorem pg14 : k0_pay14 (F := Ideal) d x s (ix2 p q) = rowf d p q * (1 + s (ix3 0 0 q)) * nrm (rowf x p) q := by
  pointwise [k0_pay14, rowf]; simp only [nrm6, scl7]
theorem g15 : k0_pay15 (F := Ideal) d (ix2 0 q) = ∑ p : Fin 256, d (ix2 p q) := by
  pointwise [k0_pay15]
theorem g16 : k0_pay16 (F := Ideal) d z (ix2 0 q) = z (ix2 0 q) + ∑ p : Fin 256, d (ix2 p q) := by
  pointwise [k0_pay16, k0_pay15]
/-- The cotangent of the normalised row. -/
def dnf (k : Fin 1024) : EReal := rowf d p k * (1 + s (ix3 0 0 k)) * g (ix2 0 k)
theorem dx17 : k0_pay17 (F := Ideal) d (k0_pay5 x) (k0_pay6 x) g (k0_pay7 s) y (ix2 p q)
    = y (ix2 p q) + grad (rowf x p) (dnf d g s p) q := by
  pointwise [k0_pay17, grad, w1024]; simp only [nrm6, inv5, scl7]; rfl
theorem gate19 (v38 : FVec Ideal S256x1 .f32) (v40 : FVec Ideal S256x1024 .f32) : k0_pay19 (F := Ideal) d v38 v40 g z y e (ix3 0 0 q)
    = ∑ p : Fin 256, k0_pay17 (F := Ideal) d v38 v40 g z y (ix2 p q) * e (ix2 p q) := by
  pointwise [k0_pay19, k0_pay18]
theorem gate20 (v38 : FVec Ideal S256x1 .f32) (v40 : FVec Ideal S256x1024 .f32) : k0_pay20 (F := Ideal) d v38 v40 g z y e u (ix3 0 0 q)
    = u (ix3 0 0 q) + ∑ p : Fin 256, k0_pay17 (F := Ideal) d v38 v40 g z y (ix2 p q) * e (ix2 p q) := by
  pointwise [k0_pay20, k0_pay18]
theorem dm1 : k0_pay1 (F := Ideal) d s (ix2 p q) = d (ix2 p q) * s (ix3 0 0 q) := by
  pointwise [k0_pay1]

end Cert.FfnIdeal.FfnValue
end
-- ==== Proof.FfnOut.lean ====
/- The arrays the call's results are left as: the functions of the arguments in FfnSpec, one theorem for each. -/
module
public import proofs.«01_k».proof.Proof.FfnKernel
public import proofs.«01_k».proof.Proof.FfnRow
@[expose] public section
set_option maxRecDepth 16384
noncomputable section
open Idealize.ShloMosaic Idealize.ShloMosaic.TcCoe Idealize.SL.Sem
open Idealize.ShloMosaic.Pipeline (Dat)
namespace Cert.FfnIdeal.FfnValue
open Cert.FfnIdeal Cert.FfnIdeal.Gen Cert.FfnSpec Cert.RmsNorm
variable (m : (ℓ : Loc nD τ sig) → Buf (Elt Ideal) ℓ) (c : Dev nD) (t : Fin cfg0.N)

/-- The block's position in the batch's sequence. -/
abbrev ps (p : Fin 256) : Fin 2048 := si (rowOf t p)
/-- The block's scale, and the factor of the mixed branches. -/
abbrev sb : FVec Ideal S1x1x1024 .f32 := View.ld (iblk m c 6 t) (Rect.unit ![0, 4, 0] ![1, 1, 1024] inb_S1x6x1024_S1x1x1024_0_4_0)
abbrev gb : FVec Ideal S1x1x1024 .f32 := View.ld (iblk m c 6 t) (Rect.unit ![0, 2, 0] ![1, 1, 1024] inb_S1x6x1024_S1x1x1024_0_2_0)
/-- The cotangents the block computes: of the scaled norm, and of the residual. -/
abbrev db (U : FVec Ideal S4096x1024 .bf16) (W : FVec Ideal S1024x4096 .bf16) : FVec Ideal S256x1024 .f32 :=
  k0_pay3 (F := Ideal) (iblk m c 0 t) U (iblk m c 1 t) W
abbrev xb (U : FVec Ideal S4096x1024 .bf16) (W : FVec Ideal S1024x4096 .bf16) : FVec Ideal S256x1024 .f32 :=
  k0_pay17 (F := Ideal) (db m c t U W) (k0_pay5 (iblk m c 2 t)) (k0_pay6 (iblk m c 2 t)) (iblk m c 5 t) (k0_pay7 (sb m c t))
    (iblk m c 3 t)
variable {W : FVec Ideal S1024x4096 .bf16} {U : FVec Ideal S4096x1024 .bf16} (hW : W = W1 m c) (hU : U = V m c main_v5)
  (p : Fin 256) (q : Fin 1024) (k : Fin 4096)

theorem x_row : rowf (iblk m c 2 t) p = FfnSpec.x1 (X0 m c) (X1 m c) (X2 m c) (batch t) (ps t p) := by
  funext j; exact b2 m c t p j
theorem s_at : sb m c t (ix3 0 0 q) = part (X2 m c) (batch t) 4 q := by unfold sb; rw [← b6]; pointwise
theorem g_at : gb m c t (ix3 0 0 q) = part (X2 m c) (batch t) 2 q := by unfold gb; rw [← b6]; pointwise
include hU in
theorem da_at : k0_pay2 (F := Ideal) (iblk m c 0 t) U (iblk m c 1 t) (ix2 p k)
    = da (X0 m c) (X1 m c) (X2 m c) (X3 m c) (X4 m c) (X5 m c) (X6 m c) (batch t) (ps t p) k := by
  subst hU; rw [da2, b1]; unfold da dr
  refine congrArg (· * _) (Finset.sum_congr rfl fun j _ => ?_)
  rw [b0, operand_w2]
include hW hU in
theorem dh_row : rowf (db m c t U W) p
    = dh (X0 m c) (X1 m c) (X2 m c) (X3 m c) (X4 m c) (X5 m c) (X6 m c) (batch t) (ps t p) := by
  subst hW; funext q
  refine (dh3 _ _ _ _ p q).trans ?_
  simp only [da_at m c t hU]; rfl
include hW hU in
theorem dn_row : dnf (db m c t U W) (iblk m c 5 t) (sb m c t) p
    = dn (X0 m c) (X1 m c) (X2 m c) (X3 m c) (X4 m c) (X5 m c) (X6 m c) (batch t) (ps t p) := by
  funext k; unfold dnf dn scl; rw [dh_row m c t hW hU, s_at, b5]
include hW hU in
theorem dx_at : xb m c t U W (ix2 p q)
    = dx1 (X0 m c) (X1 m c) (X2 m c) (X3 m c) (X4 m c) (X5 m c) (X6 m c) (batch t) (ps t p) q := by
  unfold xb dx1; rw [dx17, x_row, dn_row m c t hW hU, b3]
include hW hU in
theorem dm_at : k0_pay1 (F := Ideal) (xb m c t U W) (gb m c t) (ix2 p q)
    = dmixed (X0 m c) (X1 m c) (X2 m c) (X3 m c) (X4 m c) (X5 m c) (X6 m c) (batch t) (ps t p) q := by
  unfold dmixed; rw [dm1, dx_at m c t hW hU, g_at]

/-- One block's part of the four parameters' gradients. -/
def part10 (t : Fin cfg0.N) (i : S1x1x1024.Idx) : EReal :=
  ∑ p : Fin 256, dh (X0 m c) (X1 m c) (X2 m c) (X3 m c) (X4 m c) (X5 m c) (X6 m c) (batch t) (ps t p) (i 2)
def part11 (t : Fin cfg0.N) (i : S1x1x1024.Idx) : EReal :=
  ∑ p : Fin 256, pscale (X0 m c) (X1 m c) (X2 m c) (X3 m c) (X4 m c) (X5 m c) (X6 m c) (batch t) (ps t p) (i 2)
def part12 (t : Fin cfg0.N) (i : S1x1x1024.Idx) : EReal :=
  ∑ p : Fin 256, pgate (X0 m c) (X1 m c) (X2 m c) (X3 m c) (X4 m c) (X5 m c) (X6 m c) (batch t) (ps t p) (i 2)
def part13 (t : Fin cfg0.N) (i : S1x1024.Idx) : EReal :=
  ∑ p : Fin 256, pg (X0 m c) (X1 m c) (X2 m c) (X3 m c) (X4 m c) (X5 m c) (X6 m c) (batch t) (ps t p) (i 1)
include hW hU in
theorem part10_at : (∑ p : Fin 256, rowf (db m c t U W) p q) = part10 m c t (ix3 0 0 q) := by
  simp only [dh_row m c t hW hU]; rfl
include hW hU in
theorem part11_at : (∑ p : Fin 256, rowf (db m c t U W) p q * (nrm (rowf (iblk m c 2 t) p) q * iblk m c 5 t (ix2 0 q)))
    = part11 m c t (ix3 0 0 q) := by
  simp only [dh_row m c t hW hU, x_row, b5]; rfl
include hW hU in
theorem part12_at : (∑ p : Fin 256, xb m c t U W (ix2 p q) * iblk m c 4 t (ix2 p q)) = part12 m c t (ix3 0 0 q) := by
  simp only [dx_at m c t hW hU, b4]; rfl
include hW hU in
theorem part13_at : (∑ p : Fin 256, k0_pay14 (F := Ideal) (db m c t U W) (iblk m c 2 t) (sb m c t) (ix2 p q))
    = part13 m c t (ix2 0 q) := by
  simp only [pg14, dh_row m c t hW hU, x_row, s_at]; rfl

/-- Where a block lies in its array. -/
theorem emb7 (p : Fin 256) (q : Fin 4096) : (win0_7.blk t).view.emb (ix2 p q) = ix2 (rowOf t p) q := by
  funext a; apply Fin.ext; fin_cases a <;> simp [rowOf, View.slice, idx t, Pipeline.WinKind.off] <;> omega
theorem emb8 (p : Fin 256) (q : Fin 1024) : (win0_8.blk t).view.emb (ix2 p q) = ix2 (rowOf t p) q := by
  funext a; apply Fin.ext; fin_cases a <;> simp [rowOf, View.slice, idx t, Pipeline.WinKind.off] <;> omega
theorem emb9 (p : Fin 256) (q : Fin 1024) : (win0_9.blk t).view.emb (ix2 p q) = ix2 (rowOf t p) q := by
  funext a; apply Fin.ext; fin_cases a <;> simp [rowOf, View.slice, idx t, Pipeline.WinKind.off] <;> omega
theorem emb10 (y : ((cfg0.win 10).xblock (cfg0.grid.coords t)).Idx) : (win0_10.blk t).view.emb y = ix3 (batch t) 0 (y 2) := by
  funext a; apply Fin.ext; fin_cases a <;> simp [batch, View.slice, idx t, Pipeline.WinKind.off] <;> omega
theorem emb11 (y : ((cfg0.win 11).xblock (cfg0.grid.coords t)).Idx) : (win0_11.blk t).view.emb y = ix3 (batch t) 0 (y 2) := by
  funext a; apply Fin.ext; fin_cases a <;> simp [batch, View.slice, idx t, Pipeline.WinKind.off] <;> omega
theorem emb12 (y : ((cfg0.win 12).xblock (cfg0.grid.coords t)).Idx) : (win0_12.blk t).view.emb y = ix3 (batch t) 0 (y 2) := by
  funext a; apply Fin.ext; fin_cases a <;> simp [batch, View.slice, idx t, Pipeline.WinKind.off] <;> omega

set_option maxHeartbeats 1000000 in
theorem arr7 : (dats m 0 c).arrAt 7 cfg0.N
    = fun z => da (X0 m c) (X1 m c) (X2 m c) (X3 m c) (X4 m c) (X5 m c) (X6 m c) (bi (z 0)) (si (z 0)) (z 1) := by
  refine (dats m 0 c).arrAt_eq_of_covers 7 _ (by decide +kernel) fun t hf y => ?_
  blk_simp
  obtain ⟨p, q, rfl⟩ : ∃ (p : Fin 256) (q : Fin 4096), y = ix2 p q := ⟨y 0, y 1, ValueIdx.eq_ix2 y⟩
  rw [after0_7, emb7]
  show _ = da (X0 m c) (X1 m c) (X2 m c) (X3 m c) (X4 m c) (X5 m c) (X6 m c) (bi (rowOf t p)) (si (rowOf t p)) q
  rw [bi_rowOf]
  rcases kinds t with h | ⟨h, h', h''⟩ | ⟨h, h', h''⟩
  on_goal 1 => rw [outsAt0_A m c t (by omega) (by omega) (by omega) (by omega) (by omega) (by omega) (by omega) (by omega) (by omega)]; frame_out
  on_goal 2 => rw [outsAt0_B m c t h h' h' h' h' h h'' h' h']; frame_out
  on_goal 3 => rw [outsAt0_C m c t h h' (by omega) h' (by omega) h h'' h' (by omega)]; frame_out
  on_goal 1 => exact da_at m c t (loaded2 m c) p q
  all_goals simp only [read_unread_whole, held]
  all_goals exact da_at m c t rfl p q
set_option maxHeartbeats 1000000 in
theorem arr8 : (dats m 0 c).arrAt 8 cfg0.N
    = fun z => dx1 (X0 m c) (X1 m c) (X2 m c) (X3 m c) (X4 m c) (X5 m c) (X6 m c) (bi (z 0)) (si (z 0)) (z 1) := by
  refine (dats m 0 c).arrAt_eq_of_covers 8 _ (by decide +kernel) fun t hf y => ?_
  blk_simp
  obtain ⟨p, q, rfl⟩ : ∃ (p : Fin 256) (q : Fin 1024), y = ix2 p q := ⟨y 0, y 1, ValueIdx.eq_ix2 y⟩
  rw [after0_8, emb8]
  show _ = dx1 (X0 m c) (X1 m c) (X2 m c) (X3 m c) (X4 m c) (X5 m c) (X6 m c) (bi (rowOf t p)) (si (rowOf t p)) q
  rw [bi_rowOf]
  rcases kinds t with h | ⟨h, h', h''⟩ | ⟨h, h', h''⟩
  on_goal 1 => rw [outsAt0_A m c t (by omega) (by omega) (by omega) (by omega) (by omega) (by omega) (by omega) (by omega) (by omega)]; frame_out
  on_goal 2 => rw [outsAt0_B m c t h h' h' h' h' h h'' h' h']; frame_out
  on_goal 3 => rw [outsAt0_C m c t h h' (by omega) h' (by omega) h h'' h' (by omega)]; frame_out
  on_goal 1 => exact dx_at m c t (loaded1 m c) (loaded2 m c) p q
  all_goals simp only [read_unread_whole, held]
  all_goals exact dx_at m c t rfl rfl p q
set_option maxHeartbeats 1000000 in
theorem arr9 : (dats m 0 c).arrAt 9 cfg0.N
    = fun z => dmixed (X0 m c) (X1 m c) (X2 m c) (X3 m c) (X4 m c) (X5 m c) (X6 m c) (bi (z 0)) (si (z 0)) (z 1) := by
  refine (dats m 0 c).arrAt_eq_of_covers 9 _ (by decide +kernel) fun t hf y => ?_
  blk_simp
  obtain ⟨p, q, rfl⟩ : ∃ (p : Fin 256) (q : Fin 1024), y = ix2 p q := ⟨y 0, y 1, ValueIdx.eq_ix2 y⟩
  rw [after0_9, emb9]
  show _ = dmixed (X0 m c) (X1 m c) (X2 m c) (X3 m c) (X4 m c) (X5 m c) (X6 m c) (bi (rowOf t p)) (si (rowOf t p)) q
  rw [bi_rowOf]
  rcases kinds t with h | ⟨h, h', h''⟩ | ⟨h, h', h''⟩
  on_goal 1 => rw [outsAt0_A m c t (by omega) (by omega) (by omega) (by omega) (by omega) (by omega) (by omega) (by omega) (by omega)]; frame_out
  on_goal 2 => rw [outsAt0_B m c t h h' h' h' h' h h'' h' h']; frame_out
  on_goal 3 => rw [outsAt0_C m c t h h' (by omega) h' (by omega) h h'' h' (by omega)]; frame_out
  on_goal 1 => exact dm_at m c t (loaded1 m c) (loaded2 m c) p q
  all_goals simp only [read_unread_whole, held]
  all_goals exact dm_at m c t rfl rfl p q

theorem step10A (t : Fin cfg0.N) (h : t.val % 8 = 0) (i : S1x1x1024.Idx) :
    (outsAt0 m c t.val t.isLt).2.2.2.1 i = 0 + part10 m c t i := by
  obtain ⟨p, z, q, rfl⟩ : ∃ p z q, i = ix3 p z q := ⟨i 0, i 1, i 2, ValueIdx.eq_ix3 i⟩
  obtain rfl : p = 0 := Subsingleton.elim _ _
  obtain rfl : z = 0 := Subsingleton.elim _ _
  rw [zero_add]
  by_cases h0 : t.val % 32 = 0
  on_goal 1 => rw [outsAt0_A m c t h0 h (by omega) h (by omega) h0 (by have := lt32 t; omega) h (by omega)]; frame_out
  on_goal 2 => rw [outsAt0_C m c t h0 h (by omega) h (by omega) h0 (by omega) h (by omega)]; frame_out
  · exact (sh9 _ q).trans (part10_at m c t (loaded1 m c) (loaded2 m c) q)
  · simp only [read_unread_whole, held]
    exact (sh9 _ q).trans (part10_at m c t rfl rfl q)
theorem step10B (t : Fin cfg0.N) (h : ¬t.val % 8 = 0) (i : S1x1x1024.Idx) :
    (outsAt0 m c t.val t.isLt).2.2.2.1 i
      = (outsAt0 m c (t.val - 1) (Nat.lt_of_le_of_lt (Nat.sub_le _ _) t.isLt)).2.2.2.1 i + part10 m c t i := by
  obtain ⟨p, z, q, rfl⟩ : ∃ p z q, i = ix3 p z q := ⟨i 0, i 1, i 2, ValueIdx.eq_ix3 i⟩
  obtain rfl : p = 0 := Subsingleton.elim _ _
  obtain rfl : z = 0 := Subsingleton.elim _ _
  rw [outsAt0_B m c t (by omega) h h h h (by omega) (by omega) h h]; frame_out
  simp only [read_unread_whole, held]
  exact (sh10 _ _ q).trans (congrArg (_ + ·) (part10_at m c t rfl rfl q))

theorem step11A (t : Fin cfg0.N) (h : t.val % 8 = 0) (i : S1x1x1024.Idx) :
    (outsAt0 m c t.val t.isLt).2.2.2.2.1 i = 0 + part11 m c t i := by
  obtain ⟨p, z, q, rfl⟩ : ∃ p z q, i = ix3 p z q := ⟨i 0, i 1, i 2, ValueIdx.eq_ix3 i⟩
  obtain rfl : p = 0 := Subsingleton.elim _ _
  obtain rfl : z = 0 := Subsingleton.elim _ _
  rw [zero_add]
  by_cases h0 : t.val % 32 = 0
  on_goal 1 => rw [outsAt0_A m c t h0 h (by omega) h (by omega) h0 (by have := lt32 t; omega) h (by omega)]; frame_out
  on_goal 2 => rw [outsAt0_C m c t h0 h (by omega) h (by omega) h0 (by omega) h (by omega)]; frame_out
  · exact (sc12 _ _ _ q).trans (part11_at m c t (loaded1 m c) (loaded2 m c) q)
  · simp only [read_unread_whole, held]
    exact (sc12 _ _ _ q).trans (part11_at m c t rfl rfl q)
theorem step11B (t : Fin cfg0.N) (h : ¬t.val % 8 = 0) (i : S1x1x1024.Idx) :
    (outsAt0 m c t.val t.isLt).2.2.2.2.1 i
      = (outsAt0 m c (t.val - 1) (Nat.lt_of_le_of_lt (Nat.sub_le _ _) t.isLt)).2.2.2.2.1 i + part11 m c t i := by
  obtain ⟨p, z, q, rfl⟩ : ∃ p z q, i = ix3 p z q := ⟨i 0, i 1, i 2, ValueIdx.eq_ix3 i⟩
  obtain rfl : p = 0 := Subsingleton.elim _ _
  obtain rfl : z = 0 := Subsingleton.elim _ _
  rw [outsAt0_B m c t (by omega) h h h h (by omega) (by omega) h h]; frame_out
  simp only [read_unread_whole, held]
  exact (sc13 _ _ _ _ q).trans (congrArg (_ + ·) (part11_at m c t rfl rfl q))

theorem step12A (t : Fin cfg0.N) (h : t.val % 8 = 0) (i : S1x1x1024.Idx) :
    (outsAt0 m c t.val t.isLt).2.2.2.2.2.1 i = 0 + part12 m c t i := by
  obtain ⟨p, z, q, rfl⟩ : ∃ p z q, i = ix3 p z q := ⟨i 0, i 1, i 2, ValueIdx.eq_ix3 i⟩
  obtain rfl : p = 0 := Subsingleton.elim _ _
  obtain rfl : z = 0 := Subsingleton.elim _ _
  rw [zero_add]
  by_cases h0 : t.val % 32 = 0
  on_goal 1 => rw [outsAt0_A m c t h0 h (by omega) h (by omega) h0 (by have := lt32 t; omega) h (by omega)]; frame_out
  on_goal 2 => rw [outsAt0_C m c t h0 h (by omega) h (by omega) h0 (by omega) h (by omega)]; frame_out
  · exact (gate19 _ _ _ _ _ q _ _).trans (part12_at m c t (loaded1 m c) (loaded2 m c) q)
  · simp only [read_unread_whole, held]
    exact (gate19 _ _ _ _ _ q _ _).trans (part12_at m c t rfl rfl q)
theorem step12B (t : Fin cfg0.N) (h : ¬t.val % 8 = 0) (i : S1x1x1024.Idx) :
    (outsAt0 m c t.val t.isLt).2.2.2.2.2.1 i
      = (outsAt0 m c (t.val - 1) (Nat.lt_of_le_of_lt (Nat.sub_le _ _) t.isLt)).2.2.2.2.2.1 i + part12 m c t i := by
  obtain ⟨p, z, q, rfl⟩ : ∃ p z q, i = ix3 p z q := ⟨i 0, i 1, i 2, ValueIdx.eq_ix3 i⟩
  obtain rfl : p = 0 := Subsingleton.elim _ _
  obtain rfl : z = 0 := Subsingleton.elim _ _
  rw [outsAt0_B m c t (by omega) h h h h (by omega) (by omega) h h]; frame_out
  simp only [read_unread_whole, held]
  exact (gate20 _ _ _ _ _ _ q _ _).trans (congrArg (_ + ·) (part12_at m c t rfl rfl q))

theorem step13A (t : Fin cfg0.N) (h : t.val % 32 = 0) (i : S1x1024.Idx) :
    (outsAt0 m c t.val t.isLt).2.2.2.2.2.2.1 i = 0 + part13 m c t i := by
  obtain ⟨p, q, rfl⟩ : ∃ p q, i = ix2 p q := ⟨i 0, i 1, ValueIdx.eq_ix2 i⟩
  obtain rfl : p = 0 := Subsingleton.elim _ _
  rw [zero_add, outsAt0_A m c t h (by omega) (by omega) (by omega) (by omega) h (by have := lt32 t; omega) (by omega) (by omega)]
  frame_out
  exact (g15 _ q).trans (part13_at m c t (loaded1 m c) (loaded2 m c) q)
theorem step13B (t : Fin cfg0.N) (h : ¬t.val % 32 = 0) (i : S1x1024.Idx) :
    (outsAt0 m c t.val t.isLt).2.2.2.2.2.2.1 i
      = (outsAt0 m c (t.val - 1) (Nat.lt_of_le_of_lt (Nat.sub_le _ _) t.isLt)).2.2.2.2.2.2.1 i + part13 m c t i := by
  obtain ⟨p, q, rfl⟩ : ∃ p q, i = ix2 p q := ⟨i 0, i 1, ValueIdx.eq_ix2 i⟩
  obtain rfl : p = 0 := Subsingleton.elim _ _
  by_cases h0 : t.val % 8 = 0
  on_goal 1 => rw [outsAt0_C m c t h h0 (by omega) h0 (by omega) h (by omega) h0 (by omega)]; frame_out
  on_goal 2 => rw [outsAt0_B m c t h h0 h0 h0 h0 h (by omega) h0 h0]; frame_out
  all_goals simp only [read_unread_whole, held]
  all_goals exact (g16 _ _ q).trans (congrArg (_ + ·) (part13_at m c t rfl rfl q))

/-- The eight blocks of a batch hold its positions. -/
theorem sum_batch (b : Fin 4) (f : Fin 4 → Fin 2048 → EReal) (r : Fin 8 → Fin cfg0.N) (hr : ∀ s, (r s).val = 8 * b.val + s.val) :
    (∑ s : Fin 8, ∑ p : Fin 256, f (batch (r s)) (ps (r s) p)) = ∑ k, f b k := by
  refine Fin.sum_mul_add_congr fun s k hl => congrArg₂ f (Fin.ext ?_) (Fin.ext ?_)
  · have := hr s
    show (r s).val / 8 = b.val
    omega
  · have := hr s
    show (256 * (r s).val + k.val) % 2048 = s.val * 256 + k.val
    omega
/-- The eight blocks that end at a point where a batch's sums are written back. -/
def run8 (t : Fin cfg0.N) (s : Fin 8) : Fin cfg0.N :=
  ⟨8 * (t.val / 8) + s.val, by have := t.isLt; have : cfg0.N = 32 := N_0; omega⟩

theorem arr10 : (dats m 0 c).arrAt 10 cfg0.N = fun z => dshift (X0 m c) (X1 m c) (X2 m c) (X3 m c) (X4 m c) (X5 m c) (X6 m c) (z 0) (z 2) := by
  refine (dats m 0 c).arrAt_eq_of_covers 10 _ (by decide +kernel) fun t hf y => ?_
  have hm : t.val % 8 = 8 - 1 := (flush0_10 t).mp hf
  blk_simp
  rw [after0_10, Pipeline.eq_sum_fin_of_reset_step_apply_of_flush (fun n h => (outsAt0 m c n h).2.2.2.1) 8 (fun _ => 0)
    (part10 m c) (step10A m c) (step10B m c) t hm, zero_add, emb10]
  exact sum_batch (batch t) (fun b s => dh (X0 m c) (X1 m c) (X2 m c) (X3 m c) (X4 m c) (X5 m c) (X6 m c) b s (y 2)) (run8 t) fun s => rfl

theorem arr11 : (dats m 0 c).arrAt 11 cfg0.N = fun z => dscale (X0 m c) (X1 m c) (X2 m c) (X3 m c) (X4 m c) (X5 m c) (X6 m c) (z 0) (z 2) := by
  refine (dats m 0 c).arrAt_eq_of_covers 11 _ (by decide +kernel) fun t hf y => ?_
  have hm : t.val % 8 = 8 - 1 := (flush0_11 t).mp hf
  blk_simp
  rw [after0_11, Pipeline.eq_sum_fin_of_reset_step_apply_of_flush (fun n h => (outsAt0 m c n h).2.2.2.2.1) 8 (fun _ => 0)
    (part11 m c) (step11A m c) (step11B m c) t hm, zero_add, emb11]
  exact sum_batch (batch t) (fun b s => pscale (X0 m c) (X1 m c) (X2 m c) (X3 m c) (X4 m c) (X5 m c) (X6 m c) b s (y 2)) (run8 t) fun s => rfl

theorem arr12 : (dats m 0 c).arrAt 12 cfg0.N = fun z => dgate (X0 m c) (X1 m c) (X2 m c) (X3 m c) (X4 m c) (X5 m c) (X6 m c) (z 0) (z 2) := by
  refine (dats m 0 c).arrAt_eq_of_covers 12 _ (by decide +kernel) fun t hf y => ?_
  have hm : t.val % 8 = 8 - 1 := (flush0_12 t).mp hf
  blk_simp
  rw [after0_12, Pipeline.eq_sum_fin_of_reset_step_apply_of_flush (fun n h => (outsAt0 m c n h).2.2.2.2.2.1) 8 (fun _ => 0)
    (part12 m c) (step12A m c) (step12B m c) t hm, zero_add, emb12]
  exact sum_batch (batch t) (fun b s => pgate (X0 m c) (X1 m c) (X2 m c) (X3 m c) (X4 m c) (X5 m c) (X6 m c) b s (y 2)) (run8 t) fun s => rfl

/-- The last block. -/
def last : Fin cfg0.N := ⟨31, by rw [show cfg0.N = 32 from N_0]; decide⟩
theorem arr13 : (dats m 0 c).arrAt 13 cfg0.N = fun z => dg (X0 m c) (X1 m c) (X2 m c) (X3 m c) (X4 m c) (X5 m c) (X6 m c) (z 1) := by
  refine (dats m 0 c).arrAt_eq_of_after_last 13 last (by decide +kernel) _ fun j => ?_
  blk_simp
  rw [after0_13, Pipeline.eq_sum_fin_of_reset_step_apply_last (fun n h => (outsAt0 m c n h).2.2.2.2.2.2.1) 32 (fun _ => 0)
    (part13 m c) (step13A m c) (step13B m c) (le_of_eq N_0) last rfl, zero_add]
  refine Fin.sum_points_lanes_congr 8 fun t k ha hl => ?_
  refine congrArg₂ (fun b s => pg (X0 m c) (X1 m c) (X2 m c) (X3 m c) (X4 m c) (X5 m c) (X6 m c) b s _) (Fin.ext ?_) (Fin.ext ?_)
  · show t.val / 8 = t.val / 8
    rfl
  · show (256 * t.val + k.val) % 2048 = t.val % 8 * 256 + k.val
    omega
end Cert.FfnIdeal.FfnValue
end
-- ==== Proof.FfnRef.lean ====
/- The derivative of the forward lines, read off at one position: the reference's arrays, one after the other,
   as the functions of FfnSpec and RmsNorm. -/
module
public import proofs.«01_k».proof.Proof.Gen.FfnRefIdeal.Read
public import proofs.«01_k».proof.Proof.FfnSpec
public import proofs.«01_k».proof.Proof.RowSum
public import Idealize.ShloMosaic.Lib.KernelVsHost
@[expose] public section
set_option maxRecDepth 16384
noncomputable section
open Idealize.ShloMosaic Idealize.ShloMosaic.TcCoe Idealize.SL.Sem
namespace Cert.FfnRefIdeal.FfnRead
open Cert.FfnRefIdeal Cert.FfnRefIdeal.Gen Cert.FfnRefIdeal.Read Cert.FfnSpec Cert.RmsNorm
open Cert.InSpec (Seq Mods Row)

variable (x0 x1 : Seq 1024) (x2 : Mods) (x3 : Row) (x4 : Up) (x5 : Down) (x6 : Seq 1024) (b : Fin 4) (s : Fin 2048)

/-- The modulations, spread over the sequence. -/
theorem p7 (j : Fin 1024) : val_main_v7 (F := Ideal) x2 (ix3 b s j) = part x2 b 2 j := by
  pointwise [val_main_v7, val_main_v3, val_main_v0, part]
theorem p85 (j : Fin 1024) : val_main_v85 (F := Ideal) x2 (ix3 b s j) = part x2 b 2 j := by
  pointwise [val_main_v85, val_main_v3, val_main_v0, part]
theorem p31 (j : Fin 1024) : val_main_v31 (F := Ideal) x2 (ix3 b s j) = scl x2 b j := by
  pointwise [val_main_v31, val_main_v30, val_main_v29, val_main_cst_4, val_main_v5, val_main_v0, part, scl]
theorem p63 (j : Fin 1024) : val_main_v63 (F := Ideal) x2 (ix3 b s j) = scl x2 b j := by
  pointwise [val_main_v63, val_main_v30, val_main_v29, val_main_cst_4, val_main_v5, val_main_v0, part, scl]
theorem p33 (j : Fin 1024) : val_main_v33 (F := Ideal) x2 (ix3 b s j) = part x2 b 3 j := by
  pointwise [val_main_v33, val_main_v4, val_main_v0, part]
theorem p51 (j : Fin 1024) : val_main_v51 (F := Ideal) x2 (ix3 b s j) = part x2 b 5 j := by
  pointwise [val_main_v51, val_main_v6, val_main_v0, part]
theorem p27 (j : Fin 1024) : val_main_v27 (F := Ideal) x3 (ix3 b s j) = x3 (ix2 0 j) := by
  pointwise [val_main_v27, val_main_v26, val_main_v10]
theorem p68 (j : Fin 1024) : val_main_v68 (F := Ideal) x3 (ix3 b s j) = x3 (ix2 0 j) := by
  pointwise [val_main_v68, val_main_v26, val_main_v10]

/-- The residual's row, its mean square and norm. -/
theorem r9 (j : Fin 1024) : val_main_v9 (F := Ideal) x0 x1 x2 (ix3 b s j) = FfnSpec.x1 x0 x1 x2 b s j := by
  pointwise [val_main_v9, val_main_v8, FfnSpec.x1]
  simp only [p7]
theorem r19 : val_main_v19 (F := Ideal) x0 x1 x2 (ix3 b s 0) = msq (FfnSpec.x1 x0 x1 x2 b s) := by
  pointwise [val_main_v19, val_main_v18, val_main_v17, val_main_v16, val_main_v15, val_main_v14, val_main_v11,
    val_main_cst_0, val_main_cst_1, val_main_cst_2, msq, w1024, RealRow.eps]
  simp only [r9]
theorem r20 : val_main_v20 (F := Ideal) x0 x1 x2 (ix3 b s 0) = irms (FfnSpec.x1 x0 x1 x2 b s) := by
  pointwise [val_main_v20, irms]
  simp only [r19]
theorem r23 : val_main_v23 (F := Ideal) x0 x1 x2 (ix3 b s 0) = Ideal.ofBits FTy.f32 0xBF000000#32
    * Ideal.div (irms (FfnSpec.x1 x0 x1 x2 b s)) (msq (FfnSpec.x1 x0 x1 x2 b s)) := by
  pointwise [val_main_v23, val_main_v22, val_main_v21, val_main_cst_3]
  simp only [r19, r20]
theorem r25 (j : Fin 1024) : val_main_v25 (F := Ideal) x0 x1 x2 (ix3 b s j) = nrm (FfnSpec.x1 x0 x1 x2 b s) j := by
  pointwise [val_main_v25, val_main_v24, nrm]
  simp only [r9, r20]
theorem r28 (j : Fin 1024) : val_main_v28 (F := Ideal) x0 x1 x2 x3 (ix3 b s j)
    = nrm (FfnSpec.x1 x0 x1 x2 b s) j * x3 (ix2 0 j) := by
  pointwise [val_main_v28]
  simp only [r25, p27]
theorem r36 (k : Fin 4096) : val_main_v36 (F := Ideal) x0 x1 x2 x3 x4 (ix3 b s k) = up x0 x1 x2 x3 x4 b s k := by
  pointwise [val_main_v36, val_main_v35, val_main_v34, val_main_v32, up, h2]
  simp only [r28, p31, p33]

/-- The cotangents. -/
theorem r53 (k : Fin 4096) : val_main_v53 (F := Ideal) x2 x5 x6 (ix3 b s k) = dr x2 x5 x6 b s k := by
  pointwise [val_main_v53, val_main_v52, val_main_v50, val_main_v44, dr]
  simp only [p51, mul_comm (part _ _ _ _)]
theorem r54 (k : Fin 4096) : val_main_v54 (F := Ideal) x0 x1 x2 x3 x4 x5 x6 (ix3 b s k)
    = da x0 x1 x2 x3 x4 x5 x6 b s k := by
  pointwise [val_main_v54, val_main_v43, val_main_v42, val_main_cst_7, val_main_v37, val_main_call0_v0, val_main_call0_cst, da]
  simp only [r53, r36]
theorem r56 (k : Fin 4096) : val_main_v56 (F := Ideal) x0 x1 x2 x3 x4 x5 x6 (ix3 b s k)
    = da x0 x1 x2 x3 x4 x5 x6 b s k := by
  pointwise [val_main_v56, val_main_v39, val_main_v38, val_main_cst_5, val_main_v55, val_main_cst_8]
  simp only [r54, r36]
  split
  · rfl
  · next h => rw [da, max_eq_right (not_lt.mp h), mul_zero, mul_zero]
theorem r57 (j : Fin 1024) : val_main_v57 (F := Ideal) x0 x1 x2 x3 x4 x5 x6 (ix3 b s j)
    = dh x0 x1 x2 x3 x4 x5 x6 b s j := by
  pointwise [val_main_v57, val_main_v35, dh]
  simp only [r56]
theorem r64 (j : Fin 1024) : val_main_v64 (F := Ideal) x0 x1 x2 x3 x4 x5 x6 (ix3 b s j)
    = dh x0 x1 x2 x3 x4 x5 x6 b s j * scl x2 b j := by
  pointwise [val_main_v64]
  simp only [r57, p63]
theorem r69 (j : Fin 1024) : val_main_v69 (F := Ideal) x0 x1 x2 x3 x4 x5 x6 (ix3 b s j)
    = dn x0 x1 x2 x3 x4 x5 x6 b s j := by
  pointwise [val_main_v69, dn]
  simp only [r64, p68]
theorem r79 : val_main_v79 (F := Ideal) x0 x1 x2 x3 x4 x5 x6 (ix2 b s)
    = via (FfnSpec.x1 x0 x1 x2 b s) (dn x0 x1 x2 x3 x4 x5 x6 b s) := by
  pointwise [val_main_v79, val_main_v78, val_main_v77, val_main_v76, val_main_v73, val_main_v72, val_main_v71,
    val_main_cst_13, val_main_cst_14, val_main_cst_15, via, w1024]
  simp only [Fin.sum_univ_one, r23, r69, r9]
theorem r84 (j : Fin 1024) : val_main_v84 (F := Ideal) x0 x1 x2 x3 x4 x5 x6 (ix3 b s j)
    = x6 (ix3 b s j) + gradR (FfnSpec.x1 x0 x1 x2 b s) (dn x0 x1 x2 x3 x4 x5 x6 b s) j := by
  pointwise [val_main_v84, val_main_v82, val_main_v81, val_main_v80, val_main_v75, val_main_v74, val_main_v49,
    val_main_v13, val_main_v12, val_main_cst, gradR]
  simp only [r79, r20, r69, r9]

/-- The parameters' gradients, as sums over the positions. -/
theorem out59 (j : Fin 1024) : val_main_v59 (F := Ideal) x0 x1 x2 x3 x4 x5 x6 (ix3 b 0 j)
    = dshift x0 x1 x2 x3 x4 x5 x6 b j := by
  pointwise [val_main_v59, val_main_v58, val_main_cst_9, dshift]
  simp only [r57]
theorem out62 (j : Fin 1024) : val_main_v62 (F := Ideal) x0 x1 x2 x3 x4 x5 x6 (ix3 b 0 j)
    = dscale x0 x1 x2 x3 x4 x5 x6 b j := by
  pointwise [val_main_v62, val_main_v61, val_main_v60, val_main_cst_10, dscale, pscale]
  simp only [r57, r28, mul_comm]
theorem out83 (j : Fin 1024) : val_main_v83 (F := Ideal) x0 x1 x2 x3 x4 x5 x6 (ix2 0 j)
    = dg x0 x1 x2 x3 x4 x5 x6 j := by
  pointwise [val_main_v83, val_main_v70, val_main_v67, val_main_v66, val_main_v65, val_main_cst_11, val_main_cst_12, dg, pg]
  simp only [Fin.sum_univ_one, r64, r25]
  exact Finset.sum_congr rfl fun b _ => Finset.sum_congr rfl fun s _ => mul_comm _ _
theorem out89 (j : Fin 1024) : val_main_v89 (F := Ideal) x0 x1 x2 x3 x4 x5 x6 (ix3 b 0 j)
    = ∑ s : Fin 2048, (x6 (ix3 b s j) + gradR (FfnSpec.x1 x0 x1 x2 b s) (dn x0 x1 x2 x3 x4 x5 x6 b s) j) * x1 (ix3 b s j) := by
  pointwise [val_main_v89, val_main_v88, val_main_v87, val_main_cst_16]
  simp only [r84]

/-- The arrays with the batch and the sequence in one axis. -/
theorem out91 (r : Fin 8192) (k : Fin 4096) : val_main_v91 (F := Ideal) x0 x1 x2 x3 x4 x5 x6 (ix2 r k)
    = da x0 x1 x2 x3 x4 x5 x6 ⟨r.val / 2048, by omega⟩ ⟨r.val % 2048, by omega⟩ k := by
  rw [← r56]
  pointwise [val_main_v91, val_main_v90]

theorem out92 (r : Fin 8192) (j : Fin 1024) : val_main_v92 (F := Ideal) x0 x1 x2 x3 x4 x5 x6 (ix2 r j)
    = val_main_v84 (F := Ideal) x0 x1 x2 x3 x4 x5 x6 (ix3 ⟨r.val / 2048, by omega⟩ ⟨r.val % 2048, by omega⟩ j) := by
  pointwise [val_main_v92]

theorem out94 (r : Fin 8192) (j : Fin 1024) : val_main_v94 (F := Ideal) x0 x1 x2 x3 x4 x5 x6 (ix2 r j)
    = val_main_v84 (F := Ideal) x0 x1 x2 x3 x4 x5 x6 (ix3 ⟨r.val / 2048, by omega⟩ ⟨r.val % 2048, by omega⟩ j)
      * part x2 ⟨r.val / 2048, by omega⟩ 2 j := by
  rw [← p85 x2 _ ⟨r.val % 2048, by omega⟩, mul_comm]
  pointwise [val_main_v94, val_main_v93, val_main_v86]

end Cert.FfnRefIdeal.FfnRead
end
-- ==== Proof.Ffn.lean ====
/- The squared relu's layer and the second norm: the call that multiplies the cotangent through both weights and
   differentiates the norm and the gate computes what differentiating the forward lines gives. -/
module
public import proofs.«01_k».proof.Proof.FfnOut
public import proofs.«01_k».proof.Proof.FfnRef
public import proofs.«01_k».proof.Proof.Finite
public import proofs.«01_k».proof.Proof.Gen.FfnRefIdeal.Run
public import proofs.«01_k».proof.Proof.Gen.Pre_ffn_finite
public import proofs.«01_k».proof.Defs
@[expose] public section
set_option maxRecDepth 16384
noncomputable section
open Idealize.ShloMosaic Idealize.ShloMosaic.TcCoe Idealize.SL.Sem
namespace Cert.FfnSpec
open Cert.RealRow Cert.FfnIdeal.FfnValue Cert.FfnRefIdeal.Read Cert.FfnRefIdeal.FfnRead
open Cert.InSpec (Seq Mods Row)

/-- All entries of the seven arguments are real. -/
def AllReal (x0 x1 : Seq 1024) (x2 : Mods) (x3 : Row) (x4 : Up) (x5 : Down) (x6 : Seq 1024) : Prop :=
  (∀ i, IsReal (x0 i)) ∧ (∀ i, IsReal (x1 i)) ∧ (∀ i, IsReal (x2 i)) ∧ (∀ i, IsReal (x3 i)) ∧ (∀ i, IsReal (x4 i))
    ∧ (∀ i, IsReal (x5 i)) ∧ (∀ i, IsReal (x6 i))

/-- The precondition read off. -/
theorem reals [h : Cert.Pre_ffn_finite.Facts] (x0 x1 : Seq 1024) (x2 : Mods) (x3 : Row) (x4 : Up) (x5 : Down) (x6 : Seq 1024)
    (e : Cert.Pre_ffn_finite.fn (F := Ideal) x0 x1 x2 x3 x4 x5 x6 = fun _ => 1#1) : AllReal x0 x1 x2 x3 x4 x5 x6 := by
  have e0 := congrFun e ix0
  haveI : Subsingleton Cert.Pre_ffn_finite.S_.Idx := ⟨fun a b => funext fun k => k.elim0⟩
  obtain ⟨e0, h6⟩ := IntOp.andi_eq_one.1 e0
  obtain ⟨e0, h5⟩ := IntOp.andi_eq_one.1 e0
  obtain ⟨e0, h4⟩ := IntOp.andi_eq_one.1 e0
  obtain ⟨e0, h3⟩ := IntOp.andi_eq_one.1 e0
  obtain ⟨e0, h2⟩ := IntOp.andi_eq_one.1 e0
  obtain ⟨h0, h1⟩ := IntOp.andi_eq_one.1 e0
  exact ⟨real_of_finite x0 _ _ _ ix0 h0, real_of_finite x1 _ _ _ ix0 h1, real_of_finite x2 _ _ _ ix0 h2,
    real_of_finite x3 _ _ _ ix0 h3, real_of_finite x4 _ _ _ ix0 h4, real_of_finite x5 _ _ _ ix0 h5,
    real_of_finite x6 _ _ _ ix0 h6⟩

variable {x0 x1 : Seq 1024} {x2 : Mods} {x3 : Row} {x4 : Up} {x5 : Down} {x6 : Seq 1024} (h : AllReal x0 x1 x2 x3 x4 x5 x6)
  (b : Fin 4) (s : Fin 2048)

include h in
theorem real_x1 (j : Fin 1024) : IsReal (FfnSpec.x1 x0 x1 x2 b s j) := by
  obtain ⟨h0, h1, h2, -⟩ := h
  exact (h0 _).add ((h2 _).mul (h1 _))
include h in
theorem real_dn (j : Fin 1024) : IsReal (dn x0 x1 x2 x3 x4 x5 x6 b s j) := by
  have hx := RmsNorm.isReal_nrm (FfnSpec.x1 x0 x1 x2 b s) (real_x1 h b s)
  obtain ⟨h0, h1, h2, h3, h4, h5, h6⟩ := h
  have hs : ∀ j, IsReal (scl x2 b j) := fun j => (isReal_coe 1).add (h2 _)
  have hu : ∀ k, IsReal (up x0 x1 x2 x3 x4 b s k) := fun k =>
    IsReal.sum _ fun j => ((((hx j).mul (h3 _)).mul (hs j)).add (h2 _)).mul (h4 _)
  refine ((IsReal.sum _ fun k => IsReal.mul (IsReal.mul ?_ (IsReal.mul ⟨2, two_eq⟩ ?_)) (h4 _)).mul (hs j)).mul (h3 _)
  · exact IsReal.sum _ fun j => ((h6 _).mul (h2 _)).mul (h5 _)
  · obtain ⟨r, hr⟩ := hu k
    exact ⟨max r 0, by rw [hr]; exact (EReal.coe_strictMono.monotone.map_max (a := r) (b := 0)).symm⟩

include h in
/-- The residual's gradient is the derivative's where the arguments are real. -/
theorem dx_eq (j : Fin 1024) :
    x6 (ix3 b s j) + RmsNorm.gradR (FfnSpec.x1 x0 x1 x2 b s) (dn x0 x1 x2 x3 x4 x5 x6 b s) j = dx1 x0 x1 x2 x3 x4 x5 x6 b s j := by
  rw [dx1, (RmsNorm.grad_eq (FfnSpec.x1 x0 x1 x2 b s) (dn x0 x1 x2 x3 x4 x5 x6 b s) (real_x1 h b s) (real_dn h b s) j).1]
include h in
theorem dgate_eq (j : Fin 1024) : val_main_v89 (F := Ideal) x0 x1 x2 x3 x4 x5 x6 (ix3 b 0 j) = dgate x0 x1 x2 x3 x4 x5 x6 b j := by
  rw [out89]; simp only [dx_eq h]; rfl

/-- The reference leaves its arguments alone. -/
theorem frame : Cert.quiescent_FfnRefIdeal := fun m ρ _ =>
  (θ_run Cert.FfnRefIdeal.defs _ _).mono (fun r h => ⟨fun c => (h c).2.2.2.2.2.2.2,
      Idealize.ShloMosaic.sem_eq_zero_of_no_sems (by decide) r.2⟩)
    (Cert.FfnRefIdeal.Value.run (F := Ideal) m ρ)

set_option maxHeartbeats 4000000 in
/-- The call's seven results are the reference's. -/
theorem algebraic : Cert.algebraic_FfnIdeal_FfnRefIdeal_pre_ffn_finite := by
  intro m g m' g' hpre hagree
  refine ⟨fun c => fun z => da (X0 m c) (X1 m c) (X2 m c) (X3 m c) (X4 m c) (X5 m c) (X6 m c) (bi (z 0)) (si (z 0)) (z 1),
    fun c => fun z => dx1 (X0 m c) (X1 m c) (X2 m c) (X3 m c) (X4 m c) (X5 m c) (X6 m c) (bi (z 0)) (si (z 0)) (z 1),
    fun c => fun z => dmixed (X0 m c) (X1 m c) (X2 m c) (X3 m c) (X4 m c) (X5 m c) (X6 m c) (bi (z 0)) (si (z 0)) (z 1),
    fun c => fun z => dshift (X0 m c) (X1 m c) (X2 m c) (X3 m c) (X4 m c) (X5 m c) (X6 m c) (z 0) (z 2),
    fun c => fun z => dscale (X0 m c) (X1 m c) (X2 m c) (X3 m c) (X4 m c) (X5 m c) (X6 m c) (z 0) (z 2),
    fun c => fun z => dgate (X0 m c) (X1 m c) (X2 m c) (X3 m c) (X4 m c) (X5 m c) (X6 m c) (z 0) (z 2),
    fun c => fun z => dg (X0 m c) (X1 m c) (X2 m c) (X3 m c) (X4 m c) (X5 m c) (X6 m c) (z 1), ?_, ?_⟩
  · refine (θ_run _ _ _).mono (fun r h c => ?_) (θ_run_and (Cert.FfnIdeal.Gen.run_main m g) (Cert.FfnIdeal.Gen.unchanged m g))
    exact ⟨((h.1 c).1 7).trans (arr7 m c), ((h.1 c).1 8).trans (arr8 m c), ((h.1 c).1 9).trans (arr9 m c),
      ((h.1 c).1 10).trans (arr10 m c), ((h.1 c).1 11).trans (arr11 m c), ((h.1 c).1 12).trans (arr12 m c),
      ((h.1 c).1 13).trans (arr13 m c), h.2 c⟩
  · refine (θ_run _ _ _).mono (fun r h c => ?_) (Cert.FfnRefIdeal.Value.run (F := Ideal) m' g')
    obtain ⟨h0, h1, h2, h3, h4, h5, h6, ha⟩ := h c
    obtain ⟨a0, a1, a2, a3, a4, a5, a6⟩ := hagree c
    have hr := reals _ _ _ _ _ _ _ (hpre c)
    refine ⟨(h0.trans (val_main_v91_eq m' c)).trans ?_, (h1.trans (val_main_v92_eq m' c)).trans ?_,
      (h2.trans (val_main_v94_eq m' c)).trans ?_, (h3.trans (val_main_v59_eq m' c)).trans ?_,
      (h4.trans (val_main_v62_eq m' c)).trans ?_, (h5.trans (val_main_v89_eq m' c)).trans ?_,
      (h6.trans (val_main_v83_eq m' c)).trans ?_, ha⟩
    all_goals rw [a0, a1, a2, a3, a4, a5, a6]
    · exact funext fun z => (congrArg _ (ValueIdx.eq_ix2 z)).trans (out91 _ _ _ _ _ _ _ (z 0) (z 1))
    · exact funext fun z => (congrArg _ (ValueIdx.eq_ix2 z)).trans ((out92 _ _ _ _ _ _ _ (z 0) (z 1)).trans
        ((r84 _ _ _ _ _ _ _ _ _ (z 1)).trans (dx_eq hr _ _ (z 1))))
    · exact funext fun z => (congrArg _ (ValueIdx.eq_ix2 z)).trans ((out94 _ _ _ _ _ _ _ (z 0) (z 1)).trans
        (congrArg (· * _) ((r84 _ _ _ _ _ _ _ _ _ (z 1)).trans (dx_eq hr _ _ (z 1)))))
    · refine funext fun z => (congrArg _ ?_).trans (out59 _ _ _ _ _ _ _ (z 0) (z 2))
      exact (ValueIdx.eq_ix3 z).trans (congrArg (fun k => ix3 (z 0) k (z 2)) (Fin.fin_one_eq_zero (z 1)))
    · refine funext fun z => (congrArg _ ?_).trans (out62 _ _ _ _ _ _ _ (z 0) (z 2))
      exact (ValueIdx.eq_ix3 z).trans (congrArg (fun k => ix3 (z 0) k (z 2)) (Fin.fin_one_eq_zero (z 1)))
    · refine funext fun z => (congrArg _ ?_).trans (dgate_eq hr (z 0) (z 2))
      exact (ValueIdx.eq_ix3 z).trans (congrArg (fun k => ix3 (z 0) k (z 2)) (Fin.fin_one_eq_zero (z 1)))
    · refine funext fun z => (congrArg _ ?_).trans (out83 _ _ _ _ _ _ _ (z 1))
      exact (ValueIdx.eq_ix2 z).trans (congrArg (fun k => ix2 k (z 1)) (Fin.fin_one_eq_zero (z 0)))
end Cert.FfnSpec
end
-- ==== Proof.AdaOut.lean ====
/- The modulation's gradients and the sums over the devices: each of the call's results is the reference's. -/
module
public import proofs.«01_k».proof.Proof.Gen.AdaIdeal.Value
public import proofs.«01_k».proof.Proof.Gen.AdaRefIdeal.Read
public import Idealize.ShloMosaic.Lib.Pipeline.ValueKit
public import Idealize.ShloMosaic.Lib.Claim
public import Idealize.ShloMosaic.Lib.StableHlo.RunRead
public import Idealize.ShloMosaic.Lib.KernelVsHost
public import Idealize.ShloMosaic.Lib.ValueLayout
@[expose] public section
set_option maxRecDepth 16384
noncomputable section
open Idealize.ShloMosaic Idealize.ShloMosaic.TcCoe Idealize.SL.Sem
open Idealize.ShloMosaic.Pipeline (Dat)

namespace Cert.AdaIdeal.AdaValue
open Cert.AdaIdeal Cert.AdaIdeal.Gen Cert.AdaIdeal.Value Cert.AdaRefIdeal.Read

variable (m : (ℓ : Loc nD τ sig) → Buf (Elt Ideal) ℓ) (c : Dev nD)

/-- The layer's weights: the swish of the conditioning times the modulations' cotangent, summed over the samples. -/
theorem arr14 : (dats m 0 c).arrAt 14 cfg0.N
    = val_main_v7 (m ((c : Thread nD τ).loc main_arg0)) (m ((c : Thread nD τ).loc main_arg2)) := by
  refine (final14 m c).trans (funext fun z => ?_)
  rw [ValueIdx.eq_ix2 z]
  pointwise [k0_pay2, val_main_v7, val_main_v6, val_main_v2, val_main_call0_v5, val_main_call0_v4, val_main_call0_cst_0,
    val_main_call0_v3, val_main_call0_v2, val_main_call0_cst, val_main_call0_v1, val_main_call0_v0]
  exact Finset.sum_congr rfl fun k _ => mul_comm _ _

/-- The layer's bias: the modulations' cotangent summed over the samples. -/
theorem arr15 : (dats m 0 c).arrAt 15 cfg0.N = val_main_v15 (m ((c : Thread nD τ).loc main_arg1)) := by
  refine (final15 m c).trans (funext fun z => ?_)
  rw [ValueIdx.eq_ix2 z]
  pointwise [k0_pay3, val_main_v15, val_main_v14, val_main_cst_3]

/-- The devices' parts of the convolution's weights, summed one after the other. -/
theorem arr16 : (dats m 0 c).arrAt 16 cfg0.N = val_main_v16 (m ((c : Thread nD τ).loc main_arg3)) := by
  refine (final16 m c).trans (funext fun z => ?_)
  rw [ValueIdx.eq_ix2 z]
  pointwise [k0_pay6, k0_pay5, k0_pay4, val_main_v16, val_main_cst_4]
  rw [Fin.sum_univ_eight]

/-- The devices' parts of the loss, summed one after the other. -/
theorem arr17 : (dats m 0 c).arrAt 17 cfg0.N = val_main_v17 (m ((c : Thread nD τ).loc main_arg4)) := by
  refine (final17 m c).trans (funext fun z => ?_)
  rw [ValueIdx.eq_ix2 z]
  pointwise [k0_pay8, k0_pay7, val_main_v17, val_main_cst_5]
  rw [Fin.sum_univ_eight]

/-- The devices' parts of the first norm's weight, summed one after the other. -/
theorem arr18 : (dats m 0 c).arrAt 18 cfg0.N = val_main_v18 (m ((c : Thread nD τ).loc main_arg5)) := by
  refine (final18 m c).trans (funext fun z => ?_)
  rw [ValueIdx.eq_ix2 z]
  pointwise [k0_pay9, val_main_v18, val_main_cst_6]
  rw [Fin.sum_univ_eight]

/-- The devices' parts of the query latent's norm's weight, summed one after the other. -/
theorem arr19 : (dats m 0 c).arrAt 19 cfg0.N = val_main_v19 (m ((c : Thread nD τ).loc main_arg6)) := by
  refine (final19 m c).trans (funext fun z => ?_)
  rw [ValueIdx.eq_ix2 z]
  pointwise [k0_pay10, val_main_v19, val_main_cst_7]
  rw [Fin.sum_univ_eight]

/-- The devices' parts of the key and value latent's norm's weight, summed one after the other. -/
theorem arr20 : (dats m 0 c).arrAt 20 cfg0.N = val_main_v20 (m ((c : Thread nD τ).loc main_arg7)) := by
  refine (final20 m c).trans (funext fun z => ?_)
  rw [ValueIdx.eq_ix2 z]
  pointwise [k0_pay13, k0_pay12, k0_pay11, val_main_v20, val_main_cst_8]
  rw [Fin.sum_univ_eight]

/-- The devices' parts of the query heads' norm's weight, summed one after the other. -/
theorem arr21 : (dats m 0 c).arrAt 21 cfg0.N = val_main_v21 (m ((c : Thread nD τ).loc main_arg8)) := by
  refine (final21 m c).trans (funext fun z => ?_)
  rw [ValueIdx.eq_ix2 z]
  pointwise [k0_pay15, k0_pay14, val_main_v21, val_main_cst_9]
  rw [Fin.sum_univ_eight]

/-- The devices' parts of the key heads' norm's weight, summed one after the other. -/
theorem arr22 : (dats m 0 c).arrAt 22 cfg0.N = val_main_v22 (m ((c : Thread nD τ).loc main_arg9)) := by
  refine (final22 m c).trans (funext fun z => ?_)
  rw [ValueIdx.eq_ix2 z]
  pointwise [k0_pay18, k0_pay17, k0_pay16, val_main_v22, val_main_cst_10]
  rw [Fin.sum_univ_eight]

/-- The devices' parts of the convolution's bias, summed one after the other. -/
theorem arr23 : (dats m 0 c).arrAt 23 cfg0.N = val_main_v23 (m ((c : Thread nD τ).loc main_arg10)) := by
  refine (final23 m c).trans (funext fun z => ?_)
  rw [ValueIdx.eq_ix2 z]
  pointwise [k0_pay20, k0_pay19, val_main_v23, val_main_cst_11]
  rw [Fin.sum_univ_eight]

/-- The devices' parts of the convolution's norm's weight, summed one after the other. -/
theorem arr24 : (dats m 0 c).arrAt 24 cfg0.N = val_main_v24 (m ((c : Thread nD τ).loc main_arg11)) := by
  refine (final24 m c).trans (funext fun z => ?_)
  rw [ValueIdx.eq_ix2 z]
  pointwise [k0_pay23, k0_pay22, k0_pay21, val_main_v24, val_main_cst_12]
  rw [Fin.sum_univ_eight]

/-- The devices' parts of the convolution's norm's bias, summed one after the other. -/
theorem arr25 : (dats m 0 c).arrAt 25 cfg0.N = val_main_v25 (m ((c : Thread nD τ).loc main_arg12)) := by
  refine (final25 m c).trans (funext fun z => ?_)
  rw [ValueIdx.eq_ix2 z]
  pointwise [k0_pay24, val_main_v25, val_main_cst_13]
  rw [Fin.sum_univ_eight]

/-- The devices' parts of the second norm's weight, summed one after the other. -/
theorem arr26 : (dats m 0 c).arrAt 26 cfg0.N = val_main_v26 (m ((c : Thread nD τ).loc main_arg13)) := by
  refine (final26 m c).trans (funext fun z => ?_)
  rw [ValueIdx.eq_ix2 z]
  pointwise [k0_pay1, val_main_v26, val_main_cst_14]
  rw [Fin.sum_univ_eight]

end Cert.AdaIdeal.AdaValue
end
-- ==== Proof.Ada.lean ====
/- The modulation's gradients and the sums over the devices: what the call computes is what the forward line's derivative
   and the sums give. -/
module
public import proofs.«01_k».proof.Proof.AdaOut
public import proofs.«01_k».proof.Proof.Gen.AdaRefIdeal.Run
public import proofs.«01_k».proof.Defs
@[expose] public section
set_option maxRecDepth 16384
noncomputable section
open Idealize.ShloMosaic Idealize.ShloMosaic.TcCoe Idealize.SL.Sem
namespace Cert.AdaSpec
open Cert.AdaIdeal.AdaValue Cert.AdaRefIdeal.Read

/-- The reference leaves its arguments alone. -/
theorem frame : Cert.quiescent_AdaRefIdeal := fun m ρ _ =>
  (θ_run Cert.AdaRefIdeal.defs _ _).mono (fun r h => ⟨fun c => (h c).2.2.2.2.2.2.2.2.2.2.2.2.2,
      Idealize.ShloMosaic.sem_eq_zero_of_no_sems (by decide) r.2⟩)
    (Cert.AdaRefIdeal.Value.run (F := Ideal) m ρ)

set_option maxHeartbeats 4000000 in
/-- The call's thirteen results are the reference's. -/
theorem algebraic : Cert.algebraic_AdaIdeal_AdaRefIdeal := by
  intro m g m' g' _ hagree
  refine ⟨fun c => val_main_v7 (m (c, Proc.tc.devRef Cert.AdaIdeal.main_arg0)) (m (c, Proc.tc.devRef Cert.AdaIdeal.main_arg2)),
    fun c => val_main_v15 (m (c, Proc.tc.devRef Cert.AdaIdeal.main_arg1)),
    fun c => val_main_v16 (m (c, Proc.tc.devRef Cert.AdaIdeal.main_arg3)),
    fun c => val_main_v17 (m (c, Proc.tc.devRef Cert.AdaIdeal.main_arg4)),
    fun c => val_main_v18 (m (c, Proc.tc.devRef Cert.AdaIdeal.main_arg5)),
    fun c => val_main_v19 (m (c, Proc.tc.devRef Cert.AdaIdeal.main_arg6)),
    fun c => val_main_v20 (m (c, Proc.tc.devRef Cert.AdaIdeal.main_arg7)),
    fun c => val_main_v21 (m (c, Proc.tc.devRef Cert.AdaIdeal.main_arg8)),
    fun c => val_main_v22 (m (c, Proc.tc.devRef Cert.AdaIdeal.main_arg9)),
    fun c => val_main_v23 (m (c, Proc.tc.devRef Cert.AdaIdeal.main_arg10)),
    fun c => val_main_v24 (m (c, Proc.tc.devRef Cert.AdaIdeal.main_arg11)),
    fun c => val_main_v25 (m (c, Proc.tc.devRef Cert.AdaIdeal.main_arg12)),
    fun c => val_main_v26 (m (c, Proc.tc.devRef Cert.AdaIdeal.main_arg13)), ?_, ?_⟩
  · refine (θ_run _ _ _).mono (fun r h c => ?_) (θ_run_and (Cert.AdaIdeal.Gen.run_main m g) (Cert.AdaIdeal.Gen.unchanged m g))
    exact ⟨((h.1 c).1 14).trans (arr14 m c),
      ((h.1 c).1 15).trans (arr15 m c),
      ((h.1 c).1 16).trans (arr16 m c),
      ((h.1 c).1 17).trans (arr17 m c),
      ((h.1 c).1 18).trans (arr18 m c),
      ((h.1 c).1 19).trans (arr19 m c),
      ((h.1 c).1 20).trans (arr20 m c),
      ((h.1 c).1 21).trans (arr21 m c),
      ((h.1 c).1 22).trans (arr22 m c),
      ((h.1 c).1 23).trans (arr23 m c),
      ((h.1 c).1 24).trans (arr24 m c),
      ((h.1 c).1 25).trans (arr25 m c),
      ((h.1 c).1 26).trans (arr26 m c), h.2 c⟩
  · refine (θ_run _ _ _).mono (fun r h c => ?_) (Cert.AdaRefIdeal.Value.run (F := Ideal) m' g')
    obtain ⟨h0, h1, h2, h3, h4, h5, h6, h7, h8, h9, h10, h11, h12, ha⟩ := h c
    obtain ⟨a0, a1, a2, a3, a4, a5, a6, a7, a8, a9, a10, a11, a12, a13⟩ := hagree c
    exact ⟨h0.trans (congrArg₂ val_main_v7 a0 a2),
      h1.trans (congrArg val_main_v15 a1),
      h2.trans (congrArg val_main_v16 a3),
      h3.trans (congrArg val_main_v17 a4),
      h4.trans (congrArg val_main_v18 a5),
      h5.trans (congrArg val_main_v19 a6),
      h6.trans (congrArg val_main_v20 a7),
      h7.trans (congrArg val_main_v21 a8),
      h8.trans (congrArg val_main_v22 a9),
      h9.trans (congrArg val_main_v23 a10),
      h10.trans (congrArg val_main_v24 a11),
      h11.trans (congrArg val_main_v25 a12),
      h12.trans (congrArg val_main_v26 a13), ha⟩
end Cert.AdaSpec
end
-- ==== Proof.FwdInSpec.lean ====
/- The first norm forward, its shift and scale, the product after it and the gated linear unit, at one position, as
   functions of the arguments; and the three pieces of a product's row that the call writes apart. -/
module
public import proofs.«01_k».proof.Proof.InSpec
@[expose] public section
noncomputable section
open Idealize.ShloMosaic
namespace Cert.FwdInSpec
open Cert.RmsNorm Cert.InSpec

section cols
variable (f : Fin 3488 → EReal)

/-- The attention's latents, with 64 and 32 zeros around the rotary key. -/
def latents (j : Fin 512) : EReal :=
  if h : j.val < 384 then f ⟨j.val, by omega⟩
  else if h : j.val - 384 < 64 then 0
  else if h : j.val - 384 - 64 < 32 then f ⟨384 + (j.val - 384 - 64), by omega⟩
  else 0

/-- The gate's columns and the linear unit's. -/
def gates (j : Fin 2048) : EReal := f ⟨1440 + j.val, by omega⟩
def units (j : Fin 1024) : EReal := f ⟨416 + j.val, by omega⟩

/-- The pieces in the kernel's order of the columns. -/
theorem packed_gate (j : Fin 2048) : packed f ⟨j.val, by omega⟩ = gates f j := by
  unfold packed; exact dif_pos j.isLt
theorem packed_glu (j : Fin 1024) : packed f ⟨2048 + j.val, by omega⟩ = units f j := by
  unfold packed units
  rw [dif_neg (by simp only; omega), dif_pos (by simp only; omega)]
  exact congrArg f (Fin.ext (by simp only; omega))
theorem packed_latents (j : Fin 512) : packed f ⟨3072 + j.val, by omega⟩ = latents f j := by
  unfold packed latents
  rw [dif_neg (by simp only; omega), dif_neg (by simp only; omega)]
  repeat' split
  all_goals first
    | with_reducible rfl
    | (exfalso; simp only at *; omega)
    | exact congrArg f (Fin.ext (by simp only; omega))

/-- A product with packed columns is the packed product. -/
theorem dot_packed {n : ℕ} (a : Fin n → EReal) (g : Fin n → Fin 3488 → EReal) (k : Fin 3584) :
    ∑ j, a j * packed (g j) k = packed (fun c => ∑ j, a j * g j c) k := by
  unfold packed
  by_cases h1 : k.val < 2048
  · simp only [dif_pos h1]
  by_cases h2 : k.val - 2048 < 1024
  · simp only [dif_neg h1, dif_pos h2]
  by_cases h3 : k.val - 2048 - 1024 < 384
  · simp only [dif_neg h1, dif_neg h2, dif_pos h3]
  by_cases h4 : k.val - 2048 - 1024 - 384 < 64
  · simp only [dif_neg h1, dif_neg h2, dif_neg h3, dif_pos h4, mul_zero, Finset.sum_const_zero]
  by_cases h5 : k.val - 2048 - 1024 - 384 - 64 < 32
  · simp only [dif_neg h1, dif_neg h2, dif_neg h3, dif_neg h4, dif_pos h5]
  · simp only [dif_neg h1, dif_neg h2, dif_neg h3, dif_neg h4, dif_neg h5, mul_zero, Finset.sum_const_zero]
end cols

variable (x : Seq 1024) (md : Mods) (g : Row) (w : Mat) (b : Fin 4) (s : Fin 2048)

/-- The scaled norm's row, its product with the weights, and the gated linear unit. -/
def hid (j : Fin 1024) : EReal := nrm (xr x b s) j * g (ix2 0 j) * scl md b j + md (ix2 b ⟨j.val, by omega⟩)
def prod (c : Fin 3488) : EReal := ∑ j, hid x md g b s j * w (ix3 0 j c)
def unit (j : Fin 512) : EReal :=
  prod x md g w b s ⟨416 + j.val, by omega⟩ * Ideal.logistic (prod x md g w b s ⟨416 + (512 + j.val), by omega⟩)

end Cert.FwdInSpec
end
-- ==== Proof.FwdInOut.lean ====
/- The arrays the call's five results are left as: the functions of the arguments in FwdInSpec. -/
module
public import proofs.«01_k».proof.Proof.Gen.FwdInIdeal.Value
public import proofs.«01_k».proof.Proof.FwdInSpec
public import Idealize.ShloMosaic.Lib.Pipeline.ValueKit
public import Idealize.ShloMosaic.Lib.Pipeline.ReadBack
public import Idealize.ShloMosaic.Lib.Claim
public import Idealize.ShloMosaic.Lib.StableHlo.RunRead
public import Idealize.ShloMosaic.Lib.KernelVsHost
@[expose] public section
set_option maxRecDepth 16384
noncomputable section
open Idealize.ShloMosaic Idealize.ShloMosaic.TcCoe Idealize.SL.Sem
open Idealize.ShloMosaic.Pipeline (Dat)
namespace Cert.FwdInIdeal.FwdInValue
open Cert.FwdInIdeal Cert.FwdInIdeal.Gen Cert.InSpec Cert.FwdInSpec Cert.RmsNorm Cert.RealRow

variable (m : (ℓ : Loc nD τ sig) → Buf (Elt Ideal) ℓ) (c : Dev nD) (t : Fin cfg0.N)

/-- The arguments. -/
abbrev X0 : Seq 1024 := m (c, Proc.tc.devRef main_arg0)
abbrev X1 : Mods := m (c, Proc.tc.devRef main_arg1)
abbrev X2 : Row := m (c, Proc.tc.devRef main_arg2)
abbrev X3 : Mat := m (c, Proc.tc.devRef main_arg3)

/-- The batch and the position of a row of the flattened arrays, and of row `p` of block `t`. -/
def bi (r : Fin 8192) : Fin 4 := ⟨r.val / 2048, by omega⟩
def si (r : Fin 8192) : Fin 2048 := ⟨r.val % 2048, by omega⟩
def rowOf (p : Fin 256) : Fin 8192 := ⟨256 * t.val + p.val, by have := t.isLt; have : cfg0.N = 32 := N_0; omega⟩
def batch : Fin 4 := ⟨t.val / 8, by have := t.isLt; have : cfg0.N = 32 := N_0; omega⟩
theorem bi_rowOf (p : Fin 256) : bi (rowOf t p) = batch t := by
  apply Fin.ext; show (256 * t.val + p.val) / 2048 = t.val / 8; omega

theorem idx : ∀ t : Fin cfg0.N, win0_0.index t = ![t.val, 0] ∧ win0_1.index t = ![0, 0] ∧ win0_2.index t = ![t.val / 8, 0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

set_option maxHeartbeats 2000000 in
/-- The operands when the call starts: the host's lines, read at an index. -/
theorem operands (r : Fin 8192) (j : Fin 1024) (b : Fin 4) (k : Fin 6) :
    V m c main_v21 (ix2 r j) = X0 m c (ix3 (bi r) (si r) j)
    ∧ V m c main_v22 (ix3 b k j) = X1 m c (ix2 b ⟨k.val * 1024 + j.val, by omega⟩) := by
  refine ⟨?_, ?_⟩ <;>
  (simp only [V, hostOps0, List.flatten_cons, List.flatten_nil,
      List.append_nil, List.cons_append, List.nil_append, StableHlo.TRef.binary, StableHlo.TRef.unary,
      StableHlo.TRef.nullary, StableHlo.TRef.toBuf, StableHlo.TRef.ofBuf, cast_eq]
   after_results_simp
   pointwise
   try simp only [bi, si]
   try with_reducible rfl)

set_option maxHeartbeats 4000000 in
theorem operand_w (q : Fin 1024) (k : Fin 3584) :
    V m c main_v20 (ix2 q k) = packed (fun z => X3 m c (ix3 0 q z)) k := by
  simp only [V, hostOps0]
  after_reads_simp
  pointwise
  after_reads_simp
  pointwise
  exact packed_shards (fun z => X3 m c (ix3 0 q z)) k

/-- The operands' blocks, read at an index. -/
theorem b0 (p : Fin 256) (k : Fin 1024) : iblk m c 0 t (ix2 p k) = X0 m c (ix3 (batch t) (si (rowOf t p)) k) := by
  rw [← bi_rowOf t p, ← (operands m c (rowOf t p) k 0 0).1]; unfold rowOf; blk_point [iblk, V, idx t]
theorem b1 (k : Fin 1024) : iblk m c 1 t (ix2 0 k) = X2 m c (ix2 0 k) := by
  blk_point [iblk, V, idx t]
theorem b2 (k : Fin 6) (j : Fin 1024) :
    iblk m c 2 t (ix3 0 k j) = X1 m c (ix2 (batch t) ⟨k.val * 1024 + j.val, by omega⟩) := by
  rw [← (operands m c 0 j (batch t) k).2]; unfold batch; blk_point [iblk, V, idx t]

/-- The buffer of the weights after the copy, a load of the whole of it, and that it is kept. -/
theorem copied : View.canon [⟨Rect.whole S1024x3584,
    ReadAs.same.apply (View.read (Elt Ideal) (View.whole main_v20) (V m c main_v20))⟩] = V m c main_v20 := by
  funext y
  canon_tiles x h
  have e : x = y := by
    funext a
    exact Fin.cases (Fin.ext h0.symm) (fun a => Fin.cases (Fin.ext h1.symm) (fun a => a.elim0) a) a
  exact congrArg (V m c main_v20) e
theorem loaded : (View.whole cc0_scratch0).readCov [⟨Rect.whole S1024x3584,
    ReadAs.same.apply (View.read (Elt Ideal) (View.whole main_v20) (V m c main_v20))⟩]
      (Rect.unit ![0, 0] ![1024, 3584] inb_S1024x3584_S1024x3584_0_0).toLoadRect = V m c main_v20 := by
  funext y
  rw [View.readCov_eq_canon', copied]
  refine congrArg (V m c main_v20) ?_
  funext a
  refine Fin.cases (Fin.ext ?_) (fun a => Fin.cases (Fin.ext ?_) (fun a => a.elim0) a) a
  · show 0 + 1 * (y 0).val = (y 0).val
    omega
  · show 0 + 1 * (y 1).val = (y 1).val
    omega
theorem held (n : ℕ) (hn : n < cfg0.N) : (outsAt0 m c n hn).2.2.2.2.2 = V m c main_v20 := by
  induction n with
  | zero =>
    rw [outsAt0_A m c ⟨0, hn⟩ rfl]
    frame_out
    exact copied m c
  | succ n ih =>
    have h : ¬(n + 1) % 32 = 0 := by have : cfg0.N = 32 := N_0; omega
    rw [outsAt0_B m c ⟨n + 1, hn⟩ h]
    frame_out
    exact ih (by omega)

/-! ### What the body stores, at one position -/

section body
variable (x : FVec Ideal S256x1024 .f32) (g : FVec Ideal S1x1024 .f32) (u v : Vec Ideal S1x1x1024 .f32)
  (W : FVec Ideal S1024x3584 .bf16) (z : FVec Ideal S256x3584 .f32) (p : Fin 256)
theorem hid4 (q : Fin 1024) : k0_pay4 (F := Ideal) x g u v (ix2 p q)
    = nrm (fun k => x (ix2 p k)) q * g (ix2 0 q) * (1 + u (ix3 0 0 q)) + v (ix3 0 0 q) := by
  pointwise [k0_pay4, nrm, irms, msq, w1024, eps]
theorem prod5 (k : Fin 3584) : k0_pay5 (F := Ideal) x g u v W (ix2 p k)
    = ∑ j : Fin 1024, k0_pay4 (F := Ideal) x g u v (ix2 p j) * W (ix2 j k) := by
  pointwise [k0_pay5]
theorem gate6 (k : Fin 2048) : k0_pay6 (F := Ideal) x g u v W (ix2 p k) = k0_pay5 (F := Ideal) x g u v W (ix2 p ⟨k.val, by omega⟩) := by
  pointwise [k0_pay6]
theorem glu1 (k : Fin 1024) : k0_pay1 (F := Ideal) z (ix2 p k) = z (ix2 p ⟨2048 + k.val, by omega⟩) := by
  pointwise [k0_pay1]
theorem lat2 (k : Fin 512) : k0_pay2 (F := Ideal) z (ix2 p k) = z (ix2 p ⟨3072 + k.val, by omega⟩) := by
  pointwise [k0_pay2]
theorem unit3 (k : Fin 512) : k0_pay3 (F := Ideal) z (ix2 p k)
    = z (ix2 p ⟨2048 + k.val, by omega⟩) * Ideal.logistic (z (ix2 p ⟨2048 + (512 + k.val), by omega⟩)) := by
  pointwise [k0_pay3, glu1]
end body

/-- The block's scaled norm and product. -/
abbrev hb : FVec Ideal S256x1024 .bf16 := k0_pay4 (F := Ideal) (iblk m c 0 t) (iblk m c 1 t)
  (View.ld (iblk m c 2 t) (Rect.unit ![0, 1, 0] ![1, 1, 1024] inb_S1x6x1024_S1x1x1024_0_1_0))
  (View.ld (iblk m c 2 t) (Rect.unit ![0, 0, 0] ![1, 1, 1024] inb_S1x6x1024_S1x1x1024_0_0_0))
abbrev zb (W : FVec Ideal S1024x3584 .bf16) : FVec Ideal S256x3584 .f32 := k0_pay5 (F := Ideal) (iblk m c 0 t) (iblk m c 1 t)
  (View.ld (iblk m c 2 t) (Rect.unit ![0, 1, 0] ![1, 1, 1024] inb_S1x6x1024_S1x1x1024_0_1_0))
  (View.ld (iblk m c 2 t) (Rect.unit ![0, 0, 0] ![1, 1, 1024] inb_S1x6x1024_S1x1x1024_0_0_0)) W
abbrev row (p : Fin 256) : Fin 3488 → EReal := prod (X0 m c) (X1 m c) (X2 m c) (X3 m c) (batch t) (si (rowOf t p))

variable {W : FVec Ideal S1024x3584 .bf16} (hW : W = V m c main_v20) (p : Fin 256)
theorem hid_at (q : Fin 1024) : hb m c t (ix2 p q) = hid (X0 m c) (X1 m c) (X2 m c) (batch t) (si (rowOf t p)) q := by
  have e : (fun k => iblk m c 0 t (ix2 p k)) = xr (X0 m c) (batch t) (si (rowOf t p)) := funext fun k => b0 m c t p k
  have e1 := b2 m c t 1 q
  have e0 := b2 m c t 0 q
  unfold hb hid scl
  rw [hid4, e, b1]
  refine congrArg₂ (· + ·) (congrArg _ (congrArg _ (Eq.trans ?_ (e1.trans ?_)))) (Eq.trans ?_ (e0.trans ?_))
  · pointwise
  · exact congrArg (fun k => X1 m c (ix2 (batch t) k)) (Fin.ext (by simp))
  · pointwise
  · exact congrArg (fun k => X1 m c (ix2 (batch t) k)) (Fin.ext (by simp))
include hW in
set_option maxHeartbeats 1000000 in
theorem prod_at (k : Fin 3584) : zb m c t W (ix2 p k) = packed (row m c t p) k := by
  have e : ∀ j, W (ix2 j k) = packed (fun z => X3 m c (ix3 0 j z)) k := fun j => by rw [hW]; exact operand_w m c j k
  refine (prod5 _ _ _ _ W p k).trans ?_
  refine (Finset.sum_congr rfl fun j _ => congrArg₂ (· * ·) (hid_at m c t p j) (e j)).trans ?_
  exact dot_packed (fun j => hid (X0 m c) (X1 m c) (X2 m c) (batch t) (si (rowOf t p)) j) (fun j z => X3 m c (ix3 0 j z)) k
include hW in
theorem gate_at (k : Fin 2048) : k0_pay6 (F := Ideal) (iblk m c 0 t) (iblk m c 1 t)
      (View.ld (iblk m c 2 t) (Rect.unit ![0, 1, 0] ![1, 1, 1024] inb_S1x6x1024_S1x1x1024_0_1_0))
      (View.ld (iblk m c 2 t) (Rect.unit ![0, 0, 0] ![1, 1, 1024] inb_S1x6x1024_S1x1x1024_0_0_0)) W (ix2 p k)
    = gates (row m c t p) k :=

  (gate6 _ _ _ _ _ p k).trans ((prod_at m c t hW p _).trans (packed_gate _ k))
include hW in
theorem glu_at (k : Fin 1024) : k0_pay1 (F := Ideal) (zb m c t W) (ix2 p k) = units (row m c t p) k :=

  (glu1 _ p k).trans ((prod_at m c t hW p _).trans (packed_glu _ k))
include hW in
theorem lat_at (k : Fin 512) : k0_pay2 (F := Ideal) (zb m c t W) (ix2 p k) = latents (row m c t p) k :=
  (lat2 _ p k).trans ((prod_at m c t hW p _).trans (packed_latents _ k))
include hW in
theorem unit_at (k : Fin 512) : k0_pay3 (F := Ideal) (zb m c t W) (ix2 p k)
    = unit (X0 m c) (X1 m c) (X2 m c) (X3 m c) (batch t) (si (rowOf t p)) k := by
  refine (unit3 _ p k).trans (congrArg₂ (fun a b => a * Ideal.logistic b) ?_ ?_)
  · exact (prod_at m c t hW p _).trans (packed_glu _ ⟨k.val, by omega⟩)
  · exact (prod_at m c t hW p _).trans (packed_glu _ ⟨512 + k.val, by omega⟩)

/-- Where a block of rows lies in its array. -/
theorem emb3 (q : Fin 1024) : (win0_3.blk t).view.emb (ix2 p q) = ix2 (rowOf t p) q := by
  funext a; apply Fin.ext; fin_cases a <;> simp [rowOf, View.slice, idx t, Pipeline.WinKind.off] <;> omega
theorem emb4 (q : Fin 512) : (win0_4.blk t).view.emb (ix2 p q) = ix2 (rowOf t p) q := by
  funext a; apply Fin.ext; fin_cases a <;> simp [rowOf, View.slice, idx t, Pipeline.WinKind.off] <;> omega
theorem emb5 (q : Fin 1024) : (win0_5.blk t).view.emb (ix2 p q) = ix2 (rowOf t p) q := by
  funext a; apply Fin.ext; fin_cases a <;> simp [rowOf, View.slice, idx t, Pipeline.WinKind.off] <;> omega
theorem emb6 (q : Fin 2048) : (win0_6.blk t).view.emb (ix2 p q) = ix2 (rowOf t p) q := by
  funext a; apply Fin.ext; fin_cases a <;> simp [rowOf, View.slice, idx t, Pipeline.WinKind.off] <;> omega
theorem emb7 (q : Fin 512) : (win0_7.blk t).view.emb (ix2 p q) = ix2 (rowOf t p) q := by
  funext a; apply Fin.ext; fin_cases a <;> simp [rowOf, View.slice, idx t, Pipeline.WinKind.off] <;> omega

set_option maxHeartbeats 1000000 in
theorem arr3 : (dats m 0 c).arrAt 3 cfg0.N = fun z => hid (X0 m c) (X1 m c) (X2 m c) (bi (z 0)) (si (z 0)) (z 1) := by
  refine (dats m 0 c).arrAt_eq_of_covers 3 _ (by decide +kernel) fun t hf y => ?_
  blk_simp
  obtain ⟨p, q, rfl⟩ : ∃ (p : Fin 256) (q : Fin 1024), y = ix2 p q := ⟨y 0, y 1, ValueIdx.eq_ix2 y⟩
  rw [after0_3, emb3]
  show _ = hid (X0 m c) (X1 m c) (X2 m c) (bi (rowOf t p)) (si (rowOf t p)) q
  rw [bi_rowOf]
  by_cases h : t.val % 32 = 0
  on_goal 1 => rw [outsAt0_A m c t h]; frame_out
  on_goal 2 => rw [outsAt0_B m c t h]; frame_out
  all_goals exact hid_at m c t p q
set_option maxHeartbeats 1000000 in
theorem arr4 : (dats m 0 c).arrAt 4 cfg0.N
    = fun z => latents (prod (X0 m c) (X1 m c) (X2 m c) (X3 m c) (bi (z 0)) (si (z 0))) (z 1) := by
  refine (dats m 0 c).arrAt_eq_of_covers 4 _ (by decide +kernel) fun t hf y => ?_
  blk_simp
  obtain ⟨p, q, rfl⟩ : ∃ (p : Fin 256) (q : Fin 512), y = ix2 p q := ⟨y 0, y 1, ValueIdx.eq_ix2 y⟩
  rw [after0_4, emb4]
  show _ = latents (prod (X0 m c) (X1 m c) (X2 m c) (X3 m c) (bi (rowOf t p)) (si (rowOf t p))) q
  rw [bi_rowOf]
  by_cases h : t.val % 32 = 0
  on_goal 1 => rw [outsAt0_A m c t h]; frame_out; exact lat_at m c t (loaded m c) p q
  rw [outsAt0_B m c t h]; frame_out
  simp only [read_unread_whole, held]
  exact lat_at m c t rfl p q
set_option maxHeartbeats 1000000 in
theorem arr5 : (dats m 0 c).arrAt 5 cfg0.N
    = fun z => units (prod (X0 m c) (X1 m c) (X2 m c) (X3 m c) (bi (z 0)) (si (z 0))) (z 1) := by
  refine (dats m 0 c).arrAt_eq_of_covers 5 _ (by decide +kernel) fun t hf y => ?_
  blk_simp
  obtain ⟨p, q, rfl⟩ : ∃ (p : Fin 256) (q : Fin 1024), y = ix2 p q := ⟨y 0, y 1, ValueIdx.eq_ix2 y⟩
  rw [after0_5, emb5]
  show _ = units (prod (X0 m c) (X1 m c) (X2 m c) (X3 m c) (bi (rowOf t p)) (si (rowOf t p))) q
  rw [bi_rowOf]
  by_cases h : t.val % 32 = 0
  on_goal 1 => rw [outsAt0_A m c t h]; frame_out; exact glu_at m c t (loaded m c) p q
  rw [outsAt0_B m c t h]; frame_out
  simp only [read_unread_whole, held]
  exact glu_at m c t rfl p q
set_option maxHeartbeats 1000000 in
theorem arr6 : (dats m 0 c).arrAt 6 cfg0.N
    = fun z => gates (prod (X0 m c) (X1 m c) (X2 m c) (X3 m c) (bi (z 0)) (si (z 0))) (z 1) := by
  refine (dats m 0 c).arrAt_eq_of_covers 6 _ (by decide +kernel) fun t hf y => ?_
  blk_simp
  obtain ⟨p, q, rfl⟩ : ∃ (p : Fin 256) (q : Fin 2048), y = ix2 p q := ⟨y 0, y 1, ValueIdx.eq_ix2 y⟩
  rw [after0_6, emb6]
  show _ = gates (prod (X0 m c) (X1 m c) (X2 m c) (X3 m c) (bi (rowOf t p)) (si (rowOf t p))) q
  rw [bi_rowOf]
  by_cases h : t.val % 32 = 0
  on_goal 1 => rw [outsAt0_A m c t h]; frame_out; exact gate_at m c t (loaded m c) p q
  rw [outsAt0_B m c t h]; frame_out
  simp only [read_unread_whole, held]
  exact gate_at m c t rfl p q
set_option maxHeartbeats 1000000 in
theorem arr7 : (dats m 0 c).arrAt 7 cfg0.N
    = fun z => unit (X0 m c) (X1 m c) (X2 m c) (X3 m c) (bi (z 0)) (si (z 0)) (z 1) := by
  refine (dats m 0 c).arrAt_eq_of_covers 7 _ (by decide +kernel) fun t hf y => ?_
  blk_simp
  obtain ⟨p, q, rfl⟩ : ∃ (p : Fin 256) (q : Fin 512), y = ix2 p q := ⟨y 0, y 1, ValueIdx.eq_ix2 y⟩
  rw [after0_7, emb7]
  show _ = unit (X0 m c) (X1 m c) (X2 m c) (X3 m c) (bi (rowOf t p)) (si (rowOf t p)) q
  rw [bi_rowOf]
  by_cases h : t.val % 32 = 0
  on_goal 1 => rw [outsAt0_A m c t h]; frame_out; exact unit_at m c t (loaded m c) p q
  rw [outsAt0_B m c t h]; frame_out
  simp only [read_unread_whole, held]
  exact unit_at m c t rfl p q
end Cert.FwdInIdeal.FwdInValue
end
-- ==== Proof.FwdInRef.lean ====
/- The forward lines, read off at one position: the reference's arrays, one after the other, as the functions of
   FwdInSpec. -/
module
public import proofs.«01_k».proof.Proof.Gen.FwdInRefIdeal.Read
public import proofs.«01_k».proof.Proof.FwdInSpec
public import proofs.«01_k».proof.Proof.RowSum
public import Idealize.ShloMosaic.Lib.KernelVsHost
@[expose] public section
set_option maxRecDepth 16384
noncomputable section
open Idealize.ShloMosaic Idealize.ShloMosaic.TcCoe Idealize.SL.Sem
namespace Cert.FwdInRefIdeal.FwdInRead
open Cert.FwdInRefIdeal Cert.FwdInRefIdeal.Gen Cert.FwdInRefIdeal.Read Cert.InSpec Cert.FwdInSpec Cert.RmsNorm

variable (x0 : Seq 1024) (x1 : Mods) (x2 : Row) (x3 : Mat) (b : Fin 4) (s : Fin 2048)

/-- The norm, the modulations, the product. -/
theorem r15 : val_main_v15 (F := Ideal) x0 (ix3 b s 0) = irms (xr x0 b s) := by
  pointwise [val_main_v15, val_main_v14, val_main_v13, val_main_v12, val_main_v11, val_main_v10, val_main_v9, val_main_v8,
    val_main_cst, val_main_cst_0, val_main_cst_1, irms, msq, w1024, RealRow.eps, xr]
theorem p19 (j : Fin 1024) : val_main_v19 (F := Ideal) x2 (ix3 b s j) = x2 (ix2 0 j) := by
  pointwise [val_main_v19, val_main_v18, val_main_v7]
theorem p23 (j : Fin 1024) : val_main_v23 (F := Ideal) x1 (ix3 b s j) = scl x1 b j := by
  pointwise [val_main_v23, val_main_v22, val_main_v21, val_main_cst_2, val_main_v2, val_main_v0, scl]
theorem p25 (j : Fin 1024) : val_main_v25 (F := Ideal) x1 (ix3 b s j) = x1 (ix2 b ⟨j.val, by omega⟩) := by
  pointwise [val_main_v25, val_main_v1, val_main_v0]
theorem r26 (j : Fin 1024) : val_main_v26 (F := Ideal) x0 x1 x2 (ix3 b s j) = hid x0 x1 x2 b s j := by
  pointwise [val_main_v26, val_main_v24, val_main_v20, val_main_v17, val_main_v16, hid, nrm]
  simp only [r15, p19, p23, p25]
  rfl
theorem r28 (k : Fin 3488) : val_main_v28 (F := Ideal) x0 x1 x2 x3 (ix3 b s k) = prod x0 x1 x2 x3 b s k := by
  pointwise [val_main_v28, val_main_v27, prod]
  simp only [r26]

/-- The gated linear unit, and the latents between zeros. -/
theorem r38 (j : Fin 512) : val_main_v38 (F := Ideal) x0 x1 x2 x3 (ix3 b s j) = unit x0 x1 x2 x3 b s j := by
  pointwise [val_main_v38, val_main_v37, val_main_v36, val_main_v35, val_main_v34, val_main_v33, val_main_v32, val_main_v31,
    val_main_v30, val_main_v29, val_main_cst_3, val_main_cst_4, unit, Ideal.logistic]
  simp only [r28]
theorem r43 (j : Fin 512) : val_main_v43 (F := Ideal) x0 x1 x2 x3 (ix3 b s j) = latents (prod x0 x1 x2 x3 b s) j := by
  pointwise [val_main_v43, val_main_v39, val_main_v40, val_main_v41, val_main_v42, val_main_cst_5, val_main_cst_6, latents]
  simp only [r28]

/-- The results. -/
theorem out45 (r : Fin 8192) (j : Fin 1024) : val_main_v45 (F := Ideal) x0 x1 x2 (ix2 r j)
    = hid x0 x1 x2 ⟨r.val / 2048, by omega⟩ ⟨r.val % 2048, by omega⟩ j := by
  rw [← r26]; pointwise [val_main_v45, val_main_v44]
theorem out46 (r : Fin 8192) (j : Fin 512) : val_main_v46 (F := Ideal) x0 x1 x2 x3 (ix2 r j)
    = latents (prod x0 x1 x2 x3 ⟨r.val / 2048, by omega⟩ ⟨r.val % 2048, by omega⟩) j := by
  rw [← r43]; pointwise [val_main_v46]
theorem out47 (r : Fin 8192) (j : Fin 1024) : val_main_v47 (F := Ideal) x0 x1 x2 x3 (ix2 r j)
    = units (prod x0 x1 x2 x3 ⟨r.val / 2048, by omega⟩ ⟨r.val % 2048, by omega⟩) j := by
  unfold units
  rw [← r28]; pointwise [val_main_v47, val_main_v29]
theorem out49 (r : Fin 8192) (j : Fin 2048) : val_main_v49 (F := Ideal) x0 x1 x2 x3 (ix2 r j)
    = gates (prod x0 x1 x2 x3 ⟨r.val / 2048, by omega⟩ ⟨r.val % 2048, by omega⟩) j := by
  unfold gates
  rw [← r28]; pointwise [val_main_v49, val_main_v48]
theorem out50 (r : Fin 8192) (j : Fin 512) : val_main_v50 (F := Ideal) x0 x1 x2 x3 (ix2 r j)
    = unit x0 x1 x2 x3 ⟨r.val / 2048, by omega⟩ ⟨r.val % 2048, by omega⟩ j := by
  rw [← r38]; pointwise [val_main_v50]
end Cert.FwdInRefIdeal.FwdInRead
end
-- ==== Proof.FwdIn.lean ====
/- The first norm forward: the call that normalises, shifts, scales, multiplies with the first weights and applies the
   gated linear unit computes what the forward lines give. -/
module
public import proofs.«01_k».proof.Proof.FwdInOut
public import proofs.«01_k».proof.Proof.FwdInRef
public import proofs.«01_k».proof.Proof.Gen.FwdInRefIdeal.Run
public import proofs.«01_k».proof.Defs
@[expose] public section
set_option maxRecDepth 16384
noncomputable section
open Idealize.ShloMosaic Idealize.ShloMosaic.TcCoe Idealize.SL.Sem
namespace Cert.FwdInSpec
open Cert.FwdInIdeal.FwdInValue Cert.FwdInRefIdeal.Read Cert.FwdInRefIdeal.FwdInRead

/-- The reference leaves its arguments alone. -/
theorem frame : Cert.quiescent_FwdInRefIdeal := fun m ρ _ =>
  (θ_run Cert.FwdInRefIdeal.defs _ _).mono (fun r h => ⟨fun c => (h c).2.2.2.2.2,
      Idealize.ShloMosaic.sem_eq_zero_of_no_sems (by decide) r.2⟩)
    (Cert.FwdInRefIdeal.Value.run (F := Ideal) m ρ)

set_option maxHeartbeats 4000000 in
/-- The call's five results are the reference's. -/
theorem algebraic : Cert.algebraic_FwdInIdeal_FwdInRefIdeal := by
  intro m g m' g' _ hagree
  refine ⟨fun c => fun z => hid (X0 m c) (X1 m c) (X2 m c) (bi (z 0)) (si (z 0)) (z 1),
    fun c => fun z => latents (prod (X0 m c) (X1 m c) (X2 m c) (X3 m c) (bi (z 0)) (si (z 0))) (z 1),
    fun c => fun z => units (prod (X0 m c) (X1 m c) (X2 m c) (X3 m c) (bi (z 0)) (si (z 0))) (z 1),
    fun c => fun z => gates (prod (X0 m c) (X1 m c) (X2 m c) (X3 m c) (bi (z 0)) (si (z 0))) (z 1),
    fun c => fun z => unit (X0 m c) (X1 m c) (X2 m c) (X3 m c) (bi (z 0)) (si (z 0)) (z 1), ?_, ?_⟩
  · refine (θ_run _ _ _).mono (fun r h c => ?_) (θ_run_and (Cert.FwdInIdeal.Gen.run_main m g) (Cert.FwdInIdeal.Gen.unchanged m g))
    exact ⟨((h.1 c).1 3).trans (arr3 m c), ((h.1 c).1 4).trans (arr4 m c), ((h.1 c).1 5).trans (arr5 m c),
      ((h.1 c).1 6).trans (arr6 m c), ((h.1 c).1 7).trans (arr7 m c), h.2 c⟩
  · refine (θ_run _ _ _).mono (fun r h c => ?_) (Cert.FwdInRefIdeal.Value.run (F := Ideal) m' g')
    obtain ⟨h0, h1, h2, h3, h4, ha⟩ := h c
    obtain ⟨a0, a1, a2, a3⟩ := hagree c
    refine ⟨(h0.trans (val_main_v45_eq _ _ _)).trans ?_, (h1.trans (val_main_v46_eq _ _ _ _)).trans ?_,
      (h2.trans (val_main_v47_eq _ _ _ _)).trans ?_, (h3.trans (val_main_v49_eq _ _ _ _)).trans ?_,
      (h4.trans (val_main_v50_eq _ _ _ _)).trans ?_, ha⟩
    · rw [a0, a1, a2]
      exact funext fun z => (congrArg _ (ValueIdx.eq_ix2 z)).trans (out45 _ _ _ (z 0) (z 1))
    · rw [a0, a1, a2, a3]
      exact funext fun z => (congrArg _ (ValueIdx.eq_ix2 z)).trans (out46 _ _ _ _ (z 0) (z 1))
    · rw [a0, a1, a2, a3]
      exact funext fun z => (congrArg _ (ValueIdx.eq_ix2 z)).trans (out47 _ _ _ _ (z 0) (z 1))
    · rw [a0, a1, a2, a3]
      exact funext fun z => (congrArg _ (ValueIdx.eq_ix2 z)).trans (out49 _ _ _ _ (z 0) (z 1))
    · rw [a0, a1, a2, a3]
      exact funext fun z => (congrArg _ (ValueIdx.eq_ix2 z)).trans (out50 _ _ _ _ (z 0) (z 1))
end Cert.FwdInSpec
end
-- ==== Proof.AdaMod.lean ====
/- The modulation: the swish of the conditioning times the layer's weights, with the bias added, is the reference's. -/
module
public import proofs.«01_k».proof.Proof.Gen.AdaModIdeal.Value
public import proofs.«01_k».proof.Proof.Gen.AdaModRefIdeal.Read
public import proofs.«01_k».proof.Proof.Gen.AdaModRefIdeal.Run
public import Idealize.ShloMosaic.Lib.Pipeline.ValueKit
public import Idealize.ShloMosaic.Lib.Claim
public import Idealize.ShloMosaic.Lib.StableHlo.RunRead
public import Idealize.ShloMosaic.Lib.KernelVsHost
public import Idealize.ShloMosaic.Lib.ValueLayout
public import proofs.«01_k».proof.Defs
@[expose] public section
set_option maxRecDepth 16384
noncomputable section
open Idealize.ShloMosaic Idealize.ShloMosaic.TcCoe Idealize.SL.Sem
open Idealize.ShloMosaic.Pipeline (Dat)
namespace Cert.AdaModSpec
open Cert.AdaModIdeal Cert.AdaModIdeal.Gen Cert.AdaModIdeal.Value Cert.AdaModRefIdeal.Read

/-- The modulation of a sample: the call's result is the reference's, value by value. -/
theorem modulation (m : (ℓ : Loc nD τ sig) → Buf (Elt Ideal) ℓ) (c : Dev nD) : (dats m 0 c).arrAt 3 cfg0.N
    = val_main_v3 (m ((c : Thread nD τ).loc main_arg0)) (m ((c : Thread nD τ).loc main_arg1))
        (m ((c : Thread nD τ).loc main_arg2)) := by
  refine (final3 m c).trans (funext fun z => ?_)
  rw [ValueIdx.eq_ix2 z]
  pointwise [k0_pay1, val_main_v3, val_main_v2, val_main_v1, val_main_v0, val_main_call0_v5, val_main_call0_v4,
    val_main_call0_cst_0, val_main_call0_v3, val_main_call0_v2, val_main_call0_cst, val_main_call0_v1, val_main_call0_v0,
    Ideal.logistic]

/-- The reference leaves its arguments alone. -/
theorem frame : Cert.quiescent_AdaModRefIdeal := fun m ρ _ =>
  (θ_run Cert.AdaModRefIdeal.defs _ _).mono (fun r h => ⟨fun c => (h c).2,
      Idealize.ShloMosaic.sem_eq_zero_of_no_sems (by decide) r.2⟩)
    (Cert.AdaModRefIdeal.Value.run (F := Ideal) m ρ)

/-- The call's result is the reference's. -/
theorem algebraic : Cert.algebraic_AdaModIdeal_AdaModRefIdeal := by
  intro m g m' g' _ hagree
  refine ⟨fun c => val_main_v3 (m (c, Proc.tc.devRef Cert.AdaModIdeal.main_arg0))
    (m (c, Proc.tc.devRef Cert.AdaModIdeal.main_arg1)) (m (c, Proc.tc.devRef Cert.AdaModIdeal.main_arg2)), ?_, ?_⟩
  · refine (θ_run _ _ _).mono (fun r h c => ?_) (θ_run_and (Cert.AdaModIdeal.Gen.run_main m g) (Cert.AdaModIdeal.Gen.unchanged m g))
    exact ⟨((h.1 c).1 3).trans (modulation m c), h.2 c⟩
  · refine (θ_run _ _ _).mono (fun r h c => ?_) (Cert.AdaModRefIdeal.Value.run (F := Ideal) m' g')
    obtain ⟨h0, ha⟩ := h c
    obtain ⟨a0, a1, a2⟩ := hagree c
    rw [a0, a1, a2] at h0
    exact ⟨h0, ha⟩
end Cert.AdaModSpec
end
-- ==== Proof.PrepSpec.lean ====
/- What the call before the attention computes of the latents, as functions of its arguments: their root-mean-square
   norms, and the heads' values. -/
module
public import proofs.«01_k».proof.Proof.InSpec
@[expose] public section
noncomputable section
open Idealize.ShloMosaic
namespace Cert.PrepSpec
open Cert.InSpec Cert.RealRow

/-- A row with its root mean square one, times the norm's weight; `w` is the row's width. -/
def normed {n : ℕ} (w : EReal) (x g : Fin n → EReal) (j : Fin n) : EReal :=
  x j * Ideal.rsqrt (Ideal.div (∑ k, x k * x k) w + eps) * g j

/-- The query latent's norm, and the key and value latent's. -/
def qln (x : Seq 256) (g : FVec Ideal (⟨2, ![1, 256]⟩ : Shape) .f32) (b : Fin 4) (s : Fin 2048) : Fin 256 → EReal :=
  normed (Ideal.ofBits FTy.f32 0x43800000#32) (fun k => x (ix3 b s k)) fun k => g (ix2 0 k)
def kvn (x : Seq 128) (g : FVec Ideal (⟨2, ![1, 128]⟩ : Shape) .f32) (b : Fin 4) (s : Fin 2048) : Fin 128 → EReal :=
  normed (Ideal.ofBits FTy.f32 0x43000000#32) (fun k => x (ix3 b s k)) fun k => g (ix2 0 k)

/-- Of each head's 128 columns the last 64, the values', followed by 64 zeros. -/
def heads (f : Fin 1024 → EReal) (q : Fin 1024) : EReal :=
  if _h : q.val % 128 < 64 then f ⟨q.val / 128 * 128 + (64 + q.val % 128), by omega⟩ else 0
theorem heads_col (f : Fin 1024 → EReal) (q : Fin 1024) (h : q.val % 128 < 64) :
    heads f q = f ⟨q.val / 128 * 128 + (64 + q.val % 128), by omega⟩ := dif_pos h
theorem heads_pad (f : Fin 1024 → EReal) (q : Fin 1024) (h : ¬ q.val % 128 < 64) : heads f q = 0 := dif_neg h
/-- A product with the rearranged weights is the product's rearranged row. -/
theorem dot_heads (u : Fin 128 → EReal) (W : Fin 128 → Fin 1024 → EReal) (q : Fin 1024) :
    ∑ j, u j * heads (W j) q = heads (fun k => ∑ j, u j * W j k) q := by
  by_cases h : q.val % 128 < 64
  · simp only [heads_col _ q h]
  · simp only [heads_pad _ q h, mul_zero, Finset.sum_const_zero]

/-- The heads' values at one position. -/
def values (x : Seq 128) (g : FVec Ideal (⟨2, ![1, 128]⟩ : Shape) .f32) (w : FVec Ideal (⟨3, ![1, 128, 1024]⟩ : Shape) .f32)
    (b : Fin 4) (s : Fin 2048) : Fin 1024 → EReal :=
  heads fun k => ∑ j, kvn x g b s j * w (ix3 0 j k)
end Cert.PrepSpec
end
-- ==== Proof.PrepOut.lean ====
/- The arrays three of the call's results are left as: the functions of the arguments in PrepSpec. -/
module
public import proofs.«01_k».proof.Proof.Gen.PrepIdeal.Value
public import proofs.«01_k».proof.Proof.PrepSpec
public import Idealize.ShloMosaic.Lib.Pipeline.ValueKit
public import Idealize.ShloMosaic.Lib.Claim
public import Idealize.ShloMosaic.Lib.StableHlo.RunRead
public import Idealize.ShloMosaic.Lib.KernelVsHost
@[expose] public section
set_option maxRecDepth 16384
noncomputable section
open Idealize.ShloMosaic Idealize.ShloMosaic.TcCoe Idealize.SL.Sem
open Idealize.ShloMosaic.Pipeline (Dat)
namespace Cert.PrepIdeal.PrepValue
open Cert.PrepIdeal Cert.PrepIdeal.Gen Cert.PrepIdeal.Value Cert.InSpec Cert.PrepSpec

variable (m : (ℓ : Loc nD τ sig) → Buf (Elt Ideal) ℓ) (c : Dev nD) (t : Fin cfg0.N)

/-- The arguments the three results depend on. -/
abbrev X0 : Seq 256 := m (c, Proc.tc.devRef main_arg0)
abbrev X1 : Seq 128 := m (c, Proc.tc.devRef main_arg1)
abbrev X3 : FVec Ideal S1x256 .f32 := m (c, Proc.tc.devRef main_arg3)
abbrev X5 : FVec Ideal S1x128 .f32 := m (c, Proc.tc.devRef main_arg5)
abbrev X6 : FVec Ideal S1x128x1024 .f32 := m (c, Proc.tc.devRef main_arg6)

/-- The batch and the position of a row of the flattened arrays, and the row `p` of block `t`. -/
def bi (r : Fin 8192) : Fin 4 := ⟨r.val / 2048, by omega⟩
def si (r : Fin 8192) : Fin 2048 := ⟨r.val % 2048, by omega⟩
def rowOf (p : Fin 512) : Fin 8192 := ⟨512 * t.val + p.val, by have := t.isLt; have : cfg0.N = 16 := N_0; omega⟩

theorem idx : ∀ t : Fin cfg0.N, win0_0.index t = ![t.val, 0] ∧ win0_1.index t = ![0, 0] ∧ win0_2.index t = ![0, 0]
    ∧ win0_10.index t = ![0, 0] ∧ win0_13.index t = ![t.val, 0] ∧ win0_14.index t = ![t.val, 0] ∧ win0_15.index t = ![t.val, 0] :=
  (by decide +kernel : ∀ t : Fin grid0.N, _)

set_option maxHeartbeats 4000000 in
/-- The latents side by side, when the call starts. -/
theorem operand_z (r : Fin 8192) : (∀ k : Fin 256, V m c main_v21 (ix2 r ⟨k.val, by omega⟩) = X0 m c (ix3 (bi r) (si r) k))
    ∧ ∀ k : Fin 128, V m c main_v21 (ix2 r ⟨256 + k.val, by omega⟩) = X1 m c (ix3 (bi r) (si r) k) := by
  refine ⟨fun k => ?_, fun k => ?_⟩ <;>
  (simp only [V, hostOps0, hostOps0_1, hostOps0_2, hostOps0_3, hostOps0_4, hostOps0_5, hostOps0_6, hostOps0_7, hostOps0_8, hostOps0_9, hostOps0_10]
   after_reads_simp
   pointwise
   after_reads_simp
   try pointwise
   try simp only [bi, si]
   try with_reducible rfl)
set_option maxHeartbeats 4000000 in
/-- The values' weights in the heads' columns, when the call starts. -/
theorem operand_w (j : Fin 128) (q : Fin 1024) : V m c main_v12 (ix2 j q) = heads (fun k => X6 m c (ix3 0 j k)) q := by
  simp only [V, hostOps0, hostOps0_1, hostOps0_2, hostOps0_3, hostOps0_4, hostOps0_5, hostOps0_6, hostOps0_7, hostOps0_8, hostOps0_9, hostOps0_10]
  after_reads_simp
  pointwise
  simp only [StableHlo.TRef.toBuf, StableHlo.TRef.ofBuf, cast_eq]
  pointwise
  by_cases h : q.val % 128 < 64
  · rw [dif_pos ⟨by omega, h⟩]
    exact (heads_col (fun k => X6 m c (ix3 0 j k)) q h).symm
  · rw [dif_neg fun e => h e.2]
    exact (sitofp_zero (φ := FTy.bf16)).trans (heads_pad (fun k => X6 m c (ix3 0 j k)) q h).symm
/-- The operands' blocks, read at an index. -/
theorem b0q (p : Fin 512) (k : Fin 256) : iblk m c 0 t (ix2 p ⟨k.val, by omega⟩) = X0 m c (ix3 (bi (rowOf t p)) (si (rowOf t p)) k) := by
  rw [← (operand_z m c (rowOf t p)).1 k]; unfold rowOf; blk_point [iblk, V, idx t]
theorem b0k (p : Fin 512) (k : Fin 128) : iblk m c 0 t (ix2 p ⟨256 + k.val, by omega⟩) = X1 m c (ix3 (bi (rowOf t p)) (si (rowOf t p)) k) := by
  rw [← (operand_z m c (rowOf t p)).2 k]; unfold rowOf; blk_point [iblk, V, idx t]
theorem b1 (k : Fin 256) : iblk m c 1 t (ix2 0 k) = X3 m c (ix2 0 k) := by
  blk_point [iblk, V, idx t]
theorem b2 (k : Fin 128) : iblk m c 2 t (ix2 0 k) = X5 m c (ix2 0 k) := by
  blk_point [iblk, V, idx t]
theorem b10 (j : Fin 128) (q : Fin 1024) : iblk m c 10 t (ix2 j q) = heads (fun k => X6 m c (ix3 0 j k)) q := by
  rw [← operand_w m c j q]; blk_point [iblk, V, idx t]

/-! ### What the body stores, at one position -/

section body
variable (x : FVec Ideal S512x256 .f32) (g : FVec Ideal S1x256 .f32) (y : FVec Ideal S512x128 .f32) (e : FVec Ideal S1x128 .f32)
  (W : FVec Ideal S128x1024 .bf16) (p : Fin 512)
theorem norm5 (j : Fin 256) : k0_pay5 (F := Ideal) x g (ix2 p j)
    = normed (Ideal.ofBits FTy.f32 0x43800000#32) (fun k => x (ix2 p k)) (fun k => g (ix2 0 k)) j := by
  pointwise [k0_pay5, normed, RealRow.eps]
theorem norm9 (j : Fin 128) : k0_pay9 (F := Ideal) (k0_pay7 y) (k0_pay8 y) e (ix2 p j)
    = normed (Ideal.ofBits FTy.f32 0x43000000#32) (fun k => y (ix2 p k)) (fun k => e (ix2 0 k)) j := by
  pointwise [k0_pay9, k0_pay8, k0_pay7, normed, RealRow.eps]
theorem prod11 (q : Fin 1024) : k0_pay11 (F := Ideal) (k0_pay7 y) (k0_pay8 y) e W (ix2 p q)
    = ∑ j, k0_pay9 (F := Ideal) (k0_pay7 y) (k0_pay8 y) e (ix2 p j) * W (ix2 j q) := by
  pointwise [k0_pay11]
end body

variable (p : Fin 512)
theorem qln_at (j : Fin 256) : k0_pay5 (F := Ideal) (View.ld (iblk m c 0 t) r0_1) (iblk m c 1 t) (ix2 p j)
    = qln (X0 m c) (X3 m c) (bi (rowOf t p)) (si (rowOf t p)) j := by
  refine (norm5 _ _ p j).trans ?_
  refine congrArg₂ (fun x g => normed (Ideal.ofBits FTy.f32 0x43800000#32) x g j) (funext fun k => ?_) (funext fun k => ?_)
  · refine Eq.trans ?_ (b0q m c t p k); pointwise
  · exact b1 m c t k
theorem kvn_at (j : Fin 128) : k0_pay9 (F := Ideal) (k0_pay7 (View.ld (iblk m c 0 t) r0_5)) (k0_pay8 (View.ld (iblk m c 0 t) r0_5))
      (iblk m c 2 t) (ix2 p j)
    = kvn (X1 m c) (X5 m c) (bi (rowOf t p)) (si (rowOf t p)) j := by
  refine (norm9 _ _ p j).trans ?_
  refine congrArg₂ (fun x g => normed (Ideal.ofBits FTy.f32 0x43000000#32) x g j) (funext fun k => ?_) (funext fun k => ?_)
  · refine Eq.trans ?_ (b0k m c t p k); pointwise
  · exact b2 m c t k
theorem values_at (q : Fin 1024) : k0_pay11 (F := Ideal) (k0_pay7 (View.ld (iblk m c 0 t) r0_5)) (k0_pay8 (View.ld (iblk m c 0 t) r0_5))
      (iblk m c 2 t) (iblk m c 10 t) (ix2 p q)
    = values (X1 m c) (X5 m c) (X6 m c) (bi (rowOf t p)) (si (rowOf t p)) q := by
  refine (prod11 _ _ _ p q).trans ?_
  refine (Finset.sum_congr rfl fun j _ => congrArg₂ (· * ·) (kvn_at m c t p j) (b10 m c t j q)).trans ?_
  exact dot_heads _ (fun j k => X6 m c (ix3 0 j k)) q

/-- Where a block of rows lies in its array. -/
theorem emb13 (q : Fin 1024) : (win0_13.blk t).view.emb (ix2 p q) = ix2 (rowOf t p) q := by
  funext a; apply Fin.ext; fin_cases a <;> simp [rowOf, View.slice, idx t, Pipeline.WinKind.off] <;> omega
theorem emb14 (q : Fin 256) : (win0_14.blk t).view.emb (ix2 p q) = ix2 (rowOf t p) q := by
  funext a; apply Fin.ext; fin_cases a <;> simp [rowOf, View.slice, idx t, Pipeline.WinKind.off] <;> omega
theorem emb15 (q : Fin 128) : (win0_15.blk t).view.emb (ix2 p q) = ix2 (rowOf t p) q := by
  funext a; apply Fin.ext; fin_cases a <;> simp [rowOf, View.slice, idx t, Pipeline.WinKind.off] <;> omega

set_option maxHeartbeats 1000000 in
theorem arr13 : (dats m 0 c).arrAt 13 cfg0.N = fun z => values (X1 m c) (X5 m c) (X6 m c) (bi (z 0)) (si (z 0)) (z 1) := by
  refine (dats m 0 c).arrAt_eq_of_covers 13 _ (by decide +kernel) fun t hf y => ?_
  blk_simp
  obtain ⟨p, q, rfl⟩ : ∃ (p : Fin 512) (q : Fin 1024), y = ix2 p q := ⟨y 0, y 1, ValueIdx.eq_ix2 y⟩
  rw [after0_13, emb13]
  show _ = values (X1 m c) (X5 m c) (X6 m c) (bi (rowOf t p)) (si (rowOf t p)) q
  frame_out
  unfold k0_pay58 k0_pay59
  exact values_at m c t p q
set_option maxHeartbeats 1000000 in
theorem arr14 : (dats m 0 c).arrAt 14 cfg0.N = fun z => qln (X0 m c) (X3 m c) (bi (z 0)) (si (z 0)) (z 1) := by
  refine (dats m 0 c).arrAt_eq_of_covers 14 _ (by decide +kernel) fun t hf y => ?_
  blk_simp
  obtain ⟨p, q, rfl⟩ : ∃ (p : Fin 512) (q : Fin 256), y = ix2 p q := ⟨y 0, y 1, ValueIdx.eq_ix2 y⟩
  rw [after0_14, emb14]
  show _ = qln (X0 m c) (X3 m c) (bi (rowOf t p)) (si (rowOf t p)) q
  frame_out
  exact qln_at m c t p q
set_option maxHeartbeats 1000000 in
theorem arr15 : (dats m 0 c).arrAt 15 cfg0.N = fun z => kvn (X1 m c) (X5 m c) (bi (z 0)) (si (z 0)) (z 1) := by
  refine (dats m 0 c).arrAt_eq_of_covers 15 _ (by decide +kernel) fun t hf y => ?_
  blk_simp
  obtain ⟨p, q, rfl⟩ : ∃ (p : Fin 512) (q : Fin 128), y = ix2 p q := ⟨y 0, y 1, ValueIdx.eq_ix2 y⟩
  rw [after0_15, emb15]
  show _ = kvn (X1 m c) (X5 m c) (bi (rowOf t p)) (si (rowOf t p)) q
  frame_out
  unfold k0_pay58 k0_pay59
  exact kvn_at m c t p q
end Cert.PrepIdeal.PrepValue
end
-- ==== Proof.PrepRef.lean ====
/- The forward lines, read off at one position: the reference's three results as the functions of PrepSpec. -/
module
public import proofs.«01_k».proof.Proof.Gen.PrepRefIdeal.Read
public import proofs.«01_k».proof.Proof.PrepSpec
public import proofs.«01_k».proof.Proof.RowSum
public import Idealize.ShloMosaic.Lib.KernelVsHost
@[expose] public section
set_option maxRecDepth 16384
noncomputable section
open Idealize.ShloMosaic Idealize.ShloMosaic.TcCoe Idealize.SL.Sem
namespace Cert.PrepRefIdeal.PrepRead
open Cert.PrepRefIdeal Cert.PrepRefIdeal.Gen Cert.PrepRefIdeal.Read Cert.InSpec Cert.PrepSpec

variable (x0 : Seq 256) (x1 : Seq 128) (x3 : FVec Ideal S1x256 .f32) (x5 : FVec Ideal S1x128 .f32)
  (x6 : FVec Ideal S1x128x1024 .f32) (b : Fin 4) (s : Fin 2048)

/-- The latents' norms. -/
theorem q13 (j : Fin 256) : val_main_v13 (F := Ideal) x0 x3 (ix3 b s j) = qln x0 x3 b s j := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    qln, normed, RealRow.eps]
theorem k27 (j : Fin 128) : val_main_v27 (F := Ideal) x1 x5 (ix3 b s j) = kvn x1 x5 b s j := by
  pointwise [val_main_v27, val_main_v26, val_main_v25, val_main_v24, val_main_v23, val_main_v22, val_main_v21, val_main_v20,
    val_main_v19, val_main_v18, val_main_v17, val_main_v16, val_main_v15, val_main_v14, val_main_cst_2, val_main_cst_3,
    val_main_cst_4, kvn, normed, RealRow.eps]
theorem p29 (k : Fin 1024) : val_main_v29 (F := Ideal) x1 x5 x6 (ix3 b s k) = ∑ j, kvn x1 x5 b s j * x6 (ix3 0 j k) := by
  pointwise [val_main_v29, val_main_v28]
  simp only [k27]

/-- The results. -/
theorem out36 (r : Fin 8192) (j : Fin 256) : val_main_v36 (F := Ideal) x0 x3 (ix2 r j)
    = qln x0 x3 ⟨r.val / 2048, by omega⟩ ⟨r.val % 2048, by omega⟩ j := by
  rw [← q13]; pointwise [val_main_v36, val_main_v35]
theorem out38 (r : Fin 8192) (j : Fin 128) : val_main_v38 (F := Ideal) x1 x5 (ix2 r j)
    = kvn x1 x5 ⟨r.val / 2048, by omega⟩ ⟨r.val % 2048, by omega⟩ j := by
  rw [← k27]; pointwise [val_main_v38, val_main_v37]
theorem out34 (r : Fin 8192) (q : Fin 1024) : val_main_v34 (F := Ideal) x1 x5 x6 (ix2 r q)
    = values x1 x5 x6 ⟨r.val / 2048, by omega⟩ ⟨r.val % 2048, by omega⟩ q := by
  have e := fun k => p29 x1 x5 x6 ⟨r.val / 2048, by omega⟩ ⟨r.val % 2048, by omega⟩ k
  unfold values
  simp only [← e]
  pointwise [val_main_v34, val_main_v33, val_main_v32, val_main_v31, val_main_v30, val_main_call0_v0, val_main_c]
  by_cases h : q.val % 128 < 64
  · rw [dif_pos ⟨by omega, by omega, by omega, h⟩]
    exact (heads_col (fun k => val_main_v29 (F := Ideal) x1 x5 x6 (ix3 ⟨r.val / 2048, by omega⟩ ⟨r.val % 2048, by omega⟩ k)) q h).symm
  · rw [dif_neg fun e => h e.2.2.2]
    exact (sitofp_zero (φ := FTy.f32)).trans (heads_pad _ q h).symm
end Cert.PrepRefIdeal.PrepRead
end
-- ==== Proof.Prep.lean ====
/- The latents' norms and the heads' values: what the call leaves in three of its results is what the forward lines
   give. -/
module
public import proofs.«01_k».proof.Proof.PrepOut
public import proofs.«01_k».proof.Proof.PrepRef
public import proofs.«01_k».proof.Proof.Gen.PrepRefIdeal.Run
public import proofs.«01_k».proof.Defs
@[expose] public section
set_option maxRecDepth 16384
noncomputable section
open Idealize.ShloMosaic Idealize.ShloMosaic.TcCoe Idealize.SL.Sem
namespace Cert.PrepSpec
open Cert.PrepIdeal.PrepValue Cert.PrepRefIdeal.Read Cert.PrepRefIdeal.PrepRead

/-- The reference leaves its arguments alone. -/
theorem frame : Cert.quiescent_PrepRefIdeal := fun m ρ _ =>
  (θ_run Cert.PrepRefIdeal.defs _ _).mono (fun r h => ⟨fun c => (h c).2.2.2,
      Idealize.ShloMosaic.sem_eq_zero_of_no_sems (by decide) r.2⟩)
    (Cert.PrepRefIdeal.Value.run (F := Ideal) m ρ)

/-- The reference's three arrays. -/
theorem values_ref (m : (ℓ : Loc Cert.PrepIdeal.nD Cert.PrepIdeal.τ Cert.PrepIdeal.sig) → Buf (Elt Ideal) ℓ)
    (c : Dev Cert.PrepIdeal.nD) :
    (Pipeline.Dat.arrAt (Cert.PrepIdeal.Gen.dats m 0 c) 13 Cert.PrepIdeal.cfg0.N
      = val_main_v34 (X1 m c) (X5 m c) (X6 m c))
    ∧ (Pipeline.Dat.arrAt (Cert.PrepIdeal.Gen.dats m 0 c) 14 Cert.PrepIdeal.cfg0.N = val_main_v36 (X0 m c) (X3 m c))
    ∧ (Pipeline.Dat.arrAt (Cert.PrepIdeal.Gen.dats m 0 c) 15 Cert.PrepIdeal.cfg0.N = val_main_v38 (X1 m c) (X5 m c)) := by
  refine ⟨(arr13 m c).trans (funext fun z => ?_), (arr14 m c).trans (funext fun z => ?_), (arr15 m c).trans (funext fun z => ?_)⟩
  · obtain ⟨r, q, rfl⟩ : ∃ (r : Fin 8192) (q : Fin 1024), z = ix2 r q := ⟨z 0, z 1, ValueIdx.eq_ix2 z⟩
    exact (out34 (X1 m c) (X5 m c) (X6 m c) r q).symm
  · obtain ⟨r, q, rfl⟩ : ∃ (r : Fin 8192) (q : Fin 256), z = ix2 r q := ⟨z 0, z 1, ValueIdx.eq_ix2 z⟩
    exact (out36 (X0 m c) (X3 m c) r q).symm
  · obtain ⟨r, q, rfl⟩ : ∃ (r : Fin 8192) (q : Fin 128), z = ix2 r q := ⟨z 0, z 1, ValueIdx.eq_ix2 z⟩
    exact (out38 (X1 m c) (X5 m c) r q).symm

set_option maxHeartbeats 4000000 in
/-- Three of the call's results are the reference's. -/
theorem algebraic : Cert.algebraic_PrepIdeal_PrepRefIdeal := by
  intro m g m' g' _ hagree
  refine ⟨fun c => val_main_v34 (X1 m c) (X5 m c) (X6 m c), fun c => val_main_v36 (X0 m c) (X3 m c),
    fun c => val_main_v38 (X1 m c) (X5 m c), ?_, ?_⟩
  · refine (θ_run _ _ _).mono (fun r h c => ?_) (θ_run_and (Cert.PrepIdeal.Gen.run_main m g) (Cert.PrepIdeal.Gen.unchanged m g))
    exact ⟨((h.1 c).1 13).trans (values_ref m c).1, ((h.1 c).1 14).trans (values_ref m c).2.1,
      ((h.1 c).1 15).trans (values_ref m c).2.2, h.2 c⟩
  · refine (θ_run _ _ _).mono (fun r h c => ?_) (Cert.PrepRefIdeal.Value.run (F := Ideal) m' g')
    obtain ⟨h0, h1, h2, ha⟩ := h c
    obtain ⟨a0, a1, a2, a3, a4, a5, a6, a7, a8⟩ := hagree c
    exact ⟨(h0.trans (val_main_v34_eq _ _ _)).trans (by rw [a1, a5, a6]), (h1.trans (val_main_v36_eq _ _)).trans (by rw [a0, a3]),
      (h2.trans (val_main_v38_eq _ _)).trans (by rw [a1, a5]), ha⟩
end Cert.PrepSpec
end
-- ==== Proof.lean ====
module

public import proofs.«01_k».proof.Defs
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.Pre_mix_finite
public import proofs.«01_k».proof.Proof.Gen.On_mix_written
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.Pre_attn_finite
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdRefIdeal
public import proofs.«01_k».proof.Proof.Gen.Pre_attn_fwd_finite
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InRefIdeal
public import proofs.«01_k».proof.Proof.Gen.Pre_in_finite
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossRefIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.Pre_ffn_finite
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaRefIdeal
public import proofs.«01_k».proof.Proof.Gen.FwdIn
public import proofs.«01_k».proof.Proof.Gen.FwdIn.Frame
public import proofs.«01_k».proof.Proof.Gen.FwdInIdeal
public import proofs.«01_k».proof.Proof.Gen.FwdInIdeal.Frame
public import proofs.«01_k».proof.Proof.Gen.FwdInRefIdeal
public import proofs.«01_k».proof.Proof.Gen.AdaMod
public import proofs.«01_k».proof.Proof.Gen.AdaMod.Frame
public import proofs.«01_k».proof.Proof.Gen.AdaModIdeal
public import proofs.«01_k».proof.Proof.Gen.AdaModIdeal.Frame
public import proofs.«01_k».proof.Proof.Gen.AdaModRefIdeal
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepRefIdeal
public import proofs.«01_k».proof.Proof.Mix
public import proofs.«01_k».proof.Proof.Attn
public import proofs.«01_k».proof.Proof.AttnFwd
public import proofs.«01_k».proof.Proof.In
public import proofs.«01_k».proof.Proof.Loss
public import proofs.«01_k».proof.Proof.Ffn
public import proofs.«01_k».proof.Proof.Ada
public import proofs.«01_k».proof.Proof.FwdIn
public import proofs.«01_k».proof.Proof.AdaMod
public import proofs.«01_k».proof.Proof.Prep
public import Idealize.ShloMosaic.Adequacy
public import Idealize.ShloMosaic.Init

@[expose] public section

noncomputable section

namespace Cert.Proof

open Idealize.ShloMosaic Idealize.SL.Sem

theorem claim : Cert.Claim := ⟨Cert.Mix.Gen.facts,
    Cert.MixIdeal.Gen.facts,
    Cert.MixRefIdeal.Gen.facts,
    Cert.Attn.Gen.facts,
    Cert.AttnIdeal.Gen.facts,
    Cert.AttnRefIdeal.Gen.facts,
    Cert.AttnFwd.Gen.facts,
    Cert.AttnFwdIdeal.Gen.facts,
    Cert.AttnFwdRefIdeal.Gen.facts,
    Cert.In.Gen.facts,
    Cert.InIdeal.Gen.facts,
    Cert.InRefIdeal.Gen.facts,
    Cert.Loss.Gen.facts,
    Cert.LossIdeal.Gen.facts,
    Cert.LossRefIdeal.Gen.facts,
    Cert.Ffn.Gen.facts,
    Cert.FfnIdeal.Gen.facts,
    Cert.FfnRefIdeal.Gen.facts,
    Cert.Ada.Gen.facts,
    Cert.AdaIdeal.Gen.facts,
    Cert.AdaRefIdeal.Gen.facts,
    Cert.FwdIn.Gen.facts,
    Cert.FwdInIdeal.Gen.facts,
    Cert.FwdInRefIdeal.Gen.facts,
    Cert.AdaMod.Gen.facts,
    Cert.AdaModIdeal.Gen.facts,
    Cert.AdaModRefIdeal.Gen.facts,
    Cert.Prep.Gen.facts,
    Cert.PrepIdeal.Gen.facts,
    Cert.PrepRefIdeal.Gen.facts,
    Cert.Pre_mix_finite.Gen.facts,
    Cert.Pre_attn_finite.Gen.facts,
    Cert.Pre_attn_fwd_finite.Gen.facts,
    Cert.Pre_in_finite.Gen.facts,
    Cert.Pre_ffn_finite.Gen.facts,
    Cert.On_mix_written.Gen.facts,
    fun m ρ _ => Cert.Mix.Gen.frame m ρ,
    fun m ρ _ => Cert.MixIdeal.Gen.frame m ρ,
    fun m ρ _ => Cert.MixIdeal.Gen.frame m ρ,
    fun m ρ _ => Cert.MixSpec.frame m ρ trivial,
    fun m ρ _ => Cert.MixSpec.frame m ρ trivial,
    fun m ρ _ => Cert.Attn.Gen.frame m ρ,
    fun m ρ _ => Cert.AttnIdeal.Gen.frame m ρ,
    fun m ρ _ => Cert.AttnIdeal.Gen.frame m ρ,
    fun m ρ _ => Cert.AttnSpec.frame m ρ trivial,
    fun m ρ _ => Cert.AttnSpec.frame m ρ trivial,
    fun m ρ _ => Cert.AttnFwd.Gen.frame m ρ,
    fun m ρ _ => Cert.AttnFwdIdeal.Gen.frame m ρ,
    fun m ρ _ => Cert.AttnFwdIdeal.Gen.frame m ρ,
    fun m ρ _ => Cert.AttnFwdSpec.frame m ρ trivial,
    fun m ρ _ => Cert.AttnFwdSpec.frame m ρ trivial,
    fun m ρ _ => Cert.In.Gen.frame m ρ,
    fun m ρ _ => Cert.InIdeal.Gen.frame m ρ,
    fun m ρ _ => Cert.InIdeal.Gen.frame m ρ,
    fun m ρ _ => Cert.InSpec.frame m ρ trivial,
    fun m ρ _ => Cert.InSpec.frame m ρ trivial,
    fun m ρ _ => Cert.Loss.Gen.frame m ρ,
    fun m ρ _ => Cert.LossIdeal.Gen.frame m ρ,
    fun m ρ _ => Cert.LossSpec.frame m ρ trivial,
    fun m ρ _ => Cert.Ffn.Gen.frame m ρ,
    fun m ρ _ => Cert.FfnIdeal.Gen.frame m ρ,
    fun m ρ _ => Cert.FfnIdeal.Gen.frame m ρ,
    fun m ρ _ => Cert.FfnSpec.frame m ρ trivial,
    fun m ρ _ => Cert.FfnSpec.frame m ρ trivial,
    fun m ρ _ => Cert.Ada.Gen.frame m ρ,
    fun m ρ _ => Cert.AdaIdeal.Gen.frame m ρ,
    fun m ρ _ => Cert.AdaSpec.frame m ρ trivial,
    fun m ρ _ => Cert.FwdIn.Gen.frame m ρ,
    fun m ρ _ => Cert.FwdInIdeal.Gen.frame m ρ,
    fun m ρ _ => Cert.FwdInSpec.frame m ρ trivial,
    fun m ρ _ => Cert.AdaMod.Gen.frame m ρ,
    fun m ρ _ => Cert.AdaModIdeal.Gen.frame m ρ,
    fun m ρ _ => Cert.AdaModSpec.frame m ρ trivial,
    fun m ρ _ => Cert.Prep.Gen.frame m ρ,
    fun m ρ _ => Cert.PrepIdeal.Gen.frame m ρ,
    fun m ρ _ => Cert.PrepSpec.frame m ρ trivial,
    trivial,
    Cert.MixSpec.algebraic,
    Cert.AttnSpec.preserves,
    Cert.AttnSpec.algebraic,
    Cert.AttnFwdSpec.preserves,
    Cert.AttnFwdSpec.algebraic,
    trivial,
    Cert.InSpec.algebraic,
    trivial,
    Cert.LossSpec.algebraic,
    trivial,
    Cert.FfnSpec.algebraic,
    trivial,
    Cert.AdaSpec.algebraic,
    trivial,
    Cert.FwdInSpec.algebraic,
    trivial,
    Cert.AdaModSpec.algebraic,
    trivial,
    Cert.PrepSpec.algebraic⟩

end Cert.Proof

end
